-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_FfnDownDx (m : (ℓ : Loc Cert.FfnDownDx.nD Cert.FfnDownDx.τ Cert.FfnDownDx.sig) → Buf (Elt Bits) ℓ) : Prop :=
  True

def Pre_FfnDownDxIdeal (m : (ℓ : Loc Cert.FfnDownDxIdeal.nD Cert.FfnDownDxIdeal.τ Cert.FfnDownDxIdeal.sig) → Buf (Elt Ideal) ℓ) : Prop :=
  True

def Pre_FfnDownDxRefIdeal (m : (ℓ : Loc Cert.FfnDownDxRefIdeal.nD Cert.FfnDownDxRefIdeal.τ Cert.FfnDownDxRefIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwRefIdeal (m : (ℓ : Loc Cert.FfnDownDwRefIdeal.nD Cert.FfnDownDwRefIdeal.τ Cert.FfnDownDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_BranchFwd (m : (ℓ : Loc Cert.BranchFwd.nD Cert.BranchFwd.τ Cert.BranchFwd.sig) → Buf (Elt Bits) ℓ) : Prop :=
  True

def Pre_BranchFwdIdeal (m : (ℓ : Loc Cert.BranchFwdIdeal.nD Cert.BranchFwdIdeal.τ Cert.BranchFwdIdeal.sig) → Buf (Elt Ideal) ℓ) : Prop :=
  True

def Pre_BranchFwdRefIdeal (m : (ℓ : Loc Cert.BranchFwdRefIdeal.nD Cert.BranchFwdRefIdeal.τ Cert.BranchFwdRefIdeal.sig) → Buf (Elt Ideal) ℓ) : Prop :=
  True

def Pre_FfnInFwd (m : (ℓ : Loc Cert.FfnInFwd.nD Cert.FfnInFwd.τ Cert.FfnInFwd.sig) → Buf (Elt Bits) ℓ) : Prop :=
  True

def Pre_FfnInFwdIdeal (m : (ℓ : Loc Cert.FfnInFwdIdeal.nD Cert.FfnInFwdIdeal.τ Cert.FfnInFwdIdeal.sig) → Buf (Elt Ideal) ℓ) : Prop :=
  True

def Pre_FfnInFwdRefIdeal (m : (ℓ : Loc Cert.FfnInFwdRefIdeal.nD Cert.FfnInFwdRefIdeal.τ Cert.FfnInFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_FfnDownFwd (m : (ℓ : Loc Cert.FfnDownFwd.nD Cert.FfnDownFwd.τ Cert.FfnDownFwd.sig) → Buf (Elt Bits) ℓ) : Prop :=
  True

def Pre_FfnDownFwdIdeal (m : (ℓ : Loc Cert.FfnDownFwdIdeal.nD Cert.FfnDownFwdIdeal.τ Cert.FfnDownFwdIdeal.sig) → Buf (Elt Ideal) ℓ) : Prop :=
  True

def Pre_FfnDownFwdRefIdeal (m : (ℓ : Loc Cert.FfnDownFwdRefIdeal.nD Cert.FfnDownFwdRefIdeal.τ Cert.FfnDownFwdRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamFfnDown (m : (ℓ : Loc Cert.AdamFfnDown.nD Cert.AdamFfnDown.τ Cert.AdamFfnDown.sig) → Buf (Elt Bits) ℓ) : Prop :=
  True

def Pre_AdamFfnDownIdeal (m : (ℓ : Loc Cert.AdamFfnDownIdeal.nD Cert.AdamFfnDownIdeal.τ Cert.AdamFfnDownIdeal.sig) → Buf (Elt Ideal) ℓ) : Prop :=
  True

def Pre_AdamFfnDownRefIdeal (m : (ℓ : Loc Cert.AdamFfnDownRefIdeal.nD Cert.AdamFfnDownRefIdeal.τ Cert.AdamFfnDownRefIdeal.sig) → Buf (Elt Ideal) ℓ) : Prop :=
  True

def Pre_AdamConvS (m : (ℓ : Loc Cert.AdamConvS.nD Cert.AdamConvS.τ Cert.AdamConvS.sig) → Buf (Elt Bits) ℓ) : Prop :=
  True

def Pre_AdamConvSIdeal (m : (ℓ : Loc Cert.AdamConvSIdeal.nD Cert.AdamConvSIdeal.τ Cert.AdamConvSIdeal.sig) → Buf (Elt Ideal) ℓ) : Prop :=
  True

def Pre_AdamConvSRefIdeal (m : (ℓ : Loc Cert.AdamConvSRefIdeal.nD Cert.AdamConvSRefIdeal.τ Cert.AdamConvSRefIdeal.sig) → Buf (Elt Ideal) ℓ) : Prop :=
  True

def Pre_AdamConvG (m : (ℓ : Loc Cert.AdamConvG.nD Cert.AdamConvG.τ Cert.AdamConvG.sig) → Buf (Elt Bits) ℓ) : Prop :=
  True

def Pre_AdamConvGIdeal (m : (ℓ : Loc Cert.AdamConvGIdeal.nD Cert.AdamConvGIdeal.τ Cert.AdamConvGIdeal.sig) → Buf (Elt Ideal) ℓ) : Prop :=
  True

def Pre_AdamConvGRefIdeal (m : (ℓ : Loc Cert.AdamConvGRefIdeal.nD Cert.AdamConvGRefIdeal.τ Cert.AdamConvGRefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_SsdPostBwd (m : (ℓ : Loc Cert.SsdPostBwd.nD Cert.SsdPostBwd.τ Cert.SsdPostBwd.sig) → Buf (Elt Bits) ℓ) : Prop :=
  True

def Pre_SsdPostBwdIdeal (m : (ℓ : Loc Cert.SsdPostBwdIdeal.nD Cert.SsdPostBwdIdeal.τ Cert.SsdPostBwdIdeal.sig) → Buf (Elt Ideal) ℓ) : Prop :=
  True

def Pre_SsdPostBwdRefIdeal (m : (ℓ : Loc Cert.SsdPostBwdRefIdeal.nD Cert.SsdPostBwdRefIdeal.τ Cert.SsdPostBwdRefIdeal.sig) → Buf (Elt Ideal) ℓ) : Prop :=
  True

def Pre_GdnPostBwd (m : (ℓ : Loc Cert.GdnPostBwd.nD Cert.GdnPostBwd.τ Cert.GdnPostBwd.sig) → Buf (Elt Bits) ℓ) : Prop :=
  True

def Pre_GdnPostBwdIdeal (m : (ℓ : Loc Cert.GdnPostBwdIdeal.nD Cert.GdnPostBwdIdeal.τ Cert.GdnPostBwdIdeal.sig) → Buf (Elt Ideal) ℓ) : Prop :=
  True

def Pre_GdnPostBwdRefIdeal (m : (ℓ : Loc Cert.GdnPostBwdRefIdeal.nD Cert.GdnPostBwdRefIdeal.τ Cert.GdnPostBwdRefIdeal.sig) → Buf (Elt Ideal) ℓ) : Prop :=
  True

def Pre_SsdPost (m : (ℓ : Loc Cert.SsdPost.nD Cert.SsdPost.τ Cert.SsdPost.sig) → Buf (Elt Bits) ℓ) : Prop :=
  True

def Pre_SsdPostIdeal (m : (ℓ : Loc Cert.SsdPostIdeal.nD Cert.SsdPostIdeal.τ Cert.SsdPostIdeal.sig) → Buf (Elt Ideal) ℓ) : Prop :=
  True

def Pre_SsdPostRefIdeal (m : (ℓ : Loc Cert.SsdPostRefIdeal.nD Cert.SsdPostRefIdeal.τ Cert.SsdPostRefIdeal.sig) → Buf (Elt Ideal) ℓ) : Prop :=
  True

def Pre_GdnPost (m : (ℓ : Loc Cert.GdnPost.nD Cert.GdnPost.τ Cert.GdnPost.sig) → Buf (Elt Bits) ℓ) : Prop :=
  True

def Pre_GdnPostIdeal (m : (ℓ : Loc Cert.GdnPostIdeal.nD Cert.GdnPostIdeal.τ Cert.GdnPostIdeal.sig) → Buf (Elt Ideal) ℓ) : Prop :=
  True

def Pre_GdnPostRefIdeal (m : (ℓ : Loc Cert.GdnPostRefIdeal.nD Cert.GdnPostRefIdeal.τ Cert.GdnPostRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def Pre_SsdDx (m : (ℓ : Loc Cert.SsdDx.nD Cert.SsdDx.τ Cert.SsdDx.sig) → Buf (Elt Bits) ℓ) : Prop :=
  True

def Pre_SsdDxIdeal (m : (ℓ : Loc Cert.SsdDxIdeal.nD Cert.SsdDxIdeal.τ Cert.SsdDxIdeal.sig) → Buf (Elt Ideal) ℓ) : Prop :=
  True

def Pre_SsdDxIdeal_finite [hPre_finite : Cert.Pre_finite.Facts] (m : (ℓ : Loc Cert.SsdDxIdeal.nD Cert.SsdDxIdeal.τ Cert.SsdDxIdeal.sig) → Buf (Elt Ideal) ℓ) : Prop :=
  ∀ c : Dev Cert.SsdDxIdeal.nD,
    (Cert.Pre_finite.fn (F := Ideal) (m ((c.tc : Thread Cert.SsdDxIdeal.nD Cert.SsdDxIdeal.τ).loc Cert.SsdDxIdeal.main_arg0)) (m ((c.tc : Thread Cert.SsdDxIdeal.nD Cert.SsdDxIdeal.τ).loc Cert.SsdDxIdeal.main_arg1)) (m ((c.tc : Thread Cert.SsdDxIdeal.nD Cert.SsdDxIdeal.τ).loc Cert.SsdDxIdeal.main_arg2)) (m ((c.tc : Thread Cert.SsdDxIdeal.nD Cert.SsdDxIdeal.τ).loc Cert.SsdDxIdeal.main_arg3)) (m ((c.tc : Thread Cert.SsdDxIdeal.nD Cert.SsdDxIdeal.τ).loc Cert.SsdDxIdeal.main_arg4)) (m ((c.tc : Thread Cert.SsdDxIdeal.nD Cert.SsdDxIdeal.τ).loc Cert.SsdDxIdeal.main_arg5)) (m ((c.tc : Thread Cert.SsdDxIdeal.nD Cert.SsdDxIdeal.τ).loc Cert.SsdDxIdeal.main_arg6))).1 = (fun _ => 1#1)
    ∧ (Cert.Pre_finite.fn (F := Ideal) (m ((c.tc : Thread Cert.SsdDxIdeal.nD Cert.SsdDxIdeal.τ).loc Cert.SsdDxIdeal.main_arg0)) (m ((c.tc : Thread Cert.SsdDxIdeal.nD Cert.SsdDxIdeal.τ).loc Cert.SsdDxIdeal.main_arg1)) (m ((c.tc : Thread Cert.SsdDxIdeal.nD Cert.SsdDxIdeal.τ).loc Cert.SsdDxIdeal.main_arg2)) (m ((c.tc : Thread Cert.SsdDxIdeal.nD Cert.SsdDxIdeal.τ).loc Cert.SsdDxIdeal.main_arg3)) (m ((c.tc : Thread Cert.SsdDxIdeal.nD Cert.SsdDxIdeal.τ).loc Cert.SsdDxIdeal.main_arg4)) (m ((c.tc : Thread Cert.SsdDxIdeal.nD Cert.SsdDxIdeal.τ).loc Cert.SsdDxIdeal.main_arg5)) (m ((c.tc : Thread Cert.SsdDxIdeal.nD Cert.SsdDxIdeal.τ).loc Cert.SsdDxIdeal.main_arg6))).2.1 = (fun _ => 1#1)
    ∧ (Cert.Pre_finite.fn (F := Ideal) (m ((c.tc : Thread Cert.SsdDxIdeal.nD Cert.SsdDxIdeal.τ).loc Cert.SsdDxIdeal.main_arg0)) (m ((c.tc : Thread Cert.SsdDxIdeal.nD Cert.SsdDxIdeal.τ).loc Cert.SsdDxIdeal.main_arg1)) (m ((c.tc : Thread Cert.SsdDxIdeal.nD Cert.SsdDxIdeal.τ).loc Cert.SsdDxIdeal.main_arg2)) (m ((c.tc : Thread Cert.SsdDxIdeal.nD Cert.SsdDxIdeal.τ).loc Cert.SsdDxIdeal.main_arg3)) (m ((c.tc : Thread Cert.SsdDxIdeal.nD Cert.SsdDxIdeal.τ).loc Cert.SsdDxIdeal.main_arg4)) (m ((c.tc : Thread Cert.SsdDxIdeal.nD Cert.SsdDxIdeal.τ).loc Cert.SsdDxIdeal.main_arg5)) (m ((c.tc : Thread Cert.SsdDxIdeal.nD Cert.SsdDxIdeal.τ).loc Cert.SsdDxIdeal.main_arg6))).2.2.1 = (fun _ => 1#1)
    ∧ (Cert.Pre_finite.fn (F := Ideal) (m ((c.tc : Thread Cert.SsdDxIdeal.nD Cert.SsdDxIdeal.τ).loc Cert.SsdDxIdeal.main_arg0)) (m ((c.tc : Thread Cert.SsdDxIdeal.nD Cert.SsdDxIdeal.τ).loc Cert.SsdDxIdeal.main_arg1)) (m ((c.tc : Thread Cert.SsdDxIdeal.nD Cert.SsdDxIdeal.τ).loc Cert.SsdDxIdeal.main_arg2)) (m ((c.tc : Thread Cert.SsdDxIdeal.nD Cert.SsdDxIdeal.τ).loc Cert.SsdDxIdeal.main_arg3)) (m ((c.tc : Thread Cert.SsdDxIdeal.nD Cert.SsdDxIdeal.τ).loc Cert.SsdDxIdeal.main_arg4)) (m ((c.tc : Thread Cert.SsdDxIdeal.nD Cert.SsdDxIdeal.τ).loc Cert.SsdDxIdeal.main_arg5)) (m ((c.tc : Thread Cert.SsdDxIdeal.nD Cert.SsdDxIdeal.τ).loc Cert.SsdDxIdeal.main_arg6))).2.2.2.1 = (fun _ => 1#1)
    ∧ (Cert.Pre_finite.fn (F := Ideal) (m ((c.tc : Thread Cert.SsdDxIdeal.nD Cert.SsdDxIdeal.τ).loc Cert.SsdDxIdeal.main_arg0)) (m ((c.tc : Thread Cert.SsdDxIdeal.nD Cert.SsdDxIdeal.τ).loc Cert.SsdDxIdeal.main_arg1)) (m ((c.tc : Thread Cert.SsdDxIdeal.nD Cert.SsdDxIdeal.τ).loc Cert.SsdDxIdeal.main_arg2)) (m ((c.tc : Thread Cert.SsdDxIdeal.nD Cert.SsdDxIdeal.τ).loc Cert.SsdDxIdeal.main_arg3)) (m ((c.tc : Thread Cert.SsdDxIdeal.nD Cert.SsdDxIdeal.τ).loc Cert.SsdDxIdeal.main_arg4)) (m ((c.tc : Thread Cert.SsdDxIdeal.nD Cert.SsdDxIdeal.τ).loc Cert.SsdDxIdeal.main_arg5)) (m ((c.tc : Thread Cert.SsdDxIdeal.nD Cert.SsdDxIdeal.τ).loc Cert.SsdDxIdeal.main_arg6))).2.2.2.2.1 = (fun _ => 1#1)
    ∧ (Cert.Pre_finite.fn (F := Ideal) (m ((c.tc : Thread Cert.SsdDxIdeal.nD Cert.SsdDxIdeal.τ).loc Cert.SsdDxIdeal.main_arg0)) (m ((c.tc : Thread Cert.SsdDxIdeal.nD Cert.SsdDxIdeal.τ).loc Cert.SsdDxIdeal.main_arg1)) (m ((c.tc : Thread Cert.SsdDxIdeal.nD Cert.SsdDxIdeal.τ).loc Cert.SsdDxIdeal.main_arg2)) (m ((c.tc : Thread Cert.SsdDxIdeal.nD Cert.SsdDxIdeal.τ).loc Cert.SsdDxIdeal.main_arg3)) (m ((c.tc : Thread Cert.SsdDxIdeal.nD Cert.SsdDxIdeal.τ).loc Cert.SsdDxIdeal.main_arg4)) (m ((c.tc : Thread Cert.SsdDxIdeal.nD Cert.SsdDxIdeal.τ).loc Cert.SsdDxIdeal.main_arg5)) (m ((c.tc : Thread Cert.SsdDxIdeal.nD Cert.SsdDxIdeal.τ).loc Cert.SsdDxIdeal.main_arg6))).2.2.2.2.2 = (fun _ => 1#1)

def Pre_SsdDxRefIdeal (m : (ℓ : Loc Cert.SsdDxRefIdeal.nD Cert.SsdDxRefIdeal.τ Cert.SsdDxRefIdeal.sig) → Buf (Elt Ideal) ℓ) : Prop :=
  True

def Pre_SsdDxRefIdeal_finite [hPre_finite : Cert.Pre_finite.Facts] (m : (ℓ : Loc Cert.SsdDxRefIdeal.nD Cert.SsdDxRefIdeal.τ Cert.SsdDxRefIdeal.sig) → Buf (Elt Ideal) ℓ) : Prop :=
  ∀ c : Dev Cert.SsdDxRefIdeal.nD,
    (Cert.Pre_finite.fn (F := Ideal) (m ((c.tc : Thread Cert.SsdDxRefIdeal.nD Cert.SsdDxRefIdeal.τ).loc Cert.SsdDxRefIdeal.main_arg0)) (m ((c.tc : Thread Cert.SsdDxRefIdeal.nD Cert.SsdDxRefIdeal.τ).loc Cert.SsdDxRefIdeal.main_arg1)) (m ((c.tc : Thread Cert.SsdDxRefIdeal.nD Cert.SsdDxRefIdeal.τ).loc Cert.SsdDxRefIdeal.main_arg2)) (m ((c.tc : Thread Cert.SsdDxRefIdeal.nD Cert.SsdDxRefIdeal.τ).loc Cert.SsdDxRefIdeal.main_arg3)) (m ((c.tc : Thread Cert.SsdDxRefIdeal.nD Cert.SsdDxRefIdeal.τ).loc Cert.SsdDxRefIdeal.main_arg4)) (m ((c.tc : Thread Cert.SsdDxRefIdeal.nD Cert.SsdDxRefIdeal.τ).loc Cert.SsdDxRefIdeal.main_arg5)) (m ((c.tc : Thread Cert.SsdDxRefIdeal.nD Cert.SsdDxRefIdeal.τ).loc Cert.SsdDxRefIdeal.main_arg6))).1 = (fun _ => 1#1)
    ∧ (Cert.Pre_finite.fn (F := Ideal) (m ((c.tc : Thread Cert.SsdDxRefIdeal.nD Cert.SsdDxRefIdeal.τ).loc Cert.SsdDxRefIdeal.main_arg0)) (m ((c.tc : Thread Cert.SsdDxRefIdeal.nD Cert.SsdDxRefIdeal.τ).loc Cert.SsdDxRefIdeal.main_arg1)) (m ((c.tc : Thread Cert.SsdDxRefIdeal.nD Cert.SsdDxRefIdeal.τ).loc Cert.SsdDxRefIdeal.main_arg2)) (m ((c.tc : Thread Cert.SsdDxRefIdeal.nD Cert.SsdDxRefIdeal.τ).loc Cert.SsdDxRefIdeal.main_arg3)) (m ((c.tc : Thread Cert.SsdDxRefIdeal.nD Cert.SsdDxRefIdeal.τ).loc Cert.SsdDxRefIdeal.main_arg4)) (m ((c.tc : Thread Cert.SsdDxRefIdeal.nD Cert.SsdDxRefIdeal.τ).loc Cert.SsdDxRefIdeal.main_arg5)) (m ((c.tc : Thread Cert.SsdDxRefIdeal.nD Cert.SsdDxRefIdeal.τ).loc Cert.SsdDxRefIdeal.main_arg6))).2.1 = (fun _ => 1#1)
    ∧ (Cert.Pre_finite.fn (F := Ideal) (m ((c.tc : Thread Cert.SsdDxRefIdeal.nD Cert.SsdDxRefIdeal.τ).loc Cert.SsdDxRefIdeal.main_arg0)) (m ((c.tc : Thread Cert.SsdDxRefIdeal.nD Cert.SsdDxRefIdeal.τ).loc Cert.SsdDxRefIdeal.main_arg1)) (m ((c.tc : Thread Cert.SsdDxRefIdeal.nD Cert.SsdDxRefIdeal.τ).loc Cert.SsdDxRefIdeal.main_arg2)) (m ((c.tc : Thread Cert.SsdDxRefIdeal.nD Cert.SsdDxRefIdeal.τ).loc Cert.SsdDxRefIdeal.main_arg3)) (m ((c.tc : Thread Cert.SsdDxRefIdeal.nD Cert.SsdDxRefIdeal.τ).loc Cert.SsdDxRefIdeal.main_arg4)) (m ((c.tc : Thread Cert.SsdDxRefIdeal.nD Cert.SsdDxRefIdeal.τ).loc Cert.SsdDxRefIdeal.main_arg5)) (m ((c.tc : Thread Cert.SsdDxRefIdeal.nD Cert.SsdDxRefIdeal.τ).loc Cert.SsdDxRefIdeal.main_arg6))).2.2.1 = (fun _ => 1#1)
    ∧ (Cert.Pre_finite.fn (F := Ideal) (m ((c.tc : Thread Cert.SsdDxRefIdeal.nD Cert.SsdDxRefIdeal.τ).loc Cert.SsdDxRefIdeal.main_arg0)) (m ((c.tc : Thread Cert.SsdDxRefIdeal.nD Cert.SsdDxRefIdeal.τ).loc Cert.SsdDxRefIdeal.main_arg1)) (m ((c.tc : Thread Cert.SsdDxRefIdeal.nD Cert.SsdDxRefIdeal.τ).loc Cert.SsdDxRefIdeal.main_arg2)) (m ((c.tc : Thread Cert.SsdDxRefIdeal.nD Cert.SsdDxRefIdeal.τ).loc Cert.SsdDxRefIdeal.main_arg3)) (m ((c.tc : Thread Cert.SsdDxRefIdeal.nD Cert.SsdDxRefIdeal.τ).loc Cert.SsdDxRefIdeal.main_arg4)) (m ((c.tc : Thread Cert.SsdDxRefIdeal.nD Cert.SsdDxRefIdeal.τ).loc Cert.SsdDxRefIdeal.main_arg5)) (m ((c.tc : Thread Cert.SsdDxRefIdeal.nD Cert.SsdDxRefIdeal.τ).loc Cert.SsdDxRefIdeal.main_arg6))).2.2.2.1 = (fun _ => 1#1)
    ∧ (Cert.Pre_finite.fn (F := Ideal) (m ((c.tc : Thread Cert.SsdDxRefIdeal.nD Cert.SsdDxRefIdeal.τ).loc Cert.SsdDxRefIdeal.main_arg0)) (m ((c.tc : Thread Cert.SsdDxRefIdeal.nD Cert.SsdDxRefIdeal.τ).loc Cert.SsdDxRefIdeal.main_arg1)) (m ((c.tc : Thread Cert.SsdDxRefIdeal.nD Cert.SsdDxRefIdeal.τ).loc Cert.SsdDxRefIdeal.main_arg2)) (m ((c.tc : Thread Cert.SsdDxRefIdeal.nD Cert.SsdDxRefIdeal.τ).loc Cert.SsdDxRefIdeal.main_arg3)) (m ((c.tc : Thread Cert.SsdDxRefIdeal.nD Cert.SsdDxRefIdeal.τ).loc Cert.SsdDxRefIdeal.main_arg4)) (m ((c.tc : Thread Cert.SsdDxRefIdeal.nD Cert.SsdDxRefIdeal.τ).loc Cert.SsdDxRefIdeal.main_arg5)) (m ((c.tc : Thread Cert.SsdDxRefIdeal.nD Cert.SsdDxRefIdeal.τ).loc Cert.SsdDxRefIdeal.main_arg6))).2.2.2.2.1 = (fun _ => 1#1)
    ∧ (Cert.Pre_finite.fn (F := Ideal) (m ((c.tc : Thread Cert.SsdDxRefIdeal.nD Cert.SsdDxRefIdeal.τ).loc Cert.SsdDxRefIdeal.main_arg0)) (m ((c.tc : Thread Cert.SsdDxRefIdeal.nD Cert.SsdDxRefIdeal.τ).loc Cert.SsdDxRefIdeal.main_arg1)) (m ((c.tc : Thread Cert.SsdDxRefIdeal.nD Cert.SsdDxRefIdeal.τ).loc Cert.SsdDxRefIdeal.main_arg2)) (m ((c.tc : Thread Cert.SsdDxRefIdeal.nD Cert.SsdDxRefIdeal.τ).loc Cert.SsdDxRefIdeal.main_arg3)) (m ((c.tc : Thread Cert.SsdDxRefIdeal.nD Cert.SsdDxRefIdeal.τ).loc Cert.SsdDxRefIdeal.main_arg4)) (m ((c.tc : Thread Cert.SsdDxRefIdeal.nD Cert.SsdDxRefIdeal.τ).loc Cert.SsdDxRefIdeal.main_arg5)) (m ((c.tc : Thread Cert.SsdDxRefIdeal.nD Cert.SsdDxRefIdeal.τ).loc Cert.SsdDxRefIdeal.main_arg6))).2.2.2.2.2 = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_FfnDownDx [hFfnDownDx : Cert.FfnDownDx.Facts] : Prop :=
  ∀ (m : (ℓ : Loc Cert.FfnDownDx.nD Cert.FfnDownDx.τ Cert.FfnDownDx.sig) → Buf (Elt Bits) ℓ) (g : Dev Cert.FfnDownDx.nD → PrngReg), Pre_FfnDownDx m →
    θ_run (Cert.FfnDownDx.defs (F := Bits)) (onTc (τ := Cert.FfnDownDx.τ) (Cert.FfnDownDx.main (F := Bits))) ⟨m, fun _ => 0, g⟩ (fun r => (∀ c : Dev Cert.FfnDownDx.nD,
      r.2.mem ((c.tc : Thread Cert.FfnDownDx.nD Cert.FfnDownDx.τ).loc Cert.FfnDownDx.main_arg0) = m ((c.tc : Thread Cert.FfnDownDx.nD Cert.FfnDownDx.τ).loc Cert.FfnDownDx.main_arg0)
      ∧ r.2.mem ((c.tc : Thread Cert.FfnDownDx.nD Cert.FfnDownDx.τ).loc Cert.FfnDownDx.main_arg1) = m ((c.tc : Thread Cert.FfnDownDx.nD Cert.FfnDownDx.τ).loc Cert.FfnDownDx.main_arg1))
      ∧ r.2.sem = fun _ => 0)

def quiescent_FfnDownDxIdeal [hFfnDownDxIdeal : Cert.FfnDownDxIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ r.2.sem = fun _ => 0)

def quiescent_FfnDownDxRefIdeal [hFfnDownDxRefIdeal : Cert.FfnDownDxRefIdeal.Facts] : Prop :=
  ∀ (m : (ℓ : Loc Cert.FfnDownDxRefIdeal.nD Cert.FfnDownDxRefIdeal.τ Cert.FfnDownDxRefIdeal.sig) → Buf (Elt Ideal) ℓ) (g : Dev Cert.FfnDownDxRefIdeal.nD → PrngReg), Pre_FfnDownDxRefIdeal m →
    θ_run (Cert.FfnDownDxRefIdeal.defs (F := Ideal)) (onTc (τ := Cert.FfnDownDxRefIdeal.τ) (Cert.FfnDownDxRefIdeal.main (F := Ideal))) ⟨m, fun _ => 0, g⟩ (fun r => (∀ c : Dev Cert.FfnDownDxRefIdeal.nD,
      r.2.mem ((c.tc : Thread Cert.FfnDownDxRefIdeal.nD Cert.FfnDownDxRefIdeal.τ).loc Cert.FfnDownDxRefIdeal.main_arg0) = m ((c.tc : Thread Cert.FfnDownDxRefIdeal.nD Cert.FfnDownDxRefIdeal.τ).loc Cert.FfnDownDxRefIdeal.main_arg0)
      ∧ r.2.mem ((c.tc : Thread Cert.FfnDownDxRefIdeal.nD Cert.FfnDownDxRefIdeal.τ).loc Cert.FfnDownDxRefIdeal.main_arg1) = m ((c.tc : Thread Cert.FfnDownDxRefIdeal.nD Cert.FfnDownDxRefIdeal.τ).loc Cert.FfnDownDxRefIdeal.main_arg1))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwRefIdeal [hFfnDownDwRefIdeal : Cert.FfnDownDwRefIdeal.Facts] : Prop :=
  ∀ (m : (ℓ : Loc Cert.FfnDownDwRefIdeal.nD Cert.FfnDownDwRefIdeal.τ Cert.FfnDownDwRefIdeal.sig) → Buf (Elt Ideal) ℓ) (g : Dev Cert.FfnDownDwRefIdeal.nD → PrngReg), Pre_FfnDownDwRefIdeal m →
    θ_run (Cert.FfnDownDwRefIdeal.defs (F := Ideal)) (onTc (τ := Cert.FfnDownDwRefIdeal.τ) (Cert.FfnDownDwRefIdeal.main (F := Ideal))) ⟨m, fun _ => 0, g⟩ (fun r => (∀ c : Dev Cert.FfnDownDwRefIdeal.nD,
      r.2.mem ((c.tc : Thread Cert.FfnDownDwRefIdeal.nD Cert.FfnDownDwRefIdeal.τ).loc Cert.FfnDownDwRefIdeal.main_arg0) = m ((c.tc : Thread Cert.FfnDownDwRefIdeal.nD Cert.FfnDownDwRefIdeal.τ).loc Cert.FfnDownDwRefIdeal.main_arg0)
      ∧ r.2.mem ((c.tc : Thread Cert.FfnDownDwRefIdeal.nD Cert.FfnDownDwRefIdeal.τ).loc Cert.FfnDownDwRefIdeal.main_arg1) = m ((c.tc : Thread Cert.FfnDownDwRefIdeal.nD Cert.FfnDownDwRefIdeal.τ).loc Cert.FfnDownDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_BranchFwd [hBranchFwd : Cert.BranchFwd.Facts] : Prop :=
  ∀ (m : (ℓ : Loc Cert.BranchFwd.nD Cert.BranchFwd.τ Cert.BranchFwd.sig) → Buf (Elt Bits) ℓ) (g : Dev Cert.BranchFwd.nD → PrngReg), Pre_BranchFwd m →
    θ_run (Cert.BranchFwd.defs (F := Bits)) (onTc (τ := Cert.BranchFwd.τ) (Cert.BranchFwd.main (F := Bits))) ⟨m, fun _ => 0, g⟩ (fun r => (∀ c : Dev Cert.BranchFwd.nD,
      r.2.mem ((c.tc : Thread Cert.BranchFwd.nD Cert.BranchFwd.τ).loc Cert.BranchFwd.main_arg0) = m ((c.tc : Thread Cert.BranchFwd.nD Cert.BranchFwd.τ).loc Cert.BranchFwd.main_arg0)
      ∧ r.2.mem ((c.tc : Thread Cert.BranchFwd.nD Cert.BranchFwd.τ).loc Cert.BranchFwd.main_arg1) = m ((c.tc : Thread Cert.BranchFwd.nD Cert.BranchFwd.τ).loc Cert.BranchFwd.main_arg1))
      ∧ r.2.sem = fun _ => 0)

def quiescent_BranchFwdIdeal [hBranchFwdIdeal : Cert.BranchFwdIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg), Pre_BranchFwdIdeal m →
    θ_run (Cert.BranchFwdIdeal.defs (F := Ideal)) (onTc (τ := Cert.BranchFwdIdeal.τ) (Cert.BranchFwdIdeal.main (F := Ideal))) ⟨m, fun _ => 0, g⟩ (fun r => (∀ c : Dev Cert.BranchFwdIdeal.nD,
      r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
      ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ r.2.sem = fun _ => 0)

def quiescent_BranchFwdRefIdeal [hBranchFwdRefIdeal : Cert.BranchFwdRefIdeal.Facts] : Prop :=
  ∀ (m : (ℓ : Loc Cert.BranchFwdRefIdeal.nD Cert.BranchFwdRefIdeal.τ Cert.BranchFwdRefIdeal.sig) → Buf (Elt Ideal) ℓ) (g : Dev Cert.BranchFwdRefIdeal.nD → PrngReg), Pre_BranchFwdRefIdeal m →
    θ_run (Cert.BranchFwdRefIdeal.defs (F := Ideal)) (onTc (τ := Cert.BranchFwdRefIdeal.τ) (Cert.BranchFwdRefIdeal.main (F := Ideal))) ⟨m, fun _ => 0, g⟩ (fun r => (∀ c : Dev Cert.BranchFwdRefIdeal.nD,
      r.2.mem ((c.tc : Thread Cert.BranchFwdRefIdeal.nD Cert.BranchFwdRefIdeal.τ).loc Cert.BranchFwdRefIdeal.main_arg0) = m ((c.tc : Thread Cert.BranchFwdRefIdeal.nD Cert.BranchFwdRefIdeal.τ).loc Cert.BranchFwdRefIdeal.main_arg0)
      ∧ r.2.mem ((c.tc : Thread Cert.BranchFwdRefIdeal.nD Cert.BranchFwdRefIdeal.τ).loc Cert.BranchFwdRefIdeal.main_arg1) = m ((c.tc : Thread Cert.BranchFwdRefIdeal.nD Cert.BranchFwdRefIdeal.τ).loc Cert.BranchFwdRefIdeal.main_arg1))
      ∧ r.2.sem = fun _ => 0)

def quiescent_FfnInFwd [hFfnInFwd : Cert.FfnInFwd.Facts] : Prop :=
  ∀ (m : (ℓ : Loc Cert.FfnInFwd.nD Cert.FfnInFwd.τ Cert.FfnInFwd.sig) → Buf (Elt Bits) ℓ) (g : Dev Cert.FfnInFwd.nD → PrngReg), Pre_FfnInFwd m →
    θ_run (Cert.FfnInFwd.defs (F := Bits)) (onTc (τ := Cert.FfnInFwd.τ) (Cert.FfnInFwd.main (F := Bits))) ⟨m, fun _ => 0, g⟩ (fun r => (∀ c : Dev Cert.FfnInFwd.nD,
      r.2.mem ((c.tc : Thread Cert.FfnInFwd.nD Cert.FfnInFwd.τ).loc Cert.FfnInFwd.main_arg0) = m ((c.tc : Thread Cert.FfnInFwd.nD Cert.FfnInFwd.τ).loc Cert.FfnInFwd.main_arg0)
      ∧ r.2.mem ((c.tc : Thread Cert.FfnInFwd.nD Cert.FfnInFwd.τ).loc Cert.FfnInFwd.main_arg1) = m ((c.tc : Thread Cert.FfnInFwd.nD Cert.FfnInFwd.τ).loc Cert.FfnInFwd.main_arg1))
      ∧ r.2.sem = fun _ => 0)

def quiescent_FfnInFwdIdeal [hFfnInFwdIdeal : Cert.FfnInFwdIdeal.Facts] : Prop :=
  ∀ (m : (ℓ : Loc Cert.FfnInFwdIdeal.nD Cert.FfnInFwdIdeal.τ Cert.FfnInFwdIdeal.sig) → Buf (Elt Ideal) ℓ) (g : Dev Cert.FfnInFwdIdeal.nD → PrngReg), Pre_FfnInFwdIdeal m →
    θ_run (Cert.FfnInFwdIdeal.defs (F := Ideal)) (onTc (τ := Cert.FfnInFwdIdeal.τ) (Cert.FfnInFwdIdeal.main (F := Ideal))) ⟨m, fun _ => 0, g⟩ (fun r => (∀ c : Dev Cert.FfnInFwdIdeal.nD,
      r.2.mem ((c.tc : Thread Cert.FfnInFwdIdeal.nD Cert.FfnInFwdIdeal.τ).loc Cert.FfnInFwdIdeal.main_arg0) = m ((c.tc : Thread Cert.FfnInFwdIdeal.nD Cert.FfnInFwdIdeal.τ).loc Cert.FfnInFwdIdeal.main_arg0)
      ∧ r.2.mem ((c.tc : Thread Cert.FfnInFwdIdeal.nD Cert.FfnInFwdIdeal.τ).loc Cert.FfnInFwdIdeal.main_arg1) = m ((c.tc : Thread Cert.FfnInFwdIdeal.nD Cert.FfnInFwdIdeal.τ).loc Cert.FfnInFwdIdeal.main_arg1))
      ∧ r.2.sem = fun _ => 0)

def quiescent_FfnInFwdRefIdeal [hFfnInFwdRefIdeal : Cert.FfnInFwdRefIdeal.Facts] : Prop :=
  ∀ (m : (ℓ : Loc Cert.FfnInFwdRefIdeal.nD Cert.FfnInFwdRefIdeal.τ Cert.FfnInFwdRefIdeal.sig) → Buf (Elt Ideal) ℓ) (g : Dev Cert.FfnInFwdRefIdeal.nD → PrngReg), Pre_FfnInFwdRefIdeal m →
    θ_run (Cert.FfnInFwdRefIdeal.defs (F := Ideal)) (onTc (τ := Cert.FfnInFwdRefIdeal.τ) (Cert.FfnInFwdRefIdeal.main (F := Ideal))) ⟨m, fun _ => 0, g⟩ (fun r => (∀ c : Dev Cert.FfnInFwdRefIdeal.nD,
      r.2.mem ((c.tc : Thread Cert.FfnInFwdRefIdeal.nD Cert.FfnInFwdRefIdeal.τ).loc Cert.FfnInFwdRefIdeal.main_arg0) = m ((c.tc : Thread Cert.FfnInFwdRefIdeal.nD Cert.FfnInFwdRefIdeal.τ).loc Cert.FfnInFwdRefIdeal.main_arg0)
      ∧ r.2.mem ((c.tc : Thread Cert.FfnInFwdRefIdeal.nD Cert.FfnInFwdRefIdeal.τ).loc Cert.FfnInFwdRefIdeal.main_arg1) = m ((c.tc : Thread Cert.FfnInFwdRefIdeal.nD Cert.FfnInFwdRefIdeal.τ).loc Cert.FfnInFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2))
      ∧ r.2.sem = fun _ => 0)

def quiescent_FfnDownFwd [hFfnDownFwd : Cert.FfnDownFwd.Facts] : Prop :=
  ∀ (m : (ℓ : Loc Cert.FfnDownFwd.nD Cert.FfnDownFwd.τ Cert.FfnDownFwd.sig) → Buf (Elt Bits) ℓ) (g : Dev Cert.FfnDownFwd.nD → PrngReg), Pre_FfnDownFwd m →
    θ_run (Cert.FfnDownFwd.defs (F := Bits)) (onTc (τ := Cert.FfnDownFwd.τ) (Cert.FfnDownFwd.main (F := Bits))) ⟨m, fun _ => 0, g⟩ (fun r => (∀ c : Dev Cert.FfnDownFwd.nD,
      r.2.mem ((c.tc : Thread Cert.FfnDownFwd.nD Cert.FfnDownFwd.τ).loc Cert.FfnDownFwd.main_arg0) = m ((c.tc : Thread Cert.FfnDownFwd.nD Cert.FfnDownFwd.τ).loc Cert.FfnDownFwd.main_arg0)
      ∧ r.2.mem ((c.tc : Thread Cert.FfnDownFwd.nD Cert.FfnDownFwd.τ).loc Cert.FfnDownFwd.main_arg1) = m ((c.tc : Thread Cert.FfnDownFwd.nD Cert.FfnDownFwd.τ).loc Cert.FfnDownFwd.main_arg1)
      ∧ r.2.mem ((c.tc : Thread Cert.FfnDownFwd.nD Cert.FfnDownFwd.τ).loc Cert.FfnDownFwd.main_arg2) = m ((c.tc : Thread Cert.FfnDownFwd.nD Cert.FfnDownFwd.τ).loc Cert.FfnDownFwd.main_arg2))
      ∧ r.2.sem = fun _ => 0)

def quiescent_FfnDownFwdIdeal [hFfnDownFwdIdeal : Cert.FfnDownFwdIdeal.Facts] : Prop :=
  ∀ (m : (ℓ : Loc Cert.FfnDownFwdIdeal.nD Cert.FfnDownFwdIdeal.τ Cert.FfnDownFwdIdeal.sig) → Buf (Elt Ideal) ℓ) (g : Dev Cert.FfnDownFwdIdeal.nD → PrngReg), Pre_FfnDownFwdIdeal m →
    θ_run (Cert.FfnDownFwdIdeal.defs (F := Ideal)) (onTc (τ := Cert.FfnDownFwdIdeal.τ) (Cert.FfnDownFwdIdeal.main (F := Ideal))) ⟨m, fun _ => 0, g⟩ (fun r => (∀ c : Dev Cert.FfnDownFwdIdeal.nD,
      r.2.mem ((c.tc : Thread Cert.FfnDownFwdIdeal.nD Cert.FfnDownFwdIdeal.τ).loc Cert.FfnDownFwdIdeal.main_arg0) = m ((c.tc : Thread Cert.FfnDownFwdIdeal.nD Cert.FfnDownFwdIdeal.τ).loc Cert.FfnDownFwdIdeal.main_arg0)
      ∧ r.2.mem ((c.tc : Thread Cert.FfnDownFwdIdeal.nD Cert.FfnDownFwdIdeal.τ).loc Cert.FfnDownFwdIdeal.main_arg1) = m ((c.tc : Thread Cert.FfnDownFwdIdeal.nD Cert.FfnDownFwdIdeal.τ).loc Cert.FfnDownFwdIdeal.main_arg1)
      ∧ r.2.mem ((c.tc : Thread Cert.FfnDownFwdIdeal.nD Cert.FfnDownFwdIdeal.τ).loc Cert.FfnDownFwdIdeal.main_arg2) = m ((c.tc : Thread Cert.FfnDownFwdIdeal.nD Cert.FfnDownFwdIdeal.τ).loc Cert.FfnDownFwdIdeal.main_arg2))
      ∧ r.2.sem = fun _ => 0)

def quiescent_FfnDownFwdRefIdeal [hFfnDownFwdRefIdeal : Cert.FfnDownFwdRefIdeal.Facts] : Prop :=
  ∀ (m : (ℓ : Loc Cert.FfnDownFwdRefIdeal.nD Cert.FfnDownFwdRefIdeal.τ Cert.FfnDownFwdRefIdeal.sig) → Buf (Elt Ideal) ℓ) (g : Dev Cert.FfnDownFwdRefIdeal.nD → PrngReg), Pre_FfnDownFwdRefIdeal m →
    θ_run (Cert.FfnDownFwdRefIdeal.defs (F := Ideal)) (onTc (τ := Cert.FfnDownFwdRefIdeal.τ) (Cert.FfnDownFwdRefIdeal.main (F := Ideal))) ⟨m, fun _ => 0, g⟩ (fun r => (∀ c : Dev Cert.FfnDownFwdRefIdeal.nD,
      r.2.mem ((c.tc : Thread Cert.FfnDownFwdRefIdeal.nD Cert.FfnDownFwdRefIdeal.τ).loc Cert.FfnDownFwdRefIdeal.main_arg0) = m ((c.tc : Thread Cert.FfnDownFwdRefIdeal.nD Cert.FfnDownFwdRefIdeal.τ).loc Cert.FfnDownFwdRefIdeal.main_arg0)
      ∧ r.2.mem ((c.tc : Thread Cert.FfnDownFwdRefIdeal.nD Cert.FfnDownFwdRefIdeal.τ).loc Cert.FfnDownFwdRefIdeal.main_arg1) = m ((c.tc : Thread Cert.FfnDownFwdRefIdeal.nD Cert.FfnDownFwdRefIdeal.τ).loc Cert.FfnDownFwdRefIdeal.main_arg1)
      ∧ r.2.mem ((c.tc : Thread Cert.FfnDownFwdRefIdeal.nD Cert.FfnDownFwdRefIdeal.τ).loc Cert.FfnDownFwdRefIdeal.main_arg2) = m ((c.tc : Thread Cert.FfnDownFwdRefIdeal.nD Cert.FfnDownFwdRefIdeal.τ).loc Cert.FfnDownFwdRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3))
      ∧ r.2.sem = fun _ => 0)

def quiescent_AdamFfnDown [hAdamFfnDown : Cert.AdamFfnDown.Facts] : Prop :=
  ∀ (m : (ℓ : Loc Cert.AdamFfnDown.nD Cert.AdamFfnDown.τ Cert.AdamFfnDown.sig) → Buf (Elt Bits) ℓ) (g : Dev Cert.AdamFfnDown.nD → PrngReg), Pre_AdamFfnDown m →
    θ_run (Cert.AdamFfnDown.defs (F := Bits)) (onTc (τ := Cert.AdamFfnDown.τ) (Cert.AdamFfnDown.main (F := Bits))) ⟨m, fun _ => 0, g⟩ (fun r => (∀ c : Dev Cert.AdamFfnDown.nD,
      r.2.mem ((c.tc : Thread Cert.AdamFfnDown.nD Cert.AdamFfnDown.τ).loc Cert.AdamFfnDown.main_arg0) = m ((c.tc : Thread Cert.AdamFfnDown.nD Cert.AdamFfnDown.τ).loc Cert.AdamFfnDown.main_arg0)
      ∧ r.2.mem ((c.tc : Thread Cert.AdamFfnDown.nD Cert.AdamFfnDown.τ).loc Cert.AdamFfnDown.main_arg1) = m ((c.tc : Thread Cert.AdamFfnDown.nD Cert.AdamFfnDown.τ).loc Cert.AdamFfnDown.main_arg1)
      ∧ r.2.mem ((c.tc : Thread Cert.AdamFfnDown.nD Cert.AdamFfnDown.τ).loc Cert.AdamFfnDown.main_arg2) = m ((c.tc : Thread Cert.AdamFfnDown.nD Cert.AdamFfnDown.τ).loc Cert.AdamFfnDown.main_arg2)
      ∧ r.2.mem ((c.tc : Thread Cert.AdamFfnDown.nD Cert.AdamFfnDown.τ).loc Cert.AdamFfnDown.main_arg3) = m ((c.tc : Thread Cert.AdamFfnDown.nD Cert.AdamFfnDown.τ).loc Cert.AdamFfnDown.main_arg3))
      ∧ r.2.sem = fun _ => 0)

def quiescent_AdamFfnDownIdeal [hAdamFfnDownIdeal : Cert.AdamFfnDownIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg), Pre_AdamFfnDownIdeal m →
    θ_run (Cert.AdamFfnDownIdeal.defs (F := Ideal)) (onTc (τ := Cert.AdamFfnDownIdeal.τ) (Cert.AdamFfnDownIdeal.main (F := Ideal))) ⟨m, fun _ => 0, g⟩ (fun r => (∀ c : Dev Cert.AdamFfnDownIdeal.nD,
      r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
      ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
      ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
      ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3))
      ∧ r.2.sem = fun _ => 0)

def quiescent_AdamFfnDownRefIdeal [hAdamFfnDownRefIdeal : Cert.AdamFfnDownRefIdeal.Facts] : Prop :=
  ∀ (m : (ℓ : Loc Cert.AdamFfnDownRefIdeal.nD Cert.AdamFfnDownRefIdeal.τ Cert.AdamFfnDownRefIdeal.sig) → Buf (Elt Ideal) ℓ) (g : Dev Cert.AdamFfnDownRefIdeal.nD → PrngReg), Pre_AdamFfnDownRefIdeal m →
    θ_run (Cert.AdamFfnDownRefIdeal.defs (F := Ideal)) (onTc (τ := Cert.AdamFfnDownRefIdeal.τ) (Cert.AdamFfnDownRefIdeal.main (F := Ideal))) ⟨m, fun _ => 0, g⟩ (fun r => (∀ c : Dev Cert.AdamFfnDownRefIdeal.nD,
      r.2.mem ((c.tc : Thread Cert.AdamFfnDownRefIdeal.nD Cert.AdamFfnDownRefIdeal.τ).loc Cert.AdamFfnDownRefIdeal.main_arg0) = m ((c.tc : Thread Cert.AdamFfnDownRefIdeal.nD Cert.AdamFfnDownRefIdeal.τ).loc Cert.AdamFfnDownRefIdeal.main_arg0)
      ∧ r.2.mem ((c.tc : Thread Cert.AdamFfnDownRefIdeal.nD Cert.AdamFfnDownRefIdeal.τ).loc Cert.AdamFfnDownRefIdeal.main_arg1) = m ((c.tc : Thread Cert.AdamFfnDownRefIdeal.nD Cert.AdamFfnDownRefIdeal.τ).loc Cert.AdamFfnDownRefIdeal.main_arg1)
      ∧ r.2.mem ((c.tc : Thread Cert.AdamFfnDownRefIdeal.nD Cert.AdamFfnDownRefIdeal.τ).loc Cert.AdamFfnDownRefIdeal.main_arg2) = m ((c.tc : Thread Cert.AdamFfnDownRefIdeal.nD Cert.AdamFfnDownRefIdeal.τ).loc Cert.AdamFfnDownRefIdeal.main_arg2)
      ∧ r.2.mem ((c.tc : Thread Cert.AdamFfnDownRefIdeal.nD Cert.AdamFfnDownRefIdeal.τ).loc Cert.AdamFfnDownRefIdeal.main_arg3) = m ((c.tc : Thread Cert.AdamFfnDownRefIdeal.nD Cert.AdamFfnDownRefIdeal.τ).loc Cert.AdamFfnDownRefIdeal.main_arg3))
      ∧ r.2.sem = fun _ => 0)

def quiescent_AdamConvS [hAdamConvS : Cert.AdamConvS.Facts] : Prop :=
  ∀ (m : (ℓ : Loc Cert.AdamConvS.nD Cert.AdamConvS.τ Cert.AdamConvS.sig) → Buf (Elt Bits) ℓ) (g : Dev Cert.AdamConvS.nD → PrngReg), Pre_AdamConvS m →
    θ_run (Cert.AdamConvS.defs (F := Bits)) (onTc (τ := Cert.AdamConvS.τ) (Cert.AdamConvS.main (F := Bits))) ⟨m, fun _ => 0, g⟩ (fun r => (∀ c : Dev Cert.AdamConvS.nD,
      r.2.mem ((c.tc : Thread Cert.AdamConvS.nD Cert.AdamConvS.τ).loc Cert.AdamConvS.main_arg0) = m ((c.tc : Thread Cert.AdamConvS.nD Cert.AdamConvS.τ).loc Cert.AdamConvS.main_arg0)
      ∧ r.2.mem ((c.tc : Thread Cert.AdamConvS.nD Cert.AdamConvS.τ).loc Cert.AdamConvS.main_arg1) = m ((c.tc : Thread Cert.AdamConvS.nD Cert.AdamConvS.τ).loc Cert.AdamConvS.main_arg1)
      ∧ r.2.mem ((c.tc : Thread Cert.AdamConvS.nD Cert.AdamConvS.τ).loc Cert.AdamConvS.main_arg2) = m ((c.tc : Thread Cert.AdamConvS.nD Cert.AdamConvS.τ).loc Cert.AdamConvS.main_arg2)
      ∧ r.2.mem ((c.tc : Thread Cert.AdamConvS.nD Cert.AdamConvS.τ).loc Cert.AdamConvS.main_arg3) = m ((c.tc : Thread Cert.AdamConvS.nD Cert.AdamConvS.τ).loc Cert.AdamConvS.main_arg3))
      ∧ r.2.sem = fun _ => 0)

def quiescent_AdamConvSIdeal [hAdamConvSIdeal : Cert.AdamConvSIdeal.Facts] : Prop :=
  ∀ (m : (ℓ : Loc Cert.AdamConvSIdeal.nD Cert.AdamConvSIdeal.τ Cert.AdamConvSIdeal.sig) → Buf (Elt Ideal) ℓ) (g : Dev Cert.AdamConvSIdeal.nD → PrngReg), Pre_AdamConvSIdeal m →
    θ_run (Cert.AdamConvSIdeal.defs (F := Ideal)) (onTc (τ := Cert.AdamConvSIdeal.τ) (Cert.AdamConvSIdeal.main (F := Ideal))) ⟨m, fun _ => 0, g⟩ (fun r => (∀ c : Dev Cert.AdamConvSIdeal.nD,
      r.2.mem ((c.tc : Thread Cert.AdamConvSIdeal.nD Cert.AdamConvSIdeal.τ).loc Cert.AdamConvSIdeal.main_arg0) = m ((c.tc : Thread Cert.AdamConvSIdeal.nD Cert.AdamConvSIdeal.τ).loc Cert.AdamConvSIdeal.main_arg0)
      ∧ r.2.mem ((c.tc : Thread Cert.AdamConvSIdeal.nD Cert.AdamConvSIdeal.τ).loc Cert.AdamConvSIdeal.main_arg1) = m ((c.tc : Thread Cert.AdamConvSIdeal.nD Cert.AdamConvSIdeal.τ).loc Cert.AdamConvSIdeal.main_arg1)
      ∧ r.2.mem ((c.tc : Thread Cert.AdamConvSIdeal.nD Cert.AdamConvSIdeal.τ).loc Cert.AdamConvSIdeal.main_arg2) = m ((c.tc : Thread Cert.AdamConvSIdeal.nD Cert.AdamConvSIdeal.τ).loc Cert.AdamConvSIdeal.main_arg2)
      ∧ r.2.mem ((c.tc : Thread Cert.AdamConvSIdeal.nD Cert.AdamConvSIdeal.τ).loc Cert.AdamConvSIdeal.main_arg3) = m ((c.tc : Thread Cert.AdamConvSIdeal.nD Cert.AdamConvSIdeal.τ).loc Cert.AdamConvSIdeal.main_arg3))
      ∧ r.2.sem = fun _ => 0)

def quiescent_AdamConvSRefIdeal [hAdamConvSRefIdeal : Cert.AdamConvSRefIdeal.Facts] : Prop :=
  ∀ (m : (ℓ : Loc Cert.AdamConvSRefIdeal.nD Cert.AdamConvSRefIdeal.τ Cert.AdamConvSRefIdeal.sig) → Buf (Elt Ideal) ℓ) (g : Dev Cert.AdamConvSRefIdeal.nD → PrngReg), Pre_AdamConvSRefIdeal m →
    θ_run (Cert.AdamConvSRefIdeal.defs (F := Ideal)) (onTc (τ := Cert.AdamConvSRefIdeal.τ) (Cert.AdamConvSRefIdeal.main (F := Ideal))) ⟨m, fun _ => 0, g⟩ (fun r => (∀ c : Dev Cert.AdamConvSRefIdeal.nD,
      r.2.mem ((c.tc : Thread Cert.AdamConvSRefIdeal.nD Cert.AdamConvSRefIdeal.τ).loc Cert.AdamConvSRefIdeal.main_arg0) = m ((c.tc : Thread Cert.AdamConvSRefIdeal.nD Cert.AdamConvSRefIdeal.τ).loc Cert.AdamConvSRefIdeal.main_arg0)
      ∧ r.2.mem ((c.tc : Thread Cert.AdamConvSRefIdeal.nD Cert.AdamConvSRefIdeal.τ).loc Cert.AdamConvSRefIdeal.main_arg1) = m ((c.tc : Thread Cert.AdamConvSRefIdeal.nD Cert.AdamConvSRefIdeal.τ).loc Cert.AdamConvSRefIdeal.main_arg1)
      ∧ r.2.mem ((c.tc : Thread Cert.AdamConvSRefIdeal.nD Cert.AdamConvSRefIdeal.τ).loc Cert.AdamConvSRefIdeal.main_arg2) = m ((c.tc : Thread Cert.AdamConvSRefIdeal.nD Cert.AdamConvSRefIdeal.τ).loc Cert.AdamConvSRefIdeal.main_arg2)
      ∧ r.2.mem ((c.tc : Thread Cert.AdamConvSRefIdeal.nD Cert.AdamConvSRefIdeal.τ).loc Cert.AdamConvSRefIdeal.main_arg3) = m ((c.tc : Thread Cert.AdamConvSRefIdeal.nD Cert.AdamConvSRefIdeal.τ).loc Cert.AdamConvSRefIdeal.main_arg3))
      ∧ r.2.sem = fun _ => 0)

def quiescent_AdamConvG [hAdamConvG : Cert.AdamConvG.Facts] : Prop :=
  ∀ (m : (ℓ : Loc Cert.AdamConvG.nD Cert.AdamConvG.τ Cert.AdamConvG.sig) → Buf (Elt Bits) ℓ) (g : Dev Cert.AdamConvG.nD → PrngReg), Pre_AdamConvG m →
    θ_run (Cert.AdamConvG.defs (F := Bits)) (onTc (τ := Cert.AdamConvG.τ) (Cert.AdamConvG.main (F := Bits))) ⟨m, fun _ => 0, g⟩ (fun r => (∀ c : Dev Cert.AdamConvG.nD,
      r.2.mem ((c.tc : Thread Cert.AdamConvG.nD Cert.AdamConvG.τ).loc Cert.AdamConvG.main_arg0) = m ((c.tc : Thread Cert.AdamConvG.nD Cert.AdamConvG.τ).loc Cert.AdamConvG.main_arg0)
      ∧ r.2.mem ((c.tc : Thread Cert.AdamConvG.nD Cert.AdamConvG.τ).loc Cert.AdamConvG.main_arg1) = m ((c.tc : Thread Cert.AdamConvG.nD Cert.AdamConvG.τ).loc Cert.AdamConvG.main_arg1)
      ∧ r.2.mem ((c.tc : Thread Cert.AdamConvG.nD Cert.AdamConvG.τ).loc Cert.AdamConvG.main_arg2) = m ((c.tc : Thread Cert.AdamConvG.nD Cert.AdamConvG.τ).loc Cert.AdamConvG.main_arg2)
      ∧ r.2.mem ((c.tc : Thread Cert.AdamConvG.nD Cert.AdamConvG.τ).loc Cert.AdamConvG.main_arg3) = m ((c.tc : Thread Cert.AdamConvG.nD Cert.AdamConvG.τ).loc Cert.AdamConvG.main_arg3))
      ∧ r.2.sem = fun _ => 0)

def quiescent_AdamConvGIdeal [hAdamConvGIdeal : Cert.AdamConvGIdeal.Facts] : Prop :=
  ∀ (m : (ℓ : Loc Cert.AdamConvGIdeal.nD Cert.AdamConvGIdeal.τ Cert.AdamConvGIdeal.sig) → Buf (Elt Ideal) ℓ) (g : Dev Cert.AdamConvGIdeal.nD → PrngReg), Pre_AdamConvGIdeal m →
    θ_run (Cert.AdamConvGIdeal.defs (F := Ideal)) (onTc (τ := Cert.AdamConvGIdeal.τ) (Cert.AdamConvGIdeal.main (F := Ideal))) ⟨m, fun _ => 0, g⟩ (fun r => (∀ c : Dev Cert.AdamConvGIdeal.nD,
      r.2.mem ((c.tc : Thread Cert.AdamConvGIdeal.nD Cert.AdamConvGIdeal.τ).loc Cert.AdamConvGIdeal.main_arg0) = m ((c.tc : Thread Cert.AdamConvGIdeal.nD Cert.AdamConvGIdeal.τ).loc Cert.AdamConvGIdeal.main_arg0)
      ∧ r.2.mem ((c.tc : Thread Cert.AdamConvGIdeal.nD Cert.AdamConvGIdeal.τ).loc Cert.AdamConvGIdeal.main_arg1) = m ((c.tc : Thread Cert.AdamConvGIdeal.nD Cert.AdamConvGIdeal.τ).loc Cert.AdamConvGIdeal.main_arg1)
      ∧ r.2.mem ((c.tc : Thread Cert.AdamConvGIdeal.nD Cert.AdamConvGIdeal.τ).loc Cert.AdamConvGIdeal.main_arg2) = m ((c.tc : Thread Cert.AdamConvGIdeal.nD Cert.AdamConvGIdeal.τ).loc Cert.AdamConvGIdeal.main_arg2)
      ∧ r.2.mem ((c.tc : Thread Cert.AdamConvGIdeal.nD Cert.AdamConvGIdeal.τ).loc Cert.AdamConvGIdeal.main_arg3) = m ((c.tc : Thread Cert.AdamConvGIdeal.nD Cert.AdamConvGIdeal.τ).loc Cert.AdamConvGIdeal.main_arg3))
      ∧ r.2.sem = fun _ => 0)

def quiescent_AdamConvGRefIdeal [hAdamConvGRefIdeal : Cert.AdamConvGRefIdeal.Facts] : Prop :=
  ∀ (m : (ℓ : Loc Cert.AdamConvGRefIdeal.nD Cert.AdamConvGRefIdeal.τ Cert.AdamConvGRefIdeal.sig) → Buf (Elt Ideal) ℓ) (g : Dev Cert.AdamConvGRefIdeal.nD → PrngReg), Pre_AdamConvGRefIdeal m →
    θ_run (Cert.AdamConvGRefIdeal.defs (F := Ideal)) (onTc (τ := Cert.AdamConvGRefIdeal.τ) (Cert.AdamConvGRefIdeal.main (F := Ideal))) ⟨m, fun _ => 0, g⟩ (fun r => (∀ c : Dev Cert.AdamConvGRefIdeal.nD,
      r.2.mem ((c.tc : Thread Cert.AdamConvGRefIdeal.nD Cert.AdamConvGRefIdeal.τ).loc Cert.AdamConvGRefIdeal.main_arg0) = m ((c.tc : Thread Cert.AdamConvGRefIdeal.nD Cert.AdamConvGRefIdeal.τ).loc Cert.AdamConvGRefIdeal.main_arg0)
      ∧ r.2.mem ((c.tc : Thread Cert.AdamConvGRefIdeal.nD Cert.AdamConvGRefIdeal.τ).loc Cert.AdamConvGRefIdeal.main_arg1) = m ((c.tc : Thread Cert.AdamConvGRefIdeal.nD Cert.AdamConvGRefIdeal.τ).loc Cert.AdamConvGRefIdeal.main_arg1)
      ∧ r.2.mem ((c.tc : Thread Cert.AdamConvGRefIdeal.nD Cert.AdamConvGRefIdeal.τ).loc Cert.AdamConvGRefIdeal.main_arg2) = m ((c.tc : Thread Cert.AdamConvGRefIdeal.nD Cert.AdamConvGRefIdeal.τ).loc Cert.AdamConvGRefIdeal.main_arg2)
      ∧ r.2.mem ((c.tc : Thread Cert.AdamConvGRefIdeal.nD Cert.AdamConvGRefIdeal.τ).loc Cert.AdamConvGRefIdeal.main_arg3) = m ((c.tc : Thread Cert.AdamConvGRefIdeal.nD Cert.AdamConvGRefIdeal.τ).loc Cert.AdamConvGRefIdeal.main_arg3))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_SsdPostBwd [hSsdPostBwd : Cert.SsdPostBwd.Facts] : Prop :=
  ∀ (m : (ℓ : Loc Cert.SsdPostBwd.nD Cert.SsdPostBwd.τ Cert.SsdPostBwd.sig) → Buf (Elt Bits) ℓ) (g : Dev Cert.SsdPostBwd.nD → PrngReg), Pre_SsdPostBwd m →
    θ_run (Cert.SsdPostBwd.defs (F := Bits)) (onTc (τ := Cert.SsdPostBwd.τ) (Cert.SsdPostBwd.main (F := Bits))) ⟨m, fun _ => 0, g⟩ (fun r => (∀ c : Dev Cert.SsdPostBwd.nD,
      r.2.mem ((c.tc : Thread Cert.SsdPostBwd.nD Cert.SsdPostBwd.τ).loc Cert.SsdPostBwd.main_arg0) = m ((c.tc : Thread Cert.SsdPostBwd.nD Cert.SsdPostBwd.τ).loc Cert.SsdPostBwd.main_arg0)
      ∧ r.2.mem ((c.tc : Thread Cert.SsdPostBwd.nD Cert.SsdPostBwd.τ).loc Cert.SsdPostBwd.main_arg1) = m ((c.tc : Thread Cert.SsdPostBwd.nD Cert.SsdPostBwd.τ).loc Cert.SsdPostBwd.main_arg1)
      ∧ r.2.mem ((c.tc : Thread Cert.SsdPostBwd.nD Cert.SsdPostBwd.τ).loc Cert.SsdPostBwd.main_arg2) = m ((c.tc : Thread Cert.SsdPostBwd.nD Cert.SsdPostBwd.τ).loc Cert.SsdPostBwd.main_arg2)
      ∧ r.2.mem ((c.tc : Thread Cert.SsdPostBwd.nD Cert.SsdPostBwd.τ).loc Cert.SsdPostBwd.main_arg3) = m ((c.tc : Thread Cert.SsdPostBwd.nD Cert.SsdPostBwd.τ).loc Cert.SsdPostBwd.main_arg3))
      ∧ r.2.sem = fun _ => 0)

def quiescent_SsdPostBwdIdeal [hSsdPostBwdIdeal : Cert.SsdPostBwdIdeal.Facts] : Prop :=
  ∀ (m : (ℓ : Loc Cert.SsdPostBwdIdeal.nD Cert.SsdPostBwdIdeal.τ Cert.SsdPostBwdIdeal.sig) → Buf (Elt Ideal) ℓ) (g : Dev Cert.SsdPostBwdIdeal.nD → PrngReg), Pre_SsdPostBwdIdeal m →
    θ_run (Cert.SsdPostBwdIdeal.defs (F := Ideal)) (onTc (τ := Cert.SsdPostBwdIdeal.τ) (Cert.SsdPostBwdIdeal.main (F := Ideal))) ⟨m, fun _ => 0, g⟩ (fun r => (∀ c : Dev Cert.SsdPostBwdIdeal.nD,
      r.2.mem ((c.tc : Thread Cert.SsdPostBwdIdeal.nD Cert.SsdPostBwdIdeal.τ).loc Cert.SsdPostBwdIdeal.main_arg0) = m ((c.tc : Thread Cert.SsdPostBwdIdeal.nD Cert.SsdPostBwdIdeal.τ).loc Cert.SsdPostBwdIdeal.main_arg0)
      ∧ r.2.mem ((c.tc : Thread Cert.SsdPostBwdIdeal.nD Cert.SsdPostBwdIdeal.τ).loc Cert.SsdPostBwdIdeal.main_arg1) = m ((c.tc : Thread Cert.SsdPostBwdIdeal.nD Cert.SsdPostBwdIdeal.τ).loc Cert.SsdPostBwdIdeal.main_arg1)
      ∧ r.2.mem ((c.tc : Thread Cert.SsdPostBwdIdeal.nD Cert.SsdPostBwdIdeal.τ).loc Cert.SsdPostBwdIdeal.main_arg2) = m ((c.tc : Thread Cert.SsdPostBwdIdeal.nD Cert.SsdPostBwdIdeal.τ).loc Cert.SsdPostBwdIdeal.main_arg2)
      ∧ r.2.mem ((c.tc : Thread Cert.SsdPostBwdIdeal.nD Cert.SsdPostBwdIdeal.τ).loc Cert.SsdPostBwdIdeal.main_arg3) = m ((c.tc : Thread Cert.SsdPostBwdIdeal.nD Cert.SsdPostBwdIdeal.τ).loc Cert.SsdPostBwdIdeal.main_arg3))
      ∧ r.2.sem = fun _ => 0)

def quiescent_SsdPostBwdRefIdeal [hSsdPostBwdRefIdeal : Cert.SsdPostBwdRefIdeal.Facts] : Prop :=
  ∀ (m : (ℓ : Loc Cert.SsdPostBwdRefIdeal.nD Cert.SsdPostBwdRefIdeal.τ Cert.SsdPostBwdRefIdeal.sig) → Buf (Elt Ideal) ℓ) (g : Dev Cert.SsdPostBwdRefIdeal.nD → PrngReg), Pre_SsdPostBwdRefIdeal m →
    θ_run (Cert.SsdPostBwdRefIdeal.defs (F := Ideal)) (onTc (τ := Cert.SsdPostBwdRefIdeal.τ) (Cert.SsdPostBwdRefIdeal.main (F := Ideal))) ⟨m, fun _ => 0, g⟩ (fun r => (∀ c : Dev Cert.SsdPostBwdRefIdeal.nD,
      r.2.mem ((c.tc : Thread Cert.SsdPostBwdRefIdeal.nD Cert.SsdPostBwdRefIdeal.τ).loc Cert.SsdPostBwdRefIdeal.main_arg0) = m ((c.tc : Thread Cert.SsdPostBwdRefIdeal.nD Cert.SsdPostBwdRefIdeal.τ).loc Cert.SsdPostBwdRefIdeal.main_arg0)
      ∧ r.2.mem ((c.tc : Thread Cert.SsdPostBwdRefIdeal.nD Cert.SsdPostBwdRefIdeal.τ).loc Cert.SsdPostBwdRefIdeal.main_arg1) = m ((c.tc : Thread Cert.SsdPostBwdRefIdeal.nD Cert.SsdPostBwdRefIdeal.τ).loc Cert.SsdPostBwdRefIdeal.main_arg1)
      ∧ r.2.mem ((c.tc : Thread Cert.SsdPostBwdRefIdeal.nD Cert.SsdPostBwdRefIdeal.τ).loc Cert.SsdPostBwdRefIdeal.main_arg2) = m ((c.tc : Thread Cert.SsdPostBwdRefIdeal.nD Cert.SsdPostBwdRefIdeal.τ).loc Cert.SsdPostBwdRefIdeal.main_arg2)
      ∧ r.2.mem ((c.tc : Thread Cert.SsdPostBwdRefIdeal.nD Cert.SsdPostBwdRefIdeal.τ).loc Cert.SsdPostBwdRefIdeal.main_arg3) = m ((c.tc : Thread Cert.SsdPostBwdRefIdeal.nD Cert.SsdPostBwdRefIdeal.τ).loc Cert.SsdPostBwdRefIdeal.main_arg3))
      ∧ r.2.sem = fun _ => 0)

def quiescent_GdnPostBwd [hGdnPostBwd : Cert.GdnPostBwd.Facts] : Prop :=
  ∀ (m : (ℓ : Loc Cert.GdnPostBwd.nD Cert.GdnPostBwd.τ Cert.GdnPostBwd.sig) → Buf (Elt Bits) ℓ) (g : Dev Cert.GdnPostBwd.nD → PrngReg), Pre_GdnPostBwd m →
    θ_run (Cert.GdnPostBwd.defs (F := Bits)) (onTc (τ := Cert.GdnPostBwd.τ) (Cert.GdnPostBwd.main (F := Bits))) ⟨m, fun _ => 0, g⟩ (fun r => (∀ c : Dev Cert.GdnPostBwd.nD,
      r.2.mem ((c.tc : Thread Cert.GdnPostBwd.nD Cert.GdnPostBwd.τ).loc Cert.GdnPostBwd.main_arg0) = m ((c.tc : Thread Cert.GdnPostBwd.nD Cert.GdnPostBwd.τ).loc Cert.GdnPostBwd.main_arg0)
      ∧ r.2.mem ((c.tc : Thread Cert.GdnPostBwd.nD Cert.GdnPostBwd.τ).loc Cert.GdnPostBwd.main_arg1) = m ((c.tc : Thread Cert.GdnPostBwd.nD Cert.GdnPostBwd.τ).loc Cert.GdnPostBwd.main_arg1)
      ∧ r.2.mem ((c.tc : Thread Cert.GdnPostBwd.nD Cert.GdnPostBwd.τ).loc Cert.GdnPostBwd.main_arg2) = m ((c.tc : Thread Cert.GdnPostBwd.nD Cert.GdnPostBwd.τ).loc Cert.GdnPostBwd.main_arg2)
      ∧ r.2.mem ((c.tc : Thread Cert.GdnPostBwd.nD Cert.GdnPostBwd.τ).loc Cert.GdnPostBwd.main_arg3) = m ((c.tc : Thread Cert.GdnPostBwd.nD Cert.GdnPostBwd.τ).loc Cert.GdnPostBwd.main_arg3))
      ∧ r.2.sem = fun _ => 0)

def quiescent_GdnPostBwdIdeal [hGdnPostBwdIdeal : Cert.GdnPostBwdIdeal.Facts] : Prop :=
  ∀ (m : (ℓ : Loc Cert.GdnPostBwdIdeal.nD Cert.GdnPostBwdIdeal.τ Cert.GdnPostBwdIdeal.sig) → Buf (Elt Ideal) ℓ) (g : Dev Cert.GdnPostBwdIdeal.nD → PrngReg), Pre_GdnPostBwdIdeal m →
    θ_run (Cert.GdnPostBwdIdeal.defs (F := Ideal)) (onTc (τ := Cert.GdnPostBwdIdeal.τ) (Cert.GdnPostBwdIdeal.main (F := Ideal))) ⟨m, fun _ => 0, g⟩ (fun r => (∀ c : Dev Cert.GdnPostBwdIdeal.nD,
      r.2.mem ((c.tc : Thread Cert.GdnPostBwdIdeal.nD Cert.GdnPostBwdIdeal.τ).loc Cert.GdnPostBwdIdeal.main_arg0) = m ((c.tc : Thread Cert.GdnPostBwdIdeal.nD Cert.GdnPostBwdIdeal.τ).loc Cert.GdnPostBwdIdeal.main_arg0)
      ∧ r.2.mem ((c.tc : Thread Cert.GdnPostBwdIdeal.nD Cert.GdnPostBwdIdeal.τ).loc Cert.GdnPostBwdIdeal.main_arg1) = m ((c.tc : Thread Cert.GdnPostBwdIdeal.nD Cert.GdnPostBwdIdeal.τ).loc Cert.GdnPostBwdIdeal.main_arg1)
      ∧ r.2.mem ((c.tc : Thread Cert.GdnPostBwdIdeal.nD Cert.GdnPostBwdIdeal.τ).loc Cert.GdnPostBwdIdeal.main_arg2) = m ((c.tc : Thread Cert.GdnPostBwdIdeal.nD Cert.GdnPostBwdIdeal.τ).loc Cert.GdnPostBwdIdeal.main_arg2)
      ∧ r.2.mem ((c.tc : Thread Cert.GdnPostBwdIdeal.nD Cert.GdnPostBwdIdeal.τ).loc Cert.GdnPostBwdIdeal.main_arg3) = m ((c.tc : Thread Cert.GdnPostBwdIdeal.nD Cert.GdnPostBwdIdeal.τ).loc Cert.GdnPostBwdIdeal.main_arg3))
      ∧ r.2.sem = fun _ => 0)

def quiescent_GdnPostBwdRefIdeal [hGdnPostBwdRefIdeal : Cert.GdnPostBwdRefIdeal.Facts] : Prop :=
  ∀ (m : (ℓ : Loc Cert.GdnPostBwdRefIdeal.nD Cert.GdnPostBwdRefIdeal.τ Cert.GdnPostBwdRefIdeal.sig) → Buf (Elt Ideal) ℓ) (g : Dev Cert.GdnPostBwdRefIdeal.nD → PrngReg), Pre_GdnPostBwdRefIdeal m →
    θ_run (Cert.GdnPostBwdRefIdeal.defs (F := Ideal)) (onTc (τ := Cert.GdnPostBwdRefIdeal.τ) (Cert.GdnPostBwdRefIdeal.main (F := Ideal))) ⟨m, fun _ => 0, g⟩ (fun r => (∀ c : Dev Cert.GdnPostBwdRefIdeal.nD,
      r.2.mem ((c.tc : Thread Cert.GdnPostBwdRefIdeal.nD Cert.GdnPostBwdRefIdeal.τ).loc Cert.GdnPostBwdRefIdeal.main_arg0) = m ((c.tc : Thread Cert.GdnPostBwdRefIdeal.nD Cert.GdnPostBwdRefIdeal.τ).loc Cert.GdnPostBwdRefIdeal.main_arg0)
      ∧ r.2.mem ((c.tc : Thread Cert.GdnPostBwdRefIdeal.nD Cert.GdnPostBwdRefIdeal.τ).loc Cert.GdnPostBwdRefIdeal.main_arg1) = m ((c.tc : Thread Cert.GdnPostBwdRefIdeal.nD Cert.GdnPostBwdRefIdeal.τ).loc Cert.GdnPostBwdRefIdeal.main_arg1)
      ∧ r.2.mem ((c.tc : Thread Cert.GdnPostBwdRefIdeal.nD Cert.GdnPostBwdRefIdeal.τ).loc Cert.GdnPostBwdRefIdeal.main_arg2) = m ((c.tc : Thread Cert.GdnPostBwdRefIdeal.nD Cert.GdnPostBwdRefIdeal.τ).loc Cert.GdnPostBwdRefIdeal.main_arg2)
      ∧ r.2.mem ((c.tc : Thread Cert.GdnPostBwdRefIdeal.nD Cert.GdnPostBwdRefIdeal.τ).loc Cert.GdnPostBwdRefIdeal.main_arg3) = m ((c.tc : Thread Cert.GdnPostBwdRefIdeal.nD Cert.GdnPostBwdRefIdeal.τ).loc Cert.GdnPostBwdRefIdeal.main_arg3))
      ∧ r.2.sem = fun _ => 0)

def quiescent_SsdPost [hSsdPost : Cert.SsdPost.Facts] : Prop :=
  ∀ (m : (ℓ : Loc Cert.SsdPost.nD Cert.SsdPost.τ Cert.SsdPost.sig) → Buf (Elt Bits) ℓ) (g : Dev Cert.SsdPost.nD → PrngReg), Pre_SsdPost m →
    θ_run (Cert.SsdPost.defs (F := Bits)) (onTc (τ := Cert.SsdPost.τ) (Cert.SsdPost.main (F := Bits))) ⟨m, fun _ => 0, g⟩ (fun r => (∀ c : Dev Cert.SsdPost.nD,
      r.2.mem ((c.tc : Thread Cert.SsdPost.nD Cert.SsdPost.τ).loc Cert.SsdPost.main_arg0) = m ((c.tc : Thread Cert.SsdPost.nD Cert.SsdPost.τ).loc Cert.SsdPost.main_arg0)
      ∧ r.2.mem ((c.tc : Thread Cert.SsdPost.nD Cert.SsdPost.τ).loc Cert.SsdPost.main_arg1) = m ((c.tc : Thread Cert.SsdPost.nD Cert.SsdPost.τ).loc Cert.SsdPost.main_arg1)
      ∧ r.2.mem ((c.tc : Thread Cert.SsdPost.nD Cert.SsdPost.τ).loc Cert.SsdPost.main_arg2) = m ((c.tc : Thread Cert.SsdPost.nD Cert.SsdPost.τ).loc Cert.SsdPost.main_arg2))
      ∧ r.2.sem = fun _ => 0)

def quiescent_SsdPostIdeal [hSsdPostIdeal : Cert.SsdPostIdeal.Facts] : Prop :=
  ∀ (m : (ℓ : Loc Cert.SsdPostIdeal.nD Cert.SsdPostIdeal.τ Cert.SsdPostIdeal.sig) → Buf (Elt Ideal) ℓ) (g : Dev Cert.SsdPostIdeal.nD → PrngReg), Pre_SsdPostIdeal m →
    θ_run (Cert.SsdPostIdeal.defs (F := Ideal)) (onTc (τ := Cert.SsdPostIdeal.τ) (Cert.SsdPostIdeal.main (F := Ideal))) ⟨m, fun _ => 0, g⟩ (fun r => (∀ c : Dev Cert.SsdPostIdeal.nD,
      r.2.mem ((c.tc : Thread Cert.SsdPostIdeal.nD Cert.SsdPostIdeal.τ).loc Cert.SsdPostIdeal.main_arg0) = m ((c.tc : Thread Cert.SsdPostIdeal.nD Cert.SsdPostIdeal.τ).loc Cert.SsdPostIdeal.main_arg0)
      ∧ r.2.mem ((c.tc : Thread Cert.SsdPostIdeal.nD Cert.SsdPostIdeal.τ).loc Cert.SsdPostIdeal.main_arg1) = m ((c.tc : Thread Cert.SsdPostIdeal.nD Cert.SsdPostIdeal.τ).loc Cert.SsdPostIdeal.main_arg1)
      ∧ r.2.mem ((c.tc : Thread Cert.SsdPostIdeal.nD Cert.SsdPostIdeal.τ).loc Cert.SsdPostIdeal.main_arg2) = m ((c.tc : Thread Cert.SsdPostIdeal.nD Cert.SsdPostIdeal.τ).loc Cert.SsdPostIdeal.main_arg2))
      ∧ r.2.sem = fun _ => 0)

def quiescent_SsdPostRefIdeal [hSsdPostRefIdeal : Cert.SsdPostRefIdeal.Facts] : Prop :=
  ∀ (m : (ℓ : Loc Cert.SsdPostRefIdeal.nD Cert.SsdPostRefIdeal.τ Cert.SsdPostRefIdeal.sig) → Buf (Elt Ideal) ℓ) (g : Dev Cert.SsdPostRefIdeal.nD → PrngReg), Pre_SsdPostRefIdeal m →
    θ_run (Cert.SsdPostRefIdeal.defs (F := Ideal)) (onTc (τ := Cert.SsdPostRefIdeal.τ) (Cert.SsdPostRefIdeal.main (F := Ideal))) ⟨m, fun _ => 0, g⟩ (fun r => (∀ c : Dev Cert.SsdPostRefIdeal.nD,
      r.2.mem ((c.tc : Thread Cert.SsdPostRefIdeal.nD Cert.SsdPostRefIdeal.τ).loc Cert.SsdPostRefIdeal.main_arg0) = m ((c.tc : Thread Cert.SsdPostRefIdeal.nD Cert.SsdPostRefIdeal.τ).loc Cert.SsdPostRefIdeal.main_arg0)
      ∧ r.2.mem ((c.tc : Thread Cert.SsdPostRefIdeal.nD Cert.SsdPostRefIdeal.τ).loc Cert.SsdPostRefIdeal.main_arg1) = m ((c.tc : Thread Cert.SsdPostRefIdeal.nD Cert.SsdPostRefIdeal.τ).loc Cert.SsdPostRefIdeal.main_arg1)
      ∧ r.2.mem ((c.tc : Thread Cert.SsdPostRefIdeal.nD Cert.SsdPostRefIdeal.τ).loc Cert.SsdPostRefIdeal.main_arg2) = m ((c.tc : Thread Cert.SsdPostRefIdeal.nD Cert.SsdPostRefIdeal.τ).loc Cert.SsdPostRefIdeal.main_arg2))
      ∧ r.2.sem = fun _ => 0)

def quiescent_GdnPost [hGdnPost : Cert.GdnPost.Facts] : Prop :=
  ∀ (m : (ℓ : Loc Cert.GdnPost.nD Cert.GdnPost.τ Cert.GdnPost.sig) → Buf (Elt Bits) ℓ) (g : Dev Cert.GdnPost.nD → PrngReg), Pre_GdnPost m →
    θ_run (Cert.GdnPost.defs (F := Bits)) (onTc (τ := Cert.GdnPost.τ) (Cert.GdnPost.main (F := Bits))) ⟨m, fun _ => 0, g⟩ (fun r => (∀ c : Dev Cert.GdnPost.nD,
      r.2.mem ((c.tc : Thread Cert.GdnPost.nD Cert.GdnPost.τ).loc Cert.GdnPost.main_arg0) = m ((c.tc : Thread Cert.GdnPost.nD Cert.GdnPost.τ).loc Cert.GdnPost.main_arg0)
      ∧ r.2.mem ((c.tc : Thread Cert.GdnPost.nD Cert.GdnPost.τ).loc Cert.GdnPost.main_arg1) = m ((c.tc : Thread Cert.GdnPost.nD Cert.GdnPost.τ).loc Cert.GdnPost.main_arg1)
      ∧ r.2.mem ((c.tc : Thread Cert.GdnPost.nD Cert.GdnPost.τ).loc Cert.GdnPost.main_arg2) = m ((c.tc : Thread Cert.GdnPost.nD Cert.GdnPost.τ).loc Cert.GdnPost.main_arg2))
      ∧ r.2.sem = fun _ => 0)

def quiescent_GdnPostIdeal [hGdnPostIdeal : Cert.GdnPostIdeal.Facts] : Prop :=
  ∀ (m : (ℓ : Loc Cert.GdnPostIdeal.nD Cert.GdnPostIdeal.τ Cert.GdnPostIdeal.sig) → Buf (Elt Ideal) ℓ) (g : Dev Cert.GdnPostIdeal.nD → PrngReg), Pre_GdnPostIdeal m →
    θ_run (Cert.GdnPostIdeal.defs (F := Ideal)) (onTc (τ := Cert.GdnPostIdeal.τ) (Cert.GdnPostIdeal.main (F := Ideal))) ⟨m, fun _ => 0, g⟩ (fun r => (∀ c : Dev Cert.GdnPostIdeal.nD,
      r.2.mem ((c.tc : Thread Cert.GdnPostIdeal.nD Cert.GdnPostIdeal.τ).loc Cert.GdnPostIdeal.main_arg0) = m ((c.tc : Thread Cert.GdnPostIdeal.nD Cert.GdnPostIdeal.τ).loc Cert.GdnPostIdeal.main_arg0)
      ∧ r.2.mem ((c.tc : Thread Cert.GdnPostIdeal.nD Cert.GdnPostIdeal.τ).loc Cert.GdnPostIdeal.main_arg1) = m ((c.tc : Thread Cert.GdnPostIdeal.nD Cert.GdnPostIdeal.τ).loc Cert.GdnPostIdeal.main_arg1)
      ∧ r.2.mem ((c.tc : Thread Cert.GdnPostIdeal.nD Cert.GdnPostIdeal.τ).loc Cert.GdnPostIdeal.main_arg2) = m ((c.tc : Thread Cert.GdnPostIdeal.nD Cert.GdnPostIdeal.τ).loc Cert.GdnPostIdeal.main_arg2))
      ∧ r.2.sem = fun _ => 0)

def quiescent_GdnPostRefIdeal [hGdnPostRefIdeal : Cert.GdnPostRefIdeal.Facts] : Prop :=
  ∀ (m : (ℓ : Loc Cert.GdnPostRefIdeal.nD Cert.GdnPostRefIdeal.τ Cert.GdnPostRefIdeal.sig) → Buf (Elt Ideal) ℓ) (g : Dev Cert.GdnPostRefIdeal.nD → PrngReg), Pre_GdnPostRefIdeal m →
    θ_run (Cert.GdnPostRefIdeal.defs (F := Ideal)) (onTc (τ := Cert.GdnPostRefIdeal.τ) (Cert.GdnPostRefIdeal.main (F := Ideal))) ⟨m, fun _ => 0, g⟩ (fun r => (∀ c : Dev Cert.GdnPostRefIdeal.nD,
      r.2.mem ((c.tc : Thread Cert.GdnPostRefIdeal.nD Cert.GdnPostRefIdeal.τ).loc Cert.GdnPostRefIdeal.main_arg0) = m ((c.tc : Thread Cert.GdnPostRefIdeal.nD Cert.GdnPostRefIdeal.τ).loc Cert.GdnPostRefIdeal.main_arg0)
      ∧ r.2.mem ((c.tc : Thread Cert.GdnPostRefIdeal.nD Cert.GdnPostRefIdeal.τ).loc Cert.GdnPostRefIdeal.main_arg1) = m ((c.tc : Thread Cert.GdnPostRefIdeal.nD Cert.GdnPostRefIdeal.τ).loc Cert.GdnPostRefIdeal.main_arg1)
      ∧ r.2.mem ((c.tc : Thread Cert.GdnPostRefIdeal.nD Cert.GdnPostRefIdeal.τ).loc Cert.GdnPostRefIdeal.main_arg2) = m ((c.tc : Thread Cert.GdnPostRefIdeal.nD Cert.GdnPostRefIdeal.τ).loc Cert.GdnPostRefIdeal.main_arg2))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39)
      ∧ r.2.mem ((c.tc : Thread Cert.AdamSmallRefIdeal.nD Cert.AdamSmallRefIdeal.τ).loc Cert.AdamSmallRefIdeal.main_arg40) = m ((c.tc : Thread Cert.AdamSmallRefIdeal.nD Cert.AdamSmallRefIdeal.τ).loc Cert.AdamSmallRefIdeal.main_arg40)
      ∧ r.2.mem ((c.tc : Thread Cert.AdamSmallRefIdeal.nD Cert.AdamSmallRefIdeal.τ).loc Cert.AdamSmallRefIdeal.main_arg41) = m ((c.tc : Thread Cert.AdamSmallRefIdeal.nD Cert.AdamSmallRefIdeal.τ).loc Cert.AdamSmallRefIdeal.main_arg41)
      ∧ r.2.mem ((c.tc : Thread Cert.AdamSmallRefIdeal.nD Cert.AdamSmallRefIdeal.τ).loc Cert.AdamSmallRefIdeal.main_arg42) = m ((c.tc : Thread Cert.AdamSmallRefIdeal.nD Cert.AdamSmallRefIdeal.τ).loc Cert.AdamSmallRefIdeal.main_arg42)
      ∧ r.2.mem ((c.tc : Thread Cert.AdamSmallRefIdeal.nD Cert.AdamSmallRefIdeal.τ).loc Cert.AdamSmallRefIdeal.main_arg43) = m ((c.tc : Thread Cert.AdamSmallRefIdeal.nD Cert.AdamSmallRefIdeal.τ).loc Cert.AdamSmallRefIdeal.main_arg43))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0))
      ∧ r.2.sem = fun _ => 0)

def quiescent_SsdDx [hSsdDx : Cert.SsdDx.Facts] : Prop :=
  ∀ (m : (ℓ : Loc Cert.SsdDx.nD Cert.SsdDx.τ Cert.SsdDx.sig) → Buf (Elt Bits) ℓ) (g : Dev Cert.SsdDx.nD → PrngReg), Pre_SsdDx m →
    θ_run (Cert.SsdDx.defs (F := Bits)) (onTc (τ := Cert.SsdDx.τ) (Cert.SsdDx.main (F := Bits))) ⟨m, fun _ => 0, g⟩ (fun r => (∀ c : Dev Cert.SsdDx.nD,
      r.2.mem ((c.tc : Thread Cert.SsdDx.nD Cert.SsdDx.τ).loc Cert.SsdDx.main_arg0) = m ((c.tc : Thread Cert.SsdDx.nD Cert.SsdDx.τ).loc Cert.SsdDx.main_arg0)
      ∧ r.2.mem ((c.tc : Thread Cert.SsdDx.nD Cert.SsdDx.τ).loc Cert.SsdDx.main_arg1) = m ((c.tc : Thread Cert.SsdDx.nD Cert.SsdDx.τ).loc Cert.SsdDx.main_arg1)
      ∧ r.2.mem ((c.tc : Thread Cert.SsdDx.nD Cert.SsdDx.τ).loc Cert.SsdDx.main_arg2) = m ((c.tc : Thread Cert.SsdDx.nD Cert.SsdDx.τ).loc Cert.SsdDx.main_arg2)
      ∧ r.2.mem ((c.tc : Thread Cert.SsdDx.nD Cert.SsdDx.τ).loc Cert.SsdDx.main_arg3) = m ((c.tc : Thread Cert.SsdDx.nD Cert.SsdDx.τ).loc Cert.SsdDx.main_arg3)
      ∧ r.2.mem ((c.tc : Thread Cert.SsdDx.nD Cert.SsdDx.τ).loc Cert.SsdDx.main_arg4) = m ((c.tc : Thread Cert.SsdDx.nD Cert.SsdDx.τ).loc Cert.SsdDx.main_arg4)
      ∧ r.2.mem ((c.tc : Thread Cert.SsdDx.nD Cert.SsdDx.τ).loc Cert.SsdDx.main_arg5) = m ((c.tc : Thread Cert.SsdDx.nD Cert.SsdDx.τ).loc Cert.SsdDx.main_arg5)
      ∧ r.2.mem ((c.tc : Thread Cert.SsdDx.nD Cert.SsdDx.τ).loc Cert.SsdDx.main_arg6) = m ((c.tc : Thread Cert.SsdDx.nD Cert.SsdDx.τ).loc Cert.SsdDx.main_arg6))
      ∧ r.2.sem = fun _ => 0)

def quiescent_SsdDxIdeal [hSsdDxIdeal : Cert.SsdDxIdeal.Facts] : Prop :=
  ∀ (m : (ℓ : Loc Cert.SsdDxIdeal.nD Cert.SsdDxIdeal.τ Cert.SsdDxIdeal.sig) → Buf (Elt Ideal) ℓ) (g : Dev Cert.SsdDxIdeal.nD → PrngReg), Pre_SsdDxIdeal m →
    θ_run (Cert.SsdDxIdeal.defs (F := Ideal)) (onTc (τ := Cert.SsdDxIdeal.τ) (Cert.SsdDxIdeal.main (F := Ideal))) ⟨m, fun _ => 0, g⟩ (fun r => (∀ c : Dev Cert.SsdDxIdeal.nD,
      r.2.mem ((c.tc : Thread Cert.SsdDxIdeal.nD Cert.SsdDxIdeal.τ).loc Cert.SsdDxIdeal.main_arg0) = m ((c.tc : Thread Cert.SsdDxIdeal.nD Cert.SsdDxIdeal.τ).loc Cert.SsdDxIdeal.main_arg0)
      ∧ r.2.mem ((c.tc : Thread Cert.SsdDxIdeal.nD Cert.SsdDxIdeal.τ).loc Cert.SsdDxIdeal.main_arg1) = m ((c.tc : Thread Cert.SsdDxIdeal.nD Cert.SsdDxIdeal.τ).loc Cert.SsdDxIdeal.main_arg1)
      ∧ r.2.mem ((c.tc : Thread Cert.SsdDxIdeal.nD Cert.SsdDxIdeal.τ).loc Cert.SsdDxIdeal.main_arg2) = m ((c.tc : Thread Cert.SsdDxIdeal.nD Cert.SsdDxIdeal.τ).loc Cert.SsdDxIdeal.main_arg2)
      ∧ r.2.mem ((c.tc : Thread Cert.SsdDxIdeal.nD Cert.SsdDxIdeal.τ).loc Cert.SsdDxIdeal.main_arg3) = m ((c.tc : Thread Cert.SsdDxIdeal.nD Cert.SsdDxIdeal.τ).loc Cert.SsdDxIdeal.main_arg3)
      ∧ r.2.mem ((c.tc : Thread Cert.SsdDxIdeal.nD Cert.SsdDxIdeal.τ).loc Cert.SsdDxIdeal.main_arg4) = m ((c.tc : Thread Cert.SsdDxIdeal.nD Cert.SsdDxIdeal.τ).loc Cert.SsdDxIdeal.main_arg4)
      ∧ r.2.mem ((c.tc : Thread Cert.SsdDxIdeal.nD Cert.SsdDxIdeal.τ).loc Cert.SsdDxIdeal.main_arg5) = m ((c.tc : Thread Cert.SsdDxIdeal.nD Cert.SsdDxIdeal.τ).loc Cert.SsdDxIdeal.main_arg5)
      ∧ r.2.mem ((c.tc : Thread Cert.SsdDxIdeal.nD Cert.SsdDxIdeal.τ).loc Cert.SsdDxIdeal.main_arg6) = m ((c.tc : Thread Cert.SsdDxIdeal.nD Cert.SsdDxIdeal.τ).loc Cert.SsdDxIdeal.main_arg6))
      ∧ r.2.sem = fun _ => 0)

def quiescent_SsdDxIdeal_pre_finite [hSsdDxIdeal : Cert.SsdDxIdeal.Facts] [hPre_finite : Cert.Pre_finite.Facts] : Prop :=
  ∀ (m : (ℓ : Loc Cert.SsdDxIdeal.nD Cert.SsdDxIdeal.τ Cert.SsdDxIdeal.sig) → Buf (Elt Ideal) ℓ) (g : Dev Cert.SsdDxIdeal.nD → PrngReg), Pre_SsdDxIdeal_finite m →
    θ_run (Cert.SsdDxIdeal.defs (F := Ideal)) (onTc (τ := Cert.SsdDxIdeal.τ) (Cert.SsdDxIdeal.main (F := Ideal))) ⟨m, fun _ => 0, g⟩ (fun r => (∀ c : Dev Cert.SsdDxIdeal.nD,
      r.2.mem ((c.tc : Thread Cert.SsdDxIdeal.nD Cert.SsdDxIdeal.τ).loc Cert.SsdDxIdeal.main_arg0) = m ((c.tc : Thread Cert.SsdDxIdeal.nD Cert.SsdDxIdeal.τ).loc Cert.SsdDxIdeal.main_arg0)
      ∧ r.2.mem ((c.tc : Thread Cert.SsdDxIdeal.nD Cert.SsdDxIdeal.τ).loc Cert.SsdDxIdeal.main_arg1) = m ((c.tc : Thread Cert.SsdDxIdeal.nD Cert.SsdDxIdeal.τ).loc Cert.SsdDxIdeal.main_arg1)
      ∧ r.2.mem ((c.tc : Thread Cert.SsdDxIdeal.nD Cert.SsdDxIdeal.τ).loc Cert.SsdDxIdeal.main_arg2) = m ((c.tc : Thread Cert.SsdDxIdeal.nD Cert.SsdDxIdeal.τ).loc Cert.SsdDxIdeal.main_arg2)
      ∧ r.2.mem ((c.tc : Thread Cert.SsdDxIdeal.nD Cert.SsdDxIdeal.τ).loc Cert.SsdDxIdeal.main_arg3) = m ((c.tc : Thread Cert.SsdDxIdeal.nD Cert.SsdDxIdeal.τ).loc Cert.SsdDxIdeal.main_arg3)
      ∧ r.2.mem ((c.tc : Thread Cert.SsdDxIdeal.nD Cert.SsdDxIdeal.τ).loc Cert.SsdDxIdeal.main_arg4) = m ((c.tc : Thread Cert.SsdDxIdeal.nD Cert.SsdDxIdeal.τ).loc Cert.SsdDxIdeal.main_arg4)
      ∧ r.2.mem ((c.tc : Thread Cert.SsdDxIdeal.nD Cert.SsdDxIdeal.τ).loc Cert.SsdDxIdeal.main_arg5) = m ((c.tc : Thread Cert.SsdDxIdeal.nD Cert.SsdDxIdeal.τ).loc Cert.SsdDxIdeal.main_arg5)
      ∧ r.2.mem ((c.tc : Thread Cert.SsdDxIdeal.nD Cert.SsdDxIdeal.τ).loc Cert.SsdDxIdeal.main_arg6) = m ((c.tc : Thread Cert.SsdDxIdeal.nD Cert.SsdDxIdeal.τ).loc Cert.SsdDxIdeal.main_arg6))
      ∧ r.2.sem = fun _ => 0)

def quiescent_SsdDxRefIdeal [hSsdDxRefIdeal : Cert.SsdDxRefIdeal.Facts] : Prop :=
  ∀ (m : (ℓ : Loc Cert.SsdDxRefIdeal.nD Cert.SsdDxRefIdeal.τ Cert.SsdDxRefIdeal.sig) → Buf (Elt Ideal) ℓ) (g : Dev Cert.SsdDxRefIdeal.nD → PrngReg), Pre_SsdDxRefIdeal m →
    θ_run (Cert.SsdDxRefIdeal.defs (F := Ideal)) (onTc (τ := Cert.SsdDxRefIdeal.τ) (Cert.SsdDxRefIdeal.main (F := Ideal))) ⟨m, fun _ => 0, g⟩ (fun r => (∀ c : Dev Cert.SsdDxRefIdeal.nD,
      r.2.mem ((c.tc : Thread Cert.SsdDxRefIdeal.nD Cert.SsdDxRefIdeal.τ).loc Cert.SsdDxRefIdeal.main_arg0) = m ((c.tc : Thread Cert.SsdDxRefIdeal.nD Cert.SsdDxRefIdeal.τ).loc Cert.SsdDxRefIdeal.main_arg0)
      ∧ r.2.mem ((c.tc : Thread Cert.SsdDxRefIdeal.nD Cert.SsdDxRefIdeal.τ).loc Cert.SsdDxRefIdeal.main_arg1) = m ((c.tc : Thread Cert.SsdDxRefIdeal.nD Cert.SsdDxRefIdeal.τ).loc Cert.SsdDxRefIdeal.main_arg1)
      ∧ r.2.mem ((c.tc : Thread Cert.SsdDxRefIdeal.nD Cert.SsdDxRefIdeal.τ).loc Cert.SsdDxRefIdeal.main_arg2) = m ((c.tc : Thread Cert.SsdDxRefIdeal.nD Cert.SsdDxRefIdeal.τ).loc Cert.SsdDxRefIdeal.main_arg2)
      ∧ r.2.mem ((c.tc : Thread Cert.SsdDxRefIdeal.nD Cert.SsdDxRefIdeal.τ).loc Cert.SsdDxRefIdeal.main_arg3) = m ((c.tc : Thread Cert.SsdDxRefIdeal.nD Cert.SsdDxRefIdeal.τ).loc Cert.SsdDxRefIdeal.main_arg3)
      ∧ r.2.mem ((c.tc : Thread Cert.SsdDxRefIdeal.nD Cert.SsdDxRefIdeal.τ).loc Cert.SsdDxRefIdeal.main_arg4) = m ((c.tc : Thread Cert.SsdDxRefIdeal.nD Cert.SsdDxRefIdeal.τ).loc Cert.SsdDxRefIdeal.main_arg4)
      ∧ r.2.mem ((c.tc : Thread Cert.SsdDxRefIdeal.nD Cert.SsdDxRefIdeal.τ).loc Cert.SsdDxRefIdeal.main_arg5) = m ((c.tc : Thread Cert.SsdDxRefIdeal.nD Cert.SsdDxRefIdeal.τ).loc Cert.SsdDxRefIdeal.main_arg5)
      ∧ r.2.mem ((c.tc : Thread Cert.SsdDxRefIdeal.nD Cert.SsdDxRefIdeal.τ).loc Cert.SsdDxRefIdeal.main_arg6) = m ((c.tc : Thread Cert.SsdDxRefIdeal.nD Cert.SsdDxRefIdeal.τ).loc Cert.SsdDxRefIdeal.main_arg6))
      ∧ r.2.sem = fun _ => 0)

def quiescent_SsdDxRefIdeal_pre_finite [hSsdDxRefIdeal : Cert.SsdDxRefIdeal.Facts] [hPre_finite : Cert.Pre_finite.Facts] : Prop :=
  ∀ (m : (ℓ : Loc Cert.SsdDxRefIdeal.nD Cert.SsdDxRefIdeal.τ Cert.SsdDxRefIdeal.sig) → Buf (Elt Ideal) ℓ) (g : Dev Cert.SsdDxRefIdeal.nD → PrngReg), Pre_SsdDxRefIdeal_finite m →
    θ_run (Cert.SsdDxRefIdeal.defs (F := Ideal)) (onTc (τ := Cert.SsdDxRefIdeal.τ) (Cert.SsdDxRefIdeal.main (F := Ideal))) ⟨m, fun _ => 0, g⟩ (fun r => (∀ c : Dev Cert.SsdDxRefIdeal.nD,
      r.2.mem ((c.tc : Thread Cert.SsdDxRefIdeal.nD Cert.SsdDxRefIdeal.τ).loc Cert.SsdDxRefIdeal.main_arg0) = m ((c.tc : Thread Cert.SsdDxRefIdeal.nD Cert.SsdDxRefIdeal.τ).loc Cert.SsdDxRefIdeal.main_arg0)
      ∧ r.2.mem ((c.tc : Thread Cert.SsdDxRefIdeal.nD Cert.SsdDxRefIdeal.τ).loc Cert.SsdDxRefIdeal.main_arg1) = m ((c.tc : Thread Cert.SsdDxRefIdeal.nD Cert.SsdDxRefIdeal.τ).loc Cert.SsdDxRefIdeal.main_arg1)
      ∧ r.2.mem ((c.tc : Thread Cert.SsdDxRefIdeal.nD Cert.SsdDxRefIdeal.τ).loc Cert.SsdDxRefIdeal.main_arg2) = m ((c.tc : Thread Cert.SsdDxRefIdeal.nD Cert.SsdDxRefIdeal.τ).loc Cert.SsdDxRefIdeal.main_arg2)
      ∧ r.2.mem ((c.tc : Thread Cert.SsdDxRefIdeal.nD Cert.SsdDxRefIdeal.τ).loc Cert.SsdDxRefIdeal.main_arg3) = m ((c.tc : Thread Cert.SsdDxRefIdeal.nD Cert.SsdDxRefIdeal.τ).loc Cert.SsdDxRefIdeal.main_arg3)
      ∧ r.2.mem ((c.tc : Thread Cert.SsdDxRefIdeal.nD Cert.SsdDxRefIdeal.τ).loc Cert.SsdDxRefIdeal.main_arg4) = m ((c.tc : Thread Cert.SsdDxRefIdeal.nD Cert.SsdDxRefIdeal.τ).loc Cert.SsdDxRefIdeal.main_arg4)
      ∧ r.2.mem ((c.tc : Thread Cert.SsdDxRefIdeal.nD Cert.SsdDxRefIdeal.τ).loc Cert.SsdDxRefIdeal.main_arg5) = m ((c.tc : Thread Cert.SsdDxRefIdeal.nD Cert.SsdDxRefIdeal.τ).loc Cert.SsdDxRefIdeal.main_arg5)
      ∧ r.2.mem ((c.tc : Thread Cert.SsdDxRefIdeal.nD Cert.SsdDxRefIdeal.τ).loc Cert.SsdDxRefIdeal.main_arg6) = m ((c.tc : Thread Cert.SsdDxRefIdeal.nD Cert.SsdDxRefIdeal.τ).loc Cert.SsdDxRefIdeal.main_arg6))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v31) = v0 c
          ∧ r.2.mem ((c.tc : Thread Cert.MergeRefIdeal.nD Cert.MergeRefIdeal.τ).loc Cert.MergeRefIdeal.main_v32) = v1 c
          ∧ r.2.mem ((c.tc : Thread Cert.MergeRefIdeal.nD Cert.MergeRefIdeal.τ).loc Cert.MergeRefIdeal.main_v33) = v2 c
          ∧ r.2.mem ((c.tc : Thread Cert.MergeRefIdeal.nD Cert.MergeRefIdeal.τ).loc Cert.MergeRefIdeal.main_v34) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)) →
    ∃ (v0 : (c : Dev Cert.FfnInDxIdeal.nD) → Buf (Elt Ideal) ((c.tc : Thread Cert.FfnInDxIdeal.nD Cert.FfnInDxIdeal.τ).loc Cert.FfnInDxIdeal.main_v0)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v0) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v4) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v7) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_FfnDownDx_FfnDownDxIdeal : Prop :=
  True

def algebraic_FfnDownDxIdeal_FfnDownDxRefIdeal [hFfnDownDxIdeal : Cert.FfnDownDxIdeal.Facts] [hFfnDownDxRefIdeal : Cert.FfnDownDxRefIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg)
    (m' : (ℓ : Loc Cert.FfnDownDxRefIdeal.nD Cert.FfnDownDxRefIdeal.τ Cert.FfnDownDxRefIdeal.sig) → Buf (Elt Ideal) ℓ) (g' : Dev Cert.FfnDownDxRefIdeal.nD → PrngReg), Pre_FfnDownDxIdeal m →
    (∀ c : Dev Cert.FfnDownDxIdeal.nD,
      m' ((c.tc : Thread Cert.FfnDownDxRefIdeal.nD Cert.FfnDownDxRefIdeal.τ).loc Cert.FfnDownDxRefIdeal.main_arg0) = m ((c.tc : Thread Cert.FfnDownDxIdeal.nD Cert.FfnDownDxIdeal.τ).loc Cert.FfnDownDxIdeal.main_arg0)
      ∧ m' ((c.tc : Thread Cert.FfnDownDxRefIdeal.nD Cert.FfnDownDxRefIdeal.τ).loc Cert.FfnDownDxRefIdeal.main_arg1) = m ((c.tc : Thread Cert.FfnDownDxIdeal.nD Cert.FfnDownDxIdeal.τ).loc Cert.FfnDownDxIdeal.main_arg1)) →
    ∃ (v0 : (c : Dev Cert.FfnDownDxIdeal.nD) → Buf (Elt Ideal) ((c.tc : Thread Cert.FfnDownDxIdeal.nD Cert.FfnDownDxIdeal.τ).loc Cert.FfnDownDxIdeal.main_v0)),
      θ_run (Cert.FfnDownDxIdeal.defs (F := Ideal)) (onTc (τ := Cert.FfnDownDxIdeal.τ) (Cert.FfnDownDxIdeal.main (F := Ideal))) ⟨m, fun _ => 0, g⟩ (fun r => ∀ c : Dev Cert.FfnDownDxIdeal.nD,
          r.2.mem ((c.tc : Thread Cert.FfnDownDxIdeal.nD Cert.FfnDownDxIdeal.τ).loc Cert.FfnDownDxIdeal.main_v0) = v0 c
          ∧ r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
          ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ θ_run (Cert.FfnDownDxRefIdeal.defs (F := Ideal)) (onTc (τ := Cert.FfnDownDxRefIdeal.τ) (Cert.FfnDownDxRefIdeal.main (F := Ideal))) ⟨m', fun _ => 0, g'⟩ (fun r => ∀ c : Dev Cert.FfnDownDxRefIdeal.nD,
          r.2.mem ((c.tc : Thread Cert.FfnDownDxRefIdeal.nD Cert.FfnDownDxRefIdeal.τ).loc Cert.FfnDownDxRefIdeal.main_v3) = v0 c
          ∧ r.2.mem ((c.tc : Thread Cert.FfnDownDxRefIdeal.nD Cert.FfnDownDxRefIdeal.τ).loc Cert.FfnDownDxRefIdeal.main_arg0) = m' ((c.tc : Thread Cert.FfnDownDxRefIdeal.nD Cert.FfnDownDxRefIdeal.τ).loc Cert.FfnDownDxRefIdeal.main_arg0)
          ∧ r.2.mem ((c.tc : Thread Cert.FfnDownDxRefIdeal.nD Cert.FfnDownDxRefIdeal.τ).loc Cert.FfnDownDxRefIdeal.main_arg1) = m' ((c.tc : Thread Cert.FfnDownDxRefIdeal.nD Cert.FfnDownDxRefIdeal.τ).loc Cert.FfnDownDxRefIdeal.main_arg1))

def preserves_FfnDownDw_FfnDownDwIdeal : Prop :=
  True

def algebraic_FfnDownDwIdeal_FfnDownDwRefIdeal [hFfnDownDwIdeal : Cert.FfnDownDwIdeal.Facts] [hFfnDownDwRefIdeal : Cert.FfnDownDwRefIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwRefIdeal.nD Cert.FfnDownDwRefIdeal.τ Cert.FfnDownDwRefIdeal.sig) → Buf (Elt Ideal) ℓ) (g' : Dev Cert.FfnDownDwRefIdeal.nD → PrngReg), Pre_FfnDownDwIdeal m →
    (∀ c : Dev Cert.FfnDownDwIdeal.nD,
      m' ((c.tc : Thread Cert.FfnDownDwRefIdeal.nD Cert.FfnDownDwRefIdeal.τ).loc Cert.FfnDownDwRefIdeal.main_arg0) = m ((c.tc : Thread Cert.FfnDownDwIdeal.nD Cert.FfnDownDwIdeal.τ).loc Cert.FfnDownDwIdeal.main_arg0)
      ∧ m' ((c.tc : Thread Cert.FfnDownDwRefIdeal.nD Cert.FfnDownDwRefIdeal.τ).loc Cert.FfnDownDwRefIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v0)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v0) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwRefIdeal.defs (F := Ideal)) (onTc (τ := Cert.FfnDownDwRefIdeal.τ) (Cert.FfnDownDwRefIdeal.main (F := Ideal))) ⟨m', fun _ => 0, g'⟩ (fun r => ∀ c : Dev Cert.FfnDownDwRefIdeal.nD,
          r.2.mem ((c.tc : Thread Cert.FfnDownDwRefIdeal.nD Cert.FfnDownDwRefIdeal.τ).loc Cert.FfnDownDwRefIdeal.main_v4) = v0 c
          ∧ r.2.mem ((c.tc : Thread Cert.FfnDownDwRefIdeal.nD Cert.FfnDownDwRefIdeal.τ).loc Cert.FfnDownDwRefIdeal.main_arg0) = m' ((c.tc : Thread Cert.FfnDownDwRefIdeal.nD Cert.FfnDownDwRefIdeal.τ).loc Cert.FfnDownDwRefIdeal.main_arg0)
          ∧ r.2.mem ((c.tc : Thread Cert.FfnDownDwRefIdeal.nD Cert.FfnDownDwRefIdeal.τ).loc Cert.FfnDownDwRefIdeal.main_arg1) = m' ((c.tc : Thread Cert.FfnDownDwRefIdeal.nD Cert.FfnDownDwRefIdeal.τ).loc Cert.FfnDownDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v0)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v0) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v4) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v5) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v2) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_BranchFwd_BranchFwdIdeal : Prop :=
  True

def algebraic_BranchFwdIdeal_BranchFwdRefIdeal [hBranchFwdIdeal : Cert.BranchFwdIdeal.Facts] [hBranchFwdRefIdeal : Cert.BranchFwdRefIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg)
    (m' : (ℓ : Loc Cert.BranchFwdRefIdeal.nD Cert.BranchFwdRefIdeal.τ Cert.BranchFwdRefIdeal.sig) → Buf (Elt Ideal) ℓ) (g' : Dev Cert.BranchFwdRefIdeal.nD → PrngReg), Pre_BranchFwdIdeal m →
    (∀ c : Dev Cert.BranchFwdIdeal.nD,
      m' ((c.tc : Thread Cert.BranchFwdRefIdeal.nD Cert.BranchFwdRefIdeal.τ).loc Cert.BranchFwdRefIdeal.main_arg0) = m ((c.tc : Thread Cert.BranchFwdIdeal.nD Cert.BranchFwdIdeal.τ).loc Cert.BranchFwdIdeal.main_arg0)
      ∧ m' ((c.tc : Thread Cert.BranchFwdRefIdeal.nD Cert.BranchFwdRefIdeal.τ).loc Cert.BranchFwdRefIdeal.main_arg1) = m ((c.tc : Thread Cert.BranchFwdIdeal.nD Cert.BranchFwdIdeal.τ).loc Cert.BranchFwdIdeal.main_arg1)) →
    ∃ (v0 : (c : Dev Cert.BranchFwdIdeal.nD) → Buf (Elt Ideal) ((c.tc : Thread Cert.BranchFwdIdeal.nD Cert.BranchFwdIdeal.τ).loc Cert.BranchFwdIdeal.main_v0)),
      θ_run (Cert.BranchFwdIdeal.defs (F := Ideal)) (onTc (τ := Cert.BranchFwdIdeal.τ) (Cert.BranchFwdIdeal.main (F := Ideal))) ⟨m, fun _ => 0, g⟩ (fun r => ∀ c : Dev Cert.BranchFwdIdeal.nD,
          r.2.mem ((c.tc : Thread Cert.BranchFwdIdeal.nD Cert.BranchFwdIdeal.τ).loc Cert.BranchFwdIdeal.main_v0) = v0 c
          ∧ r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
          ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ θ_run (Cert.BranchFwdRefIdeal.defs (F := Ideal)) (onTc (τ := Cert.BranchFwdRefIdeal.τ) (Cert.BranchFwdRefIdeal.main (F := Ideal))) ⟨m', fun _ => 0, g'⟩ (fun r => ∀ c : Dev Cert.BranchFwdRefIdeal.nD,
          r.2.mem ((c.tc : Thread Cert.BranchFwdRefIdeal.nD Cert.BranchFwdRefIdeal.τ).loc Cert.BranchFwdRefIdeal.main_v2) = v0 c
          ∧ r.2.mem ((c.tc : Thread Cert.BranchFwdRefIdeal.nD Cert.BranchFwdRefIdeal.τ).loc Cert.BranchFwdRefIdeal.main_arg0) = m' ((c.tc : Thread Cert.BranchFwdRefIdeal.nD Cert.BranchFwdRefIdeal.τ).loc Cert.BranchFwdRefIdeal.main_arg0)
          ∧ r.2.mem ((c.tc : Thread Cert.BranchFwdRefIdeal.nD Cert.BranchFwdRefIdeal.τ).loc Cert.BranchFwdRefIdeal.main_arg1) = m' ((c.tc : Thread Cert.BranchFwdRefIdeal.nD Cert.BranchFwdRefIdeal.τ).loc Cert.BranchFwdRefIdeal.main_arg1))

def preserves_FfnInFwd_FfnInFwdIdeal : Prop :=
  True

def algebraic_FfnInFwdIdeal_FfnInFwdRefIdeal [hFfnInFwdIdeal : Cert.FfnInFwdIdeal.Facts] [hFfnInFwdRefIdeal : Cert.FfnInFwdRefIdeal.Facts] : Prop :=
  ∀ (m : (ℓ : Loc Cert.FfnInFwdIdeal.nD Cert.FfnInFwdIdeal.τ Cert.FfnInFwdIdeal.sig) → Buf (Elt Ideal) ℓ) (g : Dev Cert.FfnInFwdIdeal.nD → PrngReg)
    (m' : (ℓ : Loc Cert.FfnInFwdRefIdeal.nD Cert.FfnInFwdRefIdeal.τ Cert.FfnInFwdRefIdeal.sig) → Buf (Elt Ideal) ℓ) (g' : Dev Cert.FfnInFwdRefIdeal.nD → PrngReg), Pre_FfnInFwdIdeal m →
    (∀ c : Dev Cert.FfnInFwdIdeal.nD,
      m' ((c.tc : Thread Cert.FfnInFwdRefIdeal.nD Cert.FfnInFwdRefIdeal.τ).loc Cert.FfnInFwdRefIdeal.main_arg0) = m ((c.tc : Thread Cert.FfnInFwdIdeal.nD Cert.FfnInFwdIdeal.τ).loc Cert.FfnInFwdIdeal.main_arg0)
      ∧ m' ((c.tc : Thread Cert.FfnInFwdRefIdeal.nD Cert.FfnInFwdRefIdeal.τ).loc Cert.FfnInFwdRefIdeal.main_arg1) = m ((c.tc : Thread Cert.FfnInFwdIdeal.nD Cert.FfnInFwdIdeal.τ).loc Cert.FfnInFwdIdeal.main_arg1)) →
    ∃ (v0 : (c : Dev Cert.FfnInFwdIdeal.nD) → Buf (Elt Ideal) ((c.tc : Thread Cert.FfnInFwdIdeal.nD Cert.FfnInFwdIdeal.τ).loc Cert.FfnInFwdIdeal.main_v0)),
      θ_run (Cert.FfnInFwdIdeal.defs (F := Ideal)) (onTc (τ := Cert.FfnInFwdIdeal.τ) (Cert.FfnInFwdIdeal.main (F := Ideal))) ⟨m, fun _ => 0, g⟩ (fun r => ∀ c : Dev Cert.FfnInFwdIdeal.nD,
          r.2.mem ((c.tc : Thread Cert.FfnInFwdIdeal.nD Cert.FfnInFwdIdeal.τ).loc Cert.FfnInFwdIdeal.main_v0) = v0 c
          ∧ r.2.mem ((c.tc : Thread Cert.FfnInFwdIdeal.nD Cert.FfnInFwdIdeal.τ).loc Cert.FfnInFwdIdeal.main_arg0) = m ((c.tc : Thread Cert.FfnInFwdIdeal.nD Cert.FfnInFwdIdeal.τ).loc Cert.FfnInFwdIdeal.main_arg0)
          ∧ r.2.mem ((c.tc : Thread Cert.FfnInFwdIdeal.nD Cert.FfnInFwdIdeal.τ).loc Cert.FfnInFwdIdeal.main_arg1) = m ((c.tc : Thread Cert.FfnInFwdIdeal.nD Cert.FfnInFwdIdeal.τ).loc Cert.FfnInFwdIdeal.main_arg1))
      ∧ θ_run (Cert.FfnInFwdRefIdeal.defs (F := Ideal)) (onTc (τ := Cert.FfnInFwdRefIdeal.τ) (Cert.FfnInFwdRefIdeal.main (F := Ideal))) ⟨m', fun _ => 0, g'⟩ (fun r => ∀ c : Dev Cert.FfnInFwdRefIdeal.nD,
          r.2.mem ((c.tc : Thread Cert.FfnInFwdRefIdeal.nD Cert.FfnInFwdRefIdeal.τ).loc Cert.FfnInFwdRefIdeal.main_v2) = v0 c
          ∧ r.2.mem ((c.tc : Thread Cert.FfnInFwdRefIdeal.nD Cert.FfnInFwdRefIdeal.τ).loc Cert.FfnInFwdRefIdeal.main_arg0) = m' ((c.tc : Thread Cert.FfnInFwdRefIdeal.nD Cert.FfnInFwdRefIdeal.τ).loc Cert.FfnInFwdRefIdeal.main_arg0)
          ∧ r.2.mem ((c.tc : Thread Cert.FfnInFwdRefIdeal.nD Cert.FfnInFwdRefIdeal.τ).loc Cert.FfnInFwdRefIdeal.main_arg1) = m' ((c.tc : Thread Cert.FfnInFwdRefIdeal.nD Cert.FfnInFwdRefIdeal.τ).loc Cert.FfnInFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v3) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2))

def preserves_FfnDownFwd_FfnDownFwdIdeal : Prop :=
  True

def algebraic_FfnDownFwdIdeal_FfnDownFwdRefIdeal [hFfnDownFwdIdeal : Cert.FfnDownFwdIdeal.Facts] [hFfnDownFwdRefIdeal : Cert.FfnDownFwdRefIdeal.Facts] : Prop :=
  ∀ (m : (ℓ : Loc Cert.FfnDownFwdIdeal.nD Cert.FfnDownFwdIdeal.τ Cert.FfnDownFwdIdeal.sig) → Buf (Elt Ideal) ℓ) (g : Dev Cert.FfnDownFwdIdeal.nD → PrngReg)
    (m' : (ℓ : Loc Cert.FfnDownFwdRefIdeal.nD Cert.FfnDownFwdRefIdeal.τ Cert.FfnDownFwdRefIdeal.sig) → Buf (Elt Ideal) ℓ) (g' : Dev Cert.FfnDownFwdRefIdeal.nD → PrngReg), Pre_FfnDownFwdIdeal m →
    (∀ c : Dev Cert.FfnDownFwdIdeal.nD,
      m' ((c.tc : Thread Cert.FfnDownFwdRefIdeal.nD Cert.FfnDownFwdRefIdeal.τ).loc Cert.FfnDownFwdRefIdeal.main_arg0) = m ((c.tc : Thread Cert.FfnDownFwdIdeal.nD Cert.FfnDownFwdIdeal.τ).loc Cert.FfnDownFwdIdeal.main_arg0)
      ∧ m' ((c.tc : Thread Cert.FfnDownFwdRefIdeal.nD Cert.FfnDownFwdRefIdeal.τ).loc Cert.FfnDownFwdRefIdeal.main_arg1) = m ((c.tc : Thread Cert.FfnDownFwdIdeal.nD Cert.FfnDownFwdIdeal.τ).loc Cert.FfnDownFwdIdeal.main_arg1)
      ∧ m' ((c.tc : Thread Cert.FfnDownFwdRefIdeal.nD Cert.FfnDownFwdRefIdeal.τ).loc Cert.FfnDownFwdRefIdeal.main_arg2) = m ((c.tc : Thread Cert.FfnDownFwdIdeal.nD Cert.FfnDownFwdIdeal.τ).loc Cert.FfnDownFwdIdeal.main_arg2)) →
    ∃ (v0 : (c : Dev Cert.FfnDownFwdIdeal.nD) → Buf (Elt Ideal) ((c.tc : Thread Cert.FfnDownFwdIdeal.nD Cert.FfnDownFwdIdeal.τ).loc Cert.FfnDownFwdIdeal.main_v0)),
      θ_run (Cert.FfnDownFwdIdeal.defs (F := Ideal)) (onTc (τ := Cert.FfnDownFwdIdeal.τ) (Cert.FfnDownFwdIdeal.main (F := Ideal))) ⟨m, fun _ => 0, g⟩ (fun r => ∀ c : Dev Cert.FfnDownFwdIdeal.nD,
          r.2.mem ((c.tc : Thread Cert.FfnDownFwdIdeal.nD Cert.FfnDownFwdIdeal.τ).loc Cert.FfnDownFwdIdeal.main_v0) = v0 c
          ∧ r.2.mem ((c.tc : Thread Cert.FfnDownFwdIdeal.nD Cert.FfnDownFwdIdeal.τ).loc Cert.FfnDownFwdIdeal.main_arg0) = m ((c.tc : Thread Cert.FfnDownFwdIdeal.nD Cert.FfnDownFwdIdeal.τ).loc Cert.FfnDownFwdIdeal.main_arg0)
          ∧ r.2.mem ((c.tc : Thread Cert.FfnDownFwdIdeal.nD Cert.FfnDownFwdIdeal.τ).loc Cert.FfnDownFwdIdeal.main_arg1) = m ((c.tc : Thread Cert.FfnDownFwdIdeal.nD Cert.FfnDownFwdIdeal.τ).loc Cert.FfnDownFwdIdeal.main_arg1)
          ∧ r.2.mem ((c.tc : Thread Cert.FfnDownFwdIdeal.nD Cert.FfnDownFwdIdeal.τ).loc Cert.FfnDownFwdIdeal.main_arg2) = m ((c.tc : Thread Cert.FfnDownFwdIdeal.nD Cert.FfnDownFwdIdeal.τ).loc Cert.FfnDownFwdIdeal.main_arg2))
      ∧ θ_run (Cert.FfnDownFwdRefIdeal.defs (F := Ideal)) (onTc (τ := Cert.FfnDownFwdRefIdeal.τ) (Cert.FfnDownFwdRefIdeal.main (F := Ideal))) ⟨m', fun _ => 0, g'⟩ (fun r => ∀ c : Dev Cert.FfnDownFwdRefIdeal.nD,
          r.2.mem ((c.tc : Thread Cert.FfnDownFwdRefIdeal.nD Cert.FfnDownFwdRefIdeal.τ).loc Cert.FfnDownFwdRefIdeal.main_v3) = v0 c
          ∧ r.2.mem ((c.tc : Thread Cert.FfnDownFwdRefIdeal.nD Cert.FfnDownFwdRefIdeal.τ).loc Cert.FfnDownFwdRefIdeal.main_arg0) = m' ((c.tc : Thread Cert.FfnDownFwdRefIdeal.nD Cert.FfnDownFwdRefIdeal.τ).loc Cert.FfnDownFwdRefIdeal.main_arg0)
          ∧ r.2.mem ((c.tc : Thread Cert.FfnDownFwdRefIdeal.nD Cert.FfnDownFwdRefIdeal.τ).loc Cert.FfnDownFwdRefIdeal.main_arg1) = m' ((c.tc : Thread Cert.FfnDownFwdRefIdeal.nD Cert.FfnDownFwdRefIdeal.τ).loc Cert.FfnDownFwdRefIdeal.main_arg1)
          ∧ r.2.mem ((c.tc : Thread Cert.FfnDownFwdRefIdeal.nD Cert.FfnDownFwdRefIdeal.τ).loc Cert.FfnDownFwdRefIdeal.main_arg2) = m' ((c.tc : Thread Cert.FfnDownFwdRefIdeal.nD Cert.FfnDownFwdRefIdeal.τ).loc Cert.FfnDownFwdRefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v26) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)) →
    ∃ (v0 : (c : Dev Cert.AdamProjIdeal.nD) → Buf (Elt Ideal) ((c.tc : Thread Cert.AdamProjIdeal.nD Cert.AdamProjIdeal.τ).loc Cert.AdamProjIdeal.main_v4_0)) (v1 : (c : Dev Cert.AdamProjIdeal.nD) → Buf (Elt Ideal) ((c.tc : Thread Cert.AdamProjIdeal.nD Cert.AdamProjIdeal.τ).loc Cert.AdamProjIdeal.main_v4_1)) (v2 : (c : Dev Cert.AdamProjIdeal.nD) → Buf (Elt Ideal) ((c.tc : Thread Cert.AdamProjIdeal.nD Cert.AdamProjIdeal.τ).loc Cert.AdamProjIdeal.main_v4_2)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v4_0) = v0 c
          ∧ r.2.mem ((c.tc : Thread Cert.AdamProjIdeal.nD Cert.AdamProjIdeal.τ).loc Cert.AdamProjIdeal.main_v4_1) = v1 c
          ∧ r.2.mem ((c.tc : Thread Cert.AdamProjIdeal.nD Cert.AdamProjIdeal.τ).loc Cert.AdamProjIdeal.main_v4_2) = v2 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v24) = v0 c
          ∧ r.2.mem ((c.tc : Thread Cert.AdamProjRefIdeal.nD Cert.AdamProjRefIdeal.τ).loc Cert.AdamProjRefIdeal.main_v25) = v1 c
          ∧ r.2.mem ((c.tc : Thread Cert.AdamProjRefIdeal.nD Cert.AdamProjRefIdeal.τ).loc Cert.AdamProjRefIdeal.main_v26) = v2 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)) →
    ∃ (v0 : (c : Dev Cert.AdamFfnInIdeal.nD) → Buf (Elt Ideal) ((c.tc : Thread Cert.AdamFfnInIdeal.nD Cert.AdamFfnInIdeal.τ).loc Cert.AdamFfnInIdeal.main_v4_0)) (v1 : (c : Dev Cert.AdamFfnInIdeal.nD) → Buf (Elt Ideal) ((c.tc : Thread Cert.AdamFfnInIdeal.nD Cert.AdamFfnInIdeal.τ).loc Cert.AdamFfnInIdeal.main_v4_1)) (v2 : (c : Dev Cert.AdamFfnInIdeal.nD) → Buf (Elt Ideal) ((c.tc : Thread Cert.AdamFfnInIdeal.nD Cert.AdamFfnInIdeal.τ).loc Cert.AdamFfnInIdeal.main_v4_2)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v4_0) = v0 c
          ∧ r.2.mem ((c.tc : Thread Cert.AdamFfnInIdeal.nD Cert.AdamFfnInIdeal.τ).loc Cert.AdamFfnInIdeal.main_v4_1) = v1 c
          ∧ r.2.mem ((c.tc : Thread Cert.AdamFfnInIdeal.nD Cert.AdamFfnInIdeal.τ).loc Cert.AdamFfnInIdeal.main_v4_2) = v2 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v24) = v0 c
          ∧ r.2.mem ((c.tc : Thread Cert.AdamFfnInRefIdeal.nD Cert.AdamFfnInRefIdeal.τ).loc Cert.AdamFfnInRefIdeal.main_v25) = v1 c
          ∧ r.2.mem ((c.tc : Thread Cert.AdamFfnInRefIdeal.nD Cert.AdamFfnInRefIdeal.τ).loc Cert.AdamFfnInRefIdeal.main_v26) = v2 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3))

def preserves_AdamFfnDown_AdamFfnDownIdeal : Prop :=
  True

def algebraic_AdamFfnDownIdeal_AdamFfnDownRefIdeal [hAdamFfnDownIdeal : Cert.AdamFfnDownIdeal.Facts] [hAdamFfnDownRefIdeal : Cert.AdamFfnDownRefIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg)
    (m' : (ℓ : Loc Cert.AdamFfnDownRefIdeal.nD Cert.AdamFfnDownRefIdeal.τ Cert.AdamFfnDownRefIdeal.sig) → Buf (Elt Ideal) ℓ) (g' : Dev Cert.AdamFfnDownRefIdeal.nD → PrngReg), Pre_AdamFfnDownIdeal m →
    (∀ c : Dev Cert.AdamFfnDownIdeal.nD,
      m' ((c.tc : Thread Cert.AdamFfnDownRefIdeal.nD Cert.AdamFfnDownRefIdeal.τ).loc Cert.AdamFfnDownRefIdeal.main_arg0) = m ((c.tc : Thread Cert.AdamFfnDownIdeal.nD Cert.AdamFfnDownIdeal.τ).loc Cert.AdamFfnDownIdeal.main_arg0)
      ∧ m' ((c.tc : Thread Cert.AdamFfnDownRefIdeal.nD Cert.AdamFfnDownRefIdeal.τ).loc Cert.AdamFfnDownRefIdeal.main_arg1) = m ((c.tc : Thread Cert.AdamFfnDownIdeal.nD Cert.AdamFfnDownIdeal.τ).loc Cert.AdamFfnDownIdeal.main_arg1)
      ∧ m' ((c.tc : Thread Cert.AdamFfnDownRefIdeal.nD Cert.AdamFfnDownRefIdeal.τ).loc Cert.AdamFfnDownRefIdeal.main_arg2) = m ((c.tc : Thread Cert.AdamFfnDownIdeal.nD Cert.AdamFfnDownIdeal.τ).loc Cert.AdamFfnDownIdeal.main_arg2)
      ∧ m' ((c.tc : Thread Cert.AdamFfnDownRefIdeal.nD Cert.AdamFfnDownRefIdeal.τ).loc Cert.AdamFfnDownRefIdeal.main_arg3) = m ((c.tc : Thread Cert.AdamFfnDownIdeal.nD Cert.AdamFfnDownIdeal.τ).loc Cert.AdamFfnDownIdeal.main_arg3)) →
    ∃ (v0 : (c : Dev Cert.AdamFfnDownIdeal.nD) → Buf (Elt Ideal) ((c.tc : Thread Cert.AdamFfnDownIdeal.nD Cert.AdamFfnDownIdeal.τ).loc Cert.AdamFfnDownIdeal.main_v4_0)) (v1 : (c : Dev Cert.AdamFfnDownIdeal.nD) → Buf (Elt Ideal) ((c.tc : Thread Cert.AdamFfnDownIdeal.nD Cert.AdamFfnDownIdeal.τ).loc Cert.AdamFfnDownIdeal.main_v4_1)) (v2 : (c : Dev Cert.AdamFfnDownIdeal.nD) → Buf (Elt Ideal) ((c.tc : Thread Cert.AdamFfnDownIdeal.nD Cert.AdamFfnDownIdeal.τ).loc Cert.AdamFfnDownIdeal.main_v4_2)),
      θ_run (Cert.AdamFfnDownIdeal.defs (F := Ideal)) (onTc (τ := Cert.AdamFfnDownIdeal.τ) (Cert.AdamFfnDownIdeal.main (F := Ideal))) ⟨m, fun _ => 0, g⟩ (fun r => ∀ c : Dev Cert.AdamFfnDownIdeal.nD,
          r.2.mem ((c.tc : Thread Cert.AdamFfnDownIdeal.nD Cert.AdamFfnDownIdeal.τ).loc Cert.AdamFfnDownIdeal.main_v4_0) = v0 c
          ∧ r.2.mem ((c.tc : Thread Cert.AdamFfnDownIdeal.nD Cert.AdamFfnDownIdeal.τ).loc Cert.AdamFfnDownIdeal.main_v4_1) = v1 c
          ∧ r.2.mem ((c.tc : Thread Cert.AdamFfnDownIdeal.nD Cert.AdamFfnDownIdeal.τ).loc Cert.AdamFfnDownIdeal.main_v4_2) = v2 c
          ∧ r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
          ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
          ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
          ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3))
      ∧ θ_run (Cert.AdamFfnDownRefIdeal.defs (F := Ideal)) (onTc (τ := Cert.AdamFfnDownRefIdeal.τ) (Cert.AdamFfnDownRefIdeal.main (F := Ideal))) ⟨m', fun _ => 0, g'⟩ (fun r => ∀ c : Dev Cert.AdamFfnDownRefIdeal.nD,
          r.2.mem ((c.tc : Thread Cert.AdamFfnDownRefIdeal.nD Cert.AdamFfnDownRefIdeal.τ).loc Cert.AdamFfnDownRefIdeal.main_v24) = v0 c
          ∧ r.2.mem ((c.tc : Thread Cert.AdamFfnDownRefIdeal.nD Cert.AdamFfnDownRefIdeal.τ).loc Cert.AdamFfnDownRefIdeal.main_v25) = v1 c
          ∧ r.2.mem ((c.tc : Thread Cert.AdamFfnDownRefIdeal.nD Cert.AdamFfnDownRefIdeal.τ).loc Cert.AdamFfnDownRefIdeal.main_v26) = v2 c
          ∧ r.2.mem ((c.tc : Thread Cert.AdamFfnDownRefIdeal.nD Cert.AdamFfnDownRefIdeal.τ).loc Cert.AdamFfnDownRefIdeal.main_arg0) = m' ((c.tc : Thread Cert.AdamFfnDownRefIdeal.nD Cert.AdamFfnDownRefIdeal.τ).loc Cert.AdamFfnDownRefIdeal.main_arg0)
          ∧ r.2.mem ((c.tc : Thread Cert.AdamFfnDownRefIdeal.nD Cert.AdamFfnDownRefIdeal.τ).loc Cert.AdamFfnDownRefIdeal.main_arg1) = m' ((c.tc : Thread Cert.AdamFfnDownRefIdeal.nD Cert.AdamFfnDownRefIdeal.τ).loc Cert.AdamFfnDownRefIdeal.main_arg1)
          ∧ r.2.mem ((c.tc : Thread Cert.AdamFfnDownRefIdeal.nD Cert.AdamFfnDownRefIdeal.τ).loc Cert.AdamFfnDownRefIdeal.main_arg2) = m' ((c.tc : Thread Cert.AdamFfnDownRefIdeal.nD Cert.AdamFfnDownRefIdeal.τ).loc Cert.AdamFfnDownRefIdeal.main_arg2)
          ∧ r.2.mem ((c.tc : Thread Cert.AdamFfnDownRefIdeal.nD Cert.AdamFfnDownRefIdeal.τ).loc Cert.AdamFfnDownRefIdeal.main_arg3) = m' ((c.tc : Thread Cert.AdamFfnDownRefIdeal.nD Cert.AdamFfnDownRefIdeal.τ).loc Cert.AdamFfnDownRefIdeal.main_arg3))

def preserves_AdamConvS_AdamConvSIdeal : Prop :=
  True

def algebraic_AdamConvSIdeal_AdamConvSRefIdeal [hAdamConvSIdeal : Cert.AdamConvSIdeal.Facts] [hAdamConvSRefIdeal : Cert.AdamConvSRefIdeal.Facts] : Prop :=
  ∀ (m : (ℓ : Loc Cert.AdamConvSIdeal.nD Cert.AdamConvSIdeal.τ Cert.AdamConvSIdeal.sig) → Buf (Elt Ideal) ℓ) (g : Dev Cert.AdamConvSIdeal.nD → PrngReg)
    (m' : (ℓ : Loc Cert.AdamConvSRefIdeal.nD Cert.AdamConvSRefIdeal.τ Cert.AdamConvSRefIdeal.sig) → Buf (Elt Ideal) ℓ) (g' : Dev Cert.AdamConvSRefIdeal.nD → PrngReg), Pre_AdamConvSIdeal m →
    (∀ c : Dev Cert.AdamConvSIdeal.nD,
      m' ((c.tc : Thread Cert.AdamConvSRefIdeal.nD Cert.AdamConvSRefIdeal.τ).loc Cert.AdamConvSRefIdeal.main_arg0) = m ((c.tc : Thread Cert.AdamConvSIdeal.nD Cert.AdamConvSIdeal.τ).loc Cert.AdamConvSIdeal.main_arg0)
      ∧ m' ((c.tc : Thread Cert.AdamConvSRefIdeal.nD Cert.AdamConvSRefIdeal.τ).loc Cert.AdamConvSRefIdeal.main_arg1) = m ((c.tc : Thread Cert.AdamConvSIdeal.nD Cert.AdamConvSIdeal.τ).loc Cert.AdamConvSIdeal.main_arg1)
      ∧ m' ((c.tc : Thread Cert.AdamConvSRefIdeal.nD Cert.AdamConvSRefIdeal.τ).loc Cert.AdamConvSRefIdeal.main_arg2) = m ((c.tc : Thread Cert.AdamConvSIdeal.nD Cert.AdamConvSIdeal.τ).loc Cert.AdamConvSIdeal.main_arg2)
      ∧ m' ((c.tc : Thread Cert.AdamConvSRefIdeal.nD Cert.AdamConvSRefIdeal.τ).loc Cert.AdamConvSRefIdeal.main_arg3) = m ((c.tc : Thread Cert.AdamConvSIdeal.nD Cert.AdamConvSIdeal.τ).loc Cert.AdamConvSIdeal.main_arg3)) →
    ∃ (v0 : (c : Dev Cert.AdamConvSIdeal.nD) → Buf (Elt Ideal) ((c.tc : Thread Cert.AdamConvSIdeal.nD Cert.AdamConvSIdeal.τ).loc Cert.AdamConvSIdeal.main_v4_0)) (v1 : (c : Dev Cert.AdamConvSIdeal.nD) → Buf (Elt Ideal) ((c.tc : Thread Cert.AdamConvSIdeal.nD Cert.AdamConvSIdeal.τ).loc Cert.AdamConvSIdeal.main_v4_1)) (v2 : (c : Dev Cert.AdamConvSIdeal.nD) → Buf (Elt Ideal) ((c.tc : Thread Cert.AdamConvSIdeal.nD Cert.AdamConvSIdeal.τ).loc Cert.AdamConvSIdeal.main_v4_2)),
      θ_run (Cert.AdamConvSIdeal.defs (F := Ideal)) (onTc (τ := Cert.AdamConvSIdeal.τ) (Cert.AdamConvSIdeal.main (F := Ideal))) ⟨m, fun _ => 0, g⟩ (fun r => ∀ c : Dev Cert.AdamConvSIdeal.nD,
          r.2.mem ((c.tc : Thread Cert.AdamConvSIdeal.nD Cert.AdamConvSIdeal.τ).loc Cert.AdamConvSIdeal.main_v4_0) = v0 c
          ∧ r.2.mem ((c.tc : Thread Cert.AdamConvSIdeal.nD Cert.AdamConvSIdeal.τ).loc Cert.AdamConvSIdeal.main_v4_1) = v1 c
          ∧ r.2.mem ((c.tc : Thread Cert.AdamConvSIdeal.nD Cert.AdamConvSIdeal.τ).loc Cert.AdamConvSIdeal.main_v4_2) = v2 c
          ∧ r.2.mem ((c.tc : Thread Cert.AdamConvSIdeal.nD Cert.AdamConvSIdeal.τ).loc Cert.AdamConvSIdeal.main_arg0) = m ((c.tc : Thread Cert.AdamConvSIdeal.nD Cert.AdamConvSIdeal.τ).loc Cert.AdamConvSIdeal.main_arg0)
          ∧ r.2.mem ((c.tc : Thread Cert.AdamConvSIdeal.nD Cert.AdamConvSIdeal.τ).loc Cert.AdamConvSIdeal.main_arg1) = m ((c.tc : Thread Cert.AdamConvSIdeal.nD Cert.AdamConvSIdeal.τ).loc Cert.AdamConvSIdeal.main_arg1)
          ∧ r.2.mem ((c.tc : Thread Cert.AdamConvSIdeal.nD Cert.AdamConvSIdeal.τ).loc Cert.AdamConvSIdeal.main_arg2) = m ((c.tc : Thread Cert.AdamConvSIdeal.nD Cert.AdamConvSIdeal.τ).loc Cert.AdamConvSIdeal.main_arg2)
          ∧ r.2.mem ((c.tc : Thread Cert.AdamConvSIdeal.nD Cert.AdamConvSIdeal.τ).loc Cert.AdamConvSIdeal.main_arg3) = m ((c.tc : Thread Cert.AdamConvSIdeal.nD Cert.AdamConvSIdeal.τ).loc Cert.AdamConvSIdeal.main_arg3))
      ∧ θ_run (Cert.AdamConvSRefIdeal.defs (F := Ideal)) (onTc (τ := Cert.AdamConvSRefIdeal.τ) (Cert.AdamConvSRefIdeal.main (F := Ideal))) ⟨m', fun _ => 0, g'⟩ (fun r => ∀ c : Dev Cert.AdamConvSRefIdeal.nD,
          r.2.mem ((c.tc : Thread Cert.AdamConvSRefIdeal.nD Cert.AdamConvSRefIdeal.τ).loc Cert.AdamConvSRefIdeal.main_v24) = v0 c
          ∧ r.2.mem ((c.tc : Thread Cert.AdamConvSRefIdeal.nD Cert.AdamConvSRefIdeal.τ).loc Cert.AdamConvSRefIdeal.main_v25) = v1 c
          ∧ r.2.mem ((c.tc : Thread Cert.AdamConvSRefIdeal.nD Cert.AdamConvSRefIdeal.τ).loc Cert.AdamConvSRefIdeal.main_v26) = v2 c
          ∧ r.2.mem ((c.tc : Thread Cert.AdamConvSRefIdeal.nD Cert.AdamConvSRefIdeal.τ).loc Cert.AdamConvSRefIdeal.main_arg0) = m' ((c.tc : Thread Cert.AdamConvSRefIdeal.nD Cert.AdamConvSRefIdeal.τ).loc Cert.AdamConvSRefIdeal.main_arg0)
          ∧ r.2.mem ((c.tc : Thread Cert.AdamConvSRefIdeal.nD Cert.AdamConvSRefIdeal.τ).loc Cert.AdamConvSRefIdeal.main_arg1) = m' ((c.tc : Thread Cert.AdamConvSRefIdeal.nD Cert.AdamConvSRefIdeal.τ).loc Cert.AdamConvSRefIdeal.main_arg1)
          ∧ r.2.mem ((c.tc : Thread Cert.AdamConvSRefIdeal.nD Cert.AdamConvSRefIdeal.τ).loc Cert.AdamConvSRefIdeal.main_arg2) = m' ((c.tc : Thread Cert.AdamConvSRefIdeal.nD Cert.AdamConvSRefIdeal.τ).loc Cert.AdamConvSRefIdeal.main_arg2)
          ∧ r.2.mem ((c.tc : Thread Cert.AdamConvSRefIdeal.nD Cert.AdamConvSRefIdeal.τ).loc Cert.AdamConvSRefIdeal.main_arg3) = m' ((c.tc : Thread Cert.AdamConvSRefIdeal.nD Cert.AdamConvSRefIdeal.τ).loc Cert.AdamConvSRefIdeal.main_arg3))

def preserves_AdamConvG_AdamConvGIdeal : Prop :=
  True

def algebraic_AdamConvGIdeal_AdamConvGRefIdeal [hAdamConvGIdeal : Cert.AdamConvGIdeal.Facts] [hAdamConvGRefIdeal : Cert.AdamConvGRefIdeal.Facts] : Prop :=
  ∀ (m : (ℓ : Loc Cert.AdamConvGIdeal.nD Cert.AdamConvGIdeal.τ Cert.AdamConvGIdeal.sig) → Buf (Elt Ideal) ℓ) (g : Dev Cert.AdamConvGIdeal.nD → PrngReg)
    (m' : (ℓ : Loc Cert.AdamConvGRefIdeal.nD Cert.AdamConvGRefIdeal.τ Cert.AdamConvGRefIdeal.sig) → Buf (Elt Ideal) ℓ) (g' : Dev Cert.AdamConvGRefIdeal.nD → PrngReg), Pre_AdamConvGIdeal m →
    (∀ c : Dev Cert.AdamConvGIdeal.nD,
      m' ((c.tc : Thread Cert.AdamConvGRefIdeal.nD Cert.AdamConvGRefIdeal.τ).loc Cert.AdamConvGRefIdeal.main_arg0) = m ((c.tc : Thread Cert.AdamConvGIdeal.nD Cert.AdamConvGIdeal.τ).loc Cert.AdamConvGIdeal.main_arg0)
      ∧ m' ((c.tc : Thread Cert.AdamConvGRefIdeal.nD Cert.AdamConvGRefIdeal.τ).loc Cert.AdamConvGRefIdeal.main_arg1) = m ((c.tc : Thread Cert.AdamConvGIdeal.nD Cert.AdamConvGIdeal.τ).loc Cert.AdamConvGIdeal.main_arg1)
      ∧ m' ((c.tc : Thread Cert.AdamConvGRefIdeal.nD Cert.AdamConvGRefIdeal.τ).loc Cert.AdamConvGRefIdeal.main_arg2) = m ((c.tc : Thread Cert.AdamConvGIdeal.nD Cert.AdamConvGIdeal.τ).loc Cert.AdamConvGIdeal.main_arg2)
      ∧ m' ((c.tc : Thread Cert.AdamConvGRefIdeal.nD Cert.AdamConvGRefIdeal.τ).loc Cert.AdamConvGRefIdeal.main_arg3) = m ((c.tc : Thread Cert.AdamConvGIdeal.nD Cert.AdamConvGIdeal.τ).loc Cert.AdamConvGIdeal.main_arg3)) →
    ∃ (v0 : (c : Dev Cert.AdamConvGIdeal.nD) → Buf (Elt Ideal) ((c.tc : Thread Cert.AdamConvGIdeal.nD Cert.AdamConvGIdeal.τ).loc Cert.AdamConvGIdeal.main_v4_0)) (v1 : (c : Dev Cert.AdamConvGIdeal.nD) → Buf (Elt Ideal) ((c.tc : Thread Cert.AdamConvGIdeal.nD Cert.AdamConvGIdeal.τ).loc Cert.AdamConvGIdeal.main_v4_1)) (v2 : (c : Dev Cert.AdamConvGIdeal.nD) → Buf (Elt Ideal) ((c.tc : Thread Cert.AdamConvGIdeal.nD Cert.AdamConvGIdeal.τ).loc Cert.AdamConvGIdeal.main_v4_2)),
      θ_run (Cert.AdamConvGIdeal.defs (F := Ideal)) (onTc (τ := Cert.AdamConvGIdeal.τ) (Cert.AdamConvGIdeal.main (F := Ideal))) ⟨m, fun _ => 0, g⟩ (fun r => ∀ c : Dev Cert.AdamConvGIdeal.nD,
          r.2.mem ((c.tc : Thread Cert.AdamConvGIdeal.nD Cert.AdamConvGIdeal.τ).loc Cert.AdamConvGIdeal.main_v4_0) = v0 c
          ∧ r.2.mem ((c.tc : Thread Cert.AdamConvGIdeal.nD Cert.AdamConvGIdeal.τ).loc Cert.AdamConvGIdeal.main_v4_1) = v1 c
          ∧ r.2.mem ((c.tc : Thread Cert.AdamConvGIdeal.nD Cert.AdamConvGIdeal.τ).loc Cert.AdamConvGIdeal.main_v4_2) = v2 c
          ∧ r.2.mem ((c.tc : Thread Cert.AdamConvGIdeal.nD Cert.AdamConvGIdeal.τ).loc Cert.AdamConvGIdeal.main_arg0) = m ((c.tc : Thread Cert.AdamConvGIdeal.nD Cert.AdamConvGIdeal.τ).loc Cert.AdamConvGIdeal.main_arg0)
          ∧ r.2.mem ((c.tc : Thread Cert.AdamConvGIdeal.nD Cert.AdamConvGIdeal.τ).loc Cert.AdamConvGIdeal.main_arg1) = m ((c.tc : Thread Cert.AdamConvGIdeal.nD Cert.AdamConvGIdeal.τ).loc Cert.AdamConvGIdeal.main_arg1)
          ∧ r.2.mem ((c.tc : Thread Cert.AdamConvGIdeal.nD Cert.AdamConvGIdeal.τ).loc Cert.AdamConvGIdeal.main_arg2) = m ((c.tc : Thread Cert.AdamConvGIdeal.nD Cert.AdamConvGIdeal.τ).loc Cert.AdamConvGIdeal.main_arg2)
          ∧ r.2.mem ((c.tc : Thread Cert.AdamConvGIdeal.nD Cert.AdamConvGIdeal.τ).loc Cert.AdamConvGIdeal.main_arg3) = m ((c.tc : Thread Cert.AdamConvGIdeal.nD Cert.AdamConvGIdeal.τ).loc Cert.AdamConvGIdeal.main_arg3))
      ∧ θ_run (Cert.AdamConvGRefIdeal.defs (F := Ideal)) (onTc (τ := Cert.AdamConvGRefIdeal.τ) (Cert.AdamConvGRefIdeal.main (F := Ideal))) ⟨m', fun _ => 0, g'⟩ (fun r => ∀ c : Dev Cert.AdamConvGRefIdeal.nD,
          r.2.mem ((c.tc : Thread Cert.AdamConvGRefIdeal.nD Cert.AdamConvGRefIdeal.τ).loc Cert.AdamConvGRefIdeal.main_v24) = v0 c
          ∧ r.2.mem ((c.tc : Thread Cert.AdamConvGRefIdeal.nD Cert.AdamConvGRefIdeal.τ).loc Cert.AdamConvGRefIdeal.main_v25) = v1 c
          ∧ r.2.mem ((c.tc : Thread Cert.AdamConvGRefIdeal.nD Cert.AdamConvGRefIdeal.τ).loc Cert.AdamConvGRefIdeal.main_v26) = v2 c
          ∧ r.2.mem ((c.tc : Thread Cert.AdamConvGRefIdeal.nD Cert.AdamConvGRefIdeal.τ).loc Cert.AdamConvGRefIdeal.main_arg0) = m' ((c.tc : Thread Cert.AdamConvGRefIdeal.nD Cert.AdamConvGRefIdeal.τ).loc Cert.AdamConvGRefIdeal.main_arg0)
          ∧ r.2.mem ((c.tc : Thread Cert.AdamConvGRefIdeal.nD Cert.AdamConvGRefIdeal.τ).loc Cert.AdamConvGRefIdeal.main_arg1) = m' ((c.tc : Thread Cert.AdamConvGRefIdeal.nD Cert.AdamConvGRefIdeal.τ).loc Cert.AdamConvGRefIdeal.main_arg1)
          ∧ r.2.mem ((c.tc : Thread Cert.AdamConvGRefIdeal.nD Cert.AdamConvGRefIdeal.τ).loc Cert.AdamConvGRefIdeal.main_arg2) = m' ((c.tc : Thread Cert.AdamConvGRefIdeal.nD Cert.AdamConvGRefIdeal.τ).loc Cert.AdamConvGRefIdeal.main_arg2)
          ∧ r.2.mem ((c.tc : Thread Cert.AdamConvGRefIdeal.nD Cert.AdamConvGRefIdeal.τ).loc Cert.AdamConvGRefIdeal.main_arg3) = m' ((c.tc : Thread Cert.AdamConvGRefIdeal.nD Cert.AdamConvGRefIdeal.τ).loc Cert.AdamConvGRefIdeal.main_arg3))

def preserves_SwigluBwd_SwigluBwdIdeal : Prop :=
  True

def algebraic_SwigluBwdIdeal_SwigluBwdRefIdeal [hSwigluBwdIdeal : Cert.SwigluBwdIdeal.Facts] [hSwigluBwdRefIdeal : Cert.SwigluBwdRefIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)) →
    ∃ (v0 : (c : Dev Cert.SwigluBwdIdeal.nD) → Buf (Elt Ideal) ((c.tc : Thread Cert.SwigluBwdIdeal.nD Cert.SwigluBwdIdeal.τ).loc Cert.SwigluBwdIdeal.main_v0_0)) (v1 : (c : Dev Cert.SwigluBwdIdeal.nD) → Buf (Elt Ideal) ((c.tc : Thread Cert.SwigluBwdIdeal.nD Cert.SwigluBwdIdeal.τ).loc Cert.SwigluBwdIdeal.main_v0_1)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0_0) = v0 c
          ∧ r.2.mem ((c.tc : Thread Cert.SwigluBwdIdeal.nD Cert.SwigluBwdIdeal.τ).loc Cert.SwigluBwdIdeal.main_v0_1) = v1 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v9) = v0 c
          ∧ r.2.mem ((c.tc : Thread Cert.SwigluBwdRefIdeal.nD Cert.SwigluBwdRefIdeal.τ).loc Cert.SwigluBwdRefIdeal.main_v10) = v1 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v4) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v17) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v34) = v0 c
          ∧ r.2.mem ((c.tc : Thread Cert.NormBwdRefIdeal.nD Cert.NormBwdRefIdeal.τ).loc Cert.NormBwdRefIdeal.main_v17) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v49) = v0 c
          ∧ r.2.mem ((c.tc : Thread Cert.LossRefIdeal.nD Cert.LossRefIdeal.τ).loc Cert.LossRefIdeal.main_v48) = v1 c
          ∧ r.2.mem ((c.tc : Thread Cert.LossRefIdeal.nD Cert.LossRefIdeal.τ).loc Cert.LossRefIdeal.main_v32) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_SsdPostBwd_SsdPostBwdIdeal : Prop :=
  True

def algebraic_SsdPostBwdIdeal_SsdPostBwdRefIdeal [hSsdPostBwdIdeal : Cert.SsdPostBwdIdeal.Facts] [hSsdPostBwdRefIdeal : Cert.SsdPostBwdRefIdeal.Facts] : Prop :=
  ∀ (m : (ℓ : Loc Cert.SsdPostBwdIdeal.nD Cert.SsdPostBwdIdeal.τ Cert.SsdPostBwdIdeal.sig) → Buf (Elt Ideal) ℓ) (g : Dev Cert.SsdPostBwdIdeal.nD → PrngReg)
    (m' : (ℓ : Loc Cert.SsdPostBwdRefIdeal.nD Cert.SsdPostBwdRefIdeal.τ Cert.SsdPostBwdRefIdeal.sig) → Buf (Elt Ideal) ℓ) (g' : Dev Cert.SsdPostBwdRefIdeal.nD → PrngReg), Pre_SsdPostBwdIdeal m →
    (∀ c : Dev Cert.SsdPostBwdIdeal.nD,
      m' ((c.tc : Thread Cert.SsdPostBwdRefIdeal.nD Cert.SsdPostBwdRefIdeal.τ).loc Cert.SsdPostBwdRefIdeal.main_arg0) = m ((c.tc : Thread Cert.SsdPostBwdIdeal.nD Cert.SsdPostBwdIdeal.τ).loc Cert.SsdPostBwdIdeal.main_arg0)
      ∧ m' ((c.tc : Thread Cert.SsdPostBwdRefIdeal.nD Cert.SsdPostBwdRefIdeal.τ).loc Cert.SsdPostBwdRefIdeal.main_arg1) = m ((c.tc : Thread Cert.SsdPostBwdIdeal.nD Cert.SsdPostBwdIdeal.τ).loc Cert.SsdPostBwdIdeal.main_arg1)
      ∧ m' ((c.tc : Thread Cert.SsdPostBwdRefIdeal.nD Cert.SsdPostBwdRefIdeal.τ).loc Cert.SsdPostBwdRefIdeal.main_arg2) = m ((c.tc : Thread Cert.SsdPostBwdIdeal.nD Cert.SsdPostBwdIdeal.τ).loc Cert.SsdPostBwdIdeal.main_arg2)
      ∧ m' ((c.tc : Thread Cert.SsdPostBwdRefIdeal.nD Cert.SsdPostBwdRefIdeal.τ).loc Cert.SsdPostBwdRefIdeal.main_arg3) = m ((c.tc : Thread Cert.SsdPostBwdIdeal.nD Cert.SsdPostBwdIdeal.τ).loc Cert.SsdPostBwdIdeal.main_arg3)) →
    ∃ (v0 : (c : Dev Cert.SsdPostBwdIdeal.nD) → Buf (Elt Ideal) ((c.tc : Thread Cert.SsdPostBwdIdeal.nD Cert.SsdPostBwdIdeal.τ).loc Cert.SsdPostBwdIdeal.main_v0_0)) (v1 : (c : Dev Cert.SsdPostBwdIdeal.nD) → Buf (Elt Ideal) ((c.tc : Thread Cert.SsdPostBwdIdeal.nD Cert.SsdPostBwdIdeal.τ).loc Cert.SsdPostBwdIdeal.main_v0_1)) (v2 : (c : Dev Cert.SsdPostBwdIdeal.nD) → Buf (Elt Ideal) ((c.tc : Thread Cert.SsdPostBwdIdeal.nD Cert.SsdPostBwdIdeal.τ).loc Cert.SsdPostBwdIdeal.main_v0_2)),
      θ_run (Cert.SsdPostBwdIdeal.defs (F := Ideal)) (onTc (τ := Cert.SsdPostBwdIdeal.τ) (Cert.SsdPostBwdIdeal.main (F := Ideal))) ⟨m, fun _ => 0, g⟩ (fun r => ∀ c : Dev Cert.SsdPostBwdIdeal.nD,
          r.2.mem ((c.tc : Thread Cert.SsdPostBwdIdeal.nD Cert.SsdPostBwdIdeal.τ).loc Cert.SsdPostBwdIdeal.main_v0_0) = v0 c
          ∧ r.2.mem ((c.tc : Thread Cert.SsdPostBwdIdeal.nD Cert.SsdPostBwdIdeal.τ).loc Cert.SsdPostBwdIdeal.main_v0_1) = v1 c
          ∧ r.2.mem ((c.tc : Thread Cert.SsdPostBwdIdeal.nD Cert.SsdPostBwdIdeal.τ).loc Cert.SsdPostBwdIdeal.main_v0_2) = v2 c
          ∧ r.2.mem ((c.tc : Thread Cert.SsdPostBwdIdeal.nD Cert.SsdPostBwdIdeal.τ).loc Cert.SsdPostBwdIdeal.main_arg0) = m ((c.tc : Thread Cert.SsdPostBwdIdeal.nD Cert.SsdPostBwdIdeal.τ).loc Cert.SsdPostBwdIdeal.main_arg0)
          ∧ r.2.mem ((c.tc : Thread Cert.SsdPostBwdIdeal.nD Cert.SsdPostBwdIdeal.τ).loc Cert.SsdPostBwdIdeal.main_arg1) = m ((c.tc : Thread Cert.SsdPostBwdIdeal.nD Cert.SsdPostBwdIdeal.τ).loc Cert.SsdPostBwdIdeal.main_arg1)
          ∧ r.2.mem ((c.tc : Thread Cert.SsdPostBwdIdeal.nD Cert.SsdPostBwdIdeal.τ).loc Cert.SsdPostBwdIdeal.main_arg2) = m ((c.tc : Thread Cert.SsdPostBwdIdeal.nD Cert.SsdPostBwdIdeal.τ).loc Cert.SsdPostBwdIdeal.main_arg2)
          ∧ r.2.mem ((c.tc : Thread Cert.SsdPostBwdIdeal.nD Cert.SsdPostBwdIdeal.τ).loc Cert.SsdPostBwdIdeal.main_arg3) = m ((c.tc : Thread Cert.SsdPostBwdIdeal.nD Cert.SsdPostBwdIdeal.τ).loc Cert.SsdPostBwdIdeal.main_arg3))
      ∧ θ_run (Cert.SsdPostBwdRefIdeal.defs (F := Ideal)) (onTc (τ := Cert.SsdPostBwdRefIdeal.τ) (Cert.SsdPostBwdRefIdeal.main (F := Ideal))) ⟨m', fun _ => 0, g'⟩ (fun r => ∀ c : Dev Cert.SsdPostBwdRefIdeal.nD,
          r.2.mem ((c.tc : Thread Cert.SsdPostBwdRefIdeal.nD Cert.SsdPostBwdRefIdeal.τ).loc Cert.SsdPostBwdRefIdeal.main_v42) = v0 c
          ∧ r.2.mem ((c.tc : Thread Cert.SsdPostBwdRefIdeal.nD Cert.SsdPostBwdRefIdeal.τ).loc Cert.SsdPostBwdRefIdeal.main_v44) = v1 c
          ∧ r.2.mem ((c.tc : Thread Cert.SsdPostBwdRefIdeal.nD Cert.SsdPostBwdRefIdeal.τ).loc Cert.SsdPostBwdRefIdeal.main_v22) = v2 c
          ∧ r.2.mem ((c.tc : Thread Cert.SsdPostBwdRefIdeal.nD Cert.SsdPostBwdRefIdeal.τ).loc Cert.SsdPostBwdRefIdeal.main_arg0) = m' ((c.tc : Thread Cert.SsdPostBwdRefIdeal.nD Cert.SsdPostBwdRefIdeal.τ).loc Cert.SsdPostBwdRefIdeal.main_arg0)
          ∧ r.2.mem ((c.tc : Thread Cert.SsdPostBwdRefIdeal.nD Cert.SsdPostBwdRefIdeal.τ).loc Cert.SsdPostBwdRefIdeal.main_arg1) = m' ((c.tc : Thread Cert.SsdPostBwdRefIdeal.nD Cert.SsdPostBwdRefIdeal.τ).loc Cert.SsdPostBwdRefIdeal.main_arg1)
          ∧ r.2.mem ((c.tc : Thread Cert.SsdPostBwdRefIdeal.nD Cert.SsdPostBwdRefIdeal.τ).loc Cert.SsdPostBwdRefIdeal.main_arg2) = m' ((c.tc : Thread Cert.SsdPostBwdRefIdeal.nD Cert.SsdPostBwdRefIdeal.τ).loc Cert.SsdPostBwdRefIdeal.main_arg2)
          ∧ r.2.mem ((c.tc : Thread Cert.SsdPostBwdRefIdeal.nD Cert.SsdPostBwdRefIdeal.τ).loc Cert.SsdPostBwdRefIdeal.main_arg3) = m' ((c.tc : Thread Cert.SsdPostBwdRefIdeal.nD Cert.SsdPostBwdRefIdeal.τ).loc Cert.SsdPostBwdRefIdeal.main_arg3))

def preserves_GdnPostBwd_GdnPostBwdIdeal : Prop :=
  True

def algebraic_GdnPostBwdIdeal_GdnPostBwdRefIdeal [hGdnPostBwdIdeal : Cert.GdnPostBwdIdeal.Facts] [hGdnPostBwdRefIdeal : Cert.GdnPostBwdRefIdeal.Facts] : Prop :=
  ∀ (m : (ℓ : Loc Cert.GdnPostBwdIdeal.nD Cert.GdnPostBwdIdeal.τ Cert.GdnPostBwdIdeal.sig) → Buf (Elt Ideal) ℓ) (g : Dev Cert.GdnPostBwdIdeal.nD → PrngReg)
    (m' : (ℓ : Loc Cert.GdnPostBwdRefIdeal.nD Cert.GdnPostBwdRefIdeal.τ Cert.GdnPostBwdRefIdeal.sig) → Buf (Elt Ideal) ℓ) (g' : Dev Cert.GdnPostBwdRefIdeal.nD → PrngReg), Pre_GdnPostBwdIdeal m →
    (∀ c : Dev Cert.GdnPostBwdIdeal.nD,
      m' ((c.tc : Thread Cert.GdnPostBwdRefIdeal.nD Cert.GdnPostBwdRefIdeal.τ).loc Cert.GdnPostBwdRefIdeal.main_arg0) = m ((c.tc : Thread Cert.GdnPostBwdIdeal.nD Cert.GdnPostBwdIdeal.τ).loc Cert.GdnPostBwdIdeal.main_arg0)
      ∧ m' ((c.tc : Thread Cert.GdnPostBwdRefIdeal.nD Cert.GdnPostBwdRefIdeal.τ).loc Cert.GdnPostBwdRefIdeal.main_arg1) = m ((c.tc : Thread Cert.GdnPostBwdIdeal.nD Cert.GdnPostBwdIdeal.τ).loc Cert.GdnPostBwdIdeal.main_arg1)
      ∧ m' ((c.tc : Thread Cert.GdnPostBwdRefIdeal.nD Cert.GdnPostBwdRefIdeal.τ).loc Cert.GdnPostBwdRefIdeal.main_arg2) = m ((c.tc : Thread Cert.GdnPostBwdIdeal.nD Cert.GdnPostBwdIdeal.τ).loc Cert.GdnPostBwdIdeal.main_arg2)
      ∧ m' ((c.tc : Thread Cert.GdnPostBwdRefIdeal.nD Cert.GdnPostBwdRefIdeal.τ).loc Cert.GdnPostBwdRefIdeal.main_arg3) = m ((c.tc : Thread Cert.GdnPostBwdIdeal.nD Cert.GdnPostBwdIdeal.τ).loc Cert.GdnPostBwdIdeal.main_arg3)) →
    ∃ (v0 : (c : Dev Cert.GdnPostBwdIdeal.nD) → Buf (Elt Ideal) ((c.tc : Thread Cert.GdnPostBwdIdeal.nD Cert.GdnPostBwdIdeal.τ).loc Cert.GdnPostBwdIdeal.main_v0_0)) (v1 : (c : Dev Cert.GdnPostBwdIdeal.nD) → Buf (Elt Ideal) ((c.tc : Thread Cert.GdnPostBwdIdeal.nD Cert.GdnPostBwdIdeal.τ).loc Cert.GdnPostBwdIdeal.main_v0_1)) (v2 : (c : Dev Cert.GdnPostBwdIdeal.nD) → Buf (Elt Ideal) ((c.tc : Thread Cert.GdnPostBwdIdeal.nD Cert.GdnPostBwdIdeal.τ).loc Cert.GdnPostBwdIdeal.main_v0_2)),
      θ_run (Cert.GdnPostBwdIdeal.defs (F := Ideal)) (onTc (τ := Cert.GdnPostBwdIdeal.τ) (Cert.GdnPostBwdIdeal.main (F := Ideal))) ⟨m, fun _ => 0, g⟩ (fun r => ∀ c : Dev Cert.GdnPostBwdIdeal.nD,
          r.2.mem ((c.tc : Thread Cert.GdnPostBwdIdeal.nD Cert.GdnPostBwdIdeal.τ).loc Cert.GdnPostBwdIdeal.main_v0_0) = v0 c
          ∧ r.2.mem ((c.tc : Thread Cert.GdnPostBwdIdeal.nD Cert.GdnPostBwdIdeal.τ).loc Cert.GdnPostBwdIdeal.main_v0_1) = v1 c
          ∧ r.2.mem ((c.tc : Thread Cert.GdnPostBwdIdeal.nD Cert.GdnPostBwdIdeal.τ).loc Cert.GdnPostBwdIdeal.main_v0_2) = v2 c
          ∧ r.2.mem ((c.tc : Thread Cert.GdnPostBwdIdeal.nD Cert.GdnPostBwdIdeal.τ).loc Cert.GdnPostBwdIdeal.main_arg0) = m ((c.tc : Thread Cert.GdnPostBwdIdeal.nD Cert.GdnPostBwdIdeal.τ).loc Cert.GdnPostBwdIdeal.main_arg0)
          ∧ r.2.mem ((c.tc : Thread Cert.GdnPostBwdIdeal.nD Cert.GdnPostBwdIdeal.τ).loc Cert.GdnPostBwdIdeal.main_arg1) = m ((c.tc : Thread Cert.GdnPostBwdIdeal.nD Cert.GdnPostBwdIdeal.τ).loc Cert.GdnPostBwdIdeal.main_arg1)
          ∧ r.2.mem ((c.tc : Thread Cert.GdnPostBwdIdeal.nD Cert.GdnPostBwdIdeal.τ).loc Cert.GdnPostBwdIdeal.main_arg2) = m ((c.tc : Thread Cert.GdnPostBwdIdeal.nD Cert.GdnPostBwdIdeal.τ).loc Cert.GdnPostBwdIdeal.main_arg2)
          ∧ r.2.mem ((c.tc : Thread Cert.GdnPostBwdIdeal.nD Cert.GdnPostBwdIdeal.τ).loc Cert.GdnPostBwdIdeal.main_arg3) = m ((c.tc : Thread Cert.GdnPostBwdIdeal.nD Cert.GdnPostBwdIdeal.τ).loc Cert.GdnPostBwdIdeal.main_arg3))
      ∧ θ_run (Cert.GdnPostBwdRefIdeal.defs (F := Ideal)) (onTc (τ := Cert.GdnPostBwdRefIdeal.τ) (Cert.GdnPostBwdRefIdeal.main (F := Ideal))) ⟨m', fun _ => 0, g'⟩ (fun r => ∀ c : Dev Cert.GdnPostBwdRefIdeal.nD,
          r.2.mem ((c.tc : Thread Cert.GdnPostBwdRefIdeal.nD Cert.GdnPostBwdRefIdeal.τ).loc Cert.GdnPostBwdRefIdeal.main_v48) = v0 c
          ∧ r.2.mem ((c.tc : Thread Cert.GdnPostBwdRefIdeal.nD Cert.GdnPostBwdRefIdeal.τ).loc Cert.GdnPostBwdRefIdeal.main_v49) = v1 c
          ∧ r.2.mem ((c.tc : Thread Cert.GdnPostBwdRefIdeal.nD Cert.GdnPostBwdRefIdeal.τ).loc Cert.GdnPostBwdRefIdeal.main_v33) = v2 c
          ∧ r.2.mem ((c.tc : Thread Cert.GdnPostBwdRefIdeal.nD Cert.GdnPostBwdRefIdeal.τ).loc Cert.GdnPostBwdRefIdeal.main_arg0) = m' ((c.tc : Thread Cert.GdnPostBwdRefIdeal.nD Cert.GdnPostBwdRefIdeal.τ).loc Cert.GdnPostBwdRefIdeal.main_arg0)
          ∧ r.2.mem ((c.tc : Thread Cert.GdnPostBwdRefIdeal.nD Cert.GdnPostBwdRefIdeal.τ).loc Cert.GdnPostBwdRefIdeal.main_arg1) = m' ((c.tc : Thread Cert.GdnPostBwdRefIdeal.nD Cert.GdnPostBwdRefIdeal.τ).loc Cert.GdnPostBwdRefIdeal.main_arg1)
          ∧ r.2.mem ((c.tc : Thread Cert.GdnPostBwdRefIdeal.nD Cert.GdnPostBwdRefIdeal.τ).loc Cert.GdnPostBwdRefIdeal.main_arg2) = m' ((c.tc : Thread Cert.GdnPostBwdRefIdeal.nD Cert.GdnPostBwdRefIdeal.τ).loc Cert.GdnPostBwdRefIdeal.main_arg2)
          ∧ r.2.mem ((c.tc : Thread Cert.GdnPostBwdRefIdeal.nD Cert.GdnPostBwdRefIdeal.τ).loc Cert.GdnPostBwdRefIdeal.main_arg3) = m' ((c.tc : Thread Cert.GdnPostBwdRefIdeal.nD Cert.GdnPostBwdRefIdeal.τ).loc Cert.GdnPostBwdRefIdeal.main_arg3))

def preserves_SsdPost_SsdPostIdeal : Prop :=
  True

def algebraic_SsdPostIdeal_SsdPostRefIdeal [hSsdPostIdeal : Cert.SsdPostIdeal.Facts] [hSsdPostRefIdeal : Cert.SsdPostRefIdeal.Facts] : Prop :=
  ∀ (m : (ℓ : Loc Cert.SsdPostIdeal.nD Cert.SsdPostIdeal.τ Cert.SsdPostIdeal.sig) → Buf (Elt Ideal) ℓ) (g : Dev Cert.SsdPostIdeal.nD → PrngReg)
    (m' : (ℓ : Loc Cert.SsdPostRefIdeal.nD Cert.SsdPostRefIdeal.τ Cert.SsdPostRefIdeal.sig) → Buf (Elt Ideal) ℓ) (g' : Dev Cert.SsdPostRefIdeal.nD → PrngReg), Pre_SsdPostIdeal m →
    (∀ c : Dev Cert.SsdPostIdeal.nD,
      m' ((c.tc : Thread Cert.SsdPostRefIdeal.nD Cert.SsdPostRefIdeal.τ).loc Cert.SsdPostRefIdeal.main_arg0) = m ((c.tc : Thread Cert.SsdPostIdeal.nD Cert.SsdPostIdeal.τ).loc Cert.SsdPostIdeal.main_arg0)
      ∧ m' ((c.tc : Thread Cert.SsdPostRefIdeal.nD Cert.SsdPostRefIdeal.τ).loc Cert.SsdPostRefIdeal.main_arg1) = m ((c.tc : Thread Cert.SsdPostIdeal.nD Cert.SsdPostIdeal.τ).loc Cert.SsdPostIdeal.main_arg1)
      ∧ m' ((c.tc : Thread Cert.SsdPostRefIdeal.nD Cert.SsdPostRefIdeal.τ).loc Cert.SsdPostRefIdeal.main_arg2) = m ((c.tc : Thread Cert.SsdPostIdeal.nD Cert.SsdPostIdeal.τ).loc Cert.SsdPostIdeal.main_arg2)) →
    ∃ (v0 : (c : Dev Cert.SsdPostIdeal.nD) → Buf (Elt Ideal) ((c.tc : Thread Cert.SsdPostIdeal.nD Cert.SsdPostIdeal.τ).loc Cert.SsdPostIdeal.main_v0)),
      θ_run (Cert.SsdPostIdeal.defs (F := Ideal)) (onTc (τ := Cert.SsdPostIdeal.τ) (Cert.SsdPostIdeal.main (F := Ideal))) ⟨m, fun _ => 0, g⟩ (fun r => ∀ c : Dev Cert.SsdPostIdeal.nD,
          r.2.mem ((c.tc : Thread Cert.SsdPostIdeal.nD Cert.SsdPostIdeal.τ).loc Cert.SsdPostIdeal.main_v0) = v0 c
          ∧ r.2.mem ((c.tc : Thread Cert.SsdPostIdeal.nD Cert.SsdPostIdeal.τ).loc Cert.SsdPostIdeal.main_arg0) = m ((c.tc : Thread Cert.SsdPostIdeal.nD Cert.SsdPostIdeal.τ).loc Cert.SsdPostIdeal.main_arg0)
          ∧ r.2.mem ((c.tc : Thread Cert.SsdPostIdeal.nD Cert.SsdPostIdeal.τ).loc Cert.SsdPostIdeal.main_arg1) = m ((c.tc : Thread Cert.SsdPostIdeal.nD Cert.SsdPostIdeal.τ).loc Cert.SsdPostIdeal.main_arg1)
          ∧ r.2.mem ((c.tc : Thread Cert.SsdPostIdeal.nD Cert.SsdPostIdeal.τ).loc Cert.SsdPostIdeal.main_arg2) = m ((c.tc : Thread Cert.SsdPostIdeal.nD Cert.SsdPostIdeal.τ).loc Cert.SsdPostIdeal.main_arg2))
      ∧ θ_run (Cert.SsdPostRefIdeal.defs (F := Ideal)) (onTc (τ := Cert.SsdPostRefIdeal.τ) (Cert.SsdPostRefIdeal.main (F := Ideal))) ⟨m', fun _ => 0, g'⟩ (fun r => ∀ c : Dev Cert.SsdPostRefIdeal.nD,
          r.2.mem ((c.tc : Thread Cert.SsdPostRefIdeal.nD Cert.SsdPostRefIdeal.τ).loc Cert.SsdPostRefIdeal.main_v17) = v0 c
          ∧ r.2.mem ((c.tc : Thread Cert.SsdPostRefIdeal.nD Cert.SsdPostRefIdeal.τ).loc Cert.SsdPostRefIdeal.main_arg0) = m' ((c.tc : Thread Cert.SsdPostRefIdeal.nD Cert.SsdPostRefIdeal.τ).loc Cert.SsdPostRefIdeal.main_arg0)
          ∧ r.2.mem ((c.tc : Thread Cert.SsdPostRefIdeal.nD Cert.SsdPostRefIdeal.τ).loc Cert.SsdPostRefIdeal.main_arg1) = m' ((c.tc : Thread Cert.SsdPostRefIdeal.nD Cert.SsdPostRefIdeal.τ).loc Cert.SsdPostRefIdeal.main_arg1)
          ∧ r.2.mem ((c.tc : Thread Cert.SsdPostRefIdeal.nD Cert.SsdPostRefIdeal.τ).loc Cert.SsdPostRefIdeal.main_arg2) = m' ((c.tc : Thread Cert.SsdPostRefIdeal.nD Cert.SsdPostRefIdeal.τ).loc Cert.SsdPostRefIdeal.main_arg2))

def preserves_GdnPost_GdnPostIdeal : Prop :=
  True

def algebraic_GdnPostIdeal_GdnPostRefIdeal [hGdnPostIdeal : Cert.GdnPostIdeal.Facts] [hGdnPostRefIdeal : Cert.GdnPostRefIdeal.Facts] : Prop :=
  ∀ (m : (ℓ : Loc Cert.GdnPostIdeal.nD Cert.GdnPostIdeal.τ Cert.GdnPostIdeal.sig) → Buf (Elt Ideal) ℓ) (g : Dev Cert.GdnPostIdeal.nD → PrngReg)
    (m' : (ℓ : Loc Cert.GdnPostRefIdeal.nD Cert.GdnPostRefIdeal.τ Cert.GdnPostRefIdeal.sig) → Buf (Elt Ideal) ℓ) (g' : Dev Cert.GdnPostRefIdeal.nD → PrngReg), Pre_GdnPostIdeal m →
    (∀ c : Dev Cert.GdnPostIdeal.nD,
      m' ((c.tc : Thread Cert.GdnPostRefIdeal.nD Cert.GdnPostRefIdeal.τ).loc Cert.GdnPostRefIdeal.main_arg0) = m ((c.tc : Thread Cert.GdnPostIdeal.nD Cert.GdnPostIdeal.τ).loc Cert.GdnPostIdeal.main_arg0)
      ∧ m' ((c.tc : Thread Cert.GdnPostRefIdeal.nD Cert.GdnPostRefIdeal.τ).loc Cert.GdnPostRefIdeal.main_arg1) = m ((c.tc : Thread Cert.GdnPostIdeal.nD Cert.GdnPostIdeal.τ).loc Cert.GdnPostIdeal.main_arg1)
      ∧ m' ((c.tc : Thread Cert.GdnPostRefIdeal.nD Cert.GdnPostRefIdeal.τ).loc Cert.GdnPostRefIdeal.main_arg2) = m ((c.tc : Thread Cert.GdnPostIdeal.nD Cert.GdnPostIdeal.τ).loc Cert.GdnPostIdeal.main_arg2)) →
    ∃ (v0 : (c : Dev Cert.GdnPostIdeal.nD) → Buf (Elt Ideal) ((c.tc : Thread Cert.GdnPostIdeal.nD Cert.GdnPostIdeal.τ).loc Cert.GdnPostIdeal.main_v0)),
      θ_run (Cert.GdnPostIdeal.defs (F := Ideal)) (onTc (τ := Cert.GdnPostIdeal.τ) (Cert.GdnPostIdeal.main (F := Ideal))) ⟨m, fun _ => 0, g⟩ (fun r => ∀ c : Dev Cert.GdnPostIdeal.nD,
          r.2.mem ((c.tc : Thread Cert.GdnPostIdeal.nD Cert.GdnPostIdeal.τ).loc Cert.GdnPostIdeal.main_v0) = v0 c
          ∧ r.2.mem ((c.tc : Thread Cert.GdnPostIdeal.nD Cert.GdnPostIdeal.τ).loc Cert.GdnPostIdeal.main_arg0) = m ((c.tc : Thread Cert.GdnPostIdeal.nD Cert.GdnPostIdeal.τ).loc Cert.GdnPostIdeal.main_arg0)
          ∧ r.2.mem ((c.tc : Thread Cert.GdnPostIdeal.nD Cert.GdnPostIdeal.τ).loc Cert.GdnPostIdeal.main_arg1) = m ((c.tc : Thread Cert.GdnPostIdeal.nD Cert.GdnPostIdeal.τ).loc Cert.GdnPostIdeal.main_arg1)
          ∧ r.2.mem ((c.tc : Thread Cert.GdnPostIdeal.nD Cert.GdnPostIdeal.τ).loc Cert.GdnPostIdeal.main_arg2) = m ((c.tc : Thread Cert.GdnPostIdeal.nD Cert.GdnPostIdeal.τ).loc Cert.GdnPostIdeal.main_arg2))
      ∧ θ_run (Cert.GdnPostRefIdeal.defs (F := Ideal)) (onTc (τ := Cert.GdnPostRefIdeal.τ) (Cert.GdnPostRefIdeal.main (F := Ideal))) ⟨m', fun _ => 0, g'⟩ (fun r => ∀ c : Dev Cert.GdnPostRefIdeal.nD,
          r.2.mem ((c.tc : Thread Cert.GdnPostRefIdeal.nD Cert.GdnPostRefIdeal.τ).loc Cert.GdnPostRefIdeal.main_v19) = v0 c
          ∧ r.2.mem ((c.tc : Thread Cert.GdnPostRefIdeal.nD Cert.GdnPostRefIdeal.τ).loc Cert.GdnPostRefIdeal.main_arg0) = m' ((c.tc : Thread Cert.GdnPostRefIdeal.nD Cert.GdnPostRefIdeal.τ).loc Cert.GdnPostRefIdeal.main_arg0)
          ∧ r.2.mem ((c.tc : Thread Cert.GdnPostRefIdeal.nD Cert.GdnPostRefIdeal.τ).loc Cert.GdnPostRefIdeal.main_arg1) = m' ((c.tc : Thread Cert.GdnPostRefIdeal.nD Cert.GdnPostRefIdeal.τ).loc Cert.GdnPostRefIdeal.main_arg1)
          ∧ r.2.mem ((c.tc : Thread Cert.GdnPostRefIdeal.nD Cert.GdnPostRefIdeal.τ).loc Cert.GdnPostRefIdeal.main_arg2) = m' ((c.tc : Thread Cert.GdnPostRefIdeal.nD Cert.GdnPostRefIdeal.τ).loc Cert.GdnPostRefIdeal.main_arg2))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)
      ∧ m' ((c.tc : Thread Cert.AdamSmallRefIdeal.nD Cert.AdamSmallRefIdeal.τ).loc Cert.AdamSmallRefIdeal.main_arg40) = m ((c.tc : Thread Cert.AdamSmallIdeal.nD Cert.AdamSmallIdeal.τ).loc Cert.AdamSmallIdeal.main_arg40)
      ∧ m' ((c.tc : Thread Cert.AdamSmallRefIdeal.nD Cert.AdamSmallRefIdeal.τ).loc Cert.AdamSmallRefIdeal.main_arg41) = m ((c.tc : Thread Cert.AdamSmallIdeal.nD Cert.AdamSmallIdeal.τ).loc Cert.AdamSmallIdeal.main_arg41)
      ∧ m' ((c.tc : Thread Cert.AdamSmallRefIdeal.nD Cert.AdamSmallRefIdeal.τ).loc Cert.AdamSmallRefIdeal.main_arg42) = m ((c.tc : Thread Cert.AdamSmallIdeal.nD Cert.AdamSmallIdeal.τ).loc Cert.AdamSmallIdeal.main_arg42)
      ∧ m' ((c.tc : Thread Cert.AdamSmallRefIdeal.nD Cert.AdamSmallRefIdeal.τ).loc Cert.AdamSmallRefIdeal.main_arg43) = m ((c.tc : Thread Cert.AdamSmallIdeal.nD Cert.AdamSmallIdeal.τ).loc Cert.AdamSmallIdeal.main_arg43)) →
    ∃ (v0 : (c : Dev Cert.AdamSmallIdeal.nD) → Buf (Elt Ideal) ((c.tc : Thread Cert.AdamSmallIdeal.nD Cert.AdamSmallIdeal.τ).loc Cert.AdamSmallIdeal.main_v52_0)) (v1 : (c : Dev Cert.AdamSmallIdeal.nD) → Buf (Elt Ideal) ((c.tc : Thread Cert.AdamSmallIdeal.nD Cert.AdamSmallIdeal.τ).loc Cert.AdamSmallIdeal.main_v52_1)) (v2 : (c : Dev Cert.AdamSmallIdeal.nD) → Buf (Elt Ideal) ((c.tc : Thread Cert.AdamSmallIdeal.nD Cert.AdamSmallIdeal.τ).loc Cert.AdamSmallIdeal.main_v52_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v52_0) = v0 c
          ∧ r.2.mem ((c.tc : Thread Cert.AdamSmallIdeal.nD Cert.AdamSmallIdeal.τ).loc Cert.AdamSmallIdeal.main_v52_1) = v1 c
          ∧ r.2.mem ((c.tc : Thread Cert.AdamSmallIdeal.nD Cert.AdamSmallIdeal.τ).loc Cert.AdamSmallIdeal.main_v52_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v277) = v0 c
          ∧ r.2.mem ((c.tc : Thread Cert.AdamSmallRefIdeal.nD Cert.AdamSmallRefIdeal.τ).loc Cert.AdamSmallRefIdeal.main_v291) = v1 c
          ∧ r.2.mem ((c.tc : Thread Cert.AdamSmallRefIdeal.nD Cert.AdamSmallRefIdeal.τ).loc Cert.AdamSmallRefIdeal.main_v305) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39)
          ∧ r.2.mem ((c.tc : Thread Cert.AdamSmallRefIdeal.nD Cert.AdamSmallRefIdeal.τ).loc Cert.AdamSmallRefIdeal.main_arg40) = m' ((c.tc : Thread Cert.AdamSmallRefIdeal.nD Cert.AdamSmallRefIdeal.τ).loc Cert.AdamSmallRefIdeal.main_arg40)
          ∧ r.2.mem ((c.tc : Thread Cert.AdamSmallRefIdeal.nD Cert.AdamSmallRefIdeal.τ).loc Cert.AdamSmallRefIdeal.main_arg41) = m' ((c.tc : Thread Cert.AdamSmallRefIdeal.nD Cert.AdamSmallRefIdeal.τ).loc Cert.AdamSmallRefIdeal.main_arg41)
          ∧ r.2.mem ((c.tc : Thread Cert.AdamSmallRefIdeal.nD Cert.AdamSmallRefIdeal.τ).loc Cert.AdamSmallRefIdeal.main_arg42) = m' ((c.tc : Thread Cert.AdamSmallRefIdeal.nD Cert.AdamSmallRefIdeal.τ).loc Cert.AdamSmallRefIdeal.main_arg42)
          ∧ r.2.mem ((c.tc : Thread Cert.AdamSmallRefIdeal.nD Cert.AdamSmallRefIdeal.τ).loc Cert.AdamSmallRefIdeal.main_arg43) = m' ((c.tc : Thread Cert.AdamSmallRefIdeal.nD Cert.AdamSmallRefIdeal.τ).loc Cert.AdamSmallRefIdeal.main_arg43))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)) →
    ∃ (v0 : (c : Dev Cert.SmallSumIdeal.nD) → Buf (Elt Ideal) ((c.tc : Thread Cert.SmallSumIdeal.nD Cert.SmallSumIdeal.τ).loc Cert.SmallSumIdeal.main_v0)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0) = v0 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v0) = v0 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0))

def preserves_SsdDx_SsdDxIdeal : Prop :=
  IdealRules.named_const.Statement Cert.SsdDxIdeal.κ "mask" .f32 0xF149F2CA#32 ⊥

def algebraic_SsdDxIdeal_SsdDxRefIdeal_on_columns_pre_finite [hSsdDxIdeal : Cert.SsdDxIdeal.Facts] [hSsdDxRefIdeal : Cert.SsdDxRefIdeal.Facts] [hPre_finite : Cert.Pre_finite.Facts] [hOn_columns : Cert.On_columns.Facts] : Prop :=
  ∀ (m : (ℓ : Loc Cert.SsdDxIdeal.nD Cert.SsdDxIdeal.τ Cert.SsdDxIdeal.sig) → Buf (Elt Ideal) ℓ) (g : Dev Cert.SsdDxIdeal.nD → PrngReg)
    (m' : (ℓ : Loc Cert.SsdDxRefIdeal.nD Cert.SsdDxRefIdeal.τ Cert.SsdDxRefIdeal.sig) → Buf (Elt Ideal) ℓ) (g' : Dev Cert.SsdDxRefIdeal.nD → PrngReg), Pre_SsdDxIdeal_finite m →
    (∀ c : Dev Cert.SsdDxIdeal.nD,
      m' ((c.tc : Thread Cert.SsdDxRefIdeal.nD Cert.SsdDxRefIdeal.τ).loc Cert.SsdDxRefIdeal.main_arg0) = m ((c.tc : Thread Cert.SsdDxIdeal.nD Cert.SsdDxIdeal.τ).loc Cert.SsdDxIdeal.main_arg0)
      ∧ m' ((c.tc : Thread Cert.SsdDxRefIdeal.nD Cert.SsdDxRefIdeal.τ).loc Cert.SsdDxRefIdeal.main_arg1) = m ((c.tc : Thread Cert.SsdDxIdeal.nD Cert.SsdDxIdeal.τ).loc Cert.SsdDxIdeal.main_arg1)
      ∧ m' ((c.tc : Thread Cert.SsdDxRefIdeal.nD Cert.SsdDxRefIdeal.τ).loc Cert.SsdDxRefIdeal.main_arg2) = m ((c.tc : Thread Cert.SsdDxIdeal.nD Cert.SsdDxIdeal.τ).loc Cert.SsdDxIdeal.main_arg2)
      ∧ m' ((c.tc : Thread Cert.SsdDxRefIdeal.nD Cert.SsdDxRefIdeal.τ).loc Cert.SsdDxRefIdeal.main_arg3) = m ((c.tc : Thread Cert.SsdDxIdeal.nD Cert.SsdDxIdeal.τ).loc Cert.SsdDxIdeal.main_arg3)
      ∧ m' ((c.tc : Thread Cert.SsdDxRefIdeal.nD Cert.SsdDxRefIdeal.τ).loc Cert.SsdDxRefIdeal.main_arg4) = m ((c.tc : Thread Cert.SsdDxIdeal.nD Cert.SsdDxIdeal.τ).loc Cert.SsdDxIdeal.main_arg4)
      ∧ m' ((c.tc : Thread Cert.SsdDxRefIdeal.nD Cert.SsdDxRefIdeal.τ).loc Cert.SsdDxRefIdeal.main_arg5) = m ((c.tc : Thread Cert.SsdDxIdeal.nD Cert.SsdDxIdeal.τ).loc Cert.SsdDxIdeal.main_arg5)
      ∧ m' ((c.tc : Thread Cert.SsdDxRefIdeal.nD Cert.SsdDxRefIdeal.τ).loc Cert.SsdDxRefIdeal.main_arg6) = m ((c.tc : Thread Cert.SsdDxIdeal.nD Cert.SsdDxIdeal.τ).loc Cert.SsdDxIdeal.main_arg6)) →
    ∃ (v0 : (c : Dev Cert.SsdDxIdeal.nD) → Buf (Elt Ideal) ((c.tc : Thread Cert.SsdDxIdeal.nD Cert.SsdDxIdeal.τ).loc Cert.SsdDxIdeal.main_v0_0)),
      θ_run (Cert.SsdDxIdeal.defs (F := Ideal)) (onTc (τ := Cert.SsdDxIdeal.τ) (Cert.SsdDxIdeal.main (F := Ideal))) ⟨m, fun _ => 0, g⟩ (fun r => ∀ c : Dev Cert.SsdDxIdeal.nD,
          (∀ i : (⟨2, ![4096, 1536]⟩ : Shape).Idx, (Cert.On_columns.fn (F := Ideal) (m ((c.tc : Thread Cert.SsdDxIdeal.nD Cert.SsdDxIdeal.τ).loc Cert.SsdDxIdeal.main_arg0)) (m ((c.tc : Thread Cert.SsdDxIdeal.nD Cert.SsdDxIdeal.τ).loc Cert.SsdDxIdeal.main_arg1)) (m ((c.tc : Thread Cert.SsdDxIdeal.nD Cert.SsdDxIdeal.τ).loc Cert.SsdDxIdeal.main_arg2)) (m ((c.tc : Thread Cert.SsdDxIdeal.nD Cert.SsdDxIdeal.τ).loc Cert.SsdDxIdeal.main_arg3)) (m ((c.tc : Thread Cert.SsdDxIdeal.nD Cert.SsdDxIdeal.τ).loc Cert.SsdDxIdeal.main_arg4)) (m ((c.tc : Thread Cert.SsdDxIdeal.nD Cert.SsdDxIdeal.τ).loc Cert.SsdDxIdeal.main_arg5)) (m ((c.tc : Thread Cert.SsdDxIdeal.nD Cert.SsdDxIdeal.τ).loc Cert.SsdDxIdeal.main_arg6))) i = 1#1 → r.2.mem ((c.tc : Thread Cert.SsdDxIdeal.nD Cert.SsdDxIdeal.τ).loc Cert.SsdDxIdeal.main_v0_0) i = v0 c i)
          ∧ r.2.mem ((c.tc : Thread Cert.SsdDxIdeal.nD Cert.SsdDxIdeal.τ).loc Cert.SsdDxIdeal.main_arg0) = m ((c.tc : Thread Cert.SsdDxIdeal.nD Cert.SsdDxIdeal.τ).loc Cert.SsdDxIdeal.main_arg0)
          ∧ r.2.mem ((c.tc : Thread Cert.SsdDxIdeal.nD Cert.SsdDxIdeal.τ).loc Cert.SsdDxIdeal.main_arg1) = m ((c.tc : Thread Cert.SsdDxIdeal.nD Cert.SsdDxIdeal.τ).loc Cert.SsdDxIdeal.main_arg1)
          ∧ r.2.mem ((c.tc : Thread Cert.SsdDxIdeal.nD Cert.SsdDxIdeal.τ).loc Cert.SsdDxIdeal.main_arg2) = m ((c.tc : Thread Cert.SsdDxIdeal.nD Cert.SsdDxIdeal.τ).loc Cert.SsdDxIdeal.main_arg2)
          ∧ r.2.mem ((c.tc : Thread Cert.SsdDxIdeal.nD Cert.SsdDxIdeal.τ).loc Cert.SsdDxIdeal.main_arg3) = m ((c.tc : Thread Cert.SsdDxIdeal.nD Cert.SsdDxIdeal.τ).loc Cert.SsdDxIdeal.main_arg3)
          ∧ r.2.mem ((c.tc : Thread Cert.SsdDxIdeal.nD Cert.SsdDxIdeal.τ).loc Cert.SsdDxIdeal.main_arg4) = m ((c.tc : Thread Cert.SsdDxIdeal.nD Cert.SsdDxIdeal.τ).loc Cert.SsdDxIdeal.main_arg4)
          ∧ r.2.mem ((c.tc : Thread Cert.SsdDxIdeal.nD Cert.SsdDxIdeal.τ).loc Cert.SsdDxIdeal.main_arg5) = m ((c.tc : Thread Cert.SsdDxIdeal.nD Cert.SsdDxIdeal.τ).loc Cert.SsdDxIdeal.main_arg5)
          ∧ r.2.mem ((c.tc : Thread Cert.SsdDxIdeal.nD Cert.SsdDxIdeal.τ).loc Cert.SsdDxIdeal.main_arg6) = m ((c.tc : Thread Cert.SsdDxIdeal.nD Cert.SsdDxIdeal.τ).loc Cert.SsdDxIdeal.main_arg6))
      ∧ θ_run (Cert.SsdDxRefIdeal.defs (F := Ideal)) (onTc (τ := Cert.SsdDxRefIdeal.τ) (Cert.SsdDxRefIdeal.main (F := Ideal))) ⟨m', fun _ => 0, g'⟩ (fun r => ∀ c : Dev Cert.SsdDxRefIdeal.nD,
          (∀ i : (⟨2, ![4096, 1536]⟩ : Shape).Idx, (Cert.On_columns.fn (F := Ideal) (m ((c.tc : Thread Cert.SsdDxIdeal.nD Cert.SsdDxIdeal.τ).loc Cert.SsdDxIdeal.main_arg0)) (m ((c.tc : Thread Cert.SsdDxIdeal.nD Cert.SsdDxIdeal.τ).loc Cert.SsdDxIdeal.main_arg1)) (m ((c.tc : Thread Cert.SsdDxIdeal.nD Cert.SsdDxIdeal.τ).loc Cert.SsdDxIdeal.main_arg2)) (m ((c.tc : Thread Cert.SsdDxIdeal.nD Cert.SsdDxIdeal.τ).loc Cert.SsdDxIdeal.main_arg3)) (m ((c.tc : Thread Cert.SsdDxIdeal.nD Cert.SsdDxIdeal.τ).loc Cert.SsdDxIdeal.main_arg4)) (m ((c.tc : Thread Cert.SsdDxIdeal.nD Cert.SsdDxIdeal.τ).loc Cert.SsdDxIdeal.main_arg5)) (m ((c.tc : Thread Cert.SsdDxIdeal.nD Cert.SsdDxIdeal.τ).loc Cert.SsdDxIdeal.main_arg6))) i = 1#1 → r.2.mem ((c.tc : Thread Cert.SsdDxRefIdeal.nD Cert.SsdDxRefIdeal.τ).loc Cert.SsdDxRefIdeal.main_v82) i = v0 c i)
          ∧ r.2.mem ((c.tc : Thread Cert.SsdDxRefIdeal.nD Cert.SsdDxRefIdeal.τ).loc Cert.SsdDxRefIdeal.main_arg0) = m' ((c.tc : Thread Cert.SsdDxRefIdeal.nD Cert.SsdDxRefIdeal.τ).loc Cert.SsdDxRefIdeal.main_arg0)
          ∧ r.2.mem ((c.tc : Thread Cert.SsdDxRefIdeal.nD Cert.SsdDxRefIdeal.τ).loc Cert.SsdDxRefIdeal.main_arg1) = m' ((c.tc : Thread Cert.SsdDxRefIdeal.nD Cert.SsdDxRefIdeal.τ).loc Cert.SsdDxRefIdeal.main_arg1)
          ∧ r.2.mem ((c.tc : Thread Cert.SsdDxRefIdeal.nD Cert.SsdDxRefIdeal.τ).loc Cert.SsdDxRefIdeal.main_arg2) = m' ((c.tc : Thread Cert.SsdDxRefIdeal.nD Cert.SsdDxRefIdeal.τ).loc Cert.SsdDxRefIdeal.main_arg2)
          ∧ r.2.mem ((c.tc : Thread Cert.SsdDxRefIdeal.nD Cert.SsdDxRefIdeal.τ).loc Cert.SsdDxRefIdeal.main_arg3) = m' ((c.tc : Thread Cert.SsdDxRefIdeal.nD Cert.SsdDxRefIdeal.τ).loc Cert.SsdDxRefIdeal.main_arg3)
          ∧ r.2.mem ((c.tc : Thread Cert.SsdDxRefIdeal.nD Cert.SsdDxRefIdeal.τ).loc Cert.SsdDxRefIdeal.main_arg4) = m' ((c.tc : Thread Cert.SsdDxRefIdeal.nD Cert.SsdDxRefIdeal.τ).loc Cert.SsdDxRefIdeal.main_arg4)
          ∧ r.2.mem ((c.tc : Thread Cert.SsdDxRefIdeal.nD Cert.SsdDxRefIdeal.τ).loc Cert.SsdDxRefIdeal.main_arg5) = m' ((c.tc : Thread Cert.SsdDxRefIdeal.nD Cert.SsdDxRefIdeal.τ).loc Cert.SsdDxRefIdeal.main_arg5)
          ∧ r.2.mem ((c.tc : Thread Cert.SsdDxRefIdeal.nD Cert.SsdDxRefIdeal.τ).loc Cert.SsdDxRefIdeal.main_arg6) = m' ((c.tc : Thread Cert.SsdDxRefIdeal.nD Cert.SsdDxRefIdeal.τ).loc Cert.SsdDxRefIdeal.main_arg6))

def Claim : Prop :=
  ∃ (hMerge : Cert.Merge.Facts) (hMergeIdeal : Cert.MergeIdeal.Facts) (hMergeRefIdeal : Cert.MergeRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hFfnInDx : Cert.FfnInDx.Facts) (hFfnInDxIdeal : Cert.FfnInDxIdeal.Facts) (hFfnInDxRefIdeal : Cert.FfnInDxRefIdeal.Facts) (hFfnInDw : Cert.FfnInDw.Facts) (hFfnInDwIdeal : Cert.FfnInDwIdeal.Facts) (hFfnInDwRefIdeal : Cert.FfnInDwRefIdeal.Facts) (hFfnDownDx : Cert.FfnDownDx.Facts) (hFfnDownDxIdeal : Cert.FfnDownDxIdeal.Facts) (hFfnDownDxRefIdeal : Cert.FfnDownDxRefIdeal.Facts) (hFfnDownDw : Cert.FfnDownDw.Facts) (hFfnDownDwIdeal : Cert.FfnDownDwIdeal.Facts) (hFfnDownDwRefIdeal : Cert.FfnDownDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hBranchDx : Cert.BranchDx.Facts) (hBranchDxIdeal : Cert.BranchDxIdeal.Facts) (hBranchDxRefIdeal : Cert.BranchDxRefIdeal.Facts) (hBranchDw : Cert.BranchDw.Facts) (hBranchDwIdeal : Cert.BranchDwIdeal.Facts) (hBranchDwRefIdeal : Cert.BranchDwRefIdeal.Facts) (hInFwd : Cert.InFwd.Facts) (hInFwdIdeal : Cert.InFwdIdeal.Facts) (hInFwdRefIdeal : Cert.InFwdRefIdeal.Facts) (hBranchFwd : Cert.BranchFwd.Facts) (hBranchFwdIdeal : Cert.BranchFwdIdeal.Facts) (hBranchFwdRefIdeal : Cert.BranchFwdRefIdeal.Facts) (hFfnInFwd : Cert.FfnInFwd.Facts) (hFfnInFwdIdeal : Cert.FfnInFwdIdeal.Facts) (hFfnInFwdRefIdeal : Cert.FfnInFwdRefIdeal.Facts) (hOutFwd : Cert.OutFwd.Facts) (hOutFwdIdeal : Cert.OutFwdIdeal.Facts) (hOutFwdRefIdeal : Cert.OutFwdRefIdeal.Facts) (hFfnDownFwd : Cert.FfnDownFwd.Facts) (hFfnDownFwdIdeal : Cert.FfnDownFwdIdeal.Facts) (hFfnDownFwdRefIdeal : Cert.FfnDownFwdRefIdeal.Facts) (hAdamIn : Cert.AdamIn.Facts) (hAdamInIdeal : Cert.AdamInIdeal.Facts) (hAdamInRefIdeal : Cert.AdamInRefIdeal.Facts) (hAdamProj : Cert.AdamProj.Facts) (hAdamProjIdeal : Cert.AdamProjIdeal.Facts) (hAdamProjRefIdeal : Cert.AdamProjRefIdeal.Facts) (hAdamFfnIn : Cert.AdamFfnIn.Facts) (hAdamFfnInIdeal : Cert.AdamFfnInIdeal.Facts) (hAdamFfnInRefIdeal : Cert.AdamFfnInRefIdeal.Facts) (hAdamFfnDown : Cert.AdamFfnDown.Facts) (hAdamFfnDownIdeal : Cert.AdamFfnDownIdeal.Facts) (hAdamFfnDownRefIdeal : Cert.AdamFfnDownRefIdeal.Facts) (hAdamConvS : Cert.AdamConvS.Facts) (hAdamConvSIdeal : Cert.AdamConvSIdeal.Facts) (hAdamConvSRefIdeal : Cert.AdamConvSRefIdeal.Facts) (hAdamConvG : Cert.AdamConvG.Facts) (hAdamConvGIdeal : Cert.AdamConvGIdeal.Facts) (hAdamConvGRefIdeal : Cert.AdamConvGRefIdeal.Facts) (hSwigluBwd : Cert.SwigluBwd.Facts) (hSwigluBwdIdeal : Cert.SwigluBwdIdeal.Facts) (hSwigluBwdRefIdeal : Cert.SwigluBwdRefIdeal.Facts) (hSwiglu : Cert.Swiglu.Facts) (hSwigluIdeal : Cert.SwigluIdeal.Facts) (hSwigluRefIdeal : Cert.SwigluRefIdeal.Facts) (hMergeFwd : Cert.MergeFwd.Facts) (hMergeFwdIdeal : Cert.MergeFwdIdeal.Facts) (hMergeFwdRefIdeal : Cert.MergeFwdRefIdeal.Facts) (hNormBwd : Cert.NormBwd.Facts) (hNormBwdIdeal : Cert.NormBwdIdeal.Facts) (hNormBwdRefIdeal : Cert.NormBwdRefIdeal.Facts) (hNorm : Cert.Norm.Facts) (hNormIdeal : Cert.NormIdeal.Facts) (hNormRefIdeal : Cert.NormRefIdeal.Facts) (hLoss : Cert.Loss.Facts) (hLossIdeal : Cert.LossIdeal.Facts) (hLossRefIdeal : Cert.LossRefIdeal.Facts) (hSsdPostBwd : Cert.SsdPostBwd.Facts) (hSsdPostBwdIdeal : Cert.SsdPostBwdIdeal.Facts) (hSsdPostBwdRefIdeal : Cert.SsdPostBwdRefIdeal.Facts) (hGdnPostBwd : Cert.GdnPostBwd.Facts) (hGdnPostBwdIdeal : Cert.GdnPostBwdIdeal.Facts) (hGdnPostBwdRefIdeal : Cert.GdnPostBwdRefIdeal.Facts) (hSsdPost : Cert.SsdPost.Facts) (hSsdPostIdeal : Cert.SsdPostIdeal.Facts) (hSsdPostRefIdeal : Cert.SsdPostRefIdeal.Facts) (hGdnPost : Cert.GdnPost.Facts) (hGdnPostIdeal : Cert.GdnPostIdeal.Facts) (hGdnPostRefIdeal : Cert.GdnPostRefIdeal.Facts) (hAdamSmall : Cert.AdamSmall.Facts) (hAdamSmallIdeal : Cert.AdamSmallIdeal.Facts) (hAdamSmallRefIdeal : Cert.AdamSmallRefIdeal.Facts) (hSmallSum : Cert.SmallSum.Facts) (hSmallSumIdeal : Cert.SmallSumIdeal.Facts) (hSmallSumRefIdeal : Cert.SmallSumRefIdeal.Facts) (hSsdDx : Cert.SsdDx.Facts) (hSsdDxIdeal : Cert.SsdDxIdeal.Facts) (hSsdDxRefIdeal : Cert.SsdDxRefIdeal.Facts) (hPre_finite : Cert.Pre_finite.Facts) (hOn_columns : Cert.On_columns.Facts),
    quiescent_Merge (hMerge := hMerge)
    ∧ quiescent_MergeIdeal (hMergeIdeal := hMergeIdeal)
    ∧ quiescent_MergeRefIdeal (hMergeRefIdeal := hMergeRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_FfnDownDx (hFfnDownDx := hFfnDownDx)
    ∧ quiescent_FfnDownDxIdeal (hFfnDownDxIdeal := hFfnDownDxIdeal)
    ∧ quiescent_FfnDownDxRefIdeal (hFfnDownDxRefIdeal := hFfnDownDxRefIdeal)
    ∧ quiescent_FfnDownDw (hFfnDownDw := hFfnDownDw)
    ∧ quiescent_FfnDownDwIdeal (hFfnDownDwIdeal := hFfnDownDwIdeal)
    ∧ quiescent_FfnDownDwRefIdeal (hFfnDownDwRefIdeal := hFfnDownDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_BranchFwd (hBranchFwd := hBranchFwd)
    ∧ quiescent_BranchFwdIdeal (hBranchFwdIdeal := hBranchFwdIdeal)
    ∧ quiescent_BranchFwdRefIdeal (hBranchFwdRefIdeal := hBranchFwdRefIdeal)
    ∧ quiescent_FfnInFwd (hFfnInFwd := hFfnInFwd)
    ∧ quiescent_FfnInFwdIdeal (hFfnInFwdIdeal := hFfnInFwdIdeal)
    ∧ quiescent_FfnInFwdRefIdeal (hFfnInFwdRefIdeal := hFfnInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_FfnDownFwd (hFfnDownFwd := hFfnDownFwd)
    ∧ quiescent_FfnDownFwdIdeal (hFfnDownFwdIdeal := hFfnDownFwdIdeal)
    ∧ quiescent_FfnDownFwdRefIdeal (hFfnDownFwdRefIdeal := hFfnDownFwdRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamFfnDown (hAdamFfnDown := hAdamFfnDown)
    ∧ quiescent_AdamFfnDownIdeal (hAdamFfnDownIdeal := hAdamFfnDownIdeal)
    ∧ quiescent_AdamFfnDownRefIdeal (hAdamFfnDownRefIdeal := hAdamFfnDownRefIdeal)
    ∧ quiescent_AdamConvS (hAdamConvS := hAdamConvS)
    ∧ quiescent_AdamConvSIdeal (hAdamConvSIdeal := hAdamConvSIdeal)
    ∧ quiescent_AdamConvSRefIdeal (hAdamConvSRefIdeal := hAdamConvSRefIdeal)
    ∧ quiescent_AdamConvG (hAdamConvG := hAdamConvG)
    ∧ quiescent_AdamConvGIdeal (hAdamConvGIdeal := hAdamConvGIdeal)
    ∧ quiescent_AdamConvGRefIdeal (hAdamConvGRefIdeal := hAdamConvGRefIdeal)
    ∧ quiescent_SwigluBwd (hSwigluBwd := hSwigluBwd)
    ∧ quiescent_SwigluBwdIdeal (hSwigluBwdIdeal := hSwigluBwdIdeal)
    ∧ quiescent_SwigluBwdRefIdeal (hSwigluBwdRefIdeal := hSwigluBwdRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_Norm (hNorm := hNorm)
    ∧ quiescent_NormIdeal (hNormIdeal := hNormIdeal)
    ∧ quiescent_NormRefIdeal (hNormRefIdeal := hNormRefIdeal)
    ∧ quiescent_Loss (hLoss := hLoss)
    ∧ quiescent_LossIdeal (hLossIdeal := hLossIdeal)
    ∧ quiescent_LossRefIdeal (hLossRefIdeal := hLossRefIdeal)
    ∧ quiescent_SsdPostBwd (hSsdPostBwd := hSsdPostBwd)
    ∧ quiescent_SsdPostBwdIdeal (hSsdPostBwdIdeal := hSsdPostBwdIdeal)
    ∧ quiescent_SsdPostBwdRefIdeal (hSsdPostBwdRefIdeal := hSsdPostBwdRefIdeal)
    ∧ quiescent_GdnPostBwd (hGdnPostBwd := hGdnPostBwd)
    ∧ quiescent_GdnPostBwdIdeal (hGdnPostBwdIdeal := hGdnPostBwdIdeal)
    ∧ quiescent_GdnPostBwdRefIdeal (hGdnPostBwdRefIdeal := hGdnPostBwdRefIdeal)
    ∧ quiescent_SsdPost (hSsdPost := hSsdPost)
    ∧ quiescent_SsdPostIdeal (hSsdPostIdeal := hSsdPostIdeal)
    ∧ quiescent_SsdPostRefIdeal (hSsdPostRefIdeal := hSsdPostRefIdeal)
    ∧ quiescent_GdnPost (hGdnPost := hGdnPost)
    ∧ quiescent_GdnPostIdeal (hGdnPostIdeal := hGdnPostIdeal)
    ∧ quiescent_GdnPostRefIdeal (hGdnPostRefIdeal := hGdnPostRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ quiescent_SsdDx (hSsdDx := hSsdDx)
    ∧ quiescent_SsdDxIdeal (hSsdDxIdeal := hSsdDxIdeal)
    ∧ quiescent_SsdDxIdeal_pre_finite (hSsdDxIdeal := hSsdDxIdeal) (hPre_finite := hPre_finite)
    ∧ quiescent_SsdDxRefIdeal (hSsdDxRefIdeal := hSsdDxRefIdeal)
    ∧ quiescent_SsdDxRefIdeal_pre_finite (hSsdDxRefIdeal := hSsdDxRefIdeal) (hPre_finite := hPre_finite)
    ∧ preserves_Merge_MergeIdeal
    ∧ algebraic_MergeIdeal_MergeRefIdeal (hMergeIdeal := hMergeIdeal) (hMergeRefIdeal := hMergeRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_FfnDownDx_FfnDownDxIdeal
    ∧ algebraic_FfnDownDxIdeal_FfnDownDxRefIdeal (hFfnDownDxIdeal := hFfnDownDxIdeal) (hFfnDownDxRefIdeal := hFfnDownDxRefIdeal)
    ∧ preserves_FfnDownDw_FfnDownDwIdeal
    ∧ algebraic_FfnDownDwIdeal_FfnDownDwRefIdeal (hFfnDownDwIdeal := hFfnDownDwIdeal) (hFfnDownDwRefIdeal := hFfnDownDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_BranchDx_BranchDxIdeal
    ∧ algebraic_BranchDxIdeal_BranchDxRefIdeal (hBranchDxIdeal := hBranchDxIdeal) (hBranchDxRefIdeal := hBranchDxRefIdeal)
    ∧ preserves_BranchDw_BranchDwIdeal
    ∧ algebraic_BranchDwIdeal_BranchDwRefIdeal (hBranchDwIdeal := hBranchDwIdeal) (hBranchDwRefIdeal := hBranchDwRefIdeal)
    ∧ preserves_InFwd_InFwdIdeal
    ∧ algebraic_InFwdIdeal_InFwdRefIdeal (hInFwdIdeal := hInFwdIdeal) (hInFwdRefIdeal := hInFwdRefIdeal)
    ∧ preserves_BranchFwd_BranchFwdIdeal
    ∧ algebraic_BranchFwdIdeal_BranchFwdRefIdeal (hBranchFwdIdeal := hBranchFwdIdeal) (hBranchFwdRefIdeal := hBranchFwdRefIdeal)
    ∧ preserves_FfnInFwd_FfnInFwdIdeal
    ∧ algebraic_FfnInFwdIdeal_FfnInFwdRefIdeal (hFfnInFwdIdeal := hFfnInFwdIdeal) (hFfnInFwdRefIdeal := hFfnInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_FfnDownFwd_FfnDownFwdIdeal
    ∧ algebraic_FfnDownFwdIdeal_FfnDownFwdRefIdeal (hFfnDownFwdIdeal := hFfnDownFwdIdeal) (hFfnDownFwdRefIdeal := hFfnDownFwdRefIdeal)
    ∧ preserves_AdamIn_AdamInIdeal
    ∧ algebraic_AdamInIdeal_AdamInRefIdeal (hAdamInIdeal := hAdamInIdeal) (hAdamInRefIdeal := hAdamInRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamFfnDown_AdamFfnDownIdeal
    ∧ algebraic_AdamFfnDownIdeal_AdamFfnDownRefIdeal (hAdamFfnDownIdeal := hAdamFfnDownIdeal) (hAdamFfnDownRefIdeal := hAdamFfnDownRefIdeal)
    ∧ preserves_AdamConvS_AdamConvSIdeal
    ∧ algebraic_AdamConvSIdeal_AdamConvSRefIdeal (hAdamConvSIdeal := hAdamConvSIdeal) (hAdamConvSRefIdeal := hAdamConvSRefIdeal)
    ∧ preserves_AdamConvG_AdamConvGIdeal
    ∧ algebraic_AdamConvGIdeal_AdamConvGRefIdeal (hAdamConvGIdeal := hAdamConvGIdeal) (hAdamConvGRefIdeal := hAdamConvGRefIdeal)
    ∧ preserves_SwigluBwd_SwigluBwdIdeal
    ∧ algebraic_SwigluBwdIdeal_SwigluBwdRefIdeal (hSwigluBwdIdeal := hSwigluBwdIdeal) (hSwigluBwdRefIdeal := hSwigluBwdRefIdeal)
    ∧ preserves_Swiglu_SwigluIdeal
    ∧ algebraic_SwigluIdeal_SwigluRefIdeal (hSwigluIdeal := hSwigluIdeal) (hSwigluRefIdeal := hSwigluRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_Norm_NormIdeal
    ∧ algebraic_NormIdeal_NormRefIdeal (hNormIdeal := hNormIdeal) (hNormRefIdeal := hNormRefIdeal)
    ∧ preserves_Loss_LossIdeal
    ∧ algebraic_LossIdeal_LossRefIdeal (hLossIdeal := hLossIdeal) (hLossRefIdeal := hLossRefIdeal)
    ∧ preserves_SsdPostBwd_SsdPostBwdIdeal
    ∧ algebraic_SsdPostBwdIdeal_SsdPostBwdRefIdeal (hSsdPostBwdIdeal := hSsdPostBwdIdeal) (hSsdPostBwdRefIdeal := hSsdPostBwdRefIdeal)
    ∧ preserves_GdnPostBwd_GdnPostBwdIdeal
    ∧ algebraic_GdnPostBwdIdeal_GdnPostBwdRefIdeal (hGdnPostBwdIdeal := hGdnPostBwdIdeal) (hGdnPostBwdRefIdeal := hGdnPostBwdRefIdeal)
    ∧ preserves_SsdPost_SsdPostIdeal
    ∧ algebraic_SsdPostIdeal_SsdPostRefIdeal (hSsdPostIdeal := hSsdPostIdeal) (hSsdPostRefIdeal := hSsdPostRefIdeal)
    ∧ preserves_GdnPost_GdnPostIdeal
    ∧ algebraic_GdnPostIdeal_GdnPostRefIdeal (hGdnPostIdeal := hGdnPostIdeal) (hGdnPostRefIdeal := hGdnPostRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SmallSum_SmallSumIdeal
    ∧ algebraic_SmallSumIdeal_SmallSumRefIdeal (hSmallSumIdeal := hSmallSumIdeal) (hSmallSumRefIdeal := hSmallSumRefIdeal)
    ∧ preserves_SsdDx_SsdDxIdeal
    ∧ algebraic_SsdDxIdeal_SsdDxRefIdeal_on_columns_pre_finite (hSsdDxIdeal := hSsdDxIdeal) (hSsdDxRefIdeal := hSsdDxRefIdeal) (hPre_finite := hPre_finite) (hOn_columns := hOn_columns)
-- ==== On_columns.lean ====
abbrev S4096x1536 : Shape := ⟨2, ![4096, 1536]⟩
abbrev S4096x9216 : Shape := ⟨2, ![4096, 9216]⟩
abbrev S1x128 : Shape := ⟨2, ![1, 128]⟩
abbrev S16x8x128x128 : Shape := ⟨4, ![16, 8, 128, 128]⟩
abbrev S4096x1024 : Shape := ⟨2, ![4096, 1024]⟩
abbrev S_ : Shape := ⟨0, ![]⟩

class Facts : Prop where
  bcast_S_S4096x1536 : S_.BroadcastsInDim S4096x1536 (![] : Fin 0 → Fin S4096x1536.rank)

variable [Facts]

def fn {F : FTy → Type} [FloatOps F] (main_arg0 : FVec F S4096x1536 .f32) (main_arg1 : FVec F S4096x9216 .f32) (main_arg2 : FVec F S1x128 .f32) (main_arg3 : FVec F S1x128 .f32) (main_arg4 : FVec F S1x128 .f32) (main_arg5 : FVec F S16x8x128x128 .f32) (main_arg6 : FVec F S4096x1024 .f32) : IVec S4096x1536 1 :=
  let main_v0 : IVec S4096x1536 32 := iotaInDim S4096x1536 32 1
  let main_c : IVec S_ 32 := constantI S_ 32 1024#32
  let main_v1 : IVec S4096x1536 32 := broadcastInDim S4096x1536 ![] bcast_S_S4096x1536 main_c
  let main_v2 : IVec S4096x1536 1 := cmpi .slt main_v0 main_v1
  main_v2
-- ==== Pre_finite.lean ====
abbrev S4096x1536 : Shape := ⟨2, ![4096, 1536]⟩
abbrev S4096x9216 : Shape := ⟨2, ![4096, 9216]⟩
abbrev S1x128 : Shape := ⟨2, ![1, 128]⟩
abbrev S16x8x128x128 : Shape := ⟨4, ![16, 8, 128, 128]⟩
abbrev S4096x1024 : Shape := ⟨2, ![4096, 1024]⟩
abbrev S_ : Shape := ⟨0, ![]⟩

class Facts : Prop where
  bcast_S_S4096x1536 : S_.BroadcastsInDim S4096x1536 (![] : Fin 0 → Fin S4096x1536.rank)
  bcast_S_S4096x9216 : S_.BroadcastsInDim S4096x9216 (![] : Fin 0 → Fin S4096x9216.rank)
  bcast_S_S1x128 : S_.BroadcastsInDim S1x128 (![] : Fin 0 → Fin S1x128.rank)
  bcast_S_S4096x1024 : S_.BroadcastsInDim S4096x1024 (![] : Fin 0 → Fin S4096x1024.rank)

variable [Facts]

def fn {F : FTy → Type} [FloatOps F] (main_arg0 : FVec F S4096x1536 .f32) (main_arg1 : FVec F S4096x9216 .f32) (main_arg2 : FVec F S1x128 .f32) (main_arg3 : FVec F S1x128 .f32) (main_arg4 : FVec F S1x128 .f32) (main_arg5 : FVec F S16x8x128x128 .f32) (main_arg6 : FVec F S4096x1024 .f32) : IVec S4096x1536 1 × IVec S4096x9216 1 × IVec S1x128 1 × IVec S1x128 1 × IVec S1x128 1 × IVec S4096x1024 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S4096x9216 .f32 := Host.absf main_arg1
  let main_cst_0 : FVec F S_ .f32 := constant S_ .f32 0x7F800000#32
  let main_v4 : FVec F S4096x9216 .f32 := broadcastInDim S4096x9216 ![] bcast_S_S4096x9216 main_cst_0
  let main_v5 : IVec S4096x9216 1 := cmpf .olt main_v3 main_v4
  let main_v6 : FVec F S1x128 .f32 := Host.absf main_arg2
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_v12 : FVec F S1x128 .f32 := Host.absf main_arg4
  let main_cst_3 : FVec F S_ .f32 := constant S_ .f32 0x7F800000#32
  let main_v13 : FVec F S1x128 .f32 := broadcastInDim S1x128 ![] bcast_S_S1x128 main_cst_3
  let main_v14 : IVec S1x128 1 := cmpf .olt main_v12 main_v13
  let main_v15 : FVec F S4096x1024 .f32 := Host.absf main_arg6
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Merge.lean ====
abbrev S4096x9216 : Shape := ⟨2, ![4096, 9216]⟩
abbrev S4096x1024 : Shape := ⟨2, ![4096, 1024]⟩
abbrev S512x512 : Shape := ⟨2, ![512, 512]⟩

abbrev nBuf : Space → Nat
  | .hbm => 8
  | .vmem => 18
  | .smem => 0
  | _ => 0

abbrev bufTy : (tb : Table) → Fin (tcTables nBuf tb) → BufTy
  | .hbm, ⟨0, _⟩ => ⟨S4096x9216, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S4096x9216 : Shape := ⟨2, ![4096, 9216]⟩
abbrev S4096x1024 : Shape := ⟨2, ![4096, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x9216, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | .hbm, ⟨42, _⟩ => ⟨S4096x1024, .bf16⟩
  | .hbm, ⟨43, _⟩ => ⟨S4096x1024, .bf16⟩
  | .hbm, ⟨44, _⟩ => ⟨S4096x1024, .bf16⟩
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== InDx.lean ====
abbrev S4096x9216 : Shape := ⟨2, ![4096, 9216]⟩
abbrev S1024x9216 : Shape := ⟨2, ![1024, 9216]⟩
abbrev S4096x1024 : Shape := ⟨2, ![4096, 1024]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x9216, .bf16⟩
  | .hbm, ⟨1, _⟩ => ⟨S1024x9216, .bf16⟩
  | .hbm, ⟨2, _⟩ => ⟨S4096x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S4096x9216 : Shape := ⟨2, ![4096, 9216]⟩
abbrev S1024x9216 : Shape := ⟨2, ![1024, 9216]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x9216, .bf16⟩
  | .hbm, ⟨1, _⟩ => ⟨S1024x9216, .bf16⟩
  | .hbm, ⟨2, _⟩ => ⟨S_, .f32⟩
  | .hbm, ⟨3, _⟩ => ⟨S4096x1024, .f32⟩
  | .hbm, ⟨4, _⟩ => ⟨S1024x9216, .f32⟩
  | .hbm, ⟨5, _⟩ => ⟨S4096x9216, .f32⟩
  | .hbm, ⟨6, _⟩ => ⟨S4096x9216, .f32⟩
  | .hbm, ⟨7, _⟩ => ⟨S4096x1024, .f32⟩
  | _, _ => ⟨S4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S4096x1024 : Shape := ⟨2, ![4096, 1024]⟩
abbrev S4096x9216 : Shape := ⟨2, ![4096, 9216]⟩
abbrev S1024x9216 : Shape := ⟨2, ![1024, 9216]⟩
abbrev S4096x768 : Shape := ⟨2, ![4096, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x9216, .bf16⟩
  | .hbm, ⟨2, _⟩ => ⟨S1024x9216, .f32⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1024x768, .f32⟩
  | .local _ .vmem, ⟨4, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x1024 : Shape := ⟨2, ![4096, 1024]⟩
abbrev S4096x9216 : Shape := ⟨2, ![4096, 9216]⟩
abbrev S_ : Shape := ⟨0, ![]⟩
abbrev S1024x9216 : Shape := ⟨2, ![1024, 9216]⟩
abbrev S9216x1024 : Shape := ⟨2, ![9216, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x9216, .bf16⟩
  | .hbm, ⟨2, _⟩ => ⟨S_, .f32⟩
  | .hbm, ⟨3, _⟩ => ⟨S1024x9216, .f32⟩
  | .hbm, ⟨4, _⟩ => ⟨S4096x1024, .f32⟩
  | .hbm, ⟨5, _⟩ => ⟨S4096x9216, .f32⟩
  | .hbm, ⟨6, _⟩ => ⟨S4096x9216, .f32⟩
  | .hbm, ⟨7, _⟩ => ⟨S9216x1024, .f32⟩
  | .hbm, ⟨8, _⟩ => ⟨S1024x9216, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnInDx.lean ====
abbrev S4096x5632 : Shape := ⟨2, ![4096, 5632]⟩
abbrev S1024x5632 : Shape := ⟨2, ![1024, 5632]⟩
abbrev S4096x1024 : Shape := ⟨2, ![4096, 1024]⟩
abbrev S512x5632 : Shape := ⟨2, ![512, 5632]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxRefIdeal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S_, .f32⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnInDw.lean ====
abbrev S4096x1024 : Shape := ⟨2, ![4096, 1024]⟩
abbrev S4096x5632 : Shape := ⟨2, ![4096, 5632]⟩
abbrev S4x1024x1408 : Shape := ⟨3, ![4, 1024, 1408]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .f32⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .f32⟩
  | .local _ .vmem, ⟨5, _⟩ => ⟨S1x512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnDownDx.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDxRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnDownDw.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S4096x256 : Shape := ⟨2, ![4096, 256]⟩
abbrev S1408x256 : Shape := ⟨2, ![1408, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S4096x1408, .bf16⟩
  | .local _ .vmem, ⟨1, _⟩ => ⟨S4096x1408, .bf16⟩
  | .local _ .vmem, ⟨2, _⟩ => ⟨S4096x256, .f32⟩
  | .local _ .vmem, ⟨3, _⟩ => ⟨S4096x256, .f32⟩
  | .local _ .vmem, ⟨4, _⟩ => ⟨S1408x256, .f32⟩
  | .local _ .vmem, ⟨5, _⟩ => ⟨S1408x256, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S4096x1024, .bf16⟩
  | .local _ .vmem, ⟨1, _⟩ => ⟨S4096x256, .f32⟩
  | .local _ .vmem, ⟨2, _⟩ => ⟨S4096x256, .f32⟩
  | .local _ .vmem, ⟨3, _⟩ => ⟨S1024x256, .f32⟩
  | .local _ .vmem, ⟨4, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchDx.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchDw.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InFwd.lean ====
abbrev S4096x1024 : Shape := ⟨2, ![4096, 1024]⟩
abbrev S1024x9216 : Shape := ⟨2, ![1024, 9216]⟩
abbrev S4096x9216 : Shape := ⟨2, ![4096, 9216]⟩
abbrev S1024x1024 : Shape := ⟨2, ![1024, 1024]⟩
abbrev S1024x2304 : Shape := ⟨2, ![1024, 2304]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x9216, .bf16⟩
  | .hbm, ⟨2, _⟩ => ⟨S4096x9216, .f32⟩
  | .local _ .vmem, ⟨0, _⟩ => ⟨S1024x1024, .bf16⟩
  | .local _ .vmem, ⟨1, _⟩ => ⟨S1024x1024, .bf16⟩
  | .local _ .vmem, ⟨2, _⟩ => ⟨S1024x2304, .bf16⟩
  | .local _ .vmem, ⟨3, _⟩ => ⟨S1024x2304, .bf16⟩
  | .local _ .vmem, ⟨4, _⟩ => ⟨S1024x2304, .f32⟩
  | .local _ .vmem, ⟨5, _⟩ => ⟨S1024x2304, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S4096x1024 : Shape := ⟨2, ![4096, 1024]⟩
abbrev S1024x9216 : Shape := ⟨2, ![1024, 9216]⟩
abbrev S4096x9216 : Shape := ⟨2, ![4096, 9216]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x9216, .bf16⟩
  | .hbm, ⟨2, _⟩ => ⟨S4096x1024, .f32⟩
  | .hbm, ⟨3, _⟩ => ⟨S1024x9216, .f32⟩
  | .hbm, ⟨4, _⟩ => ⟨S4096x9216, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchFwd.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchFwdRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnInFwd.lean ====
abbrev S4096x1024 : Shape := ⟨2, ![4096, 1024]⟩
abbrev S1024x5632 : Shape := ⟨2, ![1024, 5632]⟩
abbrev S4096x5632 : Shape := ⟨2, ![4096, 5632]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInFwdRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutFwd.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwdRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnDownFwd.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownFwdRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdamIn.lean ====
abbrev S2x1024x2184 : Shape := ⟨3, ![2, 1024, 2184]⟩
abbrev S2048x2184 : Shape := ⟨2, ![2048, 2184]⟩
abbrev S64x2184 : Shape := ⟨2, ![64, 2184]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x2184, .f32⟩
  | .hbm, ⟨1, _⟩ => ⟨S2x1024x2184, .f32⟩
  | .hbm, ⟨2, _⟩ => ⟨S2x1024x2184, .f32⟩
  | .hbm, ⟨3, _⟩ => ⟨S2x1024x2184, .f32⟩
  | .hbm, ⟨4, _⟩ => ⟨S2048x2184, .f32⟩
  | .hbm, ⟨5, _⟩ => ⟨S2048x2184, .f32⟩
  | .hbm, ⟨6, _⟩ => ⟨S2048x2184, .f32⟩
  | .hbm, ⟨7, _⟩ => ⟨S2048x2184, .f32⟩
  | .hbm, ⟨8, _⟩ => ⟨S2048x2184, .f32⟩
  | .hbm, ⟨9, _⟩ => ⟨S2048x2184, .f32⟩
  | .hbm, ⟨10, _⟩ => ⟨S2048x2184, .f32⟩
  | .local _ .vmem, ⟨0, _⟩ => ⟨S64x2184, .f32⟩
  | .local _ .vmem, ⟨1, _⟩ => ⟨S64x2184, .f32⟩
  | .local _ .vmem, ⟨2, _⟩ => ⟨S64x2184, .f32⟩
  | .local _ .vmem, ⟨3, _⟩ => ⟨S64x2184, .f32⟩
  | .local _ .vmem, ⟨4, _⟩ => ⟨S64x2184, .f32⟩
  | .local _ .vmem, ⟨5, _⟩ => ⟨S64x2184, .f32⟩
  | .local _ .vmem, ⟨6, _⟩ => ⟨S64x2184, .f32⟩
  | .local _ .vmem, ⟨7, _⟩ => ⟨S64x2184, .f32⟩
  | .local _ .vmem, ⟨8, _⟩ => ⟨S64x2184, .f32⟩
  | .local _ .vmem, ⟨9, _⟩ => ⟨S64x2184, .f32⟩
  | .local _ .vmem, ⟨10, _⟩ => ⟨S64x2184, .f32⟩
  | .local _ .vmem, ⟨11, _⟩ => ⟨S64x2184, .f32⟩
  | .local _ .vmem, ⟨12, _⟩ => ⟨S64x2184, .f32⟩
  | .local _ .vmem, ⟨13, _⟩ => ⟨S64x2184, .f32⟩
  | _, _ => ⟨S2x1024x2184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2184 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2184 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2184 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2184 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2184 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2184 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2184 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S2x1024x2184 : Shape := ⟨3, ![2, 1024, 2184]⟩
abbrev S2048x2184 : Shape := ⟨2, ![2048, 2184]⟩
abbrev S64x2184 : Shape := ⟨2, ![64, 2184]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x2184, .f32⟩
  | .hbm, ⟨1, _⟩ => ⟨S2x1024x2184, .f32⟩
  | .hbm, ⟨2, _⟩ => ⟨S2x1024x2184, .f32⟩
  | .hbm, ⟨3, _⟩ => ⟨S2x1024x2184, .f32⟩
  | .hbm, ⟨4, _⟩ => ⟨S2048x2184, .f32⟩
  | .hbm, ⟨5, _⟩ => ⟨S2048x2184, .f32⟩
  | .hbm, ⟨6, _⟩ => ⟨S2048x2184, .f32⟩
  | .hbm, ⟨7, _⟩ => ⟨S2048x2184, .f32⟩
  | .hbm, ⟨8, _⟩ => ⟨S2048x2184, .f32⟩
  | .hbm, ⟨9, _⟩ => ⟨S2048x2184, .f32⟩
  | .hbm, ⟨10, _⟩ => ⟨S2048x2184, .f32⟩
  | .local _ .vmem, ⟨0, _⟩ => ⟨S64x2184, .f32⟩
  | .local _ .vmem, ⟨1, _⟩ => ⟨S64x2184, .f32⟩
  | .local _ .vmem, ⟨2, _⟩ => ⟨S64x2184, .f32⟩
  | .local _ .vmem, ⟨3, _⟩ => ⟨S64x2184, .f32⟩
  | .local _ .vmem, ⟨4, _⟩ => ⟨S64x2184, .f32⟩
  | .local _ .vmem, ⟨5, _⟩ => ⟨S64x2184, .f32⟩
  | .local _ .vmem, ⟨6, _⟩ => ⟨S64x2184, .f32⟩
  | .local _ .vmem, ⟨7, _⟩ => ⟨S64x2184, .f32⟩
  | .local _ .vmem, ⟨8, _⟩ => ⟨S64x2184, .f32⟩
  | .local _ .vmem, ⟨9, _⟩ => ⟨S64x2184, .f32⟩
  | .local _ .vmem, ⟨10, _⟩ => ⟨S64x2184, .f32⟩
  | .local _ .vmem, ⟨11, _⟩ => ⟨S64x2184, .f32⟩
  | .local _ .vmem, ⟨12, _⟩ => ⟨S64x2184, .f32⟩
  | .local _ .vmem, ⟨13, _⟩ => ⟨S64x2184, .f32⟩
  | _, _ => ⟨S2x1024x2184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2184 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2184 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2184 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2184 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2184 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2184 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2184 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2x1024x2184 : Shape := ⟨3, ![2, 1024, 2184]⟩
abbrev S_ : Shape := ⟨0, ![]⟩
abbrev S2048x2184 : Shape := ⟨2, ![2048, 2184]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x2184, .f32⟩
  | .hbm, ⟨1, _⟩ => ⟨S2x1024x2184, .f32⟩
  | .hbm, ⟨2, _⟩ => ⟨S2x1024x2184, .f32⟩
  | .hbm, ⟨3, _⟩ => ⟨S2x1024x2184, .f32⟩
  | .hbm, ⟨4, _⟩ => ⟨S_, .f32⟩
  | .hbm, ⟨5, _⟩ => ⟨S2x1024x2184, .f32⟩
  | .hbm, ⟨6, _⟩ => ⟨S2x1024x2184, .f32⟩
  | .hbm, ⟨7, _⟩ => ⟨S_, .f32⟩
  | .hbm, ⟨8, _⟩ => ⟨S2x1024x2184, .f32⟩
  | .hbm, ⟨9, _⟩ => ⟨S2x1024x2184, .f32⟩
  | .hbm, ⟨10, _⟩ => ⟨S2x1024x2184, .f32⟩
  | .hbm, ⟨11, _⟩ => ⟨S_, .f32⟩
  | .hbm, ⟨12, _⟩ => ⟨S2x1024x2184, .f32⟩
  | .hbm, ⟨13, _⟩ => ⟨S2x1024x2184, .f32⟩
  | .hbm, ⟨14, _⟩ => ⟨S2x1024x2184, .f32⟩
  | .hbm, ⟨15, _⟩ => ⟨S_, .f32⟩
  | .hbm, ⟨16, _⟩ => ⟨S2x1024x2184, .f32⟩
  | .hbm, ⟨17, _⟩ => ⟨S2x1024x2184, .f32⟩
  | .hbm, ⟨18, _⟩ => ⟨S2x1024x2184, .f32⟩
  | .hbm, ⟨19, _⟩ => ⟨S_, .f32⟩
  | .hbm, ⟨20, _⟩ => ⟨S2x1024x2184, .f32⟩
  | .hbm, ⟨21, _⟩ => ⟨S2x1024x2184, .f32⟩
  | .hbm, ⟨22, _⟩ => ⟨S_, .f32⟩
  | .hbm, ⟨23, _⟩ => ⟨S2x1024x2184, .f32⟩
  | .hbm, ⟨24, _⟩ => ⟨S2x1024x2184, .f32⟩
  | .hbm, ⟨25, _⟩ => ⟨S2x1024x2184, .f32⟩
  | .hbm, ⟨26, _⟩ => ⟨S_, .f32⟩
  | .hbm, ⟨27, _⟩ => ⟨S2x1024x2184, .f32⟩
  | .hbm, ⟨28, _⟩ => ⟨S2x1024x2184, .f32⟩
  | .hbm, ⟨29, _⟩ => ⟨S2x1024x2184, .f32⟩
  | .hbm, ⟨30, _⟩ => ⟨S_, .f32⟩
  | .hbm, ⟨31, _⟩ => ⟨S2x1024x2184, .f32⟩
  | .hbm, ⟨32, _⟩ => ⟨S2x1024x2184, .f32⟩
  | .hbm, ⟨33, _⟩ => ⟨S2x1024x2184, .f32⟩
  | .hbm, ⟨34, _⟩ => ⟨S_, .f32⟩
  | .hbm, ⟨35, _⟩ => ⟨S2x1024x2184, .f32⟩
  | .hbm, ⟨36, _⟩ => ⟨S2x1024x2184, .f32⟩
  | .hbm, ⟨37, _⟩ => ⟨S2048x2184, .f32⟩
  | .hbm, ⟨38, _⟩ => ⟨S2048x2184, .f32⟩
  | .hbm, ⟨39, _⟩ => ⟨S2048x2184, .f32⟩
  | _, _ => ⟨S2x1024x2184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamProj.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamProjIdeal.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamProjRefIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFfnIn.lean ====
abbrev S2x1024x1408 : Shape := ⟨3, ![2, 1024, 1408]⟩
abbrev S2048x1408 : Shape := ⟨2, ![2048, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnInIdeal.lean ====
abbrev S2x1024x1408 : Shape := ⟨3, ![2, 1024, 1408]⟩
abbrev S2048x1408 : Shape := ⟨2, ![2048, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnInRefIdeal.lean ====
abbrev S2x1024x1408 : Shape := ⟨3, ![2, 1024, 1408]⟩
abbrev S_ : Shape := ⟨0, ![]⟩
abbrev S2048x1408 : Shape := ⟨2, ![2048, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2048x1408, .f32⟩
  | .hbm, ⟨38, _⟩ => ⟨S2048x1408, .f32⟩
  | .hbm, ⟨39, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFfnDown.lean ====
abbrev S2x704x1024 : Shape := ⟨3, ![2, 704, 1024]⟩
abbrev S1408x1024 : Shape := ⟨2, ![1408, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnDownIdeal.lean ====
abbrev S2x704x1024 : Shape := ⟨3, ![2, 704, 1024]⟩
abbrev S1408x1024 : Shape := ⟨2, ![1408, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnDownRefIdeal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamConvS.lean ====
abbrev S2x4x384 : Shape := ⟨3, ![2, 4, 384]⟩
abbrev S8x384 : Shape := ⟨2, ![8, 384]⟩

abbrev nBuf : Space → Nat
  | .hbm => 11
  | .vmem => 7
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S2x4x384, .f32⟩
  | .hbm, ⟨4, _⟩ => ⟨S8x384, .f32⟩
  | .hbm, ⟨5, _⟩ => ⟨S8x384, .f32⟩
  | .hbm, ⟨6, _⟩ => ⟨S8x384, .f32⟩
  | .hbm, ⟨7, _⟩ => ⟨S8x384, .f32⟩
  | .hbm, ⟨8, _⟩ => ⟨S8x384, .f32⟩
  | .hbm, ⟨9, _⟩ => ⟨S8x384, .f32⟩
  | .hbm, ⟨10, _⟩ => ⟨S8x384, .f32⟩
  | .local _ .vmem, ⟨0, _⟩ => ⟨S8x384, .f32⟩
  | .local _ .vmem, ⟨1, _⟩ => ⟨S8x384, .f32⟩
  | .local _ .vmem, ⟨2, _⟩ => ⟨S8x384, .f32⟩
  | .local _ .vmem, ⟨3, _⟩ => ⟨S8x384, .f32⟩
  | .local _ .vmem, ⟨4, _⟩ => ⟨S8x384, .f32⟩
  | .local _ .vmem, ⟨5, _⟩ => ⟨S8x384, .f32⟩
  | .local _ .vmem, ⟨6, _⟩ => ⟨S8x384, .f32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvSIdeal.lean ====
abbrev S2x4x384 : Shape := ⟨3, ![2, 4, 384]⟩
abbrev S8x384 : Shape := ⟨2, ![8, 384]⟩

abbrev nBuf : Space → Nat
  | .hbm => 11
  | .vmem => 7
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S2x4x384, .f32⟩
  | .hbm, ⟨4, _⟩ => ⟨S8x384, .f32⟩
  | .hbm, ⟨5, _⟩ => ⟨S8x384, .f32⟩
  | .hbm, ⟨6, _⟩ => ⟨S8x384, .f32⟩
  | .hbm, ⟨7, _⟩ => ⟨S8x384, .f32⟩
  | .hbm, ⟨8, _⟩ => ⟨S8x384, .f32⟩
  | .hbm, ⟨9, _⟩ => ⟨S8x384, .f32⟩
  | .hbm, ⟨10, _⟩ => ⟨S8x384, .f32⟩
  | .local _ .vmem, ⟨0, _⟩ => ⟨S8x384, .f32⟩
  | .local _ .vmem, ⟨1, _⟩ => ⟨S8x384, .f32⟩
  | .local _ .vmem, ⟨2, _⟩ => ⟨S8x384, .f32⟩
  | .local _ .vmem, ⟨3, _⟩ => ⟨S8x384, .f32⟩
  | .local _ .vmem, ⟨4, _⟩ => ⟨S8x384, .f32⟩
  | .local _ .vmem, ⟨5, _⟩ => ⟨S8x384, .f32⟩
  | .local _ .vmem, ⟨6, _⟩ => ⟨S8x384, .f32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvSRefIdeal.lean ====
abbrev S2x4x384 : Shape := ⟨3, ![2, 4, 384]⟩
abbrev S_ : Shape := ⟨0, ![]⟩
abbrev S8x384 : Shape := ⟨2, ![8, 384]⟩

abbrev nBuf : Space → Nat
  | .hbm => 40
  | .vmem => 0
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S2x4x384, .f32⟩
  | .hbm, ⟨4, _⟩ => ⟨S_, .f32⟩
  | .hbm, ⟨5, _⟩ => ⟨S2x4x384, .f32⟩
  | .hbm, ⟨6, _⟩ => ⟨S2x4x384, .f32⟩
  | .hbm, ⟨7, _⟩ => ⟨S_, .f32⟩
  | .hbm, ⟨8, _⟩ => ⟨S2x4x384, .f32⟩
  | .hbm, ⟨9, _⟩ => ⟨S2x4x384, .f32⟩
  | .hbm, ⟨10, _⟩ => ⟨S2x4x384, .f32⟩
  | .hbm, ⟨11, _⟩ => ⟨S_, .f32⟩
  | .hbm, ⟨12, _⟩ => ⟨S2x4x384, .f32⟩
  | .hbm, ⟨13, _⟩ => ⟨S2x4x384, .f32⟩
  | .hbm, ⟨14, _⟩ => ⟨S2x4x384, .f32⟩
  | .hbm, ⟨15, _⟩ => ⟨S_, .f32⟩
  | .hbm, ⟨16, _⟩ => ⟨S2x4x384, .f32⟩
  | .hbm, ⟨17, _⟩ => ⟨S2x4x384, .f32⟩
  | .hbm, ⟨18, _⟩ => ⟨S2x4x384, .f32⟩
  | .hbm, ⟨19, _⟩ => ⟨S_, .f32⟩
  | .hbm, ⟨20, _⟩ => ⟨S2x4x384, .f32⟩
  | .hbm, ⟨21, _⟩ => ⟨S2x4x384, .f32⟩
  | .hbm, ⟨22, _⟩ => ⟨S_, .f32⟩
  | .hbm, ⟨23, _⟩ => ⟨S2x4x384, .f32⟩
  | .hbm, ⟨24, _⟩ => ⟨S2x4x384, .f32⟩
  | .hbm, ⟨25, _⟩ => ⟨S2x4x384, .f32⟩
  | .hbm, ⟨26, _⟩ => ⟨S_, .f32⟩
  | .hbm, ⟨27, _⟩ => ⟨S2x4x384, .f32⟩
  | .hbm, ⟨28, _⟩ => ⟨S2x4x384, .f32⟩
  | .hbm, ⟨29, _⟩ => ⟨S2x4x384, .f32⟩
  | .hbm, ⟨30, _⟩ => ⟨S_, .f32⟩
  | .hbm, ⟨31, _⟩ => ⟨S2x4x384, .f32⟩
  | .hbm, ⟨32, _⟩ => ⟨S2x4x384, .f32⟩
  | .hbm, ⟨33, _⟩ => ⟨S2x4x384, .f32⟩
  | .hbm, ⟨34, _⟩ => ⟨S_, .f32⟩
  | .hbm, ⟨35, _⟩ => ⟨S2x4x384, .f32⟩
  | .hbm, ⟨36, _⟩ => ⟨S2x4x384, .f32⟩
  | .hbm, ⟨37, _⟩ => ⟨S8x384, .f32⟩
  | .hbm, ⟨38, _⟩ => ⟨S8x384, .f32⟩
  | .hbm, ⟨39, _⟩ => ⟨S8x384, .f32⟩
  | _, _ => ⟨S2x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamConvG.lean ====
abbrev S2x4x768 : Shape := ⟨3, ![2, 4, 768]⟩
abbrev S8x768 : Shape := ⟨2, ![8, 768]⟩

abbrev nBuf : Space → Nat
  | .hbm => 11
  | .vmem => 7
  | .smem => 0
  | _ => 0

abbrev bufTy : (tb : Table) → Fin (tcTables nBuf tb) → BufTy
  | .hbm, ⟨0, _⟩ => ⟨S2x4x768, .f32⟩
  | .hbm, ⟨1, _⟩ => ⟨S2x4x768, .f32⟩
  | .hbm, ⟨2, _⟩ => ⟨S2x4x768, .f32⟩
  | .hbm, ⟨3, _⟩ => ⟨S2x4x768, .f32⟩
  | .hbm, ⟨4, _⟩ => ⟨S8x768, .f32⟩
  | .hbm, ⟨5, _⟩ => ⟨S8x768, .f32⟩
  | .hbm, ⟨6, _⟩ => ⟨S8x768, .f32⟩
  | .hbm, ⟨7, _⟩ => ⟨S8x768, .f32⟩
  | .hbm, ⟨8, _⟩ => ⟨S8x768, .f32⟩
  | .hbm, ⟨9, _⟩ => ⟨S8x768, .f32⟩
  | .hbm, ⟨10, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | _, _ => ⟨S2x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvGRefIdeal.lean ====
abbrev S2x4x768 : Shape := ⟨3, ![2, 4, 768]⟩
abbrev S_ : Shape := ⟨0, ![]⟩
abbrev S8x768 : Shape := ⟨2, ![8, 768]⟩

abbrev nBuf : Space → Nat
  | .hbm => 40
  | .vmem => 0
  | .smem => 0
  | _ => 0

abbrev bufTy : (tb : Table) → Fin (tcTables nBuf tb) → BufTy
  | .hbm, ⟨0, _⟩ => ⟨S2x4x768, .f32⟩
  | .hbm, ⟨1, _⟩ => ⟨S2x4x768, .f32⟩
  | .hbm, ⟨2, _⟩ => ⟨S2x4x768, .f32⟩
  | .hbm, ⟨3, _⟩ => ⟨S2x4x768, .f32⟩
  | .hbm, ⟨4, _⟩ => ⟨S_, .f32⟩
  | .hbm, ⟨5, _⟩ => ⟨S2x4x768, .f32⟩
  | .hbm, ⟨6, _⟩ => ⟨S2x4x768, .f32⟩
  | .hbm, ⟨7, _⟩ => ⟨S_, .f32⟩
  | .hbm, ⟨8, _⟩ => ⟨S2x4x768, .f32⟩
  | .hbm, ⟨9, _⟩ => ⟨S2x4x768, .f32⟩
  | .hbm, ⟨10, _⟩ => ⟨S2x4x768, .f32⟩
  | .hbm, ⟨11, _⟩ => ⟨S_, .f32⟩
  | .hbm, ⟨12, _⟩ => ⟨S2x4x768, .f32⟩
  | .hbm, ⟨13, _⟩ => ⟨S2x4x768, .f32⟩
  | .hbm, ⟨14, _⟩ => ⟨S2x4x768, .f32⟩
  | .hbm, ⟨15, _⟩ => ⟨S_, .f32⟩
  | .hbm, ⟨16, _⟩ => ⟨S2x4x768, .f32⟩
  | .hbm, ⟨17, _⟩ => ⟨S2x4x768, .f32⟩
  | .hbm, ⟨18, _⟩ => ⟨S2x4x768, .f32⟩
  | .hbm, ⟨19, _⟩ => ⟨S_, .f32⟩
  | .hbm, ⟨20, _⟩ => ⟨S2x4x768, .f32⟩
  | .hbm, ⟨21, _⟩ => ⟨S2x4x768, .f32⟩
  | .hbm, ⟨22, _⟩ => ⟨S_, .f32⟩
  | .hbm, ⟨23, _⟩ => ⟨S2x4x768, .f32⟩
  | .hbm, ⟨24, _⟩ => ⟨S2x4x768, .f32⟩
  | .hbm, ⟨25, _⟩ => ⟨S2x4x768, .f32⟩
  | .hbm, ⟨26, _⟩ => ⟨S_, .f32⟩
  | .hbm, ⟨27, _⟩ => ⟨S2x4x768, .f32⟩
  | .hbm, ⟨28, _⟩ => ⟨S2x4x768, .f32⟩
  | .hbm, ⟨29, _⟩ => ⟨S2x4x768, .f32⟩
  | .hbm, ⟨30, _⟩ => ⟨S_, .f32⟩
  | .hbm, ⟨31, _⟩ => ⟨S2x4x768, .f32⟩
  | .hbm, ⟨32, _⟩ => ⟨S2x4x768, .f32⟩
  | .hbm, ⟨33, _⟩ => ⟨S2x4x768, .f32⟩
  | .hbm, ⟨34, _⟩ => ⟨S_, .f32⟩
  | .hbm, ⟨35, _⟩ => ⟨S2x4x768, .f32⟩
  | .hbm, ⟨36, _⟩ => ⟨S2x4x768, .f32⟩
  | .hbm, ⟨37, _⟩ => ⟨S8x768, .f32⟩
  | .hbm, ⟨38, _⟩ => ⟨S8x768, .f32⟩
  | .hbm, ⟨39, _⟩ => ⟨S8x768, .f32⟩
  | _, _ => ⟨S2x4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== SwigluBwd.lean ====
abbrev S4096x5632 : Shape := ⟨2, ![4096, 5632]⟩
abbrev S4096x2816 : Shape := ⟨2, ![4096, 2816]⟩
abbrev S1024x256 : Shape := ⟨2, ![1024, 256]⟩

abbrev nBuf : Space → Nat
  | .hbm => 4
  | .vmem => 10
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .bf16⟩
  | .hbm, ⟨3, _⟩ => ⟨S4096x2816, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluBwdRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x5632, .f32⟩
  | .hbm, ⟨25, _⟩ => ⟨S4096x5632, .bf16⟩
  | .hbm, ⟨26, _⟩ => ⟨S4096x2816, .bf16⟩
  | .hbm, ⟨27, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== Swiglu.lean ====
abbrev S4096x5632 : Shape := ⟨2, ![4096, 5632]⟩
abbrev S4096x2816 : Shape := ⟨2, ![4096, 2816]⟩
abbrev S1024x256 : Shape := ⟨2, ![1024, 256]⟩

abbrev nBuf : Space → Nat
  | .hbm => 2
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S4096x2816, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S1024x256, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwigluRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S_, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== MergeFwd.lean ====
abbrev S4096x9216 : Shape := ⟨2, ![4096, 9216]⟩
abbrev S4096x1024 : Shape := ⟨2, ![4096, 1024]⟩
abbrev S512x512 : Shape := ⟨2, ![512, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x9216, .f32⟩
  | .hbm, ⟨1, _⟩ => ⟨S4096x1024, .f32⟩
  | .hbm, ⟨2, _⟩ => ⟨S4096x1024, .f32⟩
  | .hbm, ⟨3, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeFwdRefIdeal.lean ====
abbrev S4096x9216 : Shape := ⟨2, ![4096, 9216]⟩
abbrev S4096x1024 : Shape := ⟨2, ![4096, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x9216, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== NormBwd.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v39 : BitVec 1 := Scalar.cmpi .eq arg1 c0_i32
  let arg0 : BitVec 32 := BitVec.ofNat 32 (i 0).val
  let c0_i32_16 : BitVec 32 := 0#32
  let v40 : BitVec 1 := Scalar.cmpi .eq arg0 c0_i32_16
  let v41 : BitVec 1 := Scalar.andi v39 v40
  let v42 : BitVec 32 := Scalar.extui v41
  let c0_i32_17 : BitVec 32 := 0#32
  let v43 : BitVec 1 := Scalar.cmpi .ne v42 c0_i32_17
  v43

def k0_cond2 (i : grid0.Coords) : BitVec 1 :=
  let arg1 : BitVec 32 := BitVec.ofNat 32 (i 1).val
  let c0_i32 : BitVec 32 := 0#32
  let v39 : BitVec 1 := Scalar.cmpi .eq arg1 c0_i32
  let arg0 : BitVec 32 := BitVec.ofNat 32 (i 0).val
  let c0_i32_16 : BitVec 32 := 0#32
  let v40 : BitVec 1 := Scalar.cmpi .eq arg0 c0_i32_16
  let v41 : BitVec 1 := Scalar.andi v39 v40
  let v_true : BitVec 1 := 1#1
  let v44 : BitVec 1 := Scalar.xori v41 v_true
  let v45 : BitVec 32 := Scalar.extui v44
  let c0_i32_18 : BitVec 32 := 0#32
  let v46 : BitVec 1 := Scalar.cmpi .ne v45 c0_i32_18
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== NormBwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Loss.lean ====
abbrev S4096x1024 : Shape := ⟨2, ![4096, 1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x128, .f32⟩
  | .hbm, ⟨4, _⟩ => ⟨S4096x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x128, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v69 : BitVec 1 := Scalar.cmpi .eq arg0 c0_i32
  let v70 : BitVec 32 := Scalar.extui v69
  let c0_i32_23 : BitVec 32 := 0#32
  let v71 : BitVec 1 := Scalar.cmpi .ne v70 c0_i32_23
  v71

def k0_cond2 (i : grid0.Coords) : BitVec 1 :=
  let arg0 : BitVec 32 := BitVec.ofNat 32 (i 0).val
  let c0_i32_24 : BitVec 32 := 0#32
  let v72 : BitVec 1 := Scalar.cmpi .ne arg0 c0_i32_24
  let v73 : BitVec 32 := Scalar.extui v72
  let c0_i32_25 : BitVec 32 := 0#32
  let v74 : BitVec 1 := Scalar.cmpi .ne v73 c0_i32_25
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== SsdPostBwd.lean ====
abbrev S4096x1024 : Shape := ⟨2, ![4096, 1024]⟩
abbrev S4096x9216 : Shape := ⟨2, ![4096, 9216]⟩
abbrev S1x1024 : Shape := ⟨2, ![1, 1024]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x9216, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v52 : BitVec 1 := Scalar.cmpi .eq arg1 c0_i32
  let v53 : BitVec 32 := Scalar.extui v52
  let c0_i32_19 : BitVec 32 := 0#32
  let v54 : BitVec 1 := Scalar.cmpi .ne v53 c0_i32_19
  v54

def k0_cond2 (i : grid0.Coords) : BitVec 1 :=
  let arg1 : BitVec 32 := BitVec.ofNat 32 (i 1).val
  let c0_i32 : BitVec 32 := 0#32
  let v52 : BitVec 1 := Scalar.cmpi .eq arg1 c0_i32
  let v_true : BitVec 1 := 1#1
  let v55 : BitVec 1 := Scalar.xori v52 v_true
  let v56 : BitVec 32 := Scalar.extui v55
  let c0_i32_20 : BitVec 32 := 0#32
  let v57 : BitVec 1 := Scalar.cmpi .ne v56 c0_i32_20
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== SsdPostBwdRefIdeal.lean ====
abbrev S4096x1024 : Shape := ⟨2, ![4096, 1024]⟩
abbrev S4096x9216 : Shape := ⟨2, ![4096, 9216]⟩
abbrev S1x1024 : Shape := ⟨2, ![1, 1024]⟩
abbrev S_ : Shape := ⟨0, ![]⟩
abbrev S4096x2x512 : Shape := ⟨3, ![4096, 2, 512]⟩
abbrev S4096x2 : Shape := ⟨2, ![4096, 2]⟩
abbrev S4096x2x1 : Shape := ⟨3, ![4096, 2, 1]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x9216, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2x512, .f32⟩
  | .hbm, ⟨20, _⟩ => ⟨S4096x2x512, .f32⟩
  | .hbm, ⟨21, _⟩ => ⟨S_, .f32⟩
  | .hbm, ⟨22, _⟩ => ⟨S4096x2, .f32⟩
  | .hbm, ⟨23, _⟩ => ⟨S4096x2x1, .f32⟩
  | .hbm, ⟨24, _⟩ => ⟨S_, .f32⟩
  | .hbm, ⟨25, _⟩ => ⟨S4096x2x1, .f32⟩
  | .hbm, ⟨26, _⟩ => ⟨S4096x2x1, .f32⟩
  | .hbm, ⟨27, _⟩ => ⟨S_, .f32⟩
  | .hbm, ⟨28, _⟩ => ⟨S4096x2x1, .f32⟩
  | .hbm, ⟨29, _⟩ => ⟨S4096x2x1, .f32⟩
  | .hbm, ⟨30, _⟩ => ⟨S4096x2x1, .f32⟩
  | .hbm, ⟨31, _⟩ => ⟨S4096x2x1, .f32⟩
  | .hbm, ⟨32, _⟩ => ⟨S_, .f32⟩
  | .hbm, ⟨33, _⟩ => ⟨S4096x2x1, .f32⟩
  | .hbm, ⟨34, _⟩ => ⟨S4096x2x1, .f32⟩
  | .hbm, ⟨35, _⟩ => ⟨S4096x2x512, .f32⟩
  | .hbm, ⟨36, _⟩ => ⟨S4096x2x512, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x2x512, .f32⟩
  | .hbm, ⟨47, _⟩ => ⟨S4096x2x512, .f32⟩
  | .hbm, ⟨48, _⟩ => ⟨S_, .f32⟩
  | .hbm, ⟨49, _⟩ => ⟨S4096x2, .f32⟩
  | .hbm, ⟨50, _⟩ => ⟨S4096x2x1, .f32⟩
  | .hbm, ⟨51, _⟩ => ⟨S4096x2x512, .f32⟩
  | .hbm, ⟨52, _⟩ => ⟨S4096x2x512, .f32⟩
  | .hbm, ⟨53, _⟩ => ⟨S4096x2x1, .f32⟩
  | .hbm, ⟨54, _⟩ => ⟨S_, .f32⟩
  | .hbm, ⟨55, _⟩ => ⟨S4096x2x1, .f32⟩
  | .hbm, ⟨56, _⟩ => ⟨S4096x2x1, .f32⟩
  | .hbm, ⟨57, _⟩ => ⟨S_, .f32⟩
  | .hbm, ⟨58, _⟩ => ⟨S4096x2, .f32⟩
  | .hbm, ⟨59, _⟩ => ⟨S4096x2x512, .f32⟩
  | .hbm, ⟨60, _⟩ => ⟨S4096x2x512, .f32⟩
  | .hbm, ⟨61, _⟩ => ⟨S4096x2x512, .f32⟩
  | .hbm, ⟨62, _⟩ => ⟨S4096x2x512, .f32⟩
  | .hbm, ⟨63, _⟩ => ⟨S4096x2x512, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v43 : Ref sig .tc := ⟨.hbm, 70, rfl⟩
abbrev main_v44 : Ref sig .tc := ⟨.hbm, 71, rfl⟩

abbrev nD : Nat := 1
abbrev τ : Topo := Topo.v7x

variable {F : FTy → Type} [FloatOps F]
-- ==== GdnPostBwd.lean ====
abbrev S4096x1024 : Shape := ⟨2, ![4096, 1024]⟩
abbrev S4096x9216 : Shape := ⟨2, ![4096, 9216]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x9216, .f32⟩
  | .hbm, ⟨2, _⟩ => ⟨S1x128, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .bf16⟩
  | .local _ .vmem, ⟨10, _⟩ => ⟨S2048x128, .bf16⟩
  | .local _ .vmem, ⟨11, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v53 : BitVec 1 := Scalar.cmpi .eq arg1 c0_i32
  let arg0 : BitVec 32 := BitVec.ofNat 32 (i 0).val
  let c0_i32_19 : BitVec 32 := 0#32
  let v54 : BitVec 1 := Scalar.cmpi .eq arg0 c0_i32_19
  let v55 : BitVec 1 := Scalar.andi v53 v54
  let v56 : BitVec 32 := Scalar.extui v55
  let c0_i32_20 : BitVec 32 := 0#32
  let v57 : BitVec 1 := Scalar.cmpi .ne v56 c0_i32_20
  v57

def k0_cond2 (i : grid0.Coords) : BitVec 1 :=
  let arg1 : BitVec 32 := BitVec.ofNat 32 (i 1).val
  let c0_i32 : BitVec 32 := 0#32
  let v53 : BitVec 1 := Scalar.cmpi .eq arg1 c0_i32
  let arg0 : BitVec 32 := BitVec.ofNat 32 (i 0).val
  let c0_i32_19 : BitVec 32 := 0#32
  let v54 : BitVec 1 := Scalar.cmpi .eq arg0 c0_i32_19
  let v55 : BitVec 1 := Scalar.andi v53 v54
  let v_true : BitVec 1 := 1#1
  let v58 : BitVec 1 := Scalar.xori v55 v_true
  let v59 : BitVec 32 := Scalar.extui v58
  let c0_i32_21 : BitVec 32 := 0#32
  let v60 : BitVec 1 := Scalar.cmpi .ne v59 c0_i32_21
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== GdnPostBwdRefIdeal.lean ====
abbrev S4096x1024 : Shape := ⟨2, ![4096, 1024]⟩
abbrev S4096x9216 : Shape := ⟨2, ![4096, 9216]⟩
abbrev S1x128 : Shape := ⟨2, ![1, 128]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S128 : Shape := ⟨1, ![128]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x9216, .f32⟩
  | .hbm, ⟨2, _⟩ => ⟨S1x128, .f32⟩
  | .hbm, ⟨3, _⟩ => ⟨S4096x1024, .f32⟩
  | .hbm, ⟨4, _⟩ => ⟨S4096x1024, .f32⟩
  | .hbm, ⟨5, _⟩ => ⟨S4096x8x128, .f32⟩
  | .hbm, ⟨6, _⟩ => ⟨S4096x8x128, .f32⟩
  | .hbm, ⟨7, _⟩ => ⟨S_, .f32⟩
  | .hbm, ⟨8, _⟩ => ⟨S4096x8, .f32⟩
  | .hbm, ⟨9, _⟩ => ⟨S4096x8x1, .f32⟩
  | .hbm, ⟨10, _⟩ => ⟨S_, .f32⟩
  | .hbm, ⟨11, _⟩ => ⟨S4096x8x1, .f32⟩
  | .hbm, ⟨12, _⟩ => ⟨S4096x8x1, .f32⟩
  | .hbm, ⟨13, _⟩ => ⟨S_, .f32⟩
  | .hbm, ⟨14, _⟩ => ⟨S4096x8x1, .f32⟩
  | .hbm, ⟨15, _⟩ => ⟨S4096x8x1, .f32⟩
  | .hbm, ⟨16, _⟩ => ⟨S4096x8x1, .f32⟩
  | .hbm, ⟨17, _⟩ => ⟨S4096x8x1, .f32⟩
  | .hbm, ⟨18, _⟩ => ⟨S_, .f32⟩
  | .hbm, ⟨19, _⟩ => ⟨S4096x8x1, .f32⟩
  | .hbm, ⟨20, _⟩ => ⟨S4096x8x1, .f32⟩
  | .hbm, ⟨21, _⟩ => ⟨S4096x8x128, .f32⟩
  | .hbm, ⟨22, _⟩ => ⟨S4096x8x128, .f32⟩
  | .hbm, ⟨23, _⟩ => ⟨S1x1x128, .f32⟩
  | .hbm, ⟨24, _⟩ => ⟨S4096x8x128, .f32⟩
  | .hbm, ⟨25, _⟩ => ⟨S4096x8x128, .f32⟩
  | .hbm, ⟨26, _⟩ => ⟨S4096x8x128, .f32⟩
  | .hbm, ⟨27, _⟩ => ⟨S4096x8x128, .f32⟩
  | .hbm, ⟨28, _⟩ => ⟨S4096x8x128, .f32⟩
  | .hbm, ⟨29, _⟩ => ⟨S_, .f32⟩
  | .hbm, ⟨30, _⟩ => ⟨S4096x8x128, .f32⟩
  | .hbm, ⟨31, _⟩ => ⟨S4096x8x128, .f32⟩
  | .hbm, ⟨32, _⟩ => ⟨S_, .f32⟩
  | .hbm, ⟨33, _⟩ => ⟨S4096x8x128, .f32⟩
  | .hbm, ⟨34, _⟩ => ⟨S4096x8x128, .f32⟩
  | .hbm, ⟨35, _⟩ => ⟨S_, .f32⟩
  | .hbm, ⟨36, _⟩ => ⟨S4096x8x128, .f32⟩
  | .hbm, ⟨37, _⟩ => ⟨S4096x8x128, .f32⟩
  | .hbm, ⟨38, _⟩ => ⟨S4096x8x128, .f32⟩
  | .hbm, ⟨39, _⟩ => ⟨S4096x8x128, .f32⟩
  | .hbm, ⟨40, _⟩ => ⟨S4096x8x128, .f32⟩
  | .hbm, ⟨41, _⟩ => ⟨S4096x1024, .f32⟩
  | .hbm, ⟨42, _⟩ => ⟨S4096x8x128, .f32⟩
  | .hbm, ⟨43, _⟩ => ⟨S4096x8x128, .f32⟩
  | .hbm, ⟨44, _⟩ => ⟨S4096x8x128, .f32⟩
  | .hbm, ⟨45, _⟩ => ⟨S4096x8x128, .f32⟩
  | .hbm, ⟨46, _⟩ => ⟨S4096x8x128, .f32⟩
  | .hbm, ⟨47, _⟩ => ⟨S4096x8x128, .f32⟩
  | .hbm, ⟨48, _⟩ => ⟨S4096x8x128, .f32⟩
  | .hbm, ⟨49, _⟩ => ⟨S4096x1024, .f32⟩
  | .hbm, ⟨50, _⟩ => ⟨S4096x8x128, .f32⟩
  | .hbm, ⟨51, _⟩ => ⟨S_, .f32⟩
  | .hbm, ⟨52, _⟩ => ⟨S128, .f32⟩
  | .hbm, ⟨53, _⟩ => ⟨S1x1x128, .f32⟩
  | .hbm, ⟨54, _⟩ => ⟨S4096x8x128, .f32⟩
  | .hbm, ⟨55, _⟩ => ⟨S4096x8x128, .f32⟩
  | .hbm, ⟨56, _⟩ => ⟨S_, .f32⟩
  | .hbm, ⟨57, _⟩ => ⟨S128, .f32⟩
  | .hbm, ⟨58, _⟩ => ⟨S1x128, .f32⟩
  | .hbm, ⟨59, _⟩ => ⟨S4096x8x128, .f32⟩
  | .hbm, ⟨60, _⟩ => ⟨S_, .f32⟩
  | .hbm, ⟨61, _⟩ => ⟨S4096x8, .f32⟩
  | .hbm, ⟨62, _⟩ => ⟨S4096x8x1, .f32⟩
  | .hbm, ⟨63, _⟩ => ⟨S4096x8x128, .f32⟩
  | .hbm, ⟨64, _⟩ => ⟨S4096x8x128, .f32⟩
  | .hbm, ⟨65, _⟩ => ⟨S4096x8x1, .f32⟩
  | .hbm, ⟨66, _⟩ => ⟨S_, .f32⟩
  | .hbm, ⟨67, _⟩ => ⟨S4096x8x1, .f32⟩
  | .hbm, ⟨68, _⟩ => ⟨S4096x8x1, .f32⟩
  | .hbm, ⟨69, _⟩ => ⟨S_, .f32⟩
  | .hbm, ⟨70, _⟩ => ⟨S4096x8, .f32⟩
  | .hbm, ⟨71, _⟩ => ⟨S4096x8x128, .f32⟩
  | .hbm, ⟨72, _⟩ => ⟨S4096x8x128, .f32⟩
  | .hbm, ⟨73, _⟩ => ⟨S4096x8x128, .f32⟩
  | .hbm, ⟨74, _⟩ => ⟨S4096x8x128, .f32⟩
  | .hbm, ⟨75, _⟩ => ⟨S4096x8x128, .f32⟩
  | .hbm, ⟨76, _⟩ => ⟨S4096x1024, .f32⟩
  | .hbm, ⟨77, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== SsdPost.lean ====
abbrev S4096x1024 : Shape := ⟨2, ![4096, 1024]⟩
abbrev S4096x9216 : Shape := ⟨2, ![4096, 9216]⟩
abbrev S1x1024 : Shape := ⟨2, ![1, 1024]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x9216, .f32⟩
  | .hbm, ⟨2, _⟩ => ⟨S1x1024, .f32⟩
  | .hbm, ⟨3, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsdPostRefIdeal.lean ====
abbrev S4096x1024 : Shape := ⟨2, ![4096, 1024]⟩
abbrev S4096x9216 : Shape := ⟨2, ![4096, 9216]⟩
abbrev S1x1024 : Shape := ⟨2, ![1, 1024]⟩
abbrev S_ : Shape := ⟨0, ![]⟩
abbrev S4096x2x512 : Shape := ⟨3, ![4096, 2, 512]⟩
abbrev S4096x2 : Shape := ⟨2, ![4096, 2]⟩
abbrev S4096x2x1 : Shape := ⟨3, ![4096, 2, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x9216, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x2x512, .f32⟩
  | .hbm, ⟨15, _⟩ => ⟨S4096x2x512, .f32⟩
  | .hbm, ⟨16, _⟩ => ⟨S_, .f32⟩
  | .hbm, ⟨17, _⟩ => ⟨S4096x2, .f32⟩
  | .hbm, ⟨18, _⟩ => ⟨S4096x2x1, .f32⟩
  | .hbm, ⟨19, _⟩ => ⟨S_, .f32⟩
  | .hbm, ⟨20, _⟩ => ⟨S4096x2x1, .f32⟩
  | .hbm, ⟨21, _⟩ => ⟨S4096x2x1, .f32⟩
  | .hbm, ⟨22, _⟩ => ⟨S_, .f32⟩
  | .hbm, ⟨23, _⟩ => ⟨S4096x2x1, .f32⟩
  | .hbm, ⟨24, _⟩ => ⟨S4096x2x1, .f32⟩
  | .hbm, ⟨25, _⟩ => ⟨S4096x2x1, .f32⟩
  | .hbm, ⟨26, _⟩ => ⟨S4096x2x512, .f32⟩
  | .hbm, ⟨27, _⟩ => ⟨S4096x2x512, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== GdnPost.lean ====
abbrev S4096x1024 : Shape := ⟨2, ![4096, 1024]⟩
abbrev S4096x9216 : Shape := ⟨2, ![4096, 9216]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x9216, .f32⟩
  | .hbm, ⟨2, _⟩ => ⟨S1x128, .f32⟩
  | .hbm, ⟨3, _⟩ => ⟨S4096x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S2048x128, .bf16⟩
  | .local _ .vmem, ⟨6, _⟩ => ⟨S2048x128, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GdnPostRefIdeal.lean ====
abbrev S4096x1024 : Shape := ⟨2, ![4096, 1024]⟩
abbrev S4096x9216 : Shape := ⟨2, ![4096, 9216]⟩
abbrev S1x128 : Shape := ⟨2, ![1, 128]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x9216, .f32⟩
  | .hbm, ⟨2, _⟩ => ⟨S1x128, .f32⟩
  | .hbm, ⟨3, _⟩ => ⟨S4096x1024, .f32⟩
  | .hbm, ⟨4, _⟩ => ⟨S4096x8x128, .f32⟩
  | .hbm, ⟨5, _⟩ => ⟨S4096x8x128, .f32⟩
  | .hbm, ⟨6, _⟩ => ⟨S_, .f32⟩
  | .hbm, ⟨7, _⟩ => ⟨S4096x8, .f32⟩
  | .hbm, ⟨8, _⟩ => ⟨S4096x8x1, .f32⟩
  | .hbm, ⟨9, _⟩ => ⟨S_, .f32⟩
  | .hbm, ⟨10, _⟩ => ⟨S4096x8x1, .f32⟩
  | .hbm, ⟨11, _⟩ => ⟨S4096x8x1, .f32⟩
  | .hbm, ⟨12, _⟩ => ⟨S_, .f32⟩
  | .hbm, ⟨13, _⟩ => ⟨S4096x8x1, .f32⟩
  | .hbm, ⟨14, _⟩ => ⟨S4096x8x1, .f32⟩
  | .hbm, ⟨15, _⟩ => ⟨S4096x8x1, .f32⟩
  | .hbm, ⟨16, _⟩ => ⟨S4096x8x128, .f32⟩
  | .hbm, ⟨17, _⟩ => ⟨S4096x8x128, .f32⟩
  | .hbm, ⟨18, _⟩ => ⟨S1x1x128, .f32⟩
  | .hbm, ⟨19, _⟩ => ⟨S4096x8x128, .f32⟩
  | .hbm, ⟨20, _⟩ => ⟨S4096x8x128, .f32⟩
  | .hbm, ⟨21, _⟩ => ⟨S4096x8x128, .f32⟩
  | .hbm, ⟨22, _⟩ => ⟨S4096x8x128, .f32⟩
  | .hbm, ⟨23, _⟩ => ⟨S4096x8x128, .f32⟩
  | .hbm, ⟨24, _⟩ => ⟨S_, .f32⟩
  | .hbm, ⟨25, _⟩ => ⟨S4096x8x128, .f32⟩
  | .hbm, ⟨26, _⟩ => ⟨S4096x8x128, .f32⟩
  | .hbm, ⟨27, _⟩ => ⟨S_, .f32⟩
  | .hbm, ⟨28, _⟩ => ⟨S4096x8x128, .f32⟩
  | .hbm, ⟨29, _⟩ => ⟨S4096x8x128, .f32⟩
  | .hbm, ⟨30, _⟩ => ⟨S4096x8x128, .f32⟩
  | .hbm, ⟨31, _⟩ => ⟨S4096x8x128, .f32⟩
  | .hbm, ⟨32, _⟩ => ⟨S4096x1024, .f32⟩
  | .hbm, ⟨33, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== AdamSmall.lean ====
abbrev S2x1024 : Shape := ⟨2, ![2, 1024]⟩
abbrev S2x1536 : Shape := ⟨2, ![2, 1536]⟩
abbrev S2x16 : Shape := ⟨2, ![2, 16]⟩
abbrev S2x8 : Shape := ⟨2, ![2, 8]⟩
abbrev S2x128 : Shape := ⟨2, ![2, 128]⟩
abbrev S1024 : Shape := ⟨1, ![1024]⟩
abbrev S2048 : Shape := ⟨1, ![2048]⟩
abbrev S3072 : Shape := ⟨1, ![3072]⟩
abbrev S32 : Shape := ⟨1, ![32]⟩
abbrev S16 : Shape := ⟨1, ![16]⟩
abbrev S256 : Shape := ⟨1, ![256]⟩
abbrev S10624 : Shape := ⟨1, ![10624]⟩
abbrev S_ : Shape := ⟨0, ![]⟩
abbrev S11264 : Shape := ⟨1, ![11264]⟩
abbrev S88x128 : Shape := ⟨2, ![88, 128]⟩
abbrev S8x128 : Shape := ⟨2, ![8, 128]⟩

abbrev nBuf : Space → Nat
  | .hbm => 107
  | .vmem => 14
  | .smem => 0
  | _ => 0

abbrev bufTy : (tb : Table) → Fin (tcTables nBuf tb) → BufTy
  | .hbm, ⟨0, _⟩ => ⟨S2x1024, .f32⟩
  | .hbm, ⟨1, _⟩ => ⟨S2x1536, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x1024, .f32⟩
  | .hbm, ⟨6, _⟩ => ⟨S2x8, .f32⟩
  | .hbm, ⟨7, _⟩ => ⟨S2x8, .f32⟩
  | .hbm, ⟨8, _⟩ => ⟨S2x128, .f32⟩
  | .hbm, ⟨9, _⟩ => ⟨S2x1024, .f32⟩
  | .hbm, ⟨10, _⟩ => ⟨S1024, .f32⟩
  | .hbm, ⟨11, _⟩ => ⟨S2x1024, .f32⟩
  | .hbm, ⟨12, _⟩ => ⟨S2x1536, .f32⟩
  | .hbm, ⟨13, _⟩ => ⟨S2x16, .f32⟩
  | .hbm, ⟨14, _⟩ => ⟨S2x16, .f32⟩
  | .hbm, ⟨15, _⟩ => ⟨S2x16, .f32⟩
  | .hbm, ⟨16, _⟩ => ⟨S2x1024, .f32⟩
  | .hbm, ⟨17, _⟩ => ⟨S2x8, .f32⟩
  | .hbm, ⟨18, _⟩ => ⟨S2x8, .f32⟩
  | .hbm, ⟨19, _⟩ => ⟨S2x128, .f32⟩
  | .hbm, ⟨20, _⟩ => ⟨S2x1024, .f32⟩
  | .hbm, ⟨21, _⟩ => ⟨S1024, .f32⟩
  | .hbm, ⟨22, _⟩ => ⟨S2x1024, .f32⟩
  | .hbm, ⟨23, _⟩ => ⟨S2x1536, .f32⟩
  | .hbm, ⟨24, _⟩ => ⟨S2x16, .f32⟩
  | .hbm, ⟨25, _⟩ => ⟨S2x16, .f32⟩
  | .hbm, ⟨26, _⟩ => ⟨S2x16, .f32⟩
  | .hbm, ⟨27, _⟩ => ⟨S2x1024, .f32⟩
  | .hbm, ⟨28, _⟩ => ⟨S2x8, .f32⟩
  | .hbm, ⟨29, _⟩ => ⟨S2x8, .f32⟩
  | .hbm, ⟨30, _⟩ => ⟨S2x128, .f32⟩
  | .hbm, ⟨31, _⟩ => ⟨S2x1024, .f32⟩
  | .hbm, ⟨32, _⟩ => ⟨S1024, .f32⟩
  | .hbm, ⟨33, _⟩ => ⟨S2x1024, .f32⟩
  | .hbm, ⟨34, _⟩ => ⟨S2x1536, .f32⟩
  | .hbm, ⟨35, _⟩ => ⟨S2x16, .f32⟩
  | .hbm, ⟨36, _⟩ => ⟨S2x16, .f32⟩
  | .hbm, ⟨37, _⟩ => ⟨S2x16, .f32⟩
  | .hbm, ⟨38, _⟩ => ⟨S2x1024, .f32⟩
  | .hbm, ⟨39, _⟩ => ⟨S2x8, .f32⟩
  | .hbm, ⟨40, _⟩ => ⟨S2x8, .f32⟩
  | .hbm, ⟨41, _⟩ => ⟨S2x128, .f32⟩
  | .hbm, ⟨42, _⟩ => ⟨S2x1024, .f32⟩
  | .hbm, ⟨43, _⟩ => ⟨S1024, .f32⟩
  | .hbm, ⟨44, _⟩ => ⟨S2048, .f32⟩
  | .hbm, ⟨45, _⟩ => ⟨S3072, .f32⟩
  | .hbm, ⟨46, _⟩ => ⟨S32, .f32⟩
  | .hbm, ⟨47, _⟩ => ⟨S32, .f32⟩
  | .hbm, ⟨48, _⟩ => ⟨S32, .f32⟩
  | .hbm, ⟨49, _⟩ => ⟨S2048, .f32⟩
  | .hbm, ⟨50, _⟩ => ⟨S16, .f32⟩
  | .hbm, ⟨51, _⟩ => ⟨S16, .f32⟩
  | .hbm, ⟨52, _⟩ => ⟨S256, .f32⟩
  | .hbm, ⟨53, _⟩ => ⟨S2048, .f32⟩
  | .hbm, ⟨54, _⟩ => ⟨S10624, .f32⟩
  | .hbm, ⟨55, _⟩ => ⟨S_, .i32⟩
  | .hbm, ⟨56, _⟩ => ⟨S_, .f32⟩
  | .hbm, ⟨57, _⟩ => ⟨S11264, .f32⟩
  | .hbm, ⟨58, _⟩ => ⟨S88x128, .f32⟩
  | .hbm, ⟨59, _⟩ => ⟨S2048, .f32⟩
  | .hbm, ⟨60, _⟩ => ⟨S3072, .f32⟩
  | .hbm, ⟨61, _⟩ => ⟨S32, .f32⟩
  | .hbm, ⟨62, _⟩ => ⟨S32, .f32⟩
  | .hbm, ⟨63, _⟩ => ⟨S32, .f32⟩
  | .hbm, ⟨64, _⟩ => ⟨S2048, .f32⟩
  | .hbm, ⟨65, _⟩ => ⟨S16, .f32⟩
  | .hbm, ⟨66, _⟩ => ⟨S16, .f32⟩
  | .hbm, ⟨67, _⟩ => ⟨S256, .f32⟩
  | .hbm, ⟨68, _⟩ => ⟨S2048, .f32⟩
  | .hbm, ⟨69, _⟩ => ⟨S10624, .f32⟩
  | .hbm, ⟨70, _⟩ => ⟨S_, .i32⟩
  | .hbm, ⟨71, _⟩ => ⟨S_, .f32⟩
  | .hbm, ⟨72, _⟩ => ⟨S11264, .f32⟩
  | .hbm, ⟨73, _⟩ => ⟨S88x128, .f32⟩
  | .hbm, ⟨74, _⟩ => ⟨S2048, .f32⟩
  | .hbm, ⟨75, _⟩ => ⟨S3072, .f32⟩
  | .hbm, ⟨76, _⟩ => ⟨S32, .f32⟩
  | .hbm, ⟨77, _⟩ => ⟨S32, .f32⟩
  | .hbm, ⟨78, _⟩ => ⟨S32, .f32⟩
  | .hbm, ⟨79, _⟩ => ⟨S2048, .f32⟩
  | .hbm, ⟨80, _⟩ => ⟨S16, .f32⟩
  | .hbm, ⟨81, _⟩ => ⟨S16, .f32⟩
  | .hbm, ⟨82, _⟩ => ⟨S256, .f32⟩
  | .hbm, ⟨83, _⟩ => ⟨S2048, .f32⟩
  | .hbm, ⟨84, _⟩ => ⟨S10624, .f32⟩
  | .hbm, ⟨85, _⟩ => ⟨S_, .i32⟩
  | .hbm, ⟨86, _⟩ => ⟨S_, .f32⟩
  | .hbm, ⟨87, _⟩ => ⟨S11264, .f32⟩
  | .hbm, ⟨88, _⟩ => ⟨S88x128, .f32⟩
  | .hbm, ⟨89, _⟩ => ⟨S2048, .f32⟩
  | .hbm, ⟨90, _⟩ => ⟨S3072, .f32⟩
  | .hbm, ⟨91, _⟩ => ⟨S32, .f32⟩
  | .hbm, ⟨92, _⟩ => ⟨S32, .f32⟩
  | .hbm, ⟨93, _⟩ => ⟨S32, .f32⟩
  | .hbm, ⟨94, _⟩ => ⟨S2048, .f32⟩
  | .hbm, ⟨95, _⟩ => ⟨S16, .f32⟩
  | .hbm, ⟨96, _⟩ => ⟨S16, .f32⟩
  | .hbm, ⟨97, _⟩ => ⟨S256, .f32⟩
  | .hbm, ⟨98, _⟩ => ⟨S2048, .f32⟩
  | .hbm, ⟨99, _⟩ => ⟨S10624, .f32⟩
  | .hbm, ⟨100, _⟩ => ⟨S_, .i32⟩
  | .hbm, ⟨101, _⟩ => ⟨S_, .f32⟩
  | .hbm, ⟨102, _⟩ => ⟨S11264, .f32⟩
  | .hbm, ⟨103, _⟩ => ⟨S88x128, .f32⟩
  | .hbm, ⟨104, _⟩ => ⟨S88x128, .f32⟩
  | .hbm, ⟨105, _⟩ => ⟨S88x128, .f32⟩
  | .hbm, ⟨106, _⟩ => ⟨S88x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0 : Ref sig .tc := ⟨.hbm, 44, rfl⟩
abbrev main_v1 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_c : Ref sig .tc := ⟨.hbm, 55, rfl⟩
abbrev main_call0_v0 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_c_0 : Ref sig .tc := ⟨.hbm, 70, rfl⟩
abbrev main_call1_v0 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_c_1 : Ref sig .tc := ⟨.hbm, 85, rfl⟩
abbrev main_call2_v0 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_c_2 : Ref sig .tc := ⟨.hbm, 100, rfl⟩
abbrev main_call3_v0 : Ref sig .tc := ⟨.hbm, 101, rfl⟩
abbrev main_v50 : Ref sig .tc := ⟨.hbm, 102, rfl⟩
abbrev main_v51 : Ref sig .tc := ⟨.hbm, 103, rfl⟩
abbrev main_v52_0 : Ref sig .tc := ⟨.hbm, 104, rfl⟩
abbrev main_v52_1 : Ref sig .tc := ⟨.hbm, 105, rfl⟩
abbrev main_v52_2 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S2x1024 : Shape := ⟨2, ![2, 1024]⟩
abbrev S2x1536 : Shape := ⟨2, ![2, 1536]⟩
abbrev S2x16 : Shape := ⟨2, ![2, 16]⟩
abbrev S2x8 : Shape := ⟨2, ![2, 8]⟩
abbrev S2x128 : Shape := ⟨2, ![2, 128]⟩
abbrev S1024 : Shape := ⟨1, ![1024]⟩
abbrev S_ : Shape := ⟨0, ![]⟩
abbrev S2048 : Shape := ⟨1, ![2048]⟩
abbrev S3072 : Shape := ⟨1, ![3072]⟩
abbrev S32 : Shape := ⟨1, ![32]⟩
abbrev S16 : Shape := ⟨1, ![16]⟩
abbrev S256 : Shape := ⟨1, ![256]⟩
abbrev S10624 : Shape := ⟨1, ![10624]⟩
abbrev S640 : Shape := ⟨1, ![640]⟩
abbrev S11264 : Shape := ⟨1, ![11264]⟩
abbrev S88x128 : Shape := ⟨2, ![88, 128]⟩

abbrev nBuf : Space → Nat
  | .hbm => 452
  | .vmem => 0
  | .smem => 0
  | _ => 0

abbrev hbmTy0_0 (i : Nat) : BufTy := match i % 128 with
  | 0 => ⟨S2x1024, .f32⟩
  | 1 => ⟨S2x1536, .f32⟩
  | 2 => ⟨S2x16, .f32⟩
  | 3 => ⟨S2x16, .f32⟩
  | 4 => ⟨S2x16, .f32⟩
  | 5 => ⟨S2x1024, .f32⟩
  | 6 => ⟨S2x8, .f32⟩
  | 7 => ⟨S2x8, .f32⟩
  | 8 => ⟨S2x128, .f32⟩
  | 9 => ⟨S2x1024, .f32⟩
  | 10 => ⟨S1024, .f32⟩
  | 11 => ⟨S2x1024, .f32⟩
  | 12 => ⟨S2x1536, .f32⟩
  | 13 => ⟨S2x16, .f32⟩
  | 14 => ⟨S2x16, .f32⟩
  | 15 => ⟨S2x16, .f32⟩
  | 16 => ⟨S2x1024, .f32⟩
  | 17 => ⟨S2x8, .f32⟩
  | 18 => ⟨S2x8, .f32⟩
  | 19 => ⟨S2x128, .f32⟩
  | 20 => ⟨S2x1024, .f32⟩
  | 21 => ⟨S1024, .f32⟩
  | 22 => ⟨S2x1024, .f32⟩
  | 23 => ⟨S2x1536, .f32⟩
  | 24 => ⟨S2x16, .f32⟩
  | 25 => ⟨S2x16, .f32⟩
  | 26 => ⟨S2x16, .f32⟩
  | 27 => ⟨S2x1024, .f32⟩
  | 28 => ⟨S2x8, .f32⟩
  | 29 => ⟨S2x8, .f32⟩
  | 30 => ⟨S2x128, .f32⟩
  | 31 => ⟨S2x1024, .f32⟩
  | 32 => ⟨S1024, .f32⟩
  | 33 => ⟨S2x1024, .f32⟩
  | 34 => ⟨S2x1536, .f32⟩
  | 35 => ⟨S2x16, .f32⟩
  | 36 => ⟨S2x16, .f32⟩
  | 37 => ⟨S2x16, .f32⟩
  | 38 => ⟨S2x1024, .f32⟩
  | 39 => ⟨S2x8, .f32⟩
  | 40 => ⟨S2x8, .f32⟩
  | 41 => ⟨S2x128, .f32⟩
  | 42 => ⟨S2x1024, .f32⟩
  | 43 => ⟨S1024, .f32⟩
  | 44 => ⟨S_, .f32⟩
  | 45 => ⟨S2x1024, .f32⟩
  | 46 => ⟨S2x1024, .f32⟩
  | 47 => ⟨S_, .f32⟩
  | 48 => ⟨S2x1024, .f32⟩
  | 49 => ⟨S2x1024, .f32⟩
  | 50 => ⟨S2x1024, .f32⟩
  | 51 => ⟨S_, .f32⟩
  | 52 => ⟨S2x1024, .f32⟩
  | 53 => ⟨S2x1024, .f32⟩
  | 54 => ⟨S2x1024, .f32⟩
  | 55 => ⟨S_, .f32⟩
  | 56 => ⟨S2x1024, .f32⟩
  | 57 => ⟨S2x1024, .f32⟩
  | 58 => ⟨S2x1024, .f32⟩
  | 59 => ⟨S_, .f32⟩
  | 60 => ⟨S2x1024, .f32⟩
  | 61 => ⟨S2x1024, .f32⟩
  | 62 => ⟨S_, .f32⟩
  | 63 => ⟨S2x1024, .f32⟩
  | 64 => ⟨S2x1024, .f32⟩
  | 65 => ⟨S2x1024, .f32⟩
  | 66 => ⟨S_, .f32⟩
  | 67 => ⟨S2x1024, .f32⟩
  | 68 => ⟨S2x1024, .f32⟩
  | 69 => ⟨S2x1024, .f32⟩
  | 70 => ⟨S_, .f32⟩
  | 71 => ⟨S2x1024, .f32⟩
  | 72 => ⟨S2x1024, .f32⟩
  | 73 => ⟨S2x1024, .f32⟩
  | 74 => ⟨S_, .f32⟩
  | 75 => ⟨S2x1024, .f32⟩
  | 76 => ⟨S2x1024, .f32⟩
  | 77 => ⟨S_, .f32⟩
  | 78 => ⟨S2x1536, .f32⟩
  | 79 => ⟨S2x1536, .f32⟩
  | 80 => ⟨S_, .f32⟩
  | 81 => ⟨S2x1536, .f32⟩
  | 82 => ⟨S2x1536, .f32⟩
  | 83 => ⟨S2x1536, .f32⟩
  | 84 => ⟨S_, .f32⟩
  | 85 => ⟨S2x1536, .f32⟩
  | 86 => ⟨S2x1536, .f32⟩
  | 87 => ⟨S2x1536, .f32⟩
  | 88 => ⟨S_, .f32⟩
  | 89 => ⟨S2x1536, .f32⟩
  | 90 => ⟨S2x1536, .f32⟩
  | 91 => ⟨S2x1536, .f32⟩
  | 92 => ⟨S_, .f32⟩
  | 93 => ⟨S2x1536, .f32⟩
  | 94 => ⟨S2x1536, .f32⟩
  | 95 => ⟨S_, .f32⟩
  | 96 => ⟨S2x1536, .f32⟩
  | 97 => ⟨S2x1536, .f32⟩
  | 98 => ⟨S2x1536, .f32⟩
  | 99 => ⟨S_, .f32⟩
  | 100 => ⟨S2x1536, .f32⟩
  | 101 => ⟨S2x1536, .f32⟩
  | 102 => ⟨S2x1536, .f32⟩
  | 103 => ⟨S_, .f32⟩
  | 104 => ⟨S2x1536, .f32⟩
  | 105 => ⟨S2x1536, .f32⟩
  | 106 => ⟨S2x1536, .f32⟩
  | 107 => ⟨S_, .f32⟩
  | 108 => ⟨S2x1536, .f32⟩
  | 109 => ⟨S2x1536, .f32⟩
  | 110 => ⟨S_, .f32⟩
  | 111 => ⟨S2x16, .f32⟩
  | 112 => ⟨S2x16, .f32⟩
  | 113 => ⟨S_, .f32⟩
  | 114 => ⟨S2x16, .f32⟩
  | 115 => ⟨S2x16, .f32⟩
  | 116 => ⟨S2x16, .f32⟩
  | 117 => ⟨S_, .f32⟩
  | 118 => ⟨S2x16, .f32⟩
  | 119 => ⟨S2x16, .f32⟩
  | 120 => ⟨S2x16, .f32⟩
  | 121 => ⟨S_, .f32⟩
  | 122 => ⟨S2x16, .f32⟩
  | 123 => ⟨S2x16, .f32⟩
  | 124 => ⟨S2x16, .f32⟩
  | 125 => ⟨S_, .f32⟩
  | 126 => ⟨S2x16, .f32⟩
  | 127 => ⟨S2x16, .f32⟩
  | _ => ⟨S2x1024, .f32⟩

abbrev hbmTy0_1 (i : Nat) : BufTy := match i % 128 with
  | 0 => ⟨S_, .f32⟩
  | 1 => ⟨S2x16, .f32⟩
  | 2 => ⟨S2x16, .f32⟩
  | 3 => ⟨S2x16, .f32⟩
  | 4 => ⟨S_, .f32⟩
  | 5 => ⟨S2x16, .f32⟩
  | 6 => ⟨S2x16, .f32⟩
  | 7 => ⟨S2x16, .f32⟩
  | 8 => ⟨S_, .f32⟩
  | 9 => ⟨S2x16, .f32⟩
  | 10 => ⟨S2x16, .f32⟩
  | 11 => ⟨S2x16, .f32⟩
  | 12 => ⟨S_, .f32⟩
  | 13 => ⟨S2x16, .f32⟩
  | 14 => ⟨S2x16, .f32⟩
  | 15 => ⟨S_, .f32⟩
  | 16 => ⟨S2x16, .f32⟩
  | 17 => ⟨S2x16, .f32⟩
  | 18 => ⟨S_, .f32⟩
  | 19 => ⟨S2x16, .f32⟩
  | 20 => ⟨S2x16, .f32⟩
  | 21 => ⟨S2x16, .f32⟩
  | 22 => ⟨S_, .f32⟩
  | 23 => ⟨S2x16, .f32⟩
  | 24 => ⟨S2x16, .f32⟩
  | 25 => ⟨S2x16, .f32⟩
  | 26 => ⟨S_, .f32⟩
  | 27 => ⟨S2x16, .f32⟩
  | 28 => ⟨S2x16, .f32⟩
  | 29 => ⟨S2x16, .f32⟩
  | 30 => ⟨S_, .f32⟩
  | 31 => ⟨S2x16, .f32⟩
  | 32 => ⟨S2x16, .f32⟩
  | 33 => ⟨S_, .f32⟩
  | 34 => ⟨S2x16, .f32⟩
  | 35 => ⟨S2x16, .f32⟩
  | 36 => ⟨S2x16, .f32⟩
  | 37 => ⟨S_, .f32⟩
  | 38 => ⟨S2x16, .f32⟩
  | 39 => ⟨S2x16, .f32⟩
  | 40 => ⟨S2x16, .f32⟩
  | 41 => ⟨S_, .f32⟩
  | 42 => ⟨S2x16, .f32⟩
  | 43 => ⟨S2x16, .f32⟩
  | 44 => ⟨S2x16, .f32⟩
  | 45 => ⟨S_, .f32⟩
  | 46 => ⟨S2x16, .f32⟩
  | 47 => ⟨S2x16, .f32⟩
  | 48 => ⟨S_, .f32⟩
  | 49 => ⟨S2x16, .f32⟩
  | 50 => ⟨S2x16, .f32⟩
  | 51 => ⟨S_, .f32⟩
  | 52 => ⟨S2x16, .f32⟩
  | 53 => ⟨S2x16, .f32⟩
  | 54 => ⟨S2x16, .f32⟩
  | 55 => ⟨S_, .f32⟩
  | 56 => ⟨S2x16, .f32⟩
  | 57 => ⟨S2x16, .f32⟩
  | 58 => ⟨S2x16, .f32⟩
  | 59 => ⟨S_, .f32⟩
  | 60 => ⟨S2x16, .f32⟩
  | 61 => ⟨S2x16, .f32⟩
  | 62 => ⟨S2x16, .f32⟩
  | 63 => ⟨S_, .f32⟩
  | 64 => ⟨S2x16, .f32⟩
  | 65 => ⟨S2x16, .f32⟩
  | 66 => ⟨S_, .f32⟩
  | 67 => ⟨S2x16, .f32⟩
  | 68 => ⟨S2x16, .f32⟩
  | 69 => ⟨S2x16, .f32⟩
  | 70 => ⟨S_, .f32⟩
  | 71 => ⟨S2x16, .f32⟩
  | 72 => ⟨S2x16, .f32⟩
  | 73 => ⟨S2x16, .f32⟩
  | 74 => ⟨S_, .f32⟩
  | 75 => ⟨S2x16, .f32⟩
  | 76 => ⟨S2x16, .f32⟩
  | 77 => ⟨S2x16, .f32⟩
  | 78 => ⟨S_, .f32⟩
  | 79 => ⟨S2x16, .f32⟩
  | 80 => ⟨S2x16, .f32⟩
  | 81 => ⟨S_, .f32⟩
  | 82 => ⟨S2x1024, .f32⟩
  | 83 => ⟨S2x1024, .f32⟩
  | 84 => ⟨S_, .f32⟩
  | 85 => ⟨S2x1024, .f32⟩
  | 86 => ⟨S2x1024, .f32⟩
  | 87 => ⟨S2x1024, .f32⟩
  | 88 => ⟨S_, .f32⟩
  | 89 => ⟨S2x1024, .f32⟩
  | 90 => ⟨S2x1024, .f32⟩
  | 91 => ⟨S2x1024, .f32⟩
  | 92 => ⟨S_, .f32⟩
  | 93 => ⟨S2x1024, .f32⟩
  | 94 => ⟨S2x1024, .f32⟩
  | 95 => ⟨S2x1024, .f32⟩
  | 96 => ⟨S_, .f32⟩
  | 97 => ⟨S2x1024, .f32⟩
  | 98 => ⟨S2x1024, .f32⟩
  | 99 => ⟨S_, .f32⟩
  | 100 => ⟨S2x1024, .f32⟩
  | 101 => ⟨S2x1024, .f32⟩
  | 102 => ⟨S2x1024, .f32⟩
  | 103 => ⟨S_, .f32⟩
  | 104 => ⟨S2x1024, .f32⟩
  | 105 => ⟨S2x1024, .f32⟩
  | 106 => ⟨S2x1024, .f32⟩
  | 107 => ⟨S_, .f32⟩
  | 108 => ⟨S2x1024, .f32⟩
  | 109 => ⟨S2x1024, .f32⟩
  | 110 => ⟨S2x1024, .f32⟩
  | 111 => ⟨S_, .f32⟩
  | 112 => ⟨S2x1024, .f32⟩
  | 113 => ⟨S2x1024, .f32⟩
  | 114 => ⟨S_, .f32⟩
  | 115 => ⟨S2x8, .f32⟩
  | 116 => ⟨S2x8, .f32⟩
  | 117 => ⟨S_, .f32⟩
  | 118 => ⟨S2x8, .f32⟩
  | 119 => ⟨S2x8, .f32⟩
  | 120 => ⟨S2x8, .f32⟩
  | 121 => ⟨S_, .f32⟩
  | 122 => ⟨S2x8, .f32⟩
  | 123 => ⟨S2x8, .f32⟩
  | 124 => ⟨S2x8, .f32⟩
  | 125 => ⟨S_, .f32⟩
  | 126 => ⟨S2x8, .f32⟩
  | 127 => ⟨S2x8, .f32⟩
  | _ => ⟨S2x1024, .f32⟩

abbrev hbmTy0_2 (i : Nat) : BufTy := match i % 128 with
  | 0 => ⟨S2x8, .f32⟩
  | 1 => ⟨S_, .f32⟩
  | 2 => ⟨S2x8, .f32⟩
  | 3 => ⟨S2x8, .f32⟩
  | 4 => ⟨S_, .f32⟩
  | 5 => ⟨S2x8, .f32⟩
  | 6 => ⟨S2x8, .f32⟩
  | 7 => ⟨S2x8, .f32⟩
  | 8 => ⟨S_, .f32⟩
  | 9 => ⟨S2x8, .f32⟩
  | 10 => ⟨S2x8, .f32⟩
  | 11 => ⟨S2x8, .f32⟩
  | 12 => ⟨S_, .f32⟩
  | 13 => ⟨S2x8, .f32⟩
  | 14 => ⟨S2x8, .f32⟩
  | 15 => ⟨S2x8, .f32⟩
  | 16 => ⟨S_, .f32⟩
  | 17 => ⟨S2x8, .f32⟩
  | 18 => ⟨S2x8, .f32⟩
  | 19 => ⟨S_, .f32⟩
  | 20 => ⟨S2x8, .f32⟩
  | 21 => ⟨S2x8, .f32⟩
  | 22 => ⟨S_, .f32⟩
  | 23 => ⟨S2x8, .f32⟩
  | 24 => ⟨S2x8, .f32⟩
  | 25 => ⟨S2x8, .f32⟩
  | 26 => ⟨S_, .f32⟩
  | 27 => ⟨S2x8, .f32⟩
  | 28 => ⟨S2x8, .f32⟩
  | 29 => ⟨S2x8, .f32⟩
  | 30 => ⟨S_, .f32⟩
  | 31 => ⟨S2x8, .f32⟩
  | 32 => ⟨S2x8, .f32⟩
  | 33 => ⟨S2x8, .f32⟩
  | 34 => ⟨S_, .f32⟩
  | 35 => ⟨S2x8, .f32⟩
  | 36 => ⟨S2x8, .f32⟩
  | 37 => ⟨S_, .f32⟩
  | 38 => ⟨S2x8, .f32⟩
  | 39 => ⟨S2x8, .f32⟩
  | 40 => ⟨S2x8, .f32⟩
  | 41 => ⟨S_, .f32⟩
  | 42 => ⟨S2x8, .f32⟩
  | 43 => ⟨S2x8, .f32⟩
  | 44 => ⟨S2x8, .f32⟩
  | 45 => ⟨S_, .f32⟩
  | 46 => ⟨S2x8, .f32⟩
  | 47 => ⟨S2x8, .f32⟩
  | 48 => ⟨S2x8, .f32⟩
  | 49 => ⟨S_, .f32⟩
  | 50 => ⟨S2x8, .f32⟩
  | 51 => ⟨S2x8, .f32⟩
  | 52 => ⟨S_, .f32⟩
  | 53 => ⟨S2x128, .f32⟩
  | 54 => ⟨S2x128, .f32⟩
  | 55 => ⟨S_, .f32⟩
  | 56 => ⟨S2x128, .f32⟩
  | 57 => ⟨S2x128, .f32⟩
  | 58 => ⟨S2x128, .f32⟩
  | 59 => ⟨S_, .f32⟩
  | 60 => ⟨S2x128, .f32⟩
  | 61 => ⟨S2x128, .f32⟩
  | 62 => ⟨S2x128, .f32⟩
  | 63 => ⟨S_, .f32⟩
  | 64 => ⟨S2x128, .f32⟩
  | 65 => ⟨S2x128, .f32⟩
  | 66 => ⟨S2x128, .f32⟩
  | 67 => ⟨S_, .f32⟩
  | 68 => ⟨S2x128, .f32⟩
  | 69 => ⟨S2x128, .f32⟩
  | 70 => ⟨S_, .f32⟩
  | 71 => ⟨S2x128, .f32⟩
  | 72 => ⟨S2x128, .f32⟩
  | 73 => ⟨S2x128, .f32⟩
  | 74 => ⟨S_, .f32⟩
  | 75 => ⟨S2x128, .f32⟩
  | 76 => ⟨S2x128, .f32⟩
  | 77 => ⟨S2x128, .f32⟩
  | 78 => ⟨S_, .f32⟩
  | 79 => ⟨S2x128, .f32⟩
  | 80 => ⟨S2x128, .f32⟩
  | 81 => ⟨S2x128, .f32⟩
  | 82 => ⟨S_, .f32⟩
  | 83 => ⟨S2x128, .f32⟩
  | 84 => ⟨S2x128, .f32⟩
  | 85 => ⟨S_, .f32⟩
  | 86 => ⟨S2x1024, .f32⟩
  | 87 => ⟨S2x1024, .f32⟩
  | 88 => ⟨S_, .f32⟩
  | 89 => ⟨S2x1024, .f32⟩
  | 90 => ⟨S2x1024, .f32⟩
  | 91 => ⟨S2x1024, .f32⟩
  | 92 => ⟨S_, .f32⟩
  | 93 => ⟨S2x1024, .f32⟩
  | 94 => ⟨S2x1024, .f32⟩
  | 95 => ⟨S2x1024, .f32⟩
  | 96 => ⟨S_, .f32⟩
  | 97 => ⟨S2x1024, .f32⟩
  | 98 => ⟨S2x1024, .f32⟩
  | 99 => ⟨S2x1024, .f32⟩
  | 100 => ⟨S_, .f32⟩
  | 101 => ⟨S2x1024, .f32⟩
  | 102 => ⟨S2x1024, .f32⟩
  | 103 => ⟨S_, .f32⟩
  | 104 => ⟨S2x1024, .f32⟩
  | 105 => ⟨S2x1024, .f32⟩
  | 106 => ⟨S2x1024, .f32⟩
  | 107 => ⟨S_, .f32⟩
  | 108 => ⟨S2x1024, .f32⟩
  | 109 => ⟨S2x1024, .f32⟩
  | 110 => ⟨S2x1024, .f32⟩
  | 111 => ⟨S_, .f32⟩
  | 112 => ⟨S2x1024, .f32⟩
  | 113 => ⟨S2x1024, .f32⟩
  | 114 => ⟨S2x1024, .f32⟩
  | 115 => ⟨S_, .f32⟩
  | 116 => ⟨S2x1024, .f32⟩
  | 117 => ⟨S2x1024, .f32⟩
  | 118 => ⟨S_, .f32⟩
  | 119 => ⟨S1024, .f32⟩
  | 120 => ⟨S1024, .f32⟩
  | 121 => ⟨S_, .f32⟩
  | 122 => ⟨S1024, .f32⟩
  | 123 => ⟨S1024, .f32⟩
  | 124 => ⟨S1024, .f32⟩
  | 125 => ⟨S_, .f32⟩
  | 126 => ⟨S1024, .f32⟩
  | 127 => ⟨S1024, .f32⟩
  | _ => ⟨S2x1024, .f32⟩

abbrev hbmTy0_3 (i : Nat) : BufTy := match i % 128 with
  | 0 => ⟨S1024, .f32⟩
  | 1 => ⟨S_, .f32⟩
  | 2 => ⟨S1024, .f32⟩
  | 3 => ⟨S1024, .f32⟩
  | 4 => ⟨S1024, .f32⟩
  | 5 => ⟨S_, .f32⟩
  | 6 => ⟨S1024, .f32⟩
  | 7 => ⟨S1024, .f32⟩
  | 8 => ⟨S_, .f32⟩
  | 9 => ⟨S1024, .f32⟩
  | 10 => ⟨S1024, .f32⟩
  | 11 => ⟨S1024, .f32⟩
  | 12 => ⟨S_, .f32⟩
  | 13 => ⟨S1024, .f32⟩
  | 14 => ⟨S1024, .f32⟩
  | 15 => ⟨S1024, .f32⟩
  | 16 => ⟨S_, .f32⟩
  | 17 => ⟨S1024, .f32⟩
  | 18 => ⟨S1024, .f32⟩
  | 19 => ⟨S1024, .f32⟩
  | 20 => ⟨S_, .f32⟩
  | 21 => ⟨S1024, .f32⟩
  | 22 => ⟨S1024, .f32⟩
  | 23 => ⟨S2048, .f32⟩
  | 24 => ⟨S3072, .f32⟩
  | 25 => ⟨S32, .f32⟩
  | 26 => ⟨S32, .f32⟩
  | 27 => ⟨S32, .f32⟩
  | 28 => ⟨S2048, .f32⟩
  | 29 => ⟨S16, .f32⟩
  | 30 => ⟨S16, .f32⟩
  | 31 => ⟨S256, .f32⟩
  | 32 => ⟨S2048, .f32⟩
  | 33 => ⟨S10624, .f32⟩
  | 34 => ⟨S_, .f32⟩
  | 35 => ⟨S640, .f32⟩
  | 36 => ⟨S11264, .f32⟩
  | 37 => ⟨S88x128, .f32⟩
  | 38 => ⟨S2048, .f32⟩
  | 39 => ⟨S3072, .f32⟩
  | 40 => ⟨S32, .f32⟩
  | 41 => ⟨S32, .f32⟩
  | 42 => ⟨S32, .f32⟩
  | 43 => ⟨S2048, .f32⟩
  | 44 => ⟨S16, .f32⟩
  | 45 => ⟨S16, .f32⟩
  | 46 => ⟨S256, .f32⟩
  | 47 => ⟨S2048, .f32⟩
  | 48 => ⟨S10624, .f32⟩
  | 49 => ⟨S_, .f32⟩
  | 50 => ⟨S640, .f32⟩
  | 51 => ⟨S11264, .f32⟩
  | 52 => ⟨S88x128, .f32⟩
  | 53 => ⟨S2048, .f32⟩
  | 54 => ⟨S3072, .f32⟩
  | 55 => ⟨S32, .f32⟩
  | 56 => ⟨S32, .f32⟩
  | 57 => ⟨S32, .f32⟩
  | 58 => ⟨S2048, .f32⟩
  | 59 => ⟨S16, .f32⟩
  | 60 => ⟨S16, .f32⟩
  | 61 => ⟨S256, .f32⟩
  | 62 => ⟨S2048, .f32⟩
  | 63 => ⟨S10624, .f32⟩
  | 64 => ⟨S_, .f32⟩
  | 65 => ⟨S640, .f32⟩
  | 66 => ⟨S11264, .f32⟩
  | 67 => ⟨S88x128, .f32⟩
  | _ => ⟨S2x1024, .f32⟩

abbrev hbmTy (i : Nat) : BufTy := match i / 128 with
  | 0 => hbmTy0_0 i
  | 1 => hbmTy0_1 i
  | 2 => hbmTy0_2 i
  | 3 => hbmTy0_3 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_cst : Ref sig .tc := ⟨.hbm, 44, rfl⟩
abbrev main_v0 : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_3 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_cst_9 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_10 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_15 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_v47 : Ref sig .tc := ⟨.hbm, 109, rfl⟩
abbrev main_cst_17 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_20 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_21 : Ref sig .tc := ⟨.hbm, 125, rfl⟩
abbrev main_v59 : Ref sig .tc := ⟨.hbm, 126, rfl⟩
abbrev main_v60 : Ref sig .tc := ⟨.hbm, 127, rfl⟩
abbrev main_cst_22 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_23 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_25 : Ref sig .tc := ⟨.hbm, 140, rfl⟩
abbrev main_v70 : Ref sig .tc := ⟨.hbm, 141, rfl⟩
abbrev main_v71 : Ref sig .tc := ⟨.hbm, 142, rfl⟩
abbrev main_cst_26 : Ref sig .tc := ⟨.hbm, 143, rfl⟩
abbrev main_v72 : Ref sig .tc := ⟨.hbm, 144, rfl⟩
abbrev main_v73 : Ref sig .tc := ⟨.hbm, 145, rfl⟩
abbrev main_cst_27 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_cst_28 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_29 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_30 : Ref sig .tc := ⟨.hbm, 158, rfl⟩
abbrev main_v83 : Ref sig .tc := ⟨.hbm, 159, rfl⟩
abbrev main_v84 : Ref sig .tc := ⟨.hbm, 160, rfl⟩
abbrev main_cst_31 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_32 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_33 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_34 : Ref sig .tc := ⟨.hbm, 173, rfl⟩
abbrev main_v94 : Ref sig .tc := ⟨.hbm, 174, rfl⟩
abbrev main_v95 : Ref sig .tc := ⟨.hbm, 175, rfl⟩
abbrev main_cst_35 : Ref sig .tc := ⟨.hbm, 176, rfl⟩
abbrev main_v96 : Ref sig .tc := ⟨.hbm, 177, rfl⟩
abbrev main_v97 : Ref sig .tc := ⟨.hbm, 178, rfl⟩
abbrev main_cst_36 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_37 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_38 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_39 : Ref sig .tc := ⟨.hbm, 191, rfl⟩
abbrev main_v107 : Ref sig .tc := ⟨.hbm, 192, rfl⟩
abbrev main_v108 : Ref sig .tc := ⟨.hbm, 193, rfl⟩
abbrev main_cst_40 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_41 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_42 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_43 : Ref sig .tc := ⟨.hbm, 206, rfl⟩
abbrev main_v118 : Ref sig .tc := ⟨.hbm, 207, rfl⟩
abbrev main_v119 : Ref sig .tc := ⟨.hbm, 208, rfl⟩
abbrev main_cst_44 : Ref sig .tc := ⟨.hbm, 209, rfl⟩
abbrev main_v120 : Ref sig .tc := ⟨.hbm, 210, rfl⟩
abbrev main_v121 : Ref sig .tc := ⟨.hbm, 211, rfl⟩
abbrev main_cst_45 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_46 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_cst_47 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_48 : Ref sig .tc := ⟨.hbm, 224, rfl⟩
abbrev main_v131 : Ref sig .tc := ⟨.hbm, 225, rfl⟩
abbrev main_v132 : Ref sig .tc := ⟨.hbm, 226, rfl⟩
abbrev main_cst_49 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_cst_50 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_cst_51 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_52 : Ref sig .tc := ⟨.hbm, 239, rfl⟩
abbrev main_v142 : Ref sig .tc := ⟨.hbm, 240, rfl⟩
abbrev main_v143 : Ref sig .tc := ⟨.hbm, 241, rfl⟩
abbrev main_cst_53 : Ref sig .tc := ⟨.hbm, 242, rfl⟩
abbrev main_v144 : Ref sig .tc := ⟨.hbm, 243, rfl⟩
abbrev main_v145 : Ref sig .tc := ⟨.hbm, 244, rfl⟩
abbrev main_cst_54 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_55 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_56 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_57 : Ref sig .tc := ⟨.hbm, 257, rfl⟩
abbrev main_v155 : Ref sig .tc := ⟨.hbm, 258, rfl⟩
abbrev main_v156 : Ref sig .tc := ⟨.hbm, 259, rfl⟩
abbrev main_cst_58 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_cst_59 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_60 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_cst_61 : Ref sig .tc := ⟨.hbm, 272, rfl⟩
abbrev main_v166 : Ref sig .tc := ⟨.hbm, 273, rfl⟩
abbrev main_v167 : Ref sig .tc := ⟨.hbm, 274, rfl⟩
abbrev main_cst_62 : Ref sig .tc := ⟨.hbm, 275, rfl⟩
abbrev main_v168 : Ref sig .tc := ⟨.hbm, 276, rfl⟩
abbrev main_v169 : Ref sig .tc := ⟨.hbm, 277, rfl⟩
abbrev main_cst_63 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_64 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_65 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_cst_66 : Ref sig .tc := ⟨.hbm, 290, rfl⟩
abbrev main_v179 : Ref sig .tc := ⟨.hbm, 291, rfl⟩
abbrev main_v180 : Ref sig .tc := ⟨.hbm, 292, rfl⟩
abbrev main_cst_67 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_cst_68 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_cst_69 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_cst_70 : Ref sig .tc := ⟨.hbm, 305, rfl⟩
abbrev main_v190 : Ref sig .tc := ⟨.hbm, 306, rfl⟩
abbrev main_v191 : Ref sig .tc := ⟨.hbm, 307, rfl⟩
abbrev main_cst_71 : Ref sig .tc := ⟨.hbm, 308, rfl⟩
abbrev main_v192 : Ref sig .tc := ⟨.hbm, 309, rfl⟩
abbrev main_v193 : Ref sig .tc := ⟨.hbm, 310, rfl⟩
abbrev main_cst_72 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_cst_73 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_cst_74 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_75 : Ref sig .tc := ⟨.hbm, 323, rfl⟩
abbrev main_v203 : Ref sig .tc := ⟨.hbm, 324, rfl⟩
abbrev main_v204 : Ref sig .tc := ⟨.hbm, 325, rfl⟩
abbrev main_cst_76 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_cst_77 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_cst_78 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_cst_79 : Ref sig .tc := ⟨.hbm, 338, rfl⟩
abbrev main_v214 : Ref sig .tc := ⟨.hbm, 339, rfl⟩
abbrev main_v215 : Ref sig .tc := ⟨.hbm, 340, rfl⟩
abbrev main_cst_80 : Ref sig .tc := ⟨.hbm, 341, rfl⟩
abbrev main_v216 : Ref sig .tc := ⟨.hbm, 342, rfl⟩
abbrev main_v217 : Ref sig .tc := ⟨.hbm, 343, rfl⟩
abbrev main_cst_81 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_82 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_83 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_cst_84 : Ref sig .tc := ⟨.hbm, 356, rfl⟩
abbrev main_v227 : Ref sig .tc := ⟨.hbm, 357, rfl⟩
abbrev main_v228 : Ref sig .tc := ⟨.hbm, 358, rfl⟩
abbrev main_cst_85 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_cst_86 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_cst_87 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_cst_88 : Ref sig .tc := ⟨.hbm, 371, rfl⟩
abbrev main_v238 : Ref sig .tc := ⟨.hbm, 372, rfl⟩
abbrev main_v239 : Ref sig .tc := ⟨.hbm, 373, rfl⟩
abbrev main_cst_89 : Ref sig .tc := ⟨.hbm, 374, rfl⟩
abbrev main_v240 : Ref sig .tc := ⟨.hbm, 375, rfl⟩
abbrev main_v241 : Ref sig .tc := ⟨.hbm, 376, rfl⟩
abbrev main_cst_90 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_cst_91 : Ref sig .tc := ⟨.hbm, 381, rfl⟩
abbrev main_v245 : Ref sig .tc := ⟨.hbm, 382, rfl⟩
abbrev main_v246 : Ref sig .tc := ⟨.hbm, 383, rfl⟩
abbrev main_v247 : Ref sig .tc := ⟨.hbm, 384, rfl⟩
abbrev main_cst_92 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_93 : Ref sig .tc := ⟨.hbm, 389, rfl⟩
abbrev main_v251 : Ref sig .tc := ⟨.hbm, 390, rfl⟩
abbrev main_v252 : Ref sig .tc := ⟨.hbm, 391, rfl⟩
abbrev main_cst_94 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_cst_95 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_96 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_cst_97 : Ref sig .tc := ⟨.hbm, 404, rfl⟩
abbrev main_v262 : Ref sig .tc := ⟨.hbm, 405, rfl⟩
abbrev main_v263 : Ref sig .tc := ⟨.hbm, 406, rfl⟩
abbrev main_v264 : Ref sig .tc := ⟨.hbm, 407, rfl⟩
abbrev main_v265 : Ref sig .tc := ⟨.hbm, 408, rfl⟩
abbrev main_v266 : Ref sig .tc := ⟨.hbm, 409, rfl⟩
abbrev main_v267 : Ref sig .tc := ⟨.hbm, 410, rfl⟩
abbrev main_v268 : Ref sig .tc := ⟨.hbm, 411, rfl⟩
abbrev main_v269 : Ref sig .tc := ⟨.hbm, 412, rfl⟩
abbrev main_v270 : Ref sig .tc := ⟨.hbm, 413, rfl⟩
abbrev main_v271 : Ref sig .tc := ⟨.hbm, 414, rfl⟩
abbrev main_v272 : Ref sig .tc := ⟨.hbm, 415, rfl⟩
abbrev main_v273 : Ref sig .tc := ⟨.hbm, 416, rfl⟩
abbrev main_v274 : Ref sig .tc := ⟨.hbm, 417, rfl⟩
abbrev main_cst_98 : Ref sig .tc := ⟨.hbm, 418, rfl⟩
abbrev main_v275 : Ref sig .tc := ⟨.hbm, 419, rfl⟩
abbrev main_v276 : Ref sig .tc := ⟨.hbm, 420, rfl⟩
abbrev main_v277 : Ref sig .tc := ⟨.hbm, 421, rfl⟩
abbrev main_v278 : Ref sig .tc := ⟨.hbm, 422, rfl⟩
abbrev main_v279 : Ref sig .tc := ⟨.hbm, 423, rfl⟩
abbrev main_v280 : Ref sig .tc := ⟨.hbm, 424, rfl⟩
abbrev main_v281 : Ref sig .tc := ⟨.hbm, 425, rfl⟩
abbrev main_v282 : Ref sig .tc := ⟨.hbm, 426, rfl⟩
abbrev main_v283 : Ref sig .tc := ⟨.hbm, 427, rfl⟩
abbrev main_v284 : Ref sig .tc := ⟨.hbm, 428, rfl⟩
abbrev main_v285 : Ref sig .tc := ⟨.hbm, 429, rfl⟩
abbrev main_v286 : Ref sig .tc := ⟨.hbm, 430, rfl⟩
abbrev main_v287 : Ref sig .tc := ⟨.hbm, 431, rfl⟩
abbrev main_v288 : Ref sig .tc := ⟨.hbm, 432, rfl⟩
abbrev main_cst_99 : Ref sig .tc := ⟨.hbm, 433, rfl⟩
abbrev main_v289 : Ref sig .tc := ⟨.hbm, 434, rfl⟩
abbrev main_v290 : Ref sig .tc := ⟨.hbm, 435, rfl⟩
abbrev main_v291 : Ref sig .tc := ⟨.hbm, 436, rfl⟩
abbrev main_v292 : Ref sig .tc := ⟨.hbm, 437, rfl⟩
abbrev main_v293 : Ref sig .tc := ⟨.hbm, 438, rfl⟩
abbrev main_v294 : Ref sig .tc := ⟨.hbm, 439, rfl⟩
abbrev main_v295 : Ref sig .tc := ⟨.hbm, 440, rfl⟩
abbrev main_v296 : Ref sig .tc := ⟨.hbm, 441, rfl⟩
abbrev main_v297 : Ref sig .tc := ⟨.hbm, 442, rfl⟩
abbrev main_v298 : Ref sig .tc := ⟨.hbm, 443, rfl⟩
abbrev main_v299 : Ref sig .tc := ⟨.hbm, 444, rfl⟩
abbrev main_v300 : Ref sig .tc := ⟨.hbm, 445, rfl⟩
abbrev main_v301 : Ref sig .tc := ⟨.hbm, 446, rfl⟩
abbrev main_v302 : Ref sig .tc := ⟨.hbm, 447, rfl⟩
abbrev main_cst_100 : Ref sig .tc := ⟨.hbm, 448, rfl⟩
abbrev main_v303 : Ref sig .tc := ⟨.hbm, 449, rfl⟩
abbrev main_v304 : Ref sig .tc := ⟨.hbm, 450, rfl⟩
abbrev main_v305 : Ref sig .tc := ⟨.hbm, 451, rfl⟩

abbrev nD : Nat := 1
abbrev τ : Topo := Topo.v7x

variable {F : FTy → Type} [FloatOps F]
-- ==== SmallSum.lean ====
abbrev S8x376x128 : Shape := ⟨3, ![8, 376, 128]⟩
abbrev S376x128 : Shape := ⟨2, ![376, 128]⟩
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x376x128, .f32⟩
  | .hbm, ⟨1, _⟩ => ⟨S376x128, .f32⟩
  | .local _ .vmem, ⟨0, _⟩ => ⟨S8x8x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | _, _ => ⟨S8x376x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![47], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SmallSumRefIdeal.lean ====
abbrev S8x376x128 : Shape := ⟨3, ![8, 376, 128]⟩
abbrev S_ : Shape := ⟨0, ![]⟩
abbrev S376x128 : Shape := ⟨2, ![376, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x376x128, .f32⟩
  | .hbm, ⟨1, _⟩ => ⟨S_, .f32⟩
  | .hbm, ⟨2, _⟩ => ⟨S376x128, .f32⟩
  | _, _ => ⟨S8x376x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SsdDx.lean ====
abbrev S4096x1536 : Shape := ⟨2, ![4096, 1536]⟩
abbrev S4096x9216 : Shape := ⟨2, ![4096, 9216]⟩
abbrev S1x128 : Shape := ⟨2, ![1, 128]⟩
abbrev S16x8x128x128 : Shape := ⟨4, ![16, 8, 128, 128]⟩
abbrev S4096x1024 : Shape := ⟨2, ![4096, 1024]⟩
abbrev S4096x128 : Shape := ⟨2, ![4096, 128]⟩
abbrev S256x1536 : Shape := ⟨2, ![256, 1536]⟩
abbrev S256x128 : Shape := ⟨2, ![256, 128]⟩
abbrev S1x8x128x128 : Shape := ⟨4, ![1, 8, 128, 128]⟩
abbrev S256x1024 : Shape := ⟨2, ![256, 1024]⟩
abbrev S8x128x128 : Shape := ⟨3, ![8, 128, 128]⟩
abbrev S1x1x128x128 : Shape := ⟨4, ![1, 1, 128, 128]⟩
abbrev S128x128 : Shape := ⟨2, ![128, 128]⟩
abbrev S256x256 : Shape := ⟨2, ![256, 256]⟩
abbrev S128x256 : Shape := ⟨2, ![128, 256]⟩
abbrev S256 : Shape := ⟨1, ![256]⟩
abbrev S256x1 : Shape := ⟨2, ![256, 1]⟩
abbrev S128x1 : Shape := ⟨2, ![128, 1]⟩
abbrev S1x256 : Shape := ⟨2, ![1, 256]⟩
abbrev S1 : Shape := ⟨1, ![1]⟩
abbrev S1x1 : Shape := ⟨2, ![1, 1]⟩
abbrev S1x128x128 : Shape := ⟨3, ![1, 128, 128]⟩
abbrev S128 : Shape := ⟨1, ![128]⟩
abbrev S1x1x128 : Shape := ⟨3, ![1, 1, 128]⟩
abbrev S1x1x1 : Shape := ⟨3, ![1, 1, 1]⟩
abbrev S1x128x1 : Shape := ⟨3, ![1, 128, 1]⟩
abbrev S255x128 : Shape := ⟨2, ![255, 128]⟩

abbrev nBuf : Space → Nat
  | .hbm => 12
  | .vmem => 19
  | .smem => 0
  | _ => 0

abbrev bufTy : (tb : Table) → Fin (tcTables nBuf tb) → BufTy
  | .hbm, ⟨0, _⟩ => ⟨S4096x1536, .f32⟩
  | .hbm, ⟨1, _⟩ => ⟨S4096x9216, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S16x8x128x128, .f32⟩
  | .hbm, ⟨6, _⟩ => ⟨S4096x1024, .f32⟩
  | .hbm, ⟨7, _⟩ => ⟨S4096x1536, .f32⟩
  | .hbm, ⟨8, _⟩ => ⟨S4096x128, .f32⟩
  | .hbm, ⟨9, _⟩ => ⟨S1x128, .f32⟩
  | .hbm, ⟨10, _⟩ => ⟨S1x128, .f32⟩
  | .hbm, ⟨11, _⟩ => ⟨S1x128, .f32⟩
  | .local _ .vmem, ⟨0, _⟩ => ⟨S256x1536, .f32⟩
  | .local _ .vmem, ⟨1, _⟩ => ⟨S256x1536, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x8x128x128, .f32⟩
  | .local _ .vmem, ⟨8, _⟩ => ⟨S1x8x128x128, .f32⟩
  | .local _ .vmem, ⟨9, _⟩ => ⟨S256x1024, .f32⟩
  | .local _ .vmem, ⟨10, _⟩ => ⟨S256x1024, .f32⟩
  | .local _ .vmem, ⟨11, _⟩ => ⟨S256x1536, .f32⟩
  | .local _ .vmem, ⟨12, _⟩ => ⟨S256x1536, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S8x128x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_1044 : BitVec 32 := 0#32
  let v3542 : BitVec 1 := Scalar.cmpi .eq arg0 c0_i32_1044
  let v3543 : BitVec 32 := Scalar.extui v3542
  let c0_i32_1045 : BitVec 32 := 0#32
  let v3544 : BitVec 1 := Scalar.cmpi .ne v3543 c0_i32_1045
  v3544

def k0_cond3 (i : grid0.Coords) : BitVec 1 :=
  let arg0 : BitVec 32 := BitVec.ofNat 32 (i 0).val
  let c0_i32_1044 : BitVec 32 := 0#32
  let v3542 : BitVec 1 := Scalar.cmpi .eq arg0 c0_i32_1044
  let v_true : BitVec 1 := 1#1
  let v3545 : BitVec 1 := Scalar.xori v3542 v_true
  let v3546 : BitVec 32 := Scalar.extui v3545
  let c0_i32_1046 : BitVec 32 := 0#32
  let v3547 : BitVec 1 := Scalar.cmpi .ne v3546 c0_i32_1046
  v3547

def k0_cond4 (i : grid0.Coords) : BitVec 1 :=
  let arg0 : BitVec 32 := BitVec.ofNat 32 (i 0).val
  let c0_i32_1047 : BitVec 32 := 0#32
  let v3548 : BitVec 1 := Scalar.cmpi .eq arg0 c0_i32_1047
  let v3549 : BitVec 32 := Scalar.extui v3548
  let c0_i32_1048 : BitVec 32 := 0#32
  let v3550 : BitVec 1 := Scalar.cmpi .ne v3549 c0_i32_1048
  v3550

def k0_cond5 (i : grid0.Coords) : BitVec 1 :=
  let arg0 : BitVec 32 := BitVec.ofNat 32 (i 0).val
  let c0_i32_1047 : BitVec 32 := 0#32
  let v3548 : BitVec 1 := Scalar.cmpi .eq arg0 c0_i32_1047
  let true_1049 : BitVec 1 := 1#1
  let v3551 : BitVec 1 := Scalar.xori v3548 true_1049
  let v3552 : BitVec 32 := Scalar.extui v3551
  let c0_i32_1050 : BitVec 32 := 0#32
  let v3553 : BitVec 1 := Scalar.cmpi .ne v3552 c0_i32_1050
  v3553

def k0_cond6 (i : grid0.Coords) : BitVec 1 :=
  let arg0 : BitVec 32 := BitVec.ofNat 32 (i 0).val
  let c0_i32_1051 : BitVec 32 := 0#32
  let v3554 : BitVec 1 := Scalar.cmpi .eq arg0 c0_i32_1051
  let v3555 : BitVec 32 := Scalar.extui v3554
  let c0_i32_1052 : BitVec 32 := 0#32
  let v3556 : BitVec 1 := Scalar.cmpi .ne v3555 c0_i32_1052
  v3556

def k0_cond7 (i : grid0.Coords) : BitVec 1 :=
  let arg0 : BitVec 32 := BitVec.ofNat 32 (i 0).val
  let c0_i32_1051 : BitVec 32 := 0#32
  let v3554 : BitVec 1 := Scalar.cmpi .eq arg0 c0_i32_1051
  let true_1053 : BitVec 1 := 1#1
  let v3557 : BitVec 1 := Scalar.xori v3554 true_1053
  let v3558 : BitVec 32 := Scalar.extui v3557
  let c0_i32_1054 : BitVec 32 := 0#32
  let v3559 : BitVec 1 := Scalar.cmpi .ne v3558 c0_i32_1054
  v3559

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c68_i32 : BitVec 32 := 68#32
  let c0_i32 : BitVec 32 := 0#32
  ![v0.toNat, c68_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== SsdDxIdeal.lean ====
variable {F : FTy → Type} [FloatOps F] [Named F]
def κ : String → Option EReal := fun
  | "mask" => some ⊥
  | _ => none
-- ==== SsdDxRefIdeal.lean ====
abbrev S4096x1536 : Shape := ⟨2, ![4096, 1536]⟩
abbrev S4096x9216 : Shape := ⟨2, ![4096, 9216]⟩
abbrev S1x128 : Shape := ⟨2, ![1, 128]⟩
abbrev S16x8x128x128 : Shape := ⟨4, ![16, 8, 128, 128]⟩
abbrev S4096x1024 : Shape := ⟨2, ![4096, 1024]⟩
abbrev S4096x16x64 : Shape := ⟨3, ![4096, 16, 64]⟩
abbrev S4096x256 : Shape := ⟨2, ![4096, 256]⟩
abbrev S4096x2x128 : Shape := ⟨3, ![4096, 2, 128]⟩
abbrev S4096x16 : Shape := ⟨2, ![4096, 16]⟩
abbrev S1x16 : Shape := ⟨2, ![1, 16]⟩
abbrev S16 : Shape := ⟨1, ![16]⟩
abbrev S_ : Shape := ⟨0, ![]⟩
abbrev S4096x16x1 : Shape := ⟨3, ![4096, 16, 1]⟩
abbrev S4096x2x8x64 : Shape := ⟨4, ![4096, 2, 8, 64]⟩
abbrev S4096x2x8 : Shape := ⟨3, ![4096, 2, 8]⟩
abbrev S4096x4096 : Shape := ⟨2, ![4096, 4096]⟩
abbrev S4096x1x2x8 : Shape := ⟨4, ![4096, 1, 2, 8]⟩
abbrev S1x4096x2x8 : Shape := ⟨4, ![1, 4096, 2, 8]⟩
abbrev S4096x4096x2x8 : Shape := ⟨4, ![4096, 4096, 2, 8]⟩
abbrev S4096x4096x1x1 : Shape := ⟨4, ![4096, 4096, 1, 1]⟩
abbrev S2x4096x4096 : Shape := ⟨3, ![2, 4096, 4096]⟩
abbrev S4096x4096x2 : Shape := ⟨3, ![4096, 4096, 2]⟩
abbrev S4096x4096x2x1 : Shape := ⟨4, ![4096, 4096, 2, 1]⟩
abbrev S2x8x64x4096 : Shape := ⟨4, ![2, 8, 64, 4096]⟩
abbrev S16x1 : Shape := ⟨2, ![16, 1]⟩
abbrev S1x16x1 : Shape := ⟨3, ![1, 16, 1]⟩
abbrev S2x8x4096x4096 : Shape := ⟨4, ![2, 8, 4096, 4096]⟩
abbrev S2x4096x128 : Shape := ⟨3, ![2, 4096, 128]⟩

abbrev nBuf : Space → Nat
  | .hbm => 114
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x9216, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S16x8x128x128, .f32⟩
  | .hbm, ⟨6, _⟩ => ⟨S4096x1024, .f32⟩
  | .hbm, ⟨7, _⟩ => ⟨S4096x1024, .f32⟩
  | .hbm, ⟨8, _⟩ => ⟨S4096x16x64, .f32⟩
  | .hbm, ⟨9, _⟩ => ⟨S4096x256, .f32⟩
  | .hbm, ⟨10, _⟩ => ⟨S4096x2x128, .f32⟩
  | .hbm, ⟨11, _⟩ => ⟨S4096x256, .f32⟩
  | .hbm, ⟨12, _⟩ => ⟨S4096x2x128, .f32⟩
  | .hbm, ⟨13, _⟩ => ⟨S4096x16, .f32⟩
  | .hbm, ⟨14, _⟩ => ⟨S1x16, .f32⟩
  | .hbm, ⟨15, _⟩ => ⟨S16, .f32⟩
  | .hbm, ⟨16, _⟩ => ⟨S1x16, .f32⟩
  | .hbm, ⟨17, _⟩ => ⟨S4096x16, .f32⟩
  | .hbm, ⟨18, _⟩ => ⟨S4096x16, .f32⟩
  | .hbm, ⟨19, _⟩ => ⟨S_, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S4096x16, .i1⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S4096x16, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S1x16, .f32⟩
  | .hbm, ⟨34, _⟩ => ⟨S16, .f32⟩
  | .hbm, ⟨35, _⟩ => ⟨S16, .f32⟩
  | .hbm, ⟨36, _⟩ => ⟨S16, .f32⟩
  | .hbm, ⟨37, _⟩ => ⟨S1x16, .f32⟩
  | .hbm, ⟨38, _⟩ => ⟨S16, .f32⟩
  | .hbm, ⟨39, _⟩ => ⟨S4096x16x1, .f32⟩
  | .hbm, ⟨40, _⟩ => ⟨S4096x16x64, .f32⟩
  | .hbm, ⟨41, _⟩ => ⟨S4096x16x64, .f32⟩
  | .hbm, ⟨42, _⟩ => ⟨S4096x2x8x64, .f32⟩
  | .hbm, ⟨43, _⟩ => ⟨S1x16, .f32⟩
  | .hbm, ⟨44, _⟩ => ⟨S4096x16, .f32⟩
  | .hbm, ⟨45, _⟩ => ⟨S4096x16, .f32⟩
  | .hbm, ⟨46, _⟩ => ⟨S4096x2x8, .f32⟩
  | .hbm, ⟨47, _⟩ => ⟨S_, .f32⟩
  | .hbm, ⟨48, _⟩ => ⟨S_, .f32⟩
  | .hbm, ⟨49, _⟩ => ⟨S4096x2x8, .f32⟩
  | .hbm, ⟨50, _⟩ => ⟨S4096x4096, .i32⟩
  | .hbm, ⟨51, _⟩ => ⟨S4096x4096, .i32⟩
  | .hbm, ⟨52, _⟩ => ⟨S4096x1x2x8, .f32⟩
  | .hbm, ⟨53, _⟩ => ⟨S1x4096x2x8, .f32⟩
  | .hbm, ⟨54, _⟩ => ⟨S4096x4096x2x8, .f32⟩
  | .hbm, ⟨55, _⟩ => ⟨S4096x4096x2x8, .f32⟩
  | .hbm, ⟨56, _⟩ => ⟨S4096x4096x2x8, .f32⟩
  | .hbm, ⟨57, _⟩ => ⟨S4096x4096, .i1⟩
  | .hbm, ⟨58, _⟩ => ⟨S4096x4096x1x1, .i1⟩
  | .hbm, ⟨59, _⟩ => ⟨S_, .f32⟩
  | .hbm, ⟨60, _⟩ => ⟨S_, .f32⟩
  | .hbm, ⟨61, _⟩ => ⟨S4096x4096x2x8, .i1⟩
  | .hbm, ⟨62, _⟩ => ⟨S4096x4096x2x8, .f32⟩
  | .hbm, ⟨63, _⟩ => ⟨S4096x4096x2x8, .f32⟩
  | .hbm, ⟨64, _⟩ => ⟨S4096x4096x2x8, .f32⟩
  | .hbm, ⟨65, _⟩ => ⟨S2x4096x4096, .f32⟩
  | .hbm, ⟨66, _⟩ => ⟨S4096x4096x2, .f32⟩
  | .hbm, ⟨67, _⟩ => ⟨S4096x4096x2x1, .f32⟩
  | .hbm, ⟨68, _⟩ => ⟨S4096x4096x2x8, .f32⟩
  | .hbm, ⟨69, _⟩ => ⟨S4096x4096x2x8, .f32⟩
  | .hbm, ⟨70, _⟩ => ⟨S2x8x64x4096, .f32⟩
  | .hbm, ⟨71, _⟩ => ⟨S4096x2x8x64, .f32⟩
  | .hbm, ⟨72, _⟩ => ⟨S4096x16x64, .f32⟩
  | .hbm, ⟨73, _⟩ => ⟨S16x1, .f32⟩
  | .hbm, ⟨74, _⟩ => ⟨S1x16x1, .f32⟩
  | .hbm, ⟨75, _⟩ => ⟨S4096x16x64, .f32⟩
  | .hbm, ⟨76, _⟩ => ⟨S4096x16x64, .f32⟩
  | .hbm, ⟨77, _⟩ => ⟨S4096x16x64, .f32⟩
  | .hbm, ⟨78, _⟩ => ⟨S4096x1024, .f32⟩
  | .hbm, ⟨79, _⟩ => ⟨S4096x16x64, .f32⟩
  | .hbm, ⟨80, _⟩ => ⟨S4096x16x64, .f32⟩
  | .hbm, ⟨81, _⟩ => ⟨S4096x16x64, .f32⟩
  | .hbm, ⟨82, _⟩ => ⟨S4096x2x8x64, .f32⟩
  | .hbm, ⟨83, _⟩ => ⟨S2x8x64x4096, .f32⟩
  | .hbm, ⟨84, _⟩ => ⟨S2x8x4096x4096, .f32⟩
  | .hbm, ⟨85, _⟩ => ⟨S4096x4096x2x8, .f32⟩
  | .hbm, ⟨86, _⟩ => ⟨S2x8x64x4096, .f32⟩
  | .hbm, ⟨87, _⟩ => ⟨S4096x2x8x64, .f32⟩
  | .hbm, ⟨88, _⟩ => ⟨S4096x4096x2x8, .f32⟩
  | .hbm, ⟨89, _⟩ => ⟨S_, .f32⟩
  | .hbm, ⟨90, _⟩ => ⟨S4096x4096x2, .f32⟩
  | .hbm, ⟨91, _⟩ => ⟨S4096x4096x2x1, .f32⟩
  | .hbm, ⟨92, _⟩ => ⟨S_, .f32⟩
  | .hbm, ⟨93, _⟩ => ⟨S4096x4096x2, .f32⟩
  | .hbm, ⟨94, _⟩ => ⟨S2x4096x4096, .f32⟩
  | .hbm, ⟨95, _⟩ => ⟨S2x4096x128, .f32⟩
  | .hbm, ⟨96, _⟩ => ⟨S4096x2x128, .f32⟩
  | .hbm, ⟨97, _⟩ => ⟨S2x4096x128, .f32⟩
  | .hbm, ⟨98, _⟩ => ⟨S4096x2x128, .f32⟩
  | .hbm, ⟨99, _⟩ => ⟨S4096x16x64, .f32⟩
  | .hbm, ⟨100, _⟩ => ⟨S4096x16x64, .f32⟩
  | .hbm, ⟨101, _⟩ => ⟨S4096x16x64, .f32⟩
  | .hbm, ⟨102, _⟩ => ⟨S4096x16x64, .f32⟩
  | .hbm, ⟨103, _⟩ => ⟨S4096x256, .f32⟩
  | .hbm, ⟨104, _⟩ => ⟨S_, .f32⟩
  | .hbm, ⟨105, _⟩ => ⟨S4096x1536, .f32⟩
  | .hbm, ⟨106, _⟩ => ⟨S4096x256, .f32⟩
  | .hbm, ⟨107, _⟩ => ⟨S_, .f32⟩
  | .hbm, ⟨108, _⟩ => ⟨S4096x1536, .f32⟩
  | .hbm, ⟨109, _⟩ => ⟨S4096x1536, .f32⟩
  | .hbm, ⟨110, _⟩ => ⟨S4096x1024, .f32⟩
  | .hbm, ⟨111, _⟩ => ⟨S_, .f32⟩
  | .hbm, ⟨112, _⟩ => ⟨S4096x1536, .f32⟩
  | .hbm, ⟨113, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_call0_cst : Ref sig .tc := ⟨.hbm, 47, rfl⟩
abbrev main_call1_call0_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_0 : Ref sig .tc := ⟨.hbm, 89, rfl⟩
abbrev main_v63 : Ref sig .tc := ⟨.hbm, 90, rfl⟩
abbrev main_v64 : Ref sig .tc := ⟨.hbm, 91, rfl⟩
abbrev main_cst_1 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_2 : Ref sig .tc := ⟨.hbm, 104, rfl⟩
abbrev main_v76 : Ref sig .tc := ⟨.hbm, 105, rfl⟩
abbrev main_v77 : Ref sig .tc := ⟨.hbm, 106, rfl⟩
abbrev main_cst_3 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_4 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]
-- ==== Proof.Merge.lean ====
/- The gradient of the gated merge: the kernel's four arrays are the reference's. -/
module

public import proofs.«01_k».proof.Defs
public import proofs.«01_k».proof.Proof.Gen.MergeIdeal.Value
public import proofs.«01_k».proof.Proof.Gen.MergeRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MergeIdeal.Grad

open Cert.MergeIdeal Cert.MergeIdeal.Gen

/-- The logistic function of the 1024 columns of the projection that start at column `o`, as the reference writes it. -/
abbrev gate (g : FVec Ideal S4096x1024 .f32) : FVec Ideal S4096x1024 .f32 :=
  Host.divf (broadcastInDim Cert.MergeRefIdeal.S4096x1024 ![] Cert.MergeRefIdeal.Gen.bcast_S_S4096x1024 (constant Cert.MergeRefIdeal.S_ .f32 0x3F800000#32))
    (addf (broadcastInDim Cert.MergeRefIdeal.S4096x1024 ![] Cert.MergeRefIdeal.Gen.bcast_S_S4096x1024 (constant Cert.MergeRefIdeal.S_ .f32 0x3F800000#32))
      (Host.exp (Host.negf g)))

/-- The gradient to the gate's logits: `dy · p · (σ · (1 − σ))`. -/
abbrev dGate (p dy g : FVec Ideal S4096x1024 .f32) : FVec Ideal S4096x1024 .bf16 :=
  truncf .bf16 (mulf (mulf (shapeCast _ dy Cert.MergeRefIdeal.Gen.shapeCasts_S4096x1024_S4096x1024) p)
    (mulf (gate g) (subf (broadcastInDim Cert.MergeRefIdeal.S4096x1024 ![] Cert.MergeRefIdeal.Gen.bcast_S_S4096x1024 (constant Cert.MergeRefIdeal.S_ .f32 0x3F800000#32)) (gate g))))
    Cert.MergeRefIdeal.Gen.bitsLt_bf16_f32

/-- The gradient to the gated array: `σ · dy`. -/
abbrev dGated (dy g : FVec Ideal S4096x1024 .f32) : FVec Ideal S4096x1024 .bf16 :=
  truncf .bf16 (mulf (gate g) (shapeCast _ dy Cert.MergeRefIdeal.Gen.shapeCasts_S4096x1024_S4096x1024)) Cert.MergeRefIdeal.Gen.bitsLt_bf16_f32

/-- The two gates' columns of the projection. -/
abbrev colsA (x : FVec Ideal S4096x9216 .f32) : FVec Ideal S4096x1024 .f32 :=
  extractStridedSlice Cert.MergeRefIdeal.S4096x1024 ![0, 6656] x Cert.MergeRefIdeal.Gen.slices_S4096x9216_S4096x1024_0_6656
abbrev colsB (x : FVec Ideal S4096x9216 .f32) : FVec Ideal S4096x1024 .f32 :=
  extractStridedSlice Cert.MergeRefIdeal.S4096x1024 ![0, 7680] x Cert.MergeRefIdeal.Gen.slices_S4096x9216_S4096x1024_0_7680

theorem idx : ∀ t : Fin cfg0.N, win0_0.index t = ![t.val % 8, 13 + t.val / 8] ∧ win0_1.index t = ![t.val % 8, t.val / 8] ∧ win0_2.index t = ![t.val % 8, 15 + t.val / 8]
    ∧ win0_3.index t = ![t.val % 8, t.val / 8] ∧ win0_4.index t = ![t.val % 8, t.val / 8] ∧ win0_5.index t = ![t.val % 8, t.val / 8] ∧ win0_6.index t = ![t.val % 8, t.val / 8] ∧ win0_7.index t = ![t.val % 8, t.val / 8] ∧ win0_8.index t = ![t.val % 8, t.val / 8] :=
  (by decide +kernel : ∀ t : Fin grid0.N, _)

variable (m : (ℓ : Loc nD τ sig) → Buf (Elt Ideal) ℓ)

/-- The gradient to the first gate's logits. -/
theorem final5 (c : Dev nD) : (dats m 0 c).arrAt 5 (cfgs 0).N
    = dGate (m ((c : Thread nD τ).loc main_arg1)) (m ((c : Thread nD τ).loc main_arg3)) (colsA (m ((c : Thread nD τ).loc main_arg0))) := by
  refine (dats m 0 c).arrAt_eq_of_covers 5 _ (by decide +kernel) fun t _ y => ?_
  blk_simp
  rw [after0_5]; frame_out
  pointwise [k0_pay5, k0_pay3, k0_pay1, Ideal.logistic]
  blk_point [iblk, V, idx t]

/-- The gradient to the first gated array. -/
theorem final6 (c : Dev nD) : (dats m 0 c).arrAt 6 (cfgs 0).N
    = dGated (m ((c : Thread nD τ).loc main_arg3)) (colsA (m ((c : Thread nD τ).loc main_arg0))) := by
  refine (dats m 0 c).arrAt_eq_of_covers 6 _ (by decide +kernel) fun t _ y => ?_
  blk_simp
  rw [after0_6]; frame_out
  pointwise [k0_pay6, k0_pay3, k0_pay1, Ideal.logistic]
  blk_point [iblk, V, idx t]

/-- The gradient to the second gate's logits. -/
theorem final7 (c : Dev nD) : (dats m 0 c).arrAt 7 (cfgs 0).N
    = dGate (m ((c : Thread nD τ).loc main_arg2)) (m ((c : Thread nD τ).loc main_arg3)) (colsB (m ((c : Thread nD τ).loc main_arg0))) := by
  refine (dats m 0 c).arrAt_eq_of_covers 7 _ (by decide +kernel) fun t _ y => ?_
  blk_simp
  rw [after0_7]; frame_out
  pointwise [k0_pay7, k0_pay4, k0_pay2, Ideal.logistic]
  blk_point [iblk, V, idx t]

/-- The gradient to the second gated array. -/
theorem final8 (c : Dev nD) : (dats m 0 c).arrAt 8 (cfgs 0).N
    = dGated (m ((c : Thread nD τ).loc main_arg3)) (colsB (m ((c : Thread nD τ).loc main_arg0))) := by
  refine (dats m 0 c).arrAt_eq_of_covers 8 _ (by decide +kernel) fun t _ y => ?_
  blk_simp
  rw [after0_8]; frame_out
  pointwise [k0_pay8, k0_pay4, k0_pay2, Ideal.logistic]
  blk_point [iblk, V, idx t]

/-- The kernel and the reference compute the same four arrays over the extended reals. -/
theorem algebraic : Cert.algebraic_MergeIdeal_MergeRefIdeal (hMergeIdeal := Cert.MergeIdeal.Gen.facts) (hMergeRefIdeal := Cert.MergeRefIdeal.Gen.facts) := by
  pair_intro
  · run_from Cert.MergeIdeal.Value.run_blocks m g
  · run_from Cert.MergeRefIdeal.Value.run m' g'
    · exact (final5 m c).symm
    · exact (final6 m c).symm
    · exact (final7 m c).symm
    · exact (final8 m c).symm

end Cert.MergeIdeal.Grad

end
-- ==== Proof.Products.lean ====
/- The three matrix products of the projections as functions of an index, and how a product over a long
   axis is the sum of products over its parts. -/
module

public import Idealize.ShloMosaic.Lib.Pipeline.ValueKit

@[expose] public section

noncomputable section

open Idealize.ShloMosaic

namespace Cert.Products

variable {M N K : Nat} {φ ψ : FTy}

/-- `a · b`: element `(i, j)` is the sum over `k` of `a (i, k) * b (k, j)`. -/
def nn (a : FVec Ideal ⟨2, ![M, K]⟩ φ) (b : FVec Ideal ⟨2, ![K, N]⟩ ψ) : FVec Ideal ⟨2, ![M, N]⟩ .f32 :=
  fun i => (∑ k : Fin K, a (ix2 (i 0) k) * b (ix2 k (i 1)) : EReal)

/-- `a · bᵀ`: element `(i, j)` is the sum over `k` of `a (i, k) * b (j, k)`. -/
def nt (a : FVec Ideal ⟨2, ![M, K]⟩ φ) (b : FVec Ideal ⟨2, ![N, K]⟩ ψ) : FVec Ideal ⟨2, ![M, N]⟩ .f32 :=
  fun i => (∑ k : Fin K, a (ix2 (i 0) k) * b (ix2 (i 1) k) : EReal)

/-- `aᵀ · b`: element `(i, j)` is the sum over `k` of `a (k, i) * b (k, j)`. -/
def tn (a : FVec Ideal ⟨2, ![K, M]⟩ φ) (b : FVec Ideal ⟨2, ![K, N]⟩ ψ) : FVec Ideal ⟨2, ![M, N]⟩ .f32 :=
  fun i => (∑ k : Fin K, a (ix2 k (i 0)) * b (ix2 k (i 1)) : EReal)

end Cert.Products

end
-- ==== Proof.InProj.lean ====
/- The input projection `h · w` and its two gradients: what each kernel's array holds after the run, and that
   the reference computes the same. -/
module

public import proofs.«01_k».proof.Defs
public import proofs.«01_k».proof.Proof.Products
public import proofs.«01_k».proof.Proof.Gen.InDxIdeal.Value
public import proofs.«01_k».proof.Proof.Gen.InDxRefIdeal.Run
public import proofs.«01_k».proof.Proof.Gen.InDwIdeal.Value
public import proofs.«01_k».proof.Proof.Gen.InDwRefIdeal.Run
public import proofs.«01_k».proof.Proof.Gen.InFwdIdeal.Value
public import proofs.«01_k».proof.Proof.Gen.InFwdRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem Cert.Products

/-! ## The projection `h · w`: one product per block of 1024 rows and 2304 columns -/

namespace Cert.InFwdIdeal

open Gen

/-- Where the blocks sit at grid point `t`: row block `t / 4`, column block `t % 4`. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The result array after the run. -/
theorem final (m : (ℓ : Loc nD τ sig) → Buf (Elt Ideal) ℓ) (c : Dev nD) : (dats m 0 c).arrAt 2 (cfgs 0).N
    = nn (M := 4096) (N := 9216) (K := 1024) (φ := .bf16) (ψ := .bf16) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, nn]
  blk_point [iblk, V, idx t]

/-- The kernel and the reference compute the same array over the extended reals. -/
theorem algebraic : Cert.algebraic_InFwdIdeal_InFwdRefIdeal (hInFwdIdeal := facts) (hInFwdRefIdeal := Cert.InFwdRefIdeal.Gen.facts) := by
  pair_intro
  · run_from Value.run_blocks m g
  · run_from Cert.InFwdRefIdeal.Value.run m' g'
    rw [final m c]; funext i; pointwise [nn]

end Cert.InFwdIdeal

/-! ## The weight gradient `hᵀ · ct`: one product per block of 768 columns -/

namespace Cert.InDwIdeal

open Gen

/-- Where the blocks sit at grid point `t`: the whole of `h`; column block `t` of `ct` and of the result. -/
theorem idx : ∀ t : Fin cfg0.N, win0_0.index t = ![0, 0] ∧ win0_1.index t = ![0, t.val] ∧ win0_2.index t = ![0, t.val] :=
  (by decide +kernel : ∀ t : Fin grid0.N, _)

/-- The result array after the run. -/
theorem final (m : (ℓ : Loc nD τ sig) → Buf (Elt Ideal) ℓ) (c : Dev nD) : (dats m 0 c).arrAt 2 (cfgs 0).N
    = tn (M := 1024) (N := 9216) (K := 4096) (φ := .bf16) (ψ := .bf16) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, tn]
  blk_point [iblk, V, idx t]

/-- The kernel and the reference compute the same array over the extended reals. -/
theorem algebraic : Cert.algebraic_InDwIdeal_InDwRefIdeal (hInDwIdeal := facts) (hInDwRefIdeal := Cert.InDwRefIdeal.Gen.facts) := by
  pair_intro
  · run_from Value.run_blocks m g
  · run_from Cert.InDwRefIdeal.Value.run m' g'
    rw [final m c]; funext i; pointwise [tn]
    exact Finset.sum_congr rfl fun k _ => mul_comm _ _

end Cert.InDwIdeal

/-! ## The input gradient `ct · wᵀ`: three products of 3072 columns added up per block of 1024 rows -/

namespace Cert.InDxIdeal

open Gen

/-- Where the blocks sit at grid point `t`: row block `t / 3`, columns' part `t % 3`. -/
theorem idx : ∀ t : Fin cfg0.N, win0_0.index t = ![t.val / 3, t.val % 3] ∧ win0_1.index t = ![0, t.val % 3] ∧ win0_2.index t = ![t.val / 3, 0] :=
  (by decide +kernel : ∀ t : Fin grid0.N, _)

/-- The accumulator starts at zero. -/
theorem zero_apply (j) : k0_pay1 (F := Ideal) j = 0 := by pointwise [k0_pay1]

/-- One step adds the product of the point's two blocks to the accumulator. -/
theorem step_apply (acc : FVec Ideal S1024x1024 .f32) (x w : FVec Ideal S1024x3072 .bf16) (j) :
    k0_pay2 (F := Ideal) acc x w j = acc j + nt x w j := by pointwise [k0_pay2, nt]

variable (m : (ℓ : Loc nD τ sig) → Buf (Elt Ideal) ℓ)

/-- The product of the two blocks at a point. -/
def part (c : Dev nD) (t : Fin cfg0.N) (j : S1024x1024.Idx) : EReal :=
  nt (M := 1024) (N := 1024) (K := 3072) (φ := .bf16) (ψ := .bf16) (iblk m c 0 t) (iblk m c 1 t) j

/-- After the first point of a row block the accumulator is the point's product. -/
theorem acc_first (c : Dev nD) (t : Fin cfg0.N) (h : t.val % 3 = 0) (j) :
    (outsAt0 m c t.val t.isLt).2 j = (fun _ => 0 : S1024x1024.Idx → EReal) j + part m c t j := by
  rw [outsAt0_A m c t h (by omega)]; frame_out; rw [step_apply, zero_apply]; rfl

/-- After another point it is what the point before left plus the point's product. -/
theorem acc_next (c : Dev nD) (t : Fin cfg0.N) (h : ¬t.val % 3 = 0) (j) : (outsAt0 m c t.val t.isLt).2 j
    = (outsAt0 m c (t.val - 1) (Nat.lt_of_le_of_lt (Nat.sub_le _ _) t.isLt)).2 j + part m c t j := by
  by_cases h1 : t.val % 3 = 2
  · rw [outsAt0_C m c t h h1]; frame_out; simp only [read_unread_whole]; rw [step_apply]; rfl
  · rw [outsAt0_B m c t h h1]; frame_out; simp only [read_unread_whole]; rw [step_apply]; rfl

/-- At the last point of a row block the block written is the accumulator. -/
theorem out_eq_acc (c : Dev nD) (t : Fin cfg0.N) (h : t.val % 3 = 2) : (outsAt0 m c t.val t.isLt).1 = (outsAt0 m c t.val t.isLt).2 := by
  rw [outsAt0_C m c t (by omega) h]; frame_out

/-- The result array after the run. -/
theorem final (c : Dev nD) : (dats m 0 c).arrAt 2 (cfgs 0).N
    = nt (M := 4096) (N := 1024) (K := 9216) (φ := .bf16) (ψ := .bf16) (m ((c : Thread nD τ).loc main_arg0)) (m ((c : Thread nD τ).loc main_arg1)) := by
  refine (dats m 0 c).arrAt_eq_of_covers 2 _ (by decide +kernel) fun t hf y => ?_
  blk_simp
  have hm : t.val % 3 = 2 := (flush0_2 t).mp hf
  rw [after0_2, out_eq_acc m c t hm,
    Pipeline.eq_sum_fin_of_reset_step_apply_of_flush (fun n h => (outsAt0 m c n h).2) 3 (fun _ => (0 : EReal)) (part m c)
      (acc_first m c) (acc_next m c) t hm _, zero_add]
  unfold part nt
  refine Fin.sum_mul_add_congr fun s k hl => ?_
  have hs := idx ⟨3 * (t.val / 3) + s.val, Pipeline.run_point_lt_of_flush t hm s⟩
  blk_point [iblk, V, idx t, hs]

/-- The kernel and the reference compute the same array over the extended reals. -/
theorem algebraic : Cert.algebraic_InDxIdeal_InDxRefIdeal (hInDxIdeal := facts) (hInDxRefIdeal := Cert.InDxRefIdeal.Gen.facts) := by
  pair_intro
  · run_from Value.run_blocks m g
  · run_from Cert.InDxRefIdeal.Value.run m' g'
    rw [final m c]; funext i; pointwise [nt]

end Cert.InDxIdeal

end
-- ==== Proof.FfnIn.lean ====
/- The input projection of the feed-forward block and its two gradients. -/
module

public import proofs.«01_k».proof.Defs
public import proofs.«01_k».proof.Proof.Products
public import proofs.«01_k».proof.Proof.Gen.FfnInFwdIdeal.Value
public import proofs.«01_k».proof.Proof.Gen.FfnInFwdRefIdeal.Run
public import proofs.«01_k».proof.Proof.Gen.FfnInDxIdeal.Value
public import proofs.«01_k».proof.Proof.Gen.FfnInDxRefIdeal.Run
public import proofs.«01_k».proof.Proof.Gen.FfnInDwIdeal.Value
public import proofs.«01_k».proof.Proof.Gen.FfnInDwRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Products

/-! ## The projection `h2 · w`: one product per block of 2048 rows and 512 columns -/

namespace Cert.FfnInFwdIdeal

open Gen

/-- Where the blocks sit at grid point `t`: row block `t / 11`, column block `t % 11`. -/
theorem idx : ∀ t : Fin cfg0.N, win0_0.index t = ![t.val / 11, 0] ∧ win0_1.index t = ![0, t.val % 11] ∧ win0_2.index t = ![t.val / 11, t.val % 11] :=
  (by decide +kernel : ∀ t : Fin grid0.N, _)

/-- The result array after the run. -/
theorem final (m : (ℓ : Loc nD τ sig) → Buf (Elt Ideal) ℓ) (c : Dev nD) : (dats m 0 c).arrAt 2 (cfgs 0).N
    = nn (M := 4096) (N := 5632) (K := 1024) (φ := .bf16) (ψ := .bf16) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, nn]
  blk_point [iblk, V, idx t]

/-- The kernel and the reference compute the same array over the extended reals. -/
theorem algebraic : Cert.algebraic_FfnInFwdIdeal_FfnInFwdRefIdeal (hFfnInFwdIdeal := facts) (hFfnInFwdRefIdeal := Cert.FfnInFwdRefIdeal.Gen.facts) := by
  pair_intro
  · run_from Value.run_blocks m g
  · run_from Cert.FfnInFwdRefIdeal.Value.run m' g'
    rw [final m c]; funext i; pointwise [nn]

end Cert.FfnInFwdIdeal

/-! ## The input gradient `ct · wᵀ`: one product per block of 512 rows -/

namespace Cert.FfnInDxIdeal

open Gen

/-- Where the blocks sit at grid point `t`: row block `t`; the whole of `w`. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem final (m : (ℓ : Loc nD τ sig) → Buf (Elt Ideal) ℓ) (c : Dev nD) : (dats m 0 c).arrAt 2 (cfgs 0).N
    = nt (M := 4096) (N := 1024) (K := 5632) (φ := .bf16) (ψ := .bf16) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, nt]
  blk_point [iblk, V, idx t]

/-- The kernel and the reference compute the same array over the extended reals. -/
theorem algebraic : Cert.algebraic_FfnInDxIdeal_FfnInDxRefIdeal (hFfnInDxIdeal := facts) (hFfnInDxRefIdeal := Cert.FfnInDxRefIdeal.Gen.facts) := by
  pair_intro
  · run_from Value.run_blocks m g
  · run_from Cert.FfnInDxRefIdeal.Value.run m' g'
    rw [final m c]; funext i; pointwise [nt]

end Cert.FfnInDxIdeal

/-! ## The weight gradient `h2ᵀ · ct`: one product per block of 512 rows and 1408 columns; the result is laid out as four
groups of 1408 columns -/

namespace Cert.FfnInDwIdeal

open Gen

/-- Where the blocks sit at grid point `t`: column block `t / 4` of `h2`; column block `t % 4` of `ct`; in the result, group
    `t % 4`, row block `t / 4`. -/
theorem idx : ∀ t : Fin cfg0.N, win0_0.index t = ![0, t.val / 4] ∧ win0_1.index t = ![0, t.val % 4] ∧ win0_2.index t = ![t.val % 4, t.val / 4, 0] :=
  (by decide +kernel : ∀ t : Fin grid0.N, _)

/-- The gradient with its columns in four groups: element `(g, i, j)` is the one at row `i`, column `1408 g + j`. -/
def grouped (a : FVec Ideal S4096x1024 .bf16) (ct : FVec Ideal S4096x5632 .bf16) : FVec Ideal S4x1024x1408 .f32 :=
  fun i => tn (M := 1024) (N := 5632) (K := 4096) a ct
    (ix2 (i 1) ⟨(i 0).val * 1408 + (i 2).val, by have h0 : (i 0).val < 4 := (i 0).isLt; have h2 : (i 2).val < 1408 := (i 2).isLt; omega⟩)

/-- The result array after the run. -/
theorem final (m : (ℓ : Loc nD τ sig) → Buf (Elt Ideal) ℓ) (c : Dev nD) : (dats m 0 c).arrAt 2 (cfgs 0).N
    = grouped (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, grouped, tn]
  blk_point [iblk, V, idx t]

/-- The kernel and the reference compute the same array over the extended reals. -/
theorem algebraic : Cert.algebraic_FfnInDwIdeal_FfnInDwRefIdeal (hFfnInDwIdeal := facts) (hFfnInDwRefIdeal := Cert.FfnInDwRefIdeal.Gen.facts) := by
  pair_intro
  · run_from Value.run_blocks m g
  · run_from Cert.FfnInDwRefIdeal.Value.run m' g'
    rw [final m c]; funext i; pointwise [grouped, tn]
    exact Finset.sum_congr rfl fun k _ => mul_comm _ _

end Cert.FfnInDwIdeal

end
-- ==== Proof.FfnDown.lean ====
/- The output projection of the feed-forward block, with its residual, and its two gradients. -/
module

public import proofs.«01_k».proof.Defs
public import proofs.«01_k».proof.Proof.Products
public import proofs.«01_k».proof.Proof.Gen.FfnDownFwdIdeal.Value
public import proofs.«01_k».proof.Proof.Gen.FfnDownFwdRefIdeal.Run
public import proofs.«01_k».proof.Proof.Gen.FfnDownDxIdeal.Value
public import proofs.«01_k».proof.Proof.Gen.FfnDownDxRefIdeal.Run
public import proofs.«01_k».proof.Proof.Gen.FfnDownDwIdeal.Value
public import proofs.«01_k».proof.Proof.Gen.FfnDownDwRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Products

/-! ## The projection `x1 + act · w`: one product per block of 512 rows -/

namespace Cert.FfnDownFwdIdeal

open Gen

/-- Where the blocks sit at grid point `t`: row block `t`; the whole of `w`. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The result array after the run. -/
theorem final (m : (ℓ : Loc nD τ sig) → Buf (Elt Ideal) ℓ) (c : Dev nD) : (dats m 0 c).arrAt 3 (cfgs 0).N
    = addf (m ((c : Thread nD τ).loc main_arg2)) (nn (M := 4096) (N := 1024) (K := 2816) (φ := .bf16) (ψ := .bf16) (m ((c : Thread nD τ).loc main_arg0)) (m ((c : Thread nD τ).loc main_arg1))) := by
  refine (dats m 0 c).arrAt_eq_of_covers 3 _ (by decide +kernel) fun t _ y => ?_
  blk_simp
  rw [after0_3]; frame_out
  pointwise [k0_pay1, nn]
  blk_point [iblk, V, idx t]

/-- The kernel and the reference compute the same array over the extended reals. -/
theorem algebraic : Cert.algebraic_FfnDownFwdIdeal_FfnDownFwdRefIdeal (hFfnDownFwdIdeal := facts) (hFfnDownFwdRefIdeal := Cert.FfnDownFwdRefIdeal.Gen.facts) := by
  pair_intro
  · run_from Value.run_blocks m g
  · run_from Cert.FfnDownFwdRefIdeal.Value.run m' g'
    rw [final m c]; funext i; pointwise [nn]

end Cert.FfnDownFwdIdeal

/-! ## The input gradient `ct · wᵀ`: one product per block of 1024 rows and 1408 columns -/

namespace Cert.FfnDownDxIdeal

open Gen

/-- Where the blocks sit at grid point `t`: row block `t / 2` of `ct`, row block `t % 2` of `w`. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The result array after the run. -/
theorem final (m : (ℓ : Loc nD τ sig) → Buf (Elt Ideal) ℓ) (c : Dev nD) : (dats m 0 c).arrAt 2 (cfgs 0).N
    = nt (M := 4096) (N := 2816) (K := 1024) (φ := .f32) (ψ := .bf16) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, nt]
  blk_point [iblk, V, idx t]

/-- The kernel and the reference compute the same array over the extended reals. -/
theorem algebraic : Cert.algebraic_FfnDownDxIdeal_FfnDownDxRefIdeal (hFfnDownDxIdeal := facts) (hFfnDownDxRefIdeal := Cert.FfnDownDxRefIdeal.Gen.facts) := by
  pair_intro
  · run_from Value.run_blocks m g
  · run_from Cert.FfnDownDxRefIdeal.Value.run m' g'
    rw [final m c]; funext i; pointwise [nt]

end Cert.FfnDownDxIdeal

/-! ## The weight gradient `actᵀ · ct`: one product per block of 1408 rows and 256 columns -/

namespace Cert.FfnDownDwIdeal

open Gen

/-- Where the blocks sit at grid point `t`: column block `t / 4` of `act`, column block `t % 4` of `ct`. -/
theorem idx : ∀ t : Fin cfg0.N, win0_0.index t = ![0, t.val / 4] ∧ win0_1.index t = ![0, t.val % 4] ∧ win0_2.index t = ![t.val / 4, t.val % 4] :=
  (by decide +kernel : ∀ t : Fin grid0.N, _)

/-- The result array after the run. -/
theorem final (m : (ℓ : Loc nD τ sig) → Buf (Elt Ideal) ℓ) (c : Dev nD) : (dats m 0 c).arrAt 2 (cfgs 0).N
    = tn (M := 2816) (N := 1024) (K := 4096) (φ := .bf16) (ψ := .f32) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, tn]
  blk_point [iblk, V, idx t]

/-- The kernel and the reference compute the same array over the extended reals. -/
theorem algebraic : Cert.algebraic_FfnDownDwIdeal_FfnDownDwRefIdeal (hFfnDownDwIdeal := facts) (hFfnDownDwRefIdeal := Cert.FfnDownDwRefIdeal.Gen.facts) := by
  pair_intro
  · run_from Value.run_blocks m g
  · run_from Cert.FfnDownDwRefIdeal.Value.run m' g'
    rw [final m c]; funext i; pointwise [tn]
    exact Finset.sum_congr rfl fun k _ => mul_comm _ _

end Cert.FfnDownDwIdeal

end
-- ==== Proof.OutProj.lean ====
/- The output projection of the block, with its residual, and its two gradients. -/
module

public import proofs.«01_k».proof.Defs
public import proofs.«01_k».proof.Proof.Products
public import proofs.«01_k».proof.Proof.Gen.OutFwdIdeal.Value
public import proofs.«01_k».proof.Proof.Gen.OutFwdRefIdeal.Run
public import proofs.«01_k».proof.Proof.Gen.OutDxIdeal.Value
public import proofs.«01_k».proof.Proof.Gen.OutDxRefIdeal.Run
public import proofs.«01_k».proof.Proof.Gen.OutDwIdeal.Value
public import proofs.«01_k».proof.Proof.Gen.OutDwRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Products

/-! ## The projection `x + merged · w`: one product per block of 1024 rows -/

namespace Cert.OutFwdIdeal

open Gen

/-- Where the blocks sit at grid point `t`: row block `t`; the whole of `w`. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The result array after the run. -/
theorem final (m : (ℓ : Loc nD τ sig) → Buf (Elt Ideal) ℓ) (c : Dev nD) : (dats m 0 c).arrAt 3 (cfgs 0).N
    = addf (m ((c : Thread nD τ).loc main_arg2)) (nn (M := 4096) (N := 1024) (K := 1024) (φ := .bf16) (ψ := .bf16) (m ((c : Thread nD τ).loc main_arg0)) (m ((c : Thread nD τ).loc main_arg1))) := by
  refine (dats m 0 c).arrAt_eq_of_covers 3 _ (by decide +kernel) fun t _ y => ?_
  blk_simp
  rw [after0_3]; frame_out
  pointwise [k0_pay1, nn]
  blk_point [iblk, V, idx t]

/-- The kernel and the reference compute the same array over the extended reals. -/
theorem algebraic : Cert.algebraic_OutFwdIdeal_OutFwdRefIdeal (hOutFwdIdeal := facts) (hOutFwdRefIdeal := Cert.OutFwdRefIdeal.Gen.facts) := by
  pair_intro
  · run_from Value.run_blocks m g
  · run_from Cert.OutFwdRefIdeal.Value.run m' g'
    rw [final m c]; funext i; pointwise [nn]

end Cert.OutFwdIdeal

/-! ## The input gradient `ct · wᵀ`: one product per block of 1024 rows -/

namespace Cert.OutDxIdeal

open Gen

/-- Where the blocks sit at grid point `t`: row block `t`; the whole of `w`. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem final (m : (ℓ : Loc nD τ sig) → Buf (Elt Ideal) ℓ) (c : Dev nD) : (dats m 0 c).arrAt 2 (cfgs 0).N
    = nt (M := 4096) (N := 1024) (K := 1024) (φ := .f32) (ψ := .bf16) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, nt]
  blk_point [iblk, V, idx t]

/-- The kernel and the reference compute the same array over the extended reals. -/
theorem algebraic : Cert.algebraic_OutDxIdeal_OutDxRefIdeal (hOutDxIdeal := facts) (hOutDxRefIdeal := Cert.OutDxRefIdeal.Gen.facts) := by
  pair_intro
  · run_from Value.run_blocks m g
  · run_from Cert.OutDxRefIdeal.Value.run m' g'
    rw [final m c]; funext i; pointwise [nt]

end Cert.OutDxIdeal

/-! ## The weight gradient `mergedᵀ · ct`: one product per block of 256 columns -/

namespace Cert.OutDwIdeal

open Gen

/-- Where the blocks sit at grid point `t`: the whole of `merged`; column block `t` of `ct`. -/
theorem idx : ∀ t : Fin cfg0.N, win0_0.index t = ![0, 0] ∧ win0_1.index t = ![0, t.val] ∧ win0_2.index t = ![0, t.val] :=
  (by decide +kernel : ∀ t : Fin grid0.N, _)

/-- The result array after the run. -/
theorem final (m : (ℓ : Loc nD τ sig) → Buf (Elt Ideal) ℓ) (c : Dev nD) : (dats m 0 c).arrAt 2 (cfgs 0).N
    = tn (M := 1024) (N := 1024) (K := 4096) (φ := .bf16) (ψ := .f32) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, tn]
  blk_point [iblk, V, idx t]

/-- The kernel and the reference compute the same array over the extended reals. -/
theorem algebraic : Cert.algebraic_OutDwIdeal_OutDwRefIdeal (hOutDwIdeal := facts) (hOutDwRefIdeal := Cert.OutDwRefIdeal.Gen.facts) := by
  pair_intro
  · run_from Value.run_blocks m g
  · run_from Cert.OutDwRefIdeal.Value.run m' g'
    rw [final m c]; funext i; pointwise [tn]
    exact Finset.sum_congr rfl fun k _ => mul_comm _ _

end Cert.OutDwIdeal

end
-- ==== Proof.Branch.lean ====
/- The projection after either branch (state-space or gated delta rule; both calls have these shapes) and its two
   gradients. -/
module

public import proofs.«01_k».proof.Defs
public import proofs.«01_k».proof.Proof.Products
public import proofs.«01_k».proof.Proof.Gen.BranchFwdIdeal.Value
public import proofs.«01_k».proof.Proof.Gen.BranchFwdRefIdeal.Run
public import proofs.«01_k».proof.Proof.Gen.BranchDxIdeal.Value
public import proofs.«01_k».proof.Proof.Gen.BranchDxRefIdeal.Run
public import proofs.«01_k».proof.Proof.Gen.BranchDwIdeal.Value
public import proofs.«01_k».proof.Proof.Gen.BranchDwRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Products

/-! ## The projection `y · w`: one product per block of 2048 rows -/

namespace Cert.BranchFwdIdeal

open Gen

/-- Where the blocks sit at grid point `t`: row block `t`; the whole of `w`. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem final (m : (ℓ : Loc nD τ sig) → Buf (Elt Ideal) ℓ) (c : Dev nD) : (dats m 0 c).arrAt 2 (cfgs 0).N
    = nn (M := 4096) (N := 1024) (K := 1024) (φ := .bf16) (ψ := .bf16) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, nn]
  blk_point [iblk, V, idx t]

/-- The kernel and the reference compute the same array over the extended reals. -/
theorem algebraic : Cert.algebraic_BranchFwdIdeal_BranchFwdRefIdeal (hBranchFwdIdeal := facts) (hBranchFwdRefIdeal := Cert.BranchFwdRefIdeal.Gen.facts) := by
  pair_intro
  · run_from Value.run_blocks m g
  · run_from Cert.BranchFwdRefIdeal.Value.run m' g'
    rw [final m c]; funext i; pointwise [nn]

end Cert.BranchFwdIdeal

/-! ## The input gradient `ct · wᵀ`: one product per block of 2048 rows -/

namespace Cert.BranchDxIdeal

open Gen

/-- Where the blocks sit at grid point `t`: row block `t`; the whole of `w`. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem final (m : (ℓ : Loc nD τ sig) → Buf (Elt Ideal) ℓ) (c : Dev nD) : (dats m 0 c).arrAt 2 (cfgs 0).N
    = nt (M := 4096) (N := 1024) (K := 1024) (φ := .bf16) (ψ := .bf16) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, nt]
  blk_point [iblk, V, idx t]

/-- The kernel and the reference compute the same array over the extended reals. -/
theorem algebraic : Cert.algebraic_BranchDxIdeal_BranchDxRefIdeal (hBranchDxIdeal := facts) (hBranchDxRefIdeal := Cert.BranchDxRefIdeal.Gen.facts) := by
  pair_intro
  · run_from Value.run_blocks m g
  · run_from Cert.BranchDxRefIdeal.Value.run m' g'
    rw [final m c]; funext i; pointwise [nt]

end Cert.BranchDxIdeal

/-! ## The weight gradient `yᵀ · ct`: one product per block of 512 rows -/

namespace Cert.BranchDwIdeal

open Gen

/-- Where the blocks sit at grid point `t`: column block `t` of `y`; the whole of `ct`. -/
theorem idx : ∀ t : Fin cfg0.N, win0_0.index t = ![0, t.val] ∧ win0_1.index t = ![0, 0] ∧ win0_2.index t = ![t.val, 0] :=
  (by decide +kernel : ∀ t : Fin grid0.N, _)

/-- The result array after the run. -/
theorem final (m : (ℓ : Loc nD τ sig) → Buf (Elt Ideal) ℓ) (c : Dev nD) : (dats m 0 c).arrAt 2 (cfgs 0).N
    = tn (M := 1024) (N := 1024) (K := 4096) (φ := .bf16) (ψ := .bf16) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, tn]
  blk_point [iblk, V, idx t]

/-- The kernel and the reference compute the same array over the extended reals. -/
theorem algebraic : Cert.algebraic_BranchDwIdeal_BranchDwRefIdeal (hBranchDwIdeal := facts) (hBranchDwRefIdeal := Cert.BranchDwRefIdeal.Gen.facts) := by
  pair_intro
  · run_from Value.run_blocks m g
  · run_from Cert.BranchDwRefIdeal.Value.run m' g'
    rw [final m c]; funext i; pointwise [tn]
    exact Finset.sum_congr rfl fun k _ => mul_comm _ _

end Cert.BranchDwIdeal

end
-- ==== Proof.Adam.lean ====
/- One AdamW step as a function of four arrays. -/
module

public import Idealize.ShloMosaic.Lib.Pipeline.ValueKit

@[expose] public section

set_option maxRecDepth 16384

noncomputable section

open Idealize.ShloMosaic Idealize.ShloMosaic.TcCoe

/-! ## The step as a function of four arrays of any shape -/

namespace Cert.Adam

variable {S : Shape}

/-- The first moment: `β₁ m + (1 − β₁) g`. -/
def first (m g : FVec Ideal S .f32) : FVec Ideal S .f32 :=
  addf (mulf (broadcast S (Scalar.ofBits .f32 0x3F666666#32)) m) (mulf (broadcast S (Scalar.ofBits .f32 0x3DCCCCCD#32)) g)

/-- The second moment: `β₂ v + (1 − β₂) g²`. -/
def second (v g : FVec Ideal S .f32) : FVec Ideal S .f32 :=
  addf (mulf (broadcast S (Scalar.ofBits .f32 0x3F7FBE77#32)) v) (mulf (broadcast S (Scalar.ofBits .f32 0x3A83126F#32)) (mulf g g))

/-- The change of the weight: `−η (m̂ / (√v̂ + ε) + λ w)`, `m̂` and `v̂` the moments over `1 − βᵗ`. -/
def delta (w g m v : FVec Ideal S .f32) : FVec Ideal S .f32 :=
  mulf (broadcast S (Scalar.ofBits .f32 0xBA83126F#32))
    (addf (divf (divf (first m g) (broadcast S (Scalar.ofBits .f32 0x3F26BD02#32)))
      (addf (sqrt (divf (second v g) (broadcast S (Scalar.ofBits .f32 0x3C231ACC#32)))) (broadcast S (Scalar.ofBits .f32 0x322BCC77#32))))
      (mulf (broadcast S (Scalar.ofBits .f32 0x3C23D70A#32)) w))

end Cert.Adam

end
-- ==== Proof.AdamMix.lean ====
/- The AdamW step on the weights of the mixers: the input projection, the branches' and the output projection, the
   convolutions. -/
module

public import proofs.«01_k».proof.Defs
public import proofs.«01_k».proof.Proof.Adam
public import proofs.«01_k».proof.Proof.Gen.AdamProjIdeal.Value
public import proofs.«01_k».proof.Proof.Gen.AdamProjRefIdeal.Run
public import proofs.«01_k».proof.Proof.Gen.AdamInIdeal.Value
public import proofs.«01_k».proof.Proof.Gen.AdamInRefIdeal.Run
public import proofs.«01_k».proof.Proof.Gen.AdamConvSIdeal.Value
public import proofs.«01_k».proof.Proof.Gen.AdamConvSRefIdeal.Run
public import proofs.«01_k».proof.Proof.Gen.AdamConvGIdeal.Value
public import proofs.«01_k».proof.Proof.Gen.AdamConvGRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Adam

/-! ## The weights of the two branches' projections and of the output projection -/

namespace Cert.AdamProjIdeal

open Gen

/-- Where the blocks sit: block `t` of 256 rows at point `t`. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The three result arrays after the run. -/
theorem final4 : (dats m 0 c).arrAt 4 (cfgs 0).N
    = delta (S := S512x1024) (V m c main_v0) (V m c main_v1) (V m c main_v2) (V m c main_v3) := by
  refine (dats m 0 c).arrAt_eq_of_covers 4 _ (by decide +kernel) fun t _ y => ?_
  blk_simp
  rw [after0_4]; frame_out
  pointwise [k0_pay4, k0_pay3, k0_pay2, delta, first, second]
  blk_point [iblk, idx t]

theorem final5 : (dats m 0 c).arrAt 5 (cfgs 0).N = first (S := S512x1024) (V m c main_v2) (V m c main_v1) := by
  refine (dats m 0 c).arrAt_eq_of_covers 5 _ (by decide +kernel) fun t _ y => ?_
  blk_simp
  rw [after0_5]; frame_out
  pointwise [k0_pay2, first]
  blk_point [iblk, idx t]

theorem final6 : (dats m 0 c).arrAt 6 (cfgs 0).N = second (S := S512x1024) (V m c main_v3) (V m c main_v1) := by
  refine (dats m 0 c).arrAt_eq_of_covers 6 _ (by decide +kernel) fun t _ y => ?_
  blk_simp
  rw [after0_6]; frame_out
  pointwise [k0_pay3, second]
  blk_point [iblk, idx t]

/-- The kernel and the reference compute the same three arrays over the extended reals. -/
theorem algebraic : Cert.algebraic_AdamProjIdeal_AdamProjRefIdeal (hAdamProjIdeal := facts) (hAdamProjRefIdeal := Cert.AdamProjRefIdeal.Gen.facts) := by
  pair_intro
  · run_from Value.run_blocks m g
  · run_from Cert.AdamProjRefIdeal.Value.run m' g'
    · rw [final4 m c]; rfl
    · rw [final5 m c]; rfl
    · rw [final6 m c]; rfl

end Cert.AdamProjIdeal

/-! ## The input projection's weight -/

namespace Cert.AdamInIdeal

open Gen

/-- Where the blocks sit: block `t` of 64 rows at point `t`. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The three result arrays after the run. -/
theorem final4 : (dats m 0 c).arrAt 4 (cfgs 0).N
    = delta (S := S2048x2184) (V m c main_v0) (V m c main_v1) (V m c main_v2) (V m c main_v3) := by
  refine (dats m 0 c).arrAt_eq_of_covers 4 _ (by decide +kernel) fun t _ y => ?_
  blk_simp
  rw [after0_4]; frame_out
  pointwise [k0_pay4, k0_pay3, k0_pay2, delta, first, second]
  blk_point [iblk, idx t]

theorem final5 : (dats m 0 c).arrAt 5 (cfgs 0).N = first (S := S2048x2184) (V m c main_v2) (V m c main_v1) := by
  refine (dats m 0 c).arrAt_eq_of_covers 5 _ (by decide +kernel) fun t _ y => ?_
  blk_simp
  rw [after0_5]; frame_out
  pointwise [k0_pay2, first]
  blk_point [iblk, idx t]

theorem final6 : (dats m 0 c).arrAt 6 (cfgs 0).N = second (S := S2048x2184) (V m c main_v3) (V m c main_v1) := by
  refine (dats m 0 c).arrAt_eq_of_covers 6 _ (by decide +kernel) fun t _ y => ?_
  blk_simp
  rw [after0_6]; frame_out
  pointwise [k0_pay3, second]
  blk_point [iblk, idx t]

/-- The kernel and the reference compute the same three arrays over the extended reals. -/
theorem algebraic : Cert.algebraic_AdamInIdeal_AdamInRefIdeal (hAdamInIdeal := facts) (hAdamInRefIdeal := Cert.AdamInRefIdeal.Gen.facts) := by
  pair_intro
  · run_from Value.run_blocks m g
  · run_from Cert.AdamInRefIdeal.Value.run m' g'
    · rw [final4 m c]; rfl
    · rw [final5 m c]; rfl
    · rw [final6 m c]; rfl

end Cert.AdamInIdeal

/-! ## The state-space branch's convolution -/

namespace Cert.AdamConvSIdeal

open Gen

/-- Where the blocks sit: the whole arrays at the one point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ) (c : Dev nD)

/-- The three result arrays after the run. -/
theorem final4 : (dats m 0 c).arrAt 4 (cfgs 0).N
    = delta (S := S8x384) (V m c main_v0) (V m c main_v1) (V m c main_v2) (V m c main_v3) := by
  refine (dats m 0 c).arrAt_eq_of_covers 4 _ (by decide +kernel) fun t _ y => ?_
  blk_simp
  rw [after0_4]; frame_out
  pointwise [k0_pay4, k0_pay3, k0_pay2, delta, first, second]
  blk_point [iblk, idx t]

theorem final5 : (dats m 0 c).arrAt 5 (cfgs 0).N = first (S := S8x384) (V m c main_v2) (V m c main_v1) := by
  refine (dats m 0 c).arrAt_eq_of_covers 5 _ (by decide +kernel) fun t _ y => ?_
  blk_simp
  rw [after0_5]; frame_out
  pointwise [k0_pay2, first]
  blk_point [iblk, idx t]

theorem final6 : (dats m 0 c).arrAt 6 (cfgs 0).N = second (S := S8x384) (V m c main_v3) (V m c main_v1) := by
  refine (dats m 0 c).arrAt_eq_of_covers 6 _ (by decide +kernel) fun t _ y => ?_
  blk_simp
  rw [after0_6]; frame_out
  pointwise [k0_pay3, second]
  blk_point [iblk, idx t]

/-- The kernel and the reference compute the same three arrays over the extended reals. -/
theorem algebraic : Cert.algebraic_AdamConvSIdeal_AdamConvSRefIdeal (hAdamConvSIdeal := facts) (hAdamConvSRefIdeal := Cert.AdamConvSRefIdeal.Gen.facts) := by
  pair_intro
  · run_from Value.run_blocks m g
  · run_from Cert.AdamConvSRefIdeal.Value.run m' g'
    · rw [final4 m c]; rfl
    · rw [final5 m c]; rfl
    · rw [final6 m c]; rfl

end Cert.AdamConvSIdeal

/-! ## The delta-rule branch's convolution -/

namespace Cert.AdamConvGIdeal

open Gen

/-- Where the blocks sit: the whole arrays at the one point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ) (c : Dev nD)

/-- The three result arrays after the run. -/
theorem final4 : (dats m 0 c).arrAt 4 (cfgs 0).N
    = delta (S := S8x768) (V m c main_v0) (V m c main_v1) (V m c main_v2) (V m c main_v3) := by
  refine (dats m 0 c).arrAt_eq_of_covers 4 _ (by decide +kernel) fun t _ y => ?_
  blk_simp
  rw [after0_4]; frame_out
  pointwise [k0_pay4, k0_pay3, k0_pay2, delta, first, second]
  blk_point [iblk, idx t]

theorem final5 : (dats m 0 c).arrAt 5 (cfgs 0).N = first (S := S8x768) (V m c main_v2) (V m c main_v1) := by
  refine (dats m 0 c).arrAt_eq_of_covers 5 _ (by decide +kernel) fun t _ y => ?_
  blk_simp
  rw [after0_5]; frame_out
  pointwise [k0_pay2, first]
  blk_point [iblk, idx t]

theorem final6 : (dats m 0 c).arrAt 6 (cfgs 0).N = second (S := S8x768) (V m c main_v3) (V m c main_v1) := by
  refine (dats m 0 c).arrAt_eq_of_covers 6 _ (by decide +kernel) fun t _ y => ?_
  blk_simp
  rw [after0_6]; frame_out
  pointwise [k0_pay3, second]
  blk_point [iblk, idx t]

/-- The kernel and the reference compute the same three arrays over the extended reals. -/
theorem algebraic : Cert.algebraic_AdamConvGIdeal_AdamConvGRefIdeal (hAdamConvGIdeal := facts) (hAdamConvGRefIdeal := Cert.AdamConvGRefIdeal.Gen.facts) := by
  pair_intro
  · run_from Value.run_blocks m g
  · run_from Cert.AdamConvGRefIdeal.Value.run m' g'
    · rw [final4 m c]; rfl
    · rw [final5 m c]; rfl
    · rw [final6 m c]; rfl

end Cert.AdamConvGIdeal

end
-- ==== Proof.AdamFfn.lean ====
/- The AdamW step on the feed-forward weights. -/
module

public import proofs.«01_k».proof.Defs
public import proofs.«01_k».proof.Proof.Adam
public import proofs.«01_k».proof.Proof.Gen.AdamFfnInIdeal.Value
public import proofs.«01_k».proof.Proof.Gen.AdamFfnInRefIdeal.Run
public import proofs.«01_k».proof.Proof.Gen.AdamFfnDownIdeal.Value
public import proofs.«01_k».proof.Proof.Gen.AdamFfnDownRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Adam

/-! ## The first feed-forward weight -/

namespace Cert.AdamFfnInIdeal

open Gen

/-- Where the blocks sit: block `t` of 128 rows at point `t`. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The three result arrays after the run. -/
theorem final4 : (dats m 0 c).arrAt 4 (cfgs 0).N
    = delta (S := S2048x1408) (V m c main_v0) (V m c main_v1) (V m c main_v2) (V m c main_v3) := by
  refine (dats m 0 c).arrAt_eq_of_covers 4 _ (by decide +kernel) fun t _ y => ?_
  blk_simp
  rw [after0_4]; frame_out
  pointwise [k0_pay4, k0_pay3, k0_pay2, delta, first, second]
  blk_point [iblk, idx t]

theorem final5 : (dats m 0 c).arrAt 5 (cfgs 0).N = first (S := S2048x1408) (V m c main_v2) (V m c main_v1) := by
  refine (dats m 0 c).arrAt_eq_of_covers 5 _ (by decide +kernel) fun t _ y => ?_
  blk_simp
  rw [after0_5]; frame_out
  pointwise [k0_pay2, first]
  blk_point [iblk, idx t]

theorem final6 : (dats m 0 c).arrAt 6 (cfgs 0).N = second (S := S2048x1408) (V m c main_v3) (V m c main_v1) := by
  refine (dats m 0 c).arrAt_eq_of_covers 6 _ (by decide +kernel) fun t _ y => ?_
  blk_simp
  rw [after0_6]; frame_out
  pointwise [k0_pay3, second]
  blk_point [iblk, idx t]

/-- The kernel and the reference compute the same three arrays over the extended reals. -/
theorem algebraic : Cert.algebraic_AdamFfnInIdeal_AdamFfnInRefIdeal (hAdamFfnInIdeal := facts) (hAdamFfnInRefIdeal := Cert.AdamFfnInRefIdeal.Gen.facts) := by
  pair_intro
  · run_from Value.run_blocks m g
  · run_from Cert.AdamFfnInRefIdeal.Value.run m' g'
    · rw [final4 m c]; rfl
    · rw [final5 m c]; rfl
    · rw [final6 m c]; rfl

end Cert.AdamFfnInIdeal

/-! ## The second feed-forward weight -/

namespace Cert.AdamFfnDownIdeal

open Gen

/-- Where the blocks sit: block `t` of 128 rows at point `t`. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The three result arrays after the run. -/
theorem final4 : (dats m 0 c).arrAt 4 (cfgs 0).N
    = delta (S := S1408x1024) (V m c main_v0) (V m c main_v1) (V m c main_v2) (V m c main_v3) := by
  refine (dats m 0 c).arrAt_eq_of_covers 4 _ (by decide +kernel) fun t _ y => ?_
  blk_simp
  rw [after0_4]; frame_out
  pointwise [k0_pay4, k0_pay3, k0_pay2, delta, first, second]
  blk_point [iblk, idx t]

theorem final5 : (dats m 0 c).arrAt 5 (cfgs 0).N = first (S := S1408x1024) (V m c main_v2) (V m c main_v1) := by
  refine (dats m 0 c).arrAt_eq_of_covers 5 _ (by decide +kernel) fun t _ y => ?_
  blk_simp
  rw [after0_5]; frame_out
  pointwise [k0_pay2, first]
  blk_point [iblk, idx t]

theorem final6 : (dats m 0 c).arrAt 6 (cfgs 0).N = second (S := S1408x1024) (V m c main_v3) (V m c main_v1) := by
  refine (dats m 0 c).arrAt_eq_of_covers 6 _ (by decide +kernel) fun t _ y => ?_
  blk_simp
  rw [after0_6]; frame_out
  pointwise [k0_pay3, second]
  blk_point [iblk, idx t]

/-- The kernel and the reference compute the same three arrays over the extended reals. -/
theorem algebraic : Cert.algebraic_AdamFfnDownIdeal_AdamFfnDownRefIdeal (hAdamFfnDownIdeal := facts) (hAdamFfnDownRefIdeal := Cert.AdamFfnDownRefIdeal.Gen.facts) := by
  pair_intro
  · run_from Value.run_blocks m g
  · run_from Cert.AdamFfnDownRefIdeal.Value.run m' g'
    · rw [final4 m c]; rfl
    · rw [final5 m c]; rfl
    · rw [final6 m c]; rfl

end Cert.AdamFfnDownIdeal

end
-- ==== Proof.Gates.lean ====
/- The gated merge forward, and the gated linear unit of the feed-forward layer with its gradient. -/
module

public import proofs.«01_k».proof.Defs
public import proofs.«01_k».proof.Proof.Gen.MergeFwdIdeal.Value
public import proofs.«01_k».proof.Proof.Gen.MergeFwdRefIdeal.Run
public import proofs.«01_k».proof.Proof.Gen.SwigluIdeal.Value
public import proofs.«01_k».proof.Proof.Gen.SwigluRefIdeal.Run
public import proofs.«01_k».proof.Proof.Gen.SwigluBwdIdeal.Value
public import proofs.«01_k».proof.Proof.Gen.SwigluBwdRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

/-! ## The gated merge `σ(g₁) p₁ + σ(g₂) p₂` -/

namespace Cert.MergeFwdIdeal

open Gen

/-- Where the blocks sit at grid point `t`: rows `t mod 8`, columns `t / 8`, the gates' columns in the projection. -/
theorem idx : ∀ t : Fin cfg0.N, win0_0.index t = ![t.val % 8, 13 + t.val / 8] ∧ win0_1.index t = ![t.val % 8, t.val / 8] ∧ win0_2.index t = ![t.val % 8, 15 + t.val / 8]
    ∧ win0_3.index t = ![t.val % 8, t.val / 8] ∧ win0_4.index t = ![t.val % 8, t.val / 8] :=
  (by decide +kernel : ∀ t : Fin grid0.N, _)

/-- The merged array, of the projection and the two branches. -/
def merged (x : FVec Ideal S4096x9216 .f32) (p q : FVec Ideal S4096x1024 .f32) : FVec Ideal S4096x1024 .bf16 := fun i =>
  FloatOps.logistic (x (ix2 (i 0) ⟨6656 + i 1, by have := (i 1).isLt; change _ < 1024 at this; omega⟩)) * p i
    + FloatOps.logistic (x (ix2 (i 0) ⟨7680 + i 1, by have := (i 1).isLt; change _ < 1024 at this; omega⟩)) * q i

variable (m : (ℓ : Loc nD τ sig) → Buf (Elt Ideal) ℓ) (c : Dev nD)

/-- The result array after the run. -/
theorem final : (dats m 0 c).arrAt 4 (cfgs 0).N
    = merged (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  pointwise [k0_pay1, merged]
  blk_point [iblk, V, idx t]

/-- The kernel and the reference compute the same array over the extended reals. -/
theorem algebraic : Cert.algebraic_MergeFwdIdeal_MergeFwdRefIdeal (hMergeFwdIdeal := facts) (hMergeFwdRefIdeal := Cert.MergeFwdRefIdeal.Gen.facts) := by
  pair_intro
  · run_from Value.run_blocks m g
  · run_from Cert.MergeFwdRefIdeal.Value.run m' g'
    rw [final m c]; funext i; pointwise [merged, Ideal.logistic]

end Cert.MergeFwdIdeal

/-! ## The gated linear unit `silu(g) u` -/

namespace Cert.SwigluIdeal

open Gen

/-- Where the blocks sit at grid point `t`: rows `t mod 4`, columns `t / 4` of either half. -/
theorem idx : ∀ t : Fin cfg0.N, win0_0.index t = ![t.val % 4, t.val / 4] ∧ win0_1.index t = ![t.val % 4, 11 + t.val / 4] ∧ win0_2.index t = ![t.val % 4, t.val / 4] :=
  (by decide +kernel : ∀ t : Fin grid0.N, _)

/-- The unit's output, of the array whose halves are the gate and the input. -/
def unit (x : FVec Ideal S4096x5632 .f32) : FVec Ideal S4096x2816 .bf16 := fun i =>
  x (ix2 (i 0) ⟨i 1, by have := (i 1).isLt; change _ < 2816 at this; omega⟩) * FloatOps.logistic (x (ix2 (i 0) ⟨i 1, by have := (i 1).isLt; change _ < 2816 at this; omega⟩))
    * x (ix2 (i 0) ⟨2816 + i 1, by have := (i 1).isLt; change _ < 2816 at this; omega⟩)

variable (m : (ℓ : Loc nD τ sig) → Buf (Elt Ideal) ℓ) (c : Dev nD)

/-- The result array after the run. -/
theorem final : (dats m 0 c).arrAt 2 (cfgs 0).N = unit (m ((c : Thread nD τ).loc main_arg0)) := by
  refine (dats m 0 c).arrAt_eq_of_covers 2 _ (by decide +kernel) fun t _ y => ?_
  blk_simp
  rw [after0_2]; frame_out
  pointwise [k0_pay1, unit]
  blk_point [iblk, V, idx t]

/-- The kernel and the reference compute the same array over the extended reals. -/
theorem algebraic : Cert.algebraic_SwigluIdeal_SwigluRefIdeal (hSwigluIdeal := facts) (hSwigluRefIdeal := Cert.SwigluRefIdeal.Gen.facts) := by
  pair_intro
  · run_from Value.run_blocks m g
  · run_from Cert.SwigluRefIdeal.Value.run m' g'
    rw [final m c]; funext i; pointwise [unit, Ideal.logistic]

end Cert.SwigluIdeal

/-! ## Its gradient -/

namespace Cert.SwigluBwdIdeal

open Gen

/-- Where the blocks sit at grid point `t`: rows `t mod 4`, columns `t / 4` of either half. -/
theorem idx : ∀ t : Fin cfg0.N, win0_0.index t = ![t.val % 4, t.val / 4] ∧ win0_1.index t = ![t.val % 4, 11 + t.val / 4] ∧ win0_2.index t = ![t.val % 4, t.val / 4]
    ∧ win0_3.index t = ![t.val % 4, t.val / 4] ∧ win0_4.index t = ![t.val % 4, t.val / 4] :=
  (by decide +kernel : ∀ t : Fin grid0.N, _)

/-- The gate of an entry: the left half. -/
def gates (x : FVec Ideal S4096x5632 .f32) (i : S4096x2816.Idx) : EReal := x (ix2 (i 0) ⟨i 1, by have := (i 1).isLt; change _ < 2816 at this; omega⟩)

/-- The input of an entry: the right half. -/
def inputs (x : FVec Ideal S4096x5632 .f32) (i : S4096x2816.Idx) : EReal := x (ix2 (i 0) ⟨2816 + i 1, by have := (i 1).isLt; change _ < 2816 at this; omega⟩)

/-- The gradient to the gates: `dy u (σ(g) + g σ(g) (1 − σ(g)))`, in the order the derivative is formed. -/
def dGates (x : FVec Ideal S4096x5632 .f32) (dy : FVec Ideal S4096x2816 .f32) : FVec Ideal S4096x2816 .bf16 := fun i =>
  dy i * inputs x i * FloatOps.logistic (gates x i)
    + gates x i * (dy i * inputs x i) * (FloatOps.logistic (gates x i) * (Scalar.ofBits (F := Ideal) .f32 0x3F800000#32 - FloatOps.logistic (gates x i)))

/-- The gradient to the inputs: `silu(g) dy`. -/
def dInputs (x : FVec Ideal S4096x5632 .f32) (dy : FVec Ideal S4096x2816 .f32) : FVec Ideal S4096x2816 .bf16 := fun i =>
  gates x i * FloatOps.logistic (gates x i) * dy i

variable (m : (ℓ : Loc nD τ sig) → Buf (Elt Ideal) ℓ) (c : Dev nD)

/-- The gates' gradient after the run. -/
theorem final3 : (dats m 0 c).arrAt 3 (cfgs 0).N = dGates (m ((c : Thread nD τ).loc main_arg0)) (m ((c : Thread nD τ).loc main_arg1)) := by
  refine (dats m 0 c).arrAt_eq_of_covers 3 _ (by decide +kernel) fun t _ y => ?_
  blk_simp
  rw [after0_3]; frame_out
  pointwise [k0_pay2, k0_pay1, dGates, gates, inputs]
  blk_point [iblk, V, idx t]

/-- The inputs' gradient after the run. -/
theorem final4 : (dats m 0 c).arrAt 4 (cfgs 0).N = dInputs (m ((c : Thread nD τ).loc main_arg0)) (m ((c : Thread nD τ).loc main_arg1)) := by
  refine (dats m 0 c).arrAt_eq_of_covers 4 _ (by decide +kernel) fun t _ y => ?_
  blk_simp
  rw [after0_4]; frame_out
  pointwise [k0_pay3, k0_pay1, dInputs, gates]
  blk_point [iblk, V, idx t]

/-- The kernel and the reference compute the same two arrays over the extended reals. -/
theorem algebraic : Cert.algebraic_SwigluBwdIdeal_SwigluBwdRefIdeal (hSwigluBwdIdeal := facts) (hSwigluBwdRefIdeal := Cert.SwigluBwdRefIdeal.Gen.facts) := by
  pair_intro
  · run_from Value.run_blocks m g
  · run_from Cert.SwigluBwdRefIdeal.Value.run m' g'
    · rw [final3 m c]; funext i; pointwise [dGates, gates, inputs, Ideal.logistic]
    · rw [final4 m c]; funext i; pointwise [dInputs, gates, Ideal.logistic]

end Cert.SwigluBwdIdeal

end
-- ==== Proof.Norms.lean ====
/- The root-mean-square norm of the rows and its gradient. -/
module

public import proofs.«01_k».proof.Defs
public import proofs.«01_k».proof.Proof.Gen.NormIdeal.Value
public import proofs.«01_k».proof.Proof.Gen.NormRefIdeal.Run
public import proofs.«01_k».proof.Proof.Gen.NormBwdIdeal.Value
public import proofs.«01_k».proof.Proof.Gen.NormBwdRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Rows

/-- The mean square of a row, and `ε`. -/
def meanSq {M : ℕ} (x : (⟨2, ![M, 1024]⟩ : Shape).Idx → EReal) (r : Fin M) : EReal :=
  FloatOps.divf (∑ k : Fin 1024, x (ix2 r k) * x (ix2 r k)) (Scalar.ofBits (F := Ideal) .f32 0x44800000#32) + Scalar.ofBits (F := Ideal) .f32 0x358637BD#32

end Cert.Rows

open Cert.Rows

namespace Cert.NormIdeal

open Gen

/-- Where the blocks sit: rows `t`; the whole of the weight. -/
theorem idx : ∀ t : Fin cfg0.N, win0_0.index t = ![t.val, 0] ∧ win0_1.index t = ![0, 0] ∧ win0_2.index t = ![t.val, 0] :=
  (by decide +kernel : ∀ t : Fin grid0.N, _)

/-- The normed array. -/
def normed (x : FVec Ideal S4096x1024 .f32) (w : FVec Ideal S1x1024 .f32) : FVec Ideal S4096x1024 .bf16 := fun i =>
  x i * FloatOps.rsqrt (meanSq x (i 0)) * w (ix2 0 (i 1))

variable (m : (ℓ : Loc nD τ sig) → Buf (Elt Ideal) ℓ) (c : Dev nD)

/-- The result array after the run. -/
theorem final : (dats m 0 c).arrAt 2 (cfgs 0).N = normed (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, normed, meanSq]
  blk_point [iblk, V, idx t]

/-- The kernel and the reference compute the same array over the extended reals. -/
theorem algebraic : Cert.algebraic_NormIdeal_NormRefIdeal (hNormIdeal := facts) (hNormRefIdeal := Cert.NormRefIdeal.Gen.facts) := by
  pair_intro
  · run_from Value.run_blocks m g
  · run_from Cert.NormRefIdeal.Value.run m' g'
    rw [final m c]; funext i; pointwise [normed, meanSq]

end Cert.NormIdeal

end
-- ==== Proof.NormGrad.lean ====
/- The gradient of the root-mean-square norm. -/
module

public import proofs.«01_k».proof.Proof.Norms
public import Idealize.ShloMosaic.Lib.Pipeline.ReadBack

@[expose] public section

set_option maxRecDepth 16384

noncomputable section

open Idealize.ShloMosaic Idealize.ShloMosaic.TcCoe Idealize.SL.Sem Cert.Rows

namespace Cert.Rows

/-- What the mean square of a row passes back to every entry of it: `(∑ x p)(−½ r / s) / 1024`, of the rows `x`, the
    gradient `p` of the normed rows, `s` the mean square plus `ε` and `r = 1/√s`. -/
def back {M : ℕ} (x p : (⟨2, ![M, 1024]⟩ : Shape).Idx → EReal) (r : Fin M) : EReal :=
  FloatOps.divf (F := Ideal) (φ := .f32) ((∑ k : Fin 1024, x (ix2 r k) * p (ix2 r k))
    * (Scalar.ofBits (F := Ideal) .f32 0xBF000000#32 * FloatOps.divf (F := Ideal) (φ := .f32) (FloatOps.rsqrt (F := Ideal) (φ := .f32) (meanSq x r)) (meanSq x r)))
    (Scalar.ofBits (F := Ideal) .f32 0x44800000#32)

/-- The first of four summands added last. -/
theorem add_last (e a b c : EReal) : e + a + b + c = a + b + c + e := by
  rw [add_comm (a + b + c) e, add_assoc e, add_assoc e]

end Cert.Rows

namespace Cert.NormBwdIdeal

open Gen

/-- Where the blocks sit: rows `t`; the whole of the weight and of its gradient. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- The gradient to the rows, the gradient `e` that reaches them beside the norm included. -/
def dRows (x : FVec Ideal S4096x1024 .f32) (w : FVec Ideal S1x1024 .f32) (d e : FVec Ideal S4096x1024 .f32) : FVec Ideal S4096x1024 .f32 := fun i =>
  d i * w (ix2 0 (i 1)) * FloatOps.rsqrt (meanSq x (i 0)) + x i * back x (fun j => d j * w (ix2 0 (j 1))) (i 0)
    + back x (fun j => d j * w (ix2 0 (j 1))) (i 0) * x i + e i

/-- The gradient to the weight. -/
def dWeight {M : ℕ} (x d : (⟨2, ![M, 1024]⟩ : Shape).Idx → EReal) : FVec Ideal S1x1024 .f32 := fun i =>
  ∑ r : Fin M, x (ix2 r (i 1)) * FloatOps.rsqrt (F := Ideal) (φ := .f32) (meanSq x r) * d (ix2 r (i 1))

variable (m : (ℓ : Loc nD τ sig) → Buf (Elt Ideal) ℓ)

/-- The gradient to the rows after the run. -/
theorem final4 (c : Dev nD) : (dats m 0 c).arrAt 4 (cfgs 0).N
    = dRows (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 16 = 0
  · rw [outsAt0_A m c t h (by have := t.isLt; change _ < 16 at this; omega)]; frame_out
    pointwise [k0_pay5, k0_pay3, k0_pay2, dRows, meanSq, back]
    simp only [Finset.sum_const, Finset.card_univ, Fintype.card_fin, one_nsmul]
    blk_point [iblk, V, idx t]
  · rw [outsAt0_B m c t h (by omega)]; frame_out
    pointwise [k0_pay5, k0_pay3, k0_pay2, dRows, meanSq, back]
    simp only [Finset.sum_const, Finset.card_univ, Fintype.card_fin, one_nsmul]
    blk_point [iblk, V, idx t]

/-- A tile's part of the weight's gradient. -/
def part (c : Dev nD) (t : Fin cfg0.N) (j : S1x1024.Idx) : EReal := dWeight (M := 256) (iblk m c 0 t) (iblk m c 2 t) j

/-- The first point stores its part. -/
theorem acc_first (c : Dev nD) (t : Fin cfg0.N) (h : t.val % 16 = 0) (j) :
    (outsAt0 m c t.val t.isLt).2 j = (fun _ => 0 : S1x1024.Idx → EReal) j + part m c t j := by
  rw [outsAt0_A m c t h (by have := t.isLt; change _ < 16 at this; omega)]; frame_out
  pointwise [k0_pay4, k0_pay3, k0_pay2, part, dWeight, meanSq]

/-- Each later point adds its part. -/
theorem acc_next (c : Dev nD) (t : Fin cfg0.N) (h : ¬t.val % 16 = 0) (j) : (outsAt0 m c t.val t.isLt).2 j
    = (outsAt0 m c (t.val - 1) (Nat.lt_of_le_of_lt (Nat.sub_le _ _) t.isLt)).2 j + part m c t j := by
  rw [outsAt0_B m c t h (by omega)]; frame_out
  pointwise [k0_pay1, k0_pay4, k0_pay3, k0_pay2, part, dWeight, meanSq]

/-- The gradient to the weight after the run. -/
theorem final5 (c : Dev nD) : (dats m 0 c).arrAt 5 (cfgs 0).N
    = dWeight (M := 4096) (m ((c : Thread nD τ).loc main_arg0)) (m ((c : Thread nD τ).loc main_arg2)) := by
  refine (dats m 0 c).arrAt_eq_of_covers 5 _ (by decide +kernel) fun t hf y => ?_
  blk_simp
  have hm : t.val % 16 = 15 := (flush0_5 t).mp hf
  rw [after0_5,
    Pipeline.eq_sum_fin_of_reset_step_apply_of_flush (fun n h => (outsAt0 m c n h).2) 16 (fun _ => (0 : EReal)) (part m c)
      (acc_first m c) (acc_next m c) t hm _, zero_add]
  unfold part dWeight
  refine Fin.sum_mul_add_congr fun s k hl => ?_
  have hs := idx ⟨16 * (t.val / 16) + s.val, Pipeline.run_point_lt_of_flush t hm s⟩
  unfold meanSq
  blk_point [iblk, V, idx t, hs]

/-- The kernel and the reference compute the same two arrays over the extended reals. -/
theorem algebraic : Cert.algebraic_NormBwdIdeal_NormBwdRefIdeal (hNormBwdIdeal := facts) (hNormBwdRefIdeal := Cert.NormBwdRefIdeal.Gen.facts) := by
  pair_intro
  · run_from Value.run_blocks m g
  · refine θ_run_mono (Cert.NormBwdRefIdeal.Value.run m' g') fun r hr c => ?_
    obtain ⟨h1, h2, h3⟩ := hr c
    obtain ⟨a0, a1, a2, a3⟩ := hagree c
    refine ⟨h1.trans ?_, h2.trans ?_, h3⟩
    · rw [a0, a1, a2, a3, final4 m c]; funext i; pointwise [dRows, meanSq, back]
      simp only [Finset.sum_const, Finset.card_univ, Fintype.card_fin, one_nsmul]
      exact add_last _ _ _ _
    · rw [a0, a2, final5 m c]; funext i; pointwise [dWeight, meanSq]

end Cert.NormBwdIdeal

end
-- ==== Proof.Loss.lean ====
/- The loss head of one device: the sum of the losses of its rows and the gradients to the rows and to the last norm's
   weight. -/
module

public import proofs.«01_k».proof.Proof.NormGrad
public import proofs.«01_k».proof.Proof.Gen.LossIdeal.Value
public import proofs.«01_k».proof.Proof.Gen.LossRefIdeal.Run

@[expose] public section

set_option maxRecDepth 16384

noncomputable section

open Idealize.ShloMosaic Idealize.ShloMosaic.TcCoe Idealize.SL.Sem Cert.Rows

namespace Cert.LossIdeal

open Gen

/-- Where the blocks sit: rows `t`; the whole of the weight, of the loss and of the weight's gradient. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] :=
  (by decide +kernel : ∀ t : Fin grid0.N, _)

/-- The difference of the normed rows `x` and the target. -/
def err {M : ℕ} (x y : (⟨2, ![M, 1024]⟩ : Shape).Idx → EReal) (w : FVec Ideal S1x1024 .f32) (i : (⟨2, ![M, 1024]⟩ : Shape).Idx) : EReal :=
  x i * FloatOps.rsqrt (F := Ideal) (φ := .f32) (meanSq x (i 0)) * w (ix2 0 (i 1)) - y i

/-- Half the sum over the rows of the mean square of the difference. -/
def loss {M : ℕ} (x y : (⟨2, ![M, 1024]⟩ : Shape).Idx → EReal) (w : FVec Ideal S1x1024 .f32) : EReal :=
  Scalar.ofBits (F := Ideal) .f32 0x3F000000#32
    * ∑ r : Fin M, FloatOps.divf (F := Ideal) (φ := .f32) (∑ k : Fin 1024, err x y w (ix2 r k) * err x y w (ix2 r k)) (Scalar.ofBits (F := Ideal) .f32 0x44800000#32)

/-- What the loss passes to the square of a difference: `½ / 1024`. -/
def share : EReal := FloatOps.divf (F := Ideal) (φ := .f32) (Scalar.ofBits (F := Ideal) .f32 0x3F000000#32 * Scalar.ofBits (F := Ideal) .f32 0x3F800000#32)
  (Scalar.ofBits (F := Ideal) .f32 0x44800000#32)

/-- The gradient to the normed rows, as a product's derivative in its two factors. -/
def dNormed {M : ℕ} (x y : (⟨2, ![M, 1024]⟩ : Shape).Idx → EReal) (w : FVec Ideal S1x1024 .f32) (i : (⟨2, ![M, 1024]⟩ : Shape).Idx) : EReal :=
  err x y w i * share + share * err x y w i

/-- The gradient to the rows. -/
def dRows {M : ℕ} (x y : (⟨2, ![M, 1024]⟩ : Shape).Idx → EReal) (w : FVec Ideal S1x1024 .f32) (i : (⟨2, ![M, 1024]⟩ : Shape).Idx) : EReal :=
  dNormed x y w i * w (ix2 0 (i 1)) * FloatOps.rsqrt (F := Ideal) (φ := .f32) (meanSq x (i 0))
    + x i * back x (fun j => dNormed x y w j * w (ix2 0 (j 1))) (i 0) + back x (fun j => dNormed x y w j * w (ix2 0 (j 1))) (i 0) * x i

/-- The real readings of the constants `½`, `2` and `½ / 1024`. -/
theorem half_eq : Scalar.ofBits (F := Ideal) .f32 0x3F000000#32 = (((1 / 2 : ℝ)) : EReal) := by
  show Ideal.ofBits .f32 0x3F000000#32 = _
  simp [Ideal.ofBits, Ideal.ieee]; norm_num [← EReal.coe_mul]

theorem two_eq : Ideal.ofBits .f32 1073741824#32 = ((2 : ℝ) : EReal) := by
  simp [Ideal.ofBits, Ideal.ieee]; norm_num [← EReal.coe_mul]

theorem share_eq : share = ((1 / 2048 : ℝ) : EReal) := by
  have k : Ideal.ofBits .f32 0x44800000#32 = ((1024 : ℝ) : EReal) := by
    simp [Ideal.ofBits, Ideal.ieee]; norm_num [← EReal.coe_mul]
  change Ideal.div (Scalar.ofBits (F := Ideal) .f32 0x3F000000#32 * Ideal.ofBits .f32 0x3F800000#32) (Ideal.ofBits .f32 0x44800000#32) = _
  rw [half_eq, Ideal.ofBits_one_f32, mul_one, k, Ideal.div_coe (by norm_num), ← EReal.coe_mul]
  norm_num

/-- A non-negative real factor goes into a sum. -/
theorem mul_sum {ι : Type*} (s : Finset ι) (f : ι → EReal) {r : ℝ} (hr : 0 ≤ r) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.2 hr) (EReal.coe_ne_top r), ih]

/-- The derivative of a square, as a product's in its two factors and as twice the base. -/
theorem twice (e : EReal) : e * share + share * e = share * (Ideal.ofBits .f32 1073741824#32 * e) := by
  have h : ((2 : ℝ) : EReal) * e = e + e := by
    rw [← two_nsmul, EReal.nsmul_eq_mul]; rfl
  rw [two_eq, h, share_eq, EReal.left_distrib_of_nonneg_of_ne_top (EReal.coe_nonneg.2 (by norm_num)) (EReal.coe_ne_top _), mul_comm e]

variable (m : (ℓ : Loc nD τ sig) → Buf (Elt Ideal) ℓ)

/-- One factor for the rows of a tile. -/
theorem share_apply (j) : k0_pay13 (F := Ideal) j = share := by
  pointwise [k0_pay13, share]
  simp only [Finset.sum_const, Finset.card_univ, Fintype.card_fin, one_nsmul]

/-- The difference of a tile. -/
theorem err_apply (x y w j) : k0_pay11 (F := Ideal) x y w j = err (M := 256) x y w j := by
  pointwise [k0_pay11, k0_pay10, k0_pay8, k0_pay7, err, meanSq]

/-- The gradient to a tile's normed rows. -/
theorem dNormed_apply (x y w j) : k0_pay1 (F := Ideal) (k0_pay11 x y w) k0_pay13 j = dNormed (M := 256) x y w j := by
  pointwise [k0_pay1, dNormed, share_apply, err_apply]
  simp only [Finset.sum_const, Finset.card_univ, Fintype.card_fin, one_nsmul]

/-- The loss of a tile. -/
theorem loss_apply (x y w j) : k0_pay4 (F := Ideal) (k0_pay12 x y w) j = loss (M := 256) x y w := by
  pointwise [k0_pay4, k0_pay12, loss, err_apply]

/-- The gradient to a tile's rows. -/
theorem dRows_apply (x y w j) : k0_pay3 (F := Ideal) x w (k0_pay8 x) (k0_pay9 x) (k0_pay11 x y w) k0_pay13 j = dRows (M := 256) x y w j := by
  pointwise [k0_pay3, k0_pay9, k0_pay8, k0_pay7, dRows, dNormed_apply, back, meanSq]
  simp only [Finset.sum_const, Finset.card_univ, Fintype.card_fin, one_nsmul]

/-- The gradient to the weight of a tile. -/
theorem dWeight_apply (x y w j) : k0_pay2 (F := Ideal) (k0_pay10 x) (k0_pay11 x y w) k0_pay13 j = NormBwdIdeal.dWeight (M := 256) x (dNormed (M := 256) x y w) j := by
  pointwise [k0_pay2, k0_pay10, k0_pay8, k0_pay7, dNormed_apply, NormBwdIdeal.dWeight, meanSq]

/-- A tile's loss, and its part of the weight's gradient. -/
def lossPart (c : Dev nD) (t : Fin cfg0.N) (_ : S1x128.Idx) : EReal := loss (M := 256) (iblk m c 0 t) (iblk m c 1 t) (iblk m c 2 t)
def weightPart (c : Dev nD) (t : Fin cfg0.N) (j : S1x1024.Idx) : EReal :=
  NormBwdIdeal.dWeight (M := 256) (iblk m c 0 t) (dNormed (M := 256) (iblk m c 0 t) (iblk m c 1 t) (iblk m c 2 t)) j

/-- At the first point: what the point leaves in the three result blocks. -/
theorem point_A (c : Dev nD) (t : Fin cfg0.N) (h : t.val % 16 = 0) :
    (∀ j, (outsAt0 m c t.val t.isLt).1 j = (fun _ => 0 : S1x128.Idx → EReal) j + lossPart m c t j)
    ∧ (∀ j, (outsAt0 m c t.val t.isLt).2.1 j = dRows (M := 256) (iblk m c 0 t) (iblk m c 1 t) (iblk m c 2 t) j)
    ∧ (∀ j, (outsAt0 m c t.val t.isLt).2.2 j = (fun _ => 0 : S1x1024.Idx → EReal) j + weightPart m c t j) := by
  rw [outsAt0_A m c t h (by have := t.isLt; change _ < 16 at this; omega)]
  refine ⟨fun j => ?_, fun j => ?_, fun j => ?_⟩ <;> frame_out
  · rw [zero_add]; exact loss_apply _ _ _ _
  · exact dRows_apply _ _ _ _
  · rw [zero_add]; exact dWeight_apply _ _ _ _

/-- At a later point: what the point leaves in the three result blocks. -/
theorem point_B (c : Dev nD) (t : Fin cfg0.N) (h : ¬t.val % 16 = 0) :
    (∀ j, (outsAt0 m c t.val t.isLt).1 j = (outsAt0 m c (t.val - 1) (Nat.lt_of_le_of_lt (Nat.sub_le _ _) t.isLt)).1 j + lossPart m c t j)
    ∧ (∀ j, (outsAt0 m c t.val t.isLt).2.1 j = dRows (M := 256) (iblk m c 0 t) (iblk m c 1 t) (iblk m c 2 t) j)
    ∧ (∀ j, (outsAt0 m c t.val t.isLt).2.2 j = (outsAt0 m c (t.val - 1) (Nat.lt_of_le_of_lt (Nat.sub_le _ _) t.isLt)).2.2 j + weightPart m c t j) := by
  rw [outsAt0_B m c t h (by omega)]
  refine ⟨fun j => ?_, fun j => ?_, fun j => ?_⟩ <;> frame_out
  · pointwise [k0_pay5, loss_apply, lossPart]
  · exact dRows_apply _ _ _ _
  · pointwise [k0_pay6, dWeight_apply, weightPart]

/-- The loss after the run. -/
theorem final3 (c : Dev nD) : (dats m 0 c).arrAt 3 (cfgs 0).N
    = fun _ => loss (M := 4096) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hm : t.val % 16 = 15 := (flush0_3 t).mp hf
  rw [after0_3,
    Pipeline.eq_sum_fin_of_reset_step_apply_of_flush (fun n h => (outsAt0 m c n h).1) 16 (fun _ => (0 : EReal)) (lossPart m c)
      (fun t h j => (point_A m c t h).1 j) (fun t h j => (point_B m c t h).1 j) t hm _, zero_add]
  unfold lossPart loss
  rw [half_eq, mul_sum _ _ (by norm_num), Finset.sum_congr rfl fun _ _ => mul_sum _ _ (by norm_num)]
  refine Fin.sum_mul_add_congr fun s k hl => ?_
  have hs := idx ⟨16 * (t.val / 16) + s.val, Pipeline.run_point_lt_of_flush t hm s⟩
  unfold err meanSq
  blk_point [iblk, V, idx t, hs]

/-- The gradient to the rows after the run. -/
theorem final4 (c : Dev nD) : (dats m 0 c).arrAt 4 (cfgs 0).N
    = dRows (M := 4096) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  have e : (outsAt0 m c t.val t.isLt).2.1 = dRows (M := 256) (iblk m c 0 t) (iblk m c 1 t) (iblk m c 2 t) := by
    funext j
    by_cases h : t.val % 16 = 0
    · exact (point_A m c t h).2.1 j
    · exact (point_B m c t h).2.1 j
  rw [e]
  pointwise [dRows, back, dNormed, err, meanSq]
  blk_point [iblk, V, idx t]

/-- The gradient to the weight after the run. -/
theorem final5 (c : Dev nD) : (dats m 0 c).arrAt 5 (cfgs 0).N
    = NormBwdIdeal.dWeight (M := 4096) (m ((c : Thread nD τ).loc main_arg0))
      (dNormed (M := 4096) (m ((c : Thread nD τ).loc main_arg0)) (m ((c : Thread nD τ).loc main_arg1)) (m ((c : Thread nD τ).loc main_arg2))) := by
  refine (dats m 0 c).arrAt_eq_of_covers 5 _ (by decide +kernel) fun t hf y => ?_
  blk_simp
  have hm : t.val % 16 = 15 := (flush0_5 t).mp hf
  rw [after0_5,
    Pipeline.eq_sum_fin_of_reset_step_apply_of_flush (fun n h => (outsAt0 m c n h).2.2) 16 (fun _ => (0 : EReal)) (weightPart m c)
      (fun t h j => (point_A m c t h).2.2 j) (fun t h j => (point_B m c t h).2.2 j) t hm _, zero_add]
  unfold weightPart NormBwdIdeal.dWeight
  refine Fin.sum_mul_add_congr fun s k hl => ?_
  have hs := idx ⟨16 * (t.val / 16) + s.val, Pipeline.run_point_lt_of_flush t hm s⟩
  unfold dNormed err meanSq
  blk_point [iblk, V, idx t, hs]

/-- The kernel and the reference compute the same three arrays over the extended reals. -/
theorem algebraic : Cert.algebraic_LossIdeal_LossRefIdeal (hLossIdeal := facts) (hLossRefIdeal := Cert.LossRefIdeal.Gen.facts) := by
  pair_intro
  · run_from Value.run_blocks m g
  · refine θ_run_mono (Cert.LossRefIdeal.Value.run m' g') fun r hr c => ?_
    obtain ⟨h1, h2, h3, h4⟩ := hr c
    obtain ⟨a0, a1, a2⟩ := hagree c
    refine ⟨h1.trans ?_, h2.trans ?_, h3.trans ?_, h4⟩
    · clear h1 h2 h3 h4 hr
      rw [a0, a1, a2, final3 m c]; funext i; pointwise [loss, err, meanSq]
    · clear h1 h2 h3 h4 hr
      unfold Cert.LossRefIdeal.Value.res_main_v48
      rw [a0, a1, a2, final4 m c]; funext i
      unfold dRows back dNormed
      simp only [twice]
      pointwise [err, meanSq, share]
      simp only [Finset.sum_const, Finset.card_univ, Fintype.card_fin, one_nsmul]
    · clear h1 h2 h3 h4 hr
      rw [a0, a1, a2, final5 m c]; funext i
      unfold NormBwdIdeal.dWeight dNormed
      simp only [twice]
      pointwise [err, meanSq, share]

end Cert.LossIdeal

end
-- ==== Proof.SsdPost.lean ====
/- The gated norm behind the state-space scan, in groups of 512 columns, and its gradient. -/
module

public import proofs.«01_k».proof.Defs
public import proofs.«01_k».proof.Proof.Gen.SsdPostIdeal.Value
public import proofs.«01_k».proof.Proof.Gen.SsdPostRefIdeal.Run
public import proofs.«01_k».proof.Proof.Gen.SsdPostBwdIdeal.Value
public import proofs.«01_k».proof.Proof.Gen.SsdPostBwdRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.SsdPost

/-- Column `k` of the group of 512 columns that column `c` lies in. -/
def inGroup (c : Fin 1024) (k : Fin 512) : Fin 1024 := ⟨c.val / 512 * 512 + k.val, by omega⟩

/-- An array of 1024 columns gated by the first 1024 columns of the projection. -/
def gated (y : FVec Ideal (⟨2, ![4096, 1024]⟩ : Shape) .f32) (z : FVec Ideal (⟨2, ![4096, 9216]⟩ : Shape) .f32) (r : Fin 4096) (c : Fin 1024) : EReal :=
  y (ix2 r c) * (z (ix2 r ⟨c, by omega⟩) * FloatOps.logistic (F := Ideal) (φ := .f32) (z (ix2 r ⟨c, by omega⟩)))

/-- The mean square of a row's group, and `ε`. -/
def meanSq (u : Fin 4096 → Fin 1024 → EReal) (r : Fin 4096) (c : Fin 1024) : EReal :=
  FloatOps.divf (F := Ideal) (φ := .f32) (∑ k : Fin 512, u r (inGroup c k) * u r (inGroup c k)) (Scalar.ofBits (F := Ideal) .f32 0x44000000#32)
    + Scalar.ofBits (F := Ideal) .f32 0x358637BD#32

/-- What the mean square passes back to every entry of a group: `(∑ u p)(−½ r / s) / 512`, of the entries `u` and the gradient `p` of
    the normed entries. -/
def back (u p : Fin 4096 → Fin 1024 → EReal) (r : Fin 4096) (c : Fin 1024) : EReal :=
  FloatOps.divf (F := Ideal) (φ := .f32) ((∑ k : Fin 512, u r (inGroup c k) * p r (inGroup c k))
    * (Scalar.ofBits (F := Ideal) .f32 0xBF000000#32
      * FloatOps.divf (F := Ideal) (φ := .f32) (FloatOps.rsqrt (F := Ideal) (φ := .f32) (meanSq u r c)) (meanSq u r c)))
    (Scalar.ofBits (F := Ideal) .f32 0x44000000#32)

/-- The gradient to the gated array. -/
def dGated (u p : Fin 4096 → Fin 1024 → EReal) (r : Fin 4096) (c : Fin 1024) : EReal :=
  p r c * FloatOps.rsqrt (F := Ideal) (φ := .f32) (meanSq u r c) + u r c * back u p r c + back u p r c * u r c

/-- The gradient to the normed array times the weight. -/
def scaled (w : FVec Ideal (⟨2, ![1, 1024]⟩ : Shape) .f32) (d : FVec Ideal (⟨2, ![4096, 1024]⟩ : Shape) .f32) (r : Fin 4096) (c : Fin 1024) : EReal :=
  d (ix2 r c) * w (ix2 0 c)

end Cert.SsdPost

open Cert.SsdPost

namespace Cert.SsdPostIdeal

open Gen

/-- Where the blocks sit: rows `t mod 8`, columns `t / 8`. -/
theorem idx : ∀ t : Fin cfg0.N, win0_0.index t = ![t.val % 8, t.val / 8] ∧ win0_1.index t = ![t.val % 8, t.val / 8] ∧ win0_2.index t = ![0, t.val / 8]
    ∧ win0_3.index t = ![t.val % 8, t.val / 8] :=
  (by decide +kernel : ∀ t : Fin grid0.N, _)

/-- The gated and normed array. -/
def normed (y : FVec Ideal S4096x1024 .f32) (z : FVec Ideal S4096x9216 .f32) (w : FVec Ideal S1x1024 .f32) : FVec Ideal S4096x1024 .bf16 := fun i =>
  gated y z (i 0) (i 1) * FloatOps.rsqrt (F := Ideal) (φ := .f32) (meanSq (gated y z) (i 0) (i 1)) * w (ix2 0 (i 1))

variable (m : (ℓ : Loc nD τ sig) → Buf (Elt Ideal) ℓ) (c : Dev nD)

/-- The result array after the run. -/
theorem final : (dats m 0 c).arrAt 3 (cfgs 0).N
    = normed (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, normed, meanSq, gated]
  blk_point [iblk, V, idx t, inGroup]

/-- The kernel and the reference compute the same array over the extended reals. -/
theorem algebraic : Cert.algebraic_SsdPostIdeal_SsdPostRefIdeal (hSsdPostIdeal := facts) (hSsdPostRefIdeal := Cert.SsdPostRefIdeal.Gen.facts) := by
  pair_intro
  · run_from Value.run_blocks m g
  · run_from Cert.SsdPostRefIdeal.Value.run m' g'
    rw [final m c]; funext i; pointwise [normed, meanSq, gated, inGroup, Ideal.logistic]

end Cert.SsdPostIdeal

namespace Cert.SsdPostBwdIdeal

open Gen

/-- Where the blocks sit: rows `t mod 8`, columns `t / 8`. -/
theorem idx : ∀ t : Fin cfg0.N, win0_0.index t = ![t.val % 8, t.val / 8] ∧ win0_1.index t = ![t.val % 8, t.val / 8] ∧ win0_2.index t = ![0, t.val / 8]
    ∧ win0_3.index t = ![t.val % 8, t.val / 8] ∧ win0_4.index t = ![t.val % 8, t.val / 8] ∧ win0_5.index t = ![t.val % 8, t.val / 8] ∧ win0_6.index t = ![0, t.val / 8] :=
  (by decide +kernel : ∀ t : Fin grid0.N, _)

/-- The gradient to the scan's output. -/
def dInput (y : FVec Ideal S4096x1024 .f32) (z : FVec Ideal S4096x9216 .f32) (w : FVec Ideal S1x1024 .f32) (d : FVec Ideal S4096x1024 .f32) :
    FVec Ideal S4096x1024 .f32 := fun i =>
  dGated (gated y z) (scaled w d) (i 0) (i 1)
    * (z (ix2 (i 0) ⟨(i 1).val, by have := (i 1).isLt; change _ < 1024 at this; omega⟩)
      * FloatOps.logistic (F := Ideal) (φ := .f32) (z (ix2 (i 0) ⟨(i 1).val, by have := (i 1).isLt; change _ < 1024 at this; omega⟩)))

/-- The gradient `q` of a gate `z σ(z)` passed through to `z`. -/
def dSilu (z q : EReal) : EReal :=
  q * FloatOps.logistic (F := Ideal) (φ := .f32) z
    + z * q * (FloatOps.logistic (F := Ideal) (φ := .f32) z * (Scalar.ofBits (F := Ideal) .f32 0x3F800000#32 - FloatOps.logistic (F := Ideal) (φ := .f32) z))

/-- The gradient to the gate's columns. -/
def dGate (y : FVec Ideal S4096x1024 .f32) (z : FVec Ideal S4096x9216 .f32) (w : FVec Ideal S1x1024 .f32) (d : FVec Ideal S4096x1024 .f32) :
    FVec Ideal S4096x1024 .bf16 := fun i =>
  dSilu (z (ix2 (i 0) ⟨(i 1).val, by have := (i 1).isLt; change _ < 1024 at this; omega⟩)) (y i * dGated (gated y z) (scaled w d) (i 0) (i 1))

/-- The gradient to the weight: the sum over the rows. -/
def dWeight (y : FVec Ideal S4096x1024 .f32) (z : FVec Ideal S4096x9216 .f32) (d : FVec Ideal S4096x1024 .f32) : FVec Ideal S1x1024 .f32 := fun j =>
  ∑ r : Fin 4096, gated y z r (j 1) * FloatOps.rsqrt (F := Ideal) (φ := .f32) (meanSq (gated y z) r (j 1)) * d (ix2 r (j 1))

variable (m : (ℓ : Loc nD τ sig) → Buf (Elt Ideal) ℓ)

/-- The gradient to the scan's output after the run. -/
theorem final4 (c : Dev nD) : (dats m 0 c).arrAt 4 (cfgs 0).N
    = dInput (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 8 = 0
  · rw [outsAt0_A m c t h (by omega)]; frame_out
    pointwise [k0_pay2, k0_pay1, k0_pay14, k0_pay13, k0_pay12, k0_pay10, k0_pay9, k0_pay8, k0_pay7, k0_pay5, dInput, dGated, scaled, gated, back, meanSq, inGroup]
    simp only [Finset.sum_const, Finset.card_univ, Fintype.card_fin, one_nsmul]
    blk_point [iblk, V, idx t]
  · rw [outsAt0_B m c t h (by omega)]; frame_out
    pointwise [k0_pay2, k0_pay1, k0_pay14, k0_pay13, k0_pay12, k0_pay10, k0_pay9, k0_pay8, k0_pay7, k0_pay5, dInput, dGated, scaled, gated, back, meanSq, inGroup]
    simp only [Finset.sum_const, Finset.card_univ, Fintype.card_fin, one_nsmul]
    blk_point [iblk, V, idx t]

/-- The gradient to the gate after the run. -/
theorem final5 (c : Dev nD) : (dats m 0 c).arrAt 5 (cfgs 0).N
    = dGate (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  by_cases h : t.val % 8 = 0
  · rw [outsAt0_A m c t h (by omega)]; frame_out
    pointwise [k0_pay3, k0_pay1, k0_pay14, k0_pay13, k0_pay12, k0_pay10, k0_pay9, k0_pay8, k0_pay7, k0_pay6, k0_pay5, dGate, dSilu, dGated, scaled, gated, back, meanSq, inGroup]
    simp only [Finset.sum_const, Finset.card_univ, Fintype.card_fin, one_nsmul]
    blk_point [iblk, V, idx t]
  · rw [outsAt0_B m c t h (by omega)]; frame_out
    pointwise [k0_pay3, k0_pay1, k0_pay14, k0_pay13, k0_pay12, k0_pay10, k0_pay9, k0_pay8, k0_pay7, k0_pay6, k0_pay5, dGate, dSilu, dGated, scaled, gated, back, meanSq, inGroup]
    simp only [Finset.sum_const, Finset.card_univ, Fintype.card_fin, one_nsmul]
    blk_point [iblk, V, idx t]

/-- An entry of a block gated by the projection's block. -/
def gatedBlock (y z : S512x512.Idx → EReal) (r k : Fin 512) : EReal :=
  y (ix2 r k) * (z (ix2 r k) * FloatOps.logistic (F := Ideal) (φ := .f32) (z (ix2 r k)))

/-- A tile's part of the weight's gradient. -/
def part (c : Dev nD) (t : Fin cfg0.N) (j : S1x512.Idx) : EReal :=
  ∑ r : Fin 512, gatedBlock (iblk m c 0 t) (iblk m c 1 t) r (j 1)
    * FloatOps.rsqrt (F := Ideal) (φ := .f32)
      (FloatOps.divf (F := Ideal) (φ := .f32)
          (∑ k : Fin 512, gatedBlock (iblk m c 0 t) (iblk m c 1 t) r k * gatedBlock (iblk m c 0 t) (iblk m c 1 t) r k)
          (Scalar.ofBits (F := Ideal) .f32 0x44000000#32)
        + Scalar.ofBits (F := Ideal) .f32 0x358637BD#32)
    * iblk m c 3 t (ix2 r (j 1))

/-- The first point of a column group stores its part. -/
theorem acc_first (c : Dev nD) (t : Fin cfg0.N) (h : t.val % 8 = 0) (j) :
    (outsAt0 m c t.val t.isLt).2.2 j = (fun _ => 0 : S1x512.Idx → EReal) j + part m c t j := by
  rw [outsAt0_A m c t h (by omega)]; frame_out
  pointwise [k0_pay11, k0_pay10, k0_pay9, k0_pay8, k0_pay7, k0_pay5, part, gatedBlock]

/-- Each later point adds its part. -/
theorem acc_next (c : Dev nD) (t : Fin cfg0.N) (h : ¬t.val % 8 = 0) (j) : (outsAt0 m c t.val t.isLt).2.2 j
    = (outsAt0 m c (t.val - 1) (Nat.lt_of_le_of_lt (Nat.sub_le _ _) t.isLt)).2.2 j + part m c t j := by
  rw [outsAt0_B m c t h (by omega)]; frame_out
  pointwise [k0_pay4, k0_pay11, k0_pay10, k0_pay9, k0_pay8, k0_pay7, k0_pay5, part, gatedBlock]

/-- The gradient to the weight after the run. -/
theorem final6 (c : Dev nD) : (dats m 0 c).arrAt 6 (cfgs 0).N
    = dWeight (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  have hm : t.val % 8 = 7 := (flush0_6 t).mp hf
  rw [after0_6,
    Pipeline.eq_sum_fin_of_reset_step_apply_of_flush (fun n h => (outsAt0 m c n h).2.2) 8 (fun _ => (0 : EReal)) (part m c)
      (acc_first m c) (acc_next m c) t hm _, zero_add]
  unfold part dWeight
  refine Fin.sum_mul_add_congr fun s k hl => ?_
  have hs := idx ⟨8 * (t.val / 8) + s.val, Pipeline.run_point_lt_of_flush t hm s⟩
  pointwise [gatedBlock, gated, meanSq, inGroup]
  blk_point [iblk, V, idx t, hs]

set_option maxHeartbeats 1000000 in
/-- The kernel and the reference compute the same three arrays over the extended reals. -/
theorem algebraic : Cert.algebraic_SsdPostBwdIdeal_SsdPostBwdRefIdeal (hSsdPostBwdIdeal := facts) (hSsdPostBwdRefIdeal := Cert.SsdPostBwdRefIdeal.Gen.facts) := by
  pair_intro
  · run_from Value.run_blocks m g
  · refine θ_run_mono (Cert.SsdPostBwdRefIdeal.Value.run m' g') fun r hr c => ?_
    obtain ⟨h1, h2, h3, h4⟩ := hr c
    obtain ⟨a0, a1, a2, a3⟩ := hagree c
    refine ⟨h1.trans ?_, h2.trans ?_, h3.trans ?_, h4⟩
    · clear h1 h2 h3 h4 hr
      unfold Cert.SsdPostBwdRefIdeal.Value.res_main_v42
      rw [a0, a1, a2, a3, final4 m c]; funext i
      pointwise [dInput, dGated, scaled, gated, back, meanSq, inGroup, Ideal.logistic]
      simp only [Finset.sum_const, Finset.card_univ, Fintype.card_fin, one_nsmul]
    · clear h1 h2 h3 h4 hr
      unfold Cert.SsdPostBwdRefIdeal.Value.res_main_v44
      rw [a0, a1, a2, a3, final5 m c]; funext i
      pointwise [dGate, dSilu, dGated, scaled, gated, back, meanSq, inGroup, Ideal.logistic]
      simp only [Finset.sum_const, Finset.card_univ, Fintype.card_fin, one_nsmul]
    · clear h1 h2 h3 h4 hr
      rw [a0, a1, a3, final6 m c]; funext i
      pointwise [dWeight, gated, meanSq, inGroup, Ideal.logistic]

end Cert.SsdPostBwdIdeal

end
-- ==== Proof.GdnPost.lean ====
/- The gated norm behind the gated delta rule, head by head, and its gradient. -/
module

public import proofs.«01_k».proof.Defs
public import proofs.«01_k».proof.Proof.Gen.GdnPostIdeal.Value
public import proofs.«01_k».proof.Proof.Gen.GdnPostRefIdeal.Run
public import proofs.«01_k».proof.Proof.Gen.GdnPostBwdIdeal.Value
public import proofs.«01_k».proof.Proof.Gen.GdnPostBwdRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.GdnPost

/-- Column `k` of the head of 128 columns that column `c` lies in. -/
def inHead (c : Fin 1024) (k : Fin 128) : Fin 1024 := ⟨c.val / 128 * 128 + k.val, by omega⟩

/-- A column's place in its head. -/
def place (c : Fin 1024) : Fin 128 := ⟨c.val % 128, by omega⟩

/-- The gate's column of the projection beside column `c`. -/
def gateCol (c : Fin 1024) : Fin 9216 := ⟨5632 + c.val, by omega⟩

/-- The mean of the squares of a head's entries, and `ε`. -/
def meanSq (x : Fin 128 → EReal) : EReal :=
  FloatOps.divf (F := Ideal) (φ := .f32) (∑ k : Fin 128, x k * x k) (Scalar.ofBits (F := Ideal) .f32 0x43000000#32)
    + Scalar.ofBits (F := Ideal) .f32 0x358637BD#32

/-- One over the root of a head's mean square. -/
def root (x : Fin 128 → EReal) : EReal := FloatOps.rsqrt (F := Ideal) (φ := .f32) (meanSq x)

/-- The gate `z σ(z)`. -/
def silu (z : EReal) : EReal := z * FloatOps.logistic (F := Ideal) (φ := .f32) z

/-- The gradient `q` of the gate passed through to `z`. -/
def dSilu (z q : EReal) : EReal :=
  q * FloatOps.logistic (F := Ideal) (φ := .f32) z
    + z * q * (FloatOps.logistic (F := Ideal) (φ := .f32) z * (Scalar.ofBits (F := Ideal) .f32 0x3F800000#32 - FloatOps.logistic (F := Ideal) (φ := .f32) z))

/-- What the mean square passes back to every entry of a head: `(∑ x p)(−½ r / s) / 128`, of the entries `x` and the gradient
    `p` of the normed entries. -/
def back (x p : Fin 128 → EReal) : EReal :=
  FloatOps.divf (F := Ideal) (φ := .f32) ((∑ k : Fin 128, x k * p k)
    * (Scalar.ofBits (F := Ideal) .f32 0xBF000000#32 * FloatOps.divf (F := Ideal) (φ := .f32) (root x) (meanSq x)))
    (Scalar.ofBits (F := Ideal) .f32 0x43000000#32)

/-- A sum over the indices of a three-axis array that drop to `j` when the first two axes are reduced. -/
theorem sum_dropped {a b n : ℕ} {t : Shape} (h : (⟨3, ![a, b, n]⟩ : Shape).ReducesTo [0, 1] t) (h0 : 0 < t.rank) (hn : t.size ⟨0, h0⟩ = n)
    (v : (⟨3, ![a, b, n]⟩ : Shape).Idx → EReal) (j : t.Idx) :
    ∑ i ∈ Finset.univ.filter (fun i => h.drop i = j), v i = ∑ p : Fin a, ∑ q : Fin b, v (ix3 p q ((j ⟨0, h0⟩).cast hn)) := by
  refine (Finset.sum_filter_eq_sum_of_fiber _ (fun k : Fin a × Fin b => ix3 k.1 k.2 ((j ⟨0, h0⟩).cast hn))
    (fun _ _ e => Prod.ext (congrFun e 0) (congrFun e 1)) (fun i => ⟨fun e => ⟨(i 0, i 1), ?_⟩, ?_⟩) v).trans (Fintype.sum_prod_type _)
  · funext x; apply Fin.ext
    match x with
    | ⟨0, _⟩ => rfl
    | ⟨1, _⟩ => rfl
    | ⟨2, _⟩ => exact (congrArg Fin.val (congrFun e ⟨0, h0⟩)).symm
  · rintro ⟨k, rfl⟩
    funext x; apply Fin.ext
    match x with
    | ⟨0, _⟩ => rfl
    | ⟨_ + 1, hb⟩ => exact absurd hb (by have : t.rank = 1 := h.1; omega)

/-- The host's sum over the first two of three axes. -/
theorem sum_lead {a b n : ℕ} (h : (⟨3, ![a, b, n]⟩ : Shape).ReducesTo [0, 1] (⟨1, ![n]⟩ : Shape)) (v : (⟨3, ![a, b, n]⟩ : Shape).Idx → EReal)
    (init : EReal) (j : (⟨1, ![n]⟩ : Shape).Idx) : Ideal.hostReduceAdd h v init j = init + ∑ p : Fin a, ∑ q : Fin b, v (ix3 p q (j 0)) :=
  congrArg (init + ·) (sum_dropped h Nat.one_pos rfl v j)

end Cert.GdnPost

open Cert.GdnPost

namespace Cert.GdnPostIdeal

open Gen

/-- Where the blocks sit: rows `t mod 2`, head `t / 2`. -/
theorem idx : ∀ t : Fin cfg0.N, win0_0.index t = ![t.val % 2, t.val / 2] ∧ win0_1.index t = ![t.val % 2, 44 + t.val / 2] ∧ win0_2.index t = ![0, 0]
    ∧ win0_3.index t = ![t.val % 2, t.val / 2] :=
  (by decide +kernel : ∀ t : Fin grid0.N, _)

/-- The normed and gated array. -/
def normed (o : FVec Ideal S4096x1024 .f32) (z : FVec Ideal S4096x9216 .f32) (w : FVec Ideal S1x128 .f32) : FVec Ideal S4096x1024 .bf16 := fun i =>
  o i * root (fun k => o (ix2 (i 0) (inHead (i 1) k))) * w (ix2 0 (place (i 1))) * silu (z (ix2 (i 0) (gateCol (i 1))))

variable (m : (ℓ : Loc nD τ sig) → Buf (Elt Ideal) ℓ) (c : Dev nD)

/-- The result array after the run. -/
theorem final : (dats m 0 c).arrAt 3 (cfgs 0).N
    = normed (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, normed, root, meanSq, silu, inHead, place, gateCol]
  blk_point [iblk, V, idx t]

/-- The kernel and the reference compute the same array over the extended reals. -/
theorem algebraic : Cert.algebraic_GdnPostIdeal_GdnPostRefIdeal (hGdnPostIdeal := facts) (hGdnPostRefIdeal := Cert.GdnPostRefIdeal.Gen.facts) := by
  pair_intro
  · run_from Value.run_blocks m g
  · run_from Cert.GdnPostRefIdeal.Value.run m' g'
    rw [final m c]; funext i; pointwise [normed, root, meanSq, silu, inHead, place, gateCol, Ideal.logistic]

end Cert.GdnPostIdeal

namespace Cert.GdnPostBwdIdeal

open Gen

/-- Where the blocks sit: rows `t mod 2`, head `t / 2`; the whole of the weight and of its gradient. -/
theorem idx : ∀ t : Fin cfg0.N, win0_0.index t = ![t.val % 2, t.val / 2] ∧ win0_1.index t = ![t.val % 2, 44 + t.val / 2] ∧ win0_2.index t = ![0, 0]
    ∧ win0_3.index t = ![t.val % 2, t.val / 2] ∧ win0_4.index t = ![t.val % 2, t.val / 2] ∧ win0_5.index t = ![t.val % 2, t.val / 2] ∧ win0_6.index t = ![0, 0] :=
  (by decide +kernel : ∀ t : Fin grid0.N, _)

/-- The gradient to the input. -/
def dInput (o : FVec Ideal S4096x1024 .f32) (z : FVec Ideal S4096x9216 .f32) (w : FVec Ideal S1x128 .f32) (d : FVec Ideal S4096x1024 .f32) :
    FVec Ideal S4096x1024 .f32 := fun i =>
  d i * silu (z (ix2 (i 0) (gateCol (i 1)))) * w (ix2 0 (place (i 1))) * root (fun k => o (ix2 (i 0) (inHead (i 1) k)))
    + o i * back (fun k => o (ix2 (i 0) (inHead (i 1) k)))
        (fun k => d (ix2 (i 0) (inHead (i 1) k)) * silu (z (ix2 (i 0) (gateCol (inHead (i 1) k)))) * w (ix2 0 k))
    + back (fun k => o (ix2 (i 0) (inHead (i 1) k)))
        (fun k => d (ix2 (i 0) (inHead (i 1) k)) * silu (z (ix2 (i 0) (gateCol (inHead (i 1) k)))) * w (ix2 0 k)) * o i

/-- The gradient to the gate's columns. -/
def dGate (o : FVec Ideal S4096x1024 .f32) (z : FVec Ideal S4096x9216 .f32) (w : FVec Ideal S1x128 .f32) (d : FVec Ideal S4096x1024 .f32) :
    FVec Ideal S4096x1024 .bf16 := fun i =>
  dSilu (z (ix2 (i 0) (gateCol (i 1)))) (o i * root (fun k => o (ix2 (i 0) (inHead (i 1) k))) * w (ix2 0 (place (i 1))) * d i)

/-- Entry `k` of the part that a head's entries `x`, its gates `z` and its gradients `d` have in the weight's gradient. -/
def share (x z d : Fin 128 → EReal) (k : Fin 128) : EReal := x k * root x * (d k * silu (z k))

/-- Column `k` of head `h`. -/
def headCol (h : Fin 8) (k : Fin 128) : Fin 1024 := ⟨h.val * 128 + k.val, by omega⟩

/-- The gradient to the weight: the sum over the heads and the rows. -/
def dWeight (o : FVec Ideal S4096x1024 .f32) (z : FVec Ideal S4096x9216 .f32) (d : FVec Ideal S4096x1024 .f32) : FVec Ideal S1x128 .f32 := fun j =>
  ∑ h : Fin 8, ∑ r : Fin 4096, share (fun k => o (ix2 r (headCol h k))) (fun k => z (ix2 r (gateCol (headCol h k)))) (fun k => d (ix2 r (headCol h k))) (j 1)

/-- The summand of the weight's gradient at the `l`-th pair of a head and a row, head by head. -/
def flat (o : FVec Ideal S4096x1024 .f32) (z : FVec Ideal S4096x9216 .f32) (d : FVec Ideal S4096x1024 .f32) (j : S1x128.Idx) (l : Fin 32768) : EReal :=
  share (fun k => o (ix2 ⟨l.val % 4096, by omega⟩ (headCol ⟨l.val / 4096, by omega⟩ k)))
    (fun k => z (ix2 ⟨l.val % 4096, by omega⟩ (gateCol (headCol ⟨l.val / 4096, by omega⟩ k))))
    (fun k => d (ix2 ⟨l.val % 4096, by omega⟩ (headCol ⟨l.val / 4096, by omega⟩ k))) (j 1)

variable (m : (ℓ : Loc nD τ sig) → Buf (Elt Ideal) ℓ)

/-- The gradient to the input after the run. -/
theorem final4 (c : Dev nD) : (dats m 0 c).arrAt 4 (cfgs 0).N
    = dInput (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 16 = 0
  · rw [outsAt0_A m c t h (by have := t.isLt; change _ < 16 at this; omega)]; frame_out
    pointwise [k0_pay1, k0_pay12, k0_pay13, k0_pay14, k0_pay11, k0_pay8, k0_pay7, k0_pay5, k0_pay4, dInput, back, root, meanSq, silu, inHead, place, gateCol]
    simp only [Finset.sum_const, Finset.card_univ, Fintype.card_fin, one_nsmul]
    blk_point [iblk, V, idx t]
  · rw [outsAt0_B m c t h (by omega)]; frame_out
    pointwise [k0_pay1, k0_pay12, k0_pay13, k0_pay14, k0_pay11, k0_pay8, k0_pay7, k0_pay5, k0_pay4, dInput, back, root, meanSq, silu, inHead, place, gateCol]
    simp only [Finset.sum_const, Finset.card_univ, Fintype.card_fin, one_nsmul]
    blk_point [iblk, V, idx t]

/-- The gradient to the gate after the run. -/
theorem final5 (c : Dev nD) : (dats m 0 c).arrAt 5 (cfgs 0).N
    = dGate (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  by_cases h : t.val % 16 = 0
  · rw [outsAt0_A m c t h (by have := t.isLt; change _ < 16 at this; omega)]; frame_out
    pointwise [k0_pay2, k0_pay9, k0_pay6, k0_pay7, k0_pay5, k0_pay4, dGate, dSilu, root, meanSq, inHead, place, gateCol]
    blk_point [iblk, V, idx t]
  · rw [outsAt0_B m c t h (by omega)]; frame_out
    pointwise [k0_pay2, k0_pay9, k0_pay6, k0_pay7, k0_pay5, k0_pay4, dGate, dSilu, root, meanSq, inHead, place, gateCol]
    blk_point [iblk, V, idx t]

/-- A point's part of the weight's gradient. -/
def part (c : Dev nD) (t : Fin cfg0.N) (j : S1x128.Idx) : EReal :=
  ∑ r : Fin 2048, share (fun k => iblk m c 0 t (ix2 r k)) (fun k => iblk m c 1 t (ix2 r k)) (fun k => iblk m c 3 t (ix2 r k)) (j 1)

/-- The first point stores its part. -/
theorem acc_first (c : Dev nD) (t : Fin cfg0.N) (h : t.val % 16 = 0) (j) :
    (outsAt0 m c t.val t.isLt).2.2 j = (fun _ => 0 : S1x128.Idx → EReal) j + part m c t j := by
  rw [outsAt0_A m c t h (by have := t.isLt; change _ < 16 at this; omega)]; frame_out
  pointwise [k0_pay10, k0_pay8, k0_pay7, k0_pay6, k0_pay5, k0_pay4, part, share, root, meanSq, silu]

/-- Each later point adds its part. -/
theorem acc_next (c : Dev nD) (t : Fin cfg0.N) (h : ¬t.val % 16 = 0) (j) : (outsAt0 m c t.val t.isLt).2.2 j
    = (outsAt0 m c (t.val - 1) (Nat.lt_of_le_of_lt (Nat.sub_le _ _) t.isLt)).2.2 j + part m c t j := by
  rw [outsAt0_B m c t h (by omega)]; frame_out
  pointwise [k0_pay3, k0_pay10, k0_pay8, k0_pay7, k0_pay6, k0_pay5, k0_pay4, part, share, root, meanSq, silu]

/-- The gradient to the weight after the run. -/
theorem final6 (c : Dev nD) : (dats m 0 c).arrAt 6 (cfgs 0).N
    = dWeight (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  have hm : t.val % 16 = 15 := (flush0_6 t).mp hf
  rw [after0_6,
    Pipeline.eq_sum_fin_of_reset_step_apply_of_flush (fun n h => (outsAt0 m c n h).2.2) 16 (fun _ => (0 : EReal)) (part m c)
      (acc_first m c) (acc_next m c) t hm _, zero_add]
  refine (Fin.sum_mul_add_congr (L := 32768) (f := flat (m ((c : Thread nD τ).loc main_arg0)) (m ((c : Thread nD τ).loc main_arg1)) (m ((c : Thread nD τ).loc main_arg3))
      ((win0_6.blk t).view.emb y)) fun s k hl => ?_).trans (Fin.sum_mul_add_congr (L := 32768) (S := 8) (n := 4096) fun h r hl => ?_).symm
  · have hs := idx ⟨16 * (t.val / 16) + s.val, Pipeline.run_point_lt_of_flush t hm s⟩
    pointwise [flat, share, root, meanSq, silu, headCol, gateCol]
    blk_point [iblk, V, idx t, hs]
  · have hh : (h.val * 4096 + r.val) / 4096 = h.val := by omega
    have hr : (h.val * 4096 + r.val) % 4096 = r.val := by omega
    simp only [flat, hh, hr, Fin.eta]

/-- The kernel and the reference compute the same three arrays over the extended reals. -/
theorem algebraic : Cert.algebraic_GdnPostBwdIdeal_GdnPostBwdRefIdeal (hGdnPostBwdIdeal := facts) (hGdnPostBwdRefIdeal := Cert.GdnPostBwdRefIdeal.Gen.facts) := by
  pair_intro
  · run_from Value.run_blocks m g
  · refine θ_run_mono (Cert.GdnPostBwdRefIdeal.Value.run m' g') fun r hr c => ?_
    obtain ⟨h1, h2, h3, h4⟩ := hr c
    obtain ⟨a0, a1, a2, a3⟩ := hagree c
    refine ⟨h1.trans ?_, h2.trans ?_, h3.trans ?_, h4⟩
    · clear h1 h2 h3 h4 hr
      unfold Cert.GdnPostBwdRefIdeal.Value.res_main_v48
      rw [a0, a1, a2, a3, final4 m c]; funext i
      pointwise [dInput, back, root, meanSq, silu, inHead, place, gateCol, Ideal.logistic]
      simp only [Finset.sum_const, Finset.card_univ, Fintype.card_fin, one_nsmul]
    · clear h1 h2 h3 h4 hr
      rw [a0, a1, a2, a3, final5 m c]; funext i
      pointwise [dGate, dSilu, root, meanSq, inHead, place, gateCol, Ideal.logistic]
    · clear h1 h2 h3 h4 hr
      rw [a0, a1, a3, final6 m c]; funext i
      pointwise [dWeight, share, root, meanSq, silu, headCol, gateCol, Ideal.logistic, sum_lead]
      simp only [Finset.sum_const, Finset.card_univ, Fintype.card_fin, one_nsmul]
      exact Finset.sum_comm

end Cert.GdnPostBwdIdeal

end
-- ==== Proof.Packing.lean ====
/- Arrays laid one after another, and operations entry by entry: the two commute. -/
module

public import Idealize.ShloMosaic.Lib.Pipeline.ValueKit

@[expose] public section

set_option maxRecDepth 16384

noncomputable section

open Idealize.ShloMosaic

namespace Cert.Packing

variable {α β : Type}

/-- The pieces of a packed array, an operation done to every entry. -/
def mapped (f : α → β) (xs : List ((s : Shape) × (s.Idx → α))) : List ((s : Shape) × (s.Idx → β)) :=
  xs.map fun p => ⟨p.1, fun i => f (p.2 i)⟩

/-- Reading the packed array at a position along its axis: the operation may be done before or after. -/
theorem concatenateAt_mapped (f : α → β) (t : Shape) (a : Fin t.rank) (j : t.Idx) :
    ∀ (xs : List ((s : Shape) × (s.Idx → α))) (hs : ∀ s ∈ xs.map (·.1), s.FitsOff t a)
      (hs' : ∀ s ∈ (mapped f xs).map (·.1), s.FitsOff t a) (c : Nat) (hc : c < (axisSizes t a xs).sum)
      (hc' : c < (axisSizes t a (mapped f xs)).sum),
      concatenateAt t a j (mapped f xs) hs' c hc' = f (concatenateAt t a j xs hs c hc)
  | [], _, _, _, hc, _ => absurd hc (Nat.not_lt_zero _)
  | [p], _, _, _, _, _ => by
    simp only [mapped, List.map_cons, List.map_nil]
    rw [concatenateAt_singleton, concatenateAt]
  | p :: q :: xs, hs, hs', c, hc, hc' => by
    have ih := concatenateAt_mapped f t a j (q :: xs) (fun s h => hs s (List.mem_cons_of_mem _ h))
    simp only [mapped, List.map_cons] at ih ⊢
    rw [concatenateAt_cons, concatenateAt]
    split_ifs with h
    · rfl
    · have hp : p.1.FitsOff t a := hs p.1 List.mem_cons_self
      have hp' : Shape.FitsOff (⟨p.1, fun i => f (p.2 i)⟩ : (s : Shape) × (s.Idx → β)).1 t a := hp
      refine ih (fun s h => hs' s (List.mem_cons_of_mem _ h)) (c - p.1.size (a.cast hp.rank_eq.symm)) _ ?_
      · simp only [mapped, List.map_cons] at hc'
        rw [axisSizes_cons t a _ _ hp', List.sum_cons] at hc'
        have h' : ¬ c < p.1.size (a.cast hp.rank_eq.symm) := h
        exact Nat.sub_lt_left_of_lt_add (Nat.le_of_not_lt h') hc'

/-- An operation done to every piece is the operation done to the packed array. -/
theorem concatenate_mapped (f : α → β) (t : Shape) (a : Fin t.rank) (xs : List ((s : Shape) × (s.Idx → α)))
    (h : Shape.Concatenates (xs.map (·.1)) t a) (h' : Shape.Concatenates ((mapped f xs).map (·.1)) t a) (j : t.Idx) :
    concatenate t a (mapped f xs) h' j = f (concatenate t a xs h j) := by
  rw [concatenate_apply, concatenate_apply]
  exact concatenateAt_mapped f t a j xs _ _ _ _ _

/-- An operation on four arrays, done to every piece, is the operation done to the four packed arrays: the pieces
    are given as one list of pieces whose entries are quadruples. -/
theorem concatenate_step (G : α → α → α → α → β) (t : Shape) (a : Fin t.rank) (xs : List ((s : Shape) × (s.Idx → α × α × α × α)))
    (h : Shape.Concatenates (xs.map (·.1)) t a)
    (h1 : Shape.Concatenates ((mapped (fun q : α × α × α × α => q.1) xs).map (·.1)) t a)
    (h2 : Shape.Concatenates ((mapped (fun q : α × α × α × α => q.2.1) xs).map (·.1)) t a)
    (h3 : Shape.Concatenates ((mapped (fun q : α × α × α × α => q.2.2.1) xs).map (·.1)) t a)
    (h4 : Shape.Concatenates ((mapped (fun q : α × α × α × α => q.2.2.2) xs).map (·.1)) t a)
    (h' : Shape.Concatenates ((mapped (fun q : α × α × α × α => G q.1 q.2.1 q.2.2.1 q.2.2.2) xs).map (·.1)) t a) (j : t.Idx) :
    concatenate t a (mapped (fun q : α × α × α × α => G q.1 q.2.1 q.2.2.1 q.2.2.2) xs) h' j
      = G (concatenate t a (mapped (fun q : α × α × α × α => q.1) xs) h1 j)
          (concatenate t a (mapped (fun q : α × α × α × α => q.2.1) xs) h2 j)
          (concatenate t a (mapped (fun q : α × α × α × α => q.2.2.1) xs) h3 j)
          (concatenate t a (mapped (fun q : α × α × α × α => q.2.2.2) xs) h4 j) := by
  rw [concatenate_mapped _ t a xs h, concatenate_mapped _ t a xs h, concatenate_mapped _ t a xs h,
    concatenate_mapped _ t a xs h, concatenate_mapped _ t a xs h]

end Cert.Packing

end
-- ==== Proof.AdamSmall.lean ====
/- The AdamW step on the small weights, all packed in one array. -/
module

public import proofs.«01_k».proof.Defs
public import proofs.«01_k».proof.Proof.Adam
public import proofs.«01_k».proof.Proof.Packing
public import proofs.«01_k».proof.Proof.Gen.AdamSmallIdeal.Value
public import proofs.«01_k».proof.Proof.Gen.AdamSmallRefIdeal.Run
public import Idealize.ShloMosaic.Lib.Pipeline.ValueKit
public import Idealize.ShloMosaic.Lib.Claim
public import Idealize.ShloMosaic.Lib.KernelVsHost
public import Idealize.ShloMosaic.Lib.IdealHost

@[expose] public section

set_option maxRecDepth 16384

noncomputable section

open Idealize.ShloMosaic Idealize.ShloMosaic.TcCoe Idealize.SL.Sem Cert.Adam

namespace Cert.AdamSmallIdeal

open Gen

/-- Where the blocks sit: eight rows of the packed array at point `t`. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The three result arrays after the run. -/
theorem final4 : (dats m 0 c).arrAt 4 (cfgs 0).N
    = delta (S := S88x128) (V m c main_v12) (V m c main_v25) (V m c main_v38) (V m c main_v51) := by
  refine (dats m 0 c).arrAt_eq_of_covers 4 _ (by decide +kernel) fun t _ y => ?_
  blk_simp
  rw [after0_4]; frame_out
  pointwise [k0_pay4, k0_pay3, k0_pay2, delta, first, second]
  blk_point [iblk, idx t]

theorem final5 : (dats m 0 c).arrAt 5 (cfgs 0).N = first (S := S88x128) (V m c main_v38) (V m c main_v25) := by
  refine (dats m 0 c).arrAt_eq_of_covers 5 _ (by decide +kernel) fun t _ y => ?_
  blk_simp
  rw [after0_5]; frame_out
  pointwise [k0_pay2, first]
  blk_point [iblk, idx t]

theorem final6 : (dats m 0 c).arrAt 6 (cfgs 0).N = second (S := S88x128) (V m c main_v51) (V m c main_v25) := by
  refine (dats m 0 c).arrAt_eq_of_covers 6 _ (by decide +kernel) fun t _ y => ?_
  blk_simp
  rw [after0_6]; frame_out
  pointwise [k0_pay3, second]
  blk_point [iblk, idx t]

/-! ## Packing -/

/-- The small weights, or eleven arrays of their shapes. -/
structure Small where
  normMix : FVec Ideal S2x1024 .f32
  ssmConv : FVec Ideal S2x1536 .f32
  ssmDtBias : FVec Ideal S2x16 .f32
  ssmALog : FVec Ideal S2x16 .f32
  ssmD : FVec Ideal S2x16 .f32
  ssmNorm : FVec Ideal S2x1024 .f32
  gdnALog : FVec Ideal S2x8 .f32
  gdnDtBias : FVec Ideal S2x8 .f32
  gdnNorm : FVec Ideal S2x128 .f32
  normFfn : FVec Ideal S2x1024 .f32
  normFinal : FVec Ideal S1024 .f32

/-- The eleven arrays one after another, each flat. -/
def joined (x : Small) : FVec Ideal S10624 .f32 :=
  concatenate S10624 0 [⟨S2048, shapeCast S2048 x.normMix shapeCasts_S2x1024_S2048⟩, ⟨S3072, shapeCast S3072 x.ssmConv shapeCasts_S2x1536_S3072⟩,
    ⟨S32, shapeCast S32 x.ssmDtBias shapeCasts_S2x16_S32⟩, ⟨S32, shapeCast S32 x.ssmALog shapeCasts_S2x16_S32⟩,
    ⟨S32, shapeCast S32 x.ssmD shapeCasts_S2x16_S32⟩, ⟨S2048, shapeCast S2048 x.ssmNorm shapeCasts_S2x1024_S2048⟩,
    ⟨S16, shapeCast S16 x.gdnALog shapeCasts_S2x8_S16⟩, ⟨S16, shapeCast S16 x.gdnDtBias shapeCasts_S2x8_S16⟩,
    ⟨S256, shapeCast S256 x.gdnNorm shapeCasts_S2x128_S256⟩, ⟨S2048, shapeCast S2048 x.normFfn shapeCasts_S2x1024_S2048⟩,
    ⟨S1024, x.normFinal⟩]
    concatenates_S2048_S3072_S32_S32_S32_S2048_S16_S16_S256_S2048_S1024_S10624_d0

/-- An operation on four numbers, done entry by entry. -/
def Small.map4 (G : EReal → EReal → EReal → EReal → EReal) (w g m v : Small) : Small :=
  ⟨fun i => G (w.normMix i) (g.normMix i) (m.normMix i) (v.normMix i),
    fun i => G (w.ssmConv i) (g.ssmConv i) (m.ssmConv i) (v.ssmConv i),
    fun i => G (w.ssmDtBias i) (g.ssmDtBias i) (m.ssmDtBias i) (v.ssmDtBias i),
    fun i => G (w.ssmALog i) (g.ssmALog i) (m.ssmALog i) (v.ssmALog i),
    fun i => G (w.ssmD i) (g.ssmD i) (m.ssmD i) (v.ssmD i),
    fun i => G (w.ssmNorm i) (g.ssmNorm i) (m.ssmNorm i) (v.ssmNorm i),
    fun i => G (w.gdnALog i) (g.gdnALog i) (m.gdnALog i) (v.gdnALog i),
    fun i => G (w.gdnDtBias i) (g.gdnDtBias i) (m.gdnDtBias i) (v.gdnDtBias i),
    fun i => G (w.gdnNorm i) (g.gdnNorm i) (m.gdnNorm i) (v.gdnNorm i),
    fun i => G (w.normFfn i) (g.normFfn i) (m.normFfn i) (v.normFfn i),
    fun i => G (w.normFinal i) (g.normFinal i) (m.normFinal i) (v.normFinal i)⟩

set_option maxHeartbeats 1000000 in
/-- Entry by entry operations may be done before or after the arrays are joined. -/
theorem joined_map4 (G : EReal → EReal → EReal → EReal → EReal) (w g m v : Small) :
    joined (Small.map4 G w g m v) = fun j => G (joined w j) (joined g j) (joined m j) (joined v j) := by
  funext j
  have h := concatenates_S2048_S3072_S32_S32_S32_S2048_S16_S16_S256_S2048_S1024_S10624_d0
  exact Cert.Packing.concatenate_step G S10624 0 [⟨S2048, fun i => (shapeCast S2048 w.normMix shapeCasts_S2x1024_S2048 i, shapeCast S2048 g.normMix shapeCasts_S2x1024_S2048 i, shapeCast S2048 m.normMix shapeCasts_S2x1024_S2048 i, shapeCast S2048 v.normMix shapeCasts_S2x1024_S2048 i)⟩,
    ⟨S3072, fun i => (shapeCast S3072 w.ssmConv shapeCasts_S2x1536_S3072 i, shapeCast S3072 g.ssmConv shapeCasts_S2x1536_S3072 i, shapeCast S3072 m.ssmConv shapeCasts_S2x1536_S3072 i, shapeCast S3072 v.ssmConv shapeCasts_S2x1536_S3072 i)⟩,
    ⟨S32, fun i => (shapeCast S32 w.ssmDtBias shapeCasts_S2x16_S32 i, shapeCast S32 g.ssmDtBias shapeCasts_S2x16_S32 i, shapeCast S32 m.ssmDtBias shapeCasts_S2x16_S32 i, shapeCast S32 v.ssmDtBias shapeCasts_S2x16_S32 i)⟩,
    ⟨S32, fun i => (shapeCast S32 w.ssmALog shapeCasts_S2x16_S32 i, shapeCast S32 g.ssmALog shapeCasts_S2x16_S32 i, shapeCast S32 m.ssmALog shapeCasts_S2x16_S32 i, shapeCast S32 v.ssmALog shapeCasts_S2x16_S32 i)⟩,
    ⟨S32, fun i => (shapeCast S32 w.ssmD shapeCasts_S2x16_S32 i, shapeCast S32 g.ssmD shapeCasts_S2x16_S32 i, shapeCast S32 m.ssmD shapeCasts_S2x16_S32 i, shapeCast S32 v.ssmD shapeCasts_S2x16_S32 i)⟩,
    ⟨S2048, fun i => (shapeCast S2048 w.ssmNorm shapeCasts_S2x1024_S2048 i, shapeCast S2048 g.ssmNorm shapeCasts_S2x1024_S2048 i, shapeCast S2048 m.ssmNorm shapeCasts_S2x1024_S2048 i, shapeCast S2048 v.ssmNorm shapeCasts_S2x1024_S2048 i)⟩,
    ⟨S16, fun i => (shapeCast S16 w.gdnALog shapeCasts_S2x8_S16 i, shapeCast S16 g.gdnALog shapeCasts_S2x8_S16 i, shapeCast S16 m.gdnALog shapeCasts_S2x8_S16 i, shapeCast S16 v.gdnALog shapeCasts_S2x8_S16 i)⟩,
    ⟨S16, fun i => (shapeCast S16 w.gdnDtBias shapeCasts_S2x8_S16 i, shapeCast S16 g.gdnDtBias shapeCasts_S2x8_S16 i, shapeCast S16 m.gdnDtBias shapeCasts_S2x8_S16 i, shapeCast S16 v.gdnDtBias shapeCasts_S2x8_S16 i)⟩,
    ⟨S256, fun i => (shapeCast S256 w.gdnNorm shapeCasts_S2x128_S256 i, shapeCast S256 g.gdnNorm shapeCasts_S2x128_S256 i, shapeCast S256 m.gdnNorm shapeCasts_S2x128_S256 i, shapeCast S256 v.gdnNorm shapeCasts_S2x128_S256 i)⟩,
    ⟨S2048, fun i => (shapeCast S2048 w.normFfn shapeCasts_S2x1024_S2048 i, shapeCast S2048 g.normFfn shapeCasts_S2x1024_S2048 i, shapeCast S2048 m.normFfn shapeCasts_S2x1024_S2048 i, shapeCast S2048 v.normFfn shapeCasts_S2x1024_S2048 i)⟩,
    ⟨S1024, fun i => (w.normFinal i, g.normFinal i, m.normFinal i, v.normFinal i)⟩]
    h h h h h h j

/-- A flat array filled up with zeros and laid in 88 rows. -/
def filled (x : FVec Ideal S10624 .f32) : FVec Ideal S88x128 .f32 :=
  shapeCast S88x128 (fun j : S11264.Idx => if h : (j 0).val < 10624 then x (ix1 ⟨(j 0).val, h⟩) else (0 : EReal)) shapeCasts_S11264_S88x128

/-- Padding with the integer zero, read as a number. -/
theorem filled_of_pad (x : FVec Ideal S10624 .f32) :
    shapeCast S88x128 (pad S11264 ![0] ![640] ![0] x (sitofp .f32 (constantI S_ 32 0#32)) pads_S10624_S11264_06400 h_S_) shapeCasts_S11264_S88x128
      = filled x := by
  unfold filled
  congr 1
  funext j
  pointwise
  rw [show (FloatOps.sitofp .f32 0#32 : Ideal .f32) = (0 : EReal) from sitofp_zero]

/-- Appending zeros. -/
theorem filled_of_append (x : FVec Ideal S10624 .f32) :
    shapeCast S88x128 (concatenate S11264 0 [⟨S10624, x⟩, ⟨Cert.AdamSmallRefIdeal.S640, fun _ => Scalar.ofBits (F := Ideal) .f32 0x00000000#32⟩]
      Cert.AdamSmallRefIdeal.Gen.concatenates_S10624_S640_S11264_d0) shapeCasts_S11264_S88x128 = filled x := by
  unfold filled
  congr 1
  funext j
  pointwise

/-- The small weights. -/
def weights : Small :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10)⟩

/-- Their gradients. -/
def grads : Small :=
  ⟨m ((c.tc : Thread nD τ).loc main_arg11), m ((c.tc : Thread nD τ).loc main_arg12), m ((c.tc : Thread nD τ).loc main_arg13),
    m ((c.tc : Thread nD τ).loc main_arg14), m ((c.tc : Thread nD τ).loc main_arg15), m ((c.tc : Thread nD τ).loc main_arg16),
    m ((c.tc : Thread nD τ).loc main_arg17), m ((c.tc : Thread nD τ).loc main_arg18), m ((c.tc : Thread nD τ).loc main_arg19),
    m ((c.tc : Thread nD τ).loc main_arg20), m ((c.tc : Thread nD τ).loc main_arg21)⟩

/-- Their first moments. -/
def firsts : Small :=
  ⟨m ((c.tc : Thread nD τ).loc main_arg22), m ((c.tc : Thread nD τ).loc main_arg23), m ((c.tc : Thread nD τ).loc main_arg24),
    m ((c.tc : Thread nD τ).loc main_arg25), m ((c.tc : Thread nD τ).loc main_arg26), m ((c.tc : Thread nD τ).loc main_arg27),
    m ((c.tc : Thread nD τ).loc main_arg28), m ((c.tc : Thread nD τ).loc main_arg29), m ((c.tc : Thread nD τ).loc main_arg30),
    m ((c.tc : Thread nD τ).loc main_arg31), m ((c.tc : Thread nD τ).loc main_arg32)⟩

/-- Their second moments. -/
def seconds : Small :=
  ⟨m ((c.tc : Thread nD τ).loc main_arg33), m ((c.tc : Thread nD τ).loc main_arg34), m ((c.tc : Thread nD τ).loc main_arg35),
    m ((c.tc : Thread nD τ).loc main_arg36), m ((c.tc : Thread nD τ).loc main_arg37), m ((c.tc : Thread nD τ).loc main_arg38),
    m ((c.tc : Thread nD τ).loc main_arg39), m ((c.tc : Thread nD τ).loc main_arg40), m ((c.tc : Thread nD τ).loc main_arg41),
    m ((c.tc : Thread nD τ).loc main_arg42), m ((c.tc : Thread nD τ).loc main_arg43)⟩

set_option maxHeartbeats 1000000 in
/-- The packed weights when the kernel starts. -/
theorem packed_w : V m c main_v12 = filled (joined (weights m c)) := by
  rw [← filled_of_pad]
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 1000000 in
/-- The packed gradients. -/
theorem packed_g : V m c main_v25 = filled (joined (grads m c)) := by
  rw [← filled_of_pad]
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 1000000 in
/-- The packed first moments. -/
theorem packed_m : V m c main_v38 = filled (joined (firsts m c)) := by
  rw [← filled_of_pad]
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 1000000 in
/-- The packed second moments. -/
theorem packed_v : V m c main_v51 = filled (joined (seconds m c)) := by
  rw [← filled_of_pad]
  simp only [V, hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-! ## The step on the padding -/

/-- One entry's step. -/
def stepD (w g m v : EReal) : EReal := delta (S := S_) (fun _ => w) (fun _ => g) (fun _ => m) (fun _ => v) (fun a => a.elim0)
def stepM (w g m v : EReal) : EReal := first (S := S_) (fun _ => m) (fun _ => g) (fun a => a.elim0)
def stepV (w g m v : EReal) : EReal := second (S := S_) (fun _ => v) (fun _ => g) (fun a => a.elim0)

/-- The two divisors `1 − βᵗ` and `ε` are not zero. -/
theorem corr1_ne : Ideal.ofBits .f32 0x3F26BD02#32 ≠ 0 := by simp [Ideal.ofBits, Ideal.ieee]
theorem corr2_ne : Ideal.ofBits .f32 0x3C231ACC#32 ≠ 0 := by simp [Ideal.ofBits, Ideal.ieee]
theorem eps_ne : Ideal.ofBits .f32 0x322BCC77#32 ≠ 0 := by simp [Ideal.ofBits, Ideal.ieee]

theorem sqrt_zero : Ideal.sqrt 0 = 0 := by
  show (if (0 : ℝ) < 0 then ⊥ else ((Real.sqrt 0 : ℝ) : EReal)) = 0
  simp

/-- On the padding the step is zero: there `ε` stands below the zero moment. -/
theorem delta_filled (w g m v : FVec Ideal S10624 .f32) :
    delta (filled w) (filled g) (filled m) (filled v) = filled fun j => stepD (w j) (g j) (m j) (v j) := by
  funext i
  pointwise [filled, delta, first, second, stepD]
  split_ifs with h
  · rfl
  · simp only [mul_zero, add_zero, Ideal.zero_div corr1_ne, Ideal.zero_div corr2_ne, sqrt_zero, zero_add, Ideal.zero_div eps_ne]

theorem first_filled (w g m v : FVec Ideal S10624 .f32) :
    first (filled m) (filled g) = filled fun j => stepM (w j) (g j) (m j) (v j) := by
  funext i
  pointwise [filled, first, stepM]
  split_ifs with h
  · rfl
  · simp only [mul_zero, add_zero]

theorem second_filled (w g m v : FVec Ideal S10624 .f32) :
    second (filled v) (filled g) = filled fun j => stepV (w j) (g j) (m j) (v j) := by
  funext i
  pointwise [filled, second, stepV]
  split_ifs with h
  · rfl
  · simp only [mul_zero, add_zero]

end Cert.AdamSmallIdeal

/-! ## The reference's side -/

namespace Cert.AdamSmallRefIdeal

open Gen Cert.AdamSmallIdeal

variable (m : (ℓ : Loc nD τ sig) → Buf (Elt Ideal) ℓ) (c : Dev nD)

/-- The small weights, as the reference finds them. -/
def weights : Small :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10)⟩

/-- Their gradients. -/
def grads : Small :=
  ⟨m ((c.tc : Thread nD τ).loc main_arg11), m ((c.tc : Thread nD τ).loc main_arg12), m ((c.tc : Thread nD τ).loc main_arg13),
    m ((c.tc : Thread nD τ).loc main_arg14), m ((c.tc : Thread nD τ).loc main_arg15), m ((c.tc : Thread nD τ).loc main_arg16),
    m ((c.tc : Thread nD τ).loc main_arg17), m ((c.tc : Thread nD τ).loc main_arg18), m ((c.tc : Thread nD τ).loc main_arg19),
    m ((c.tc : Thread nD τ).loc main_arg20), m ((c.tc : Thread nD τ).loc main_arg21)⟩

/-- Their first moments. -/
def firsts : Small :=
  ⟨m ((c.tc : Thread nD τ).loc main_arg22), m ((c.tc : Thread nD τ).loc main_arg23), m ((c.tc : Thread nD τ).loc main_arg24),
    m ((c.tc : Thread nD τ).loc main_arg25), m ((c.tc : Thread nD τ).loc main_arg26), m ((c.tc : Thread nD τ).loc main_arg27),
    m ((c.tc : Thread nD τ).loc main_arg28), m ((c.tc : Thread nD τ).loc main_arg29), m ((c.tc : Thread nD τ).loc main_arg30),
    m ((c.tc : Thread nD τ).loc main_arg31), m ((c.tc : Thread nD τ).loc main_arg32)⟩

/-- Their second moments. -/
def seconds : Small :=
  ⟨m ((c.tc : Thread nD τ).loc main_arg33), m ((c.tc : Thread nD τ).loc main_arg34), m ((c.tc : Thread nD τ).loc main_arg35),
    m ((c.tc : Thread nD τ).loc main_arg36), m ((c.tc : Thread nD τ).loc main_arg37), m ((c.tc : Thread nD τ).loc main_arg38),
    m ((c.tc : Thread nD τ).loc main_arg39), m ((c.tc : Thread nD τ).loc main_arg40), m ((c.tc : Thread nD τ).loc main_arg41),
    m ((c.tc : Thread nD τ).loc main_arg42), m ((c.tc : Thread nD τ).loc main_arg43)⟩

set_option maxHeartbeats 1000000 in
/-- The steps of the eleven weights, joined. -/
theorem delta_eq : Value.res_main_v274 (StableHlo.launchContents m c) = joined (Small.map4 stepD (weights m c) (grads m c) (firsts m c) (seconds m c)) := by
  rfl

end Cert.AdamSmallRefIdeal

namespace Cert.AdamSmallIdeal

open Gen

set_option maxHeartbeats 2000000 in
/-- The kernel and the reference compute the same three arrays over the extended reals. -/
theorem algebraic : Cert.algebraic_AdamSmallIdeal_AdamSmallRefIdeal (hAdamSmallIdeal := facts) (hAdamSmallRefIdeal := Cert.AdamSmallRefIdeal.Gen.facts) := by
  pair_intro
  · run_from Value.run_blocks m g
  · refine θ_run_mono (Cert.AdamSmallRefIdeal.Value.run m' g') fun r hr c => ?_
    obtain ⟨h1, h2, h3, h4⟩ := hr c
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43⟩ := hagree c
    have ew : Cert.AdamSmallRefIdeal.weights m' c = weights m c := by
      unfold Cert.AdamSmallRefIdeal.weights weights; rw [a0, a1, a2, a3, a4, a5, a6, a7, a8, a9, a10]
    have eg : Cert.AdamSmallRefIdeal.grads m' c = grads m c := by
      unfold Cert.AdamSmallRefIdeal.grads grads; rw [a11, a12, a13, a14, a15, a16, a17, a18, a19, a20, a21]
    have em : Cert.AdamSmallRefIdeal.firsts m' c = firsts m c := by
      unfold Cert.AdamSmallRefIdeal.firsts firsts; rw [a22, a23, a24, a25, a26, a27, a28, a29, a30, a31, a32]
    have ev : Cert.AdamSmallRefIdeal.seconds m' c = seconds m c := by
      unfold Cert.AdamSmallRefIdeal.seconds seconds; rw [a33, a34, a35, a36, a37, a38, a39, a40, a41, a42, a43]
    refine ⟨h1.trans ?_, h2.trans ?_, h3.trans ?_, h4⟩
    · rw [final4 m c, packed_w, packed_g, packed_m, packed_v, delta_filled, ← joined_map4, ← ew, ← eg, ← em, ← ev,
        Cert.AdamSmallRefIdeal.delta_eq, ← filled_of_append]
      rfl
    · rw [final5 m c, packed_g, packed_m, first_filled (joined (weights m c)) _ _ (joined (seconds m c)), ← joined_map4, ← ew, ← eg, ← em, ← ev, ← filled_of_append]
      rfl
    · rw [final6 m c, packed_g, packed_v, second_filled (joined (weights m c)) _ (joined (firsts m c)) _, ← joined_map4, ← ew, ← eg, ← em, ← ev, ← filled_of_append]
      rfl

end Cert.AdamSmallIdeal

end
-- ==== Proof.SmallSum.lean ====
/- The sum of the devices' gradients of the small weights, all packed in one array. -/
module

public import proofs.«01_k».proof.Defs
public import proofs.«01_k».proof.Proof.Gen.SmallSumIdeal.Value
public import proofs.«01_k».proof.Proof.Gen.SmallSumRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.SmallSumIdeal

open Gen

/-- Where the blocks sit: eight rows of every device's part at point `t`. -/
theorem idx : ∀ t : Fin cfg0.N, win0_0.index t = ![0, t.val, 0] ∧ win0_1.index t = ![t.val, 0] :=
  (by decide +kernel : ∀ t : Fin grid0.N, _)

/-- The sum of the eight parts, entry by entry. -/
def total (x : FVec Ideal S8x376x128 .f32) : FVec Ideal S376x128 .f32 :=
  fun i => ∑ k : Fin 8, x (ix3 k (i 0) (i 1))

variable (m : (ℓ : Loc nD τ sig) → Buf (Elt Ideal) ℓ) (c : Dev nD)

/-- The result array after the run. -/
theorem final1 : (dats m 0 c).arrAt 1 (cfgs 0).N = total (m ((c.tc : Thread nD τ).loc main_arg0)) := by
  refine (dats m 0 c).arrAt_eq_of_covers 1 _ (by decide +kernel) fun t _ y => ?_
  blk_simp
  rw [after0_1]; frame_out
  pointwise [k0_pay1, total]
  simp only [Fin.sum_univ_eight]
  blk_point [iblk, V, idx t]

/-- The kernel and the reference compute the same array over the extended reals. -/
theorem algebraic : Cert.algebraic_SmallSumIdeal_SmallSumRefIdeal (hSmallSumIdeal := facts) (hSmallSumRefIdeal := Cert.SmallSumRefIdeal.Gen.facts) := by
  pair_intro
  · run_from Value.run_blocks m g
  · run_from Cert.SmallSumRefIdeal.Value.run m' g'
    rw [final1 m c]; funext i; pointwise [total]

end Cert.SmallSumIdeal

end
-- ==== Proof.ScanTile.lean ====
module

public import proofs.«01_k».proof.Proof.Gen.SsdDxIdeal
public import Idealize.ShloMosaic.Lib.Pipeline.ValueKit

/-! The tiles one grid point of the gradient of the state-space scan computes for one pair of heads, as functions of
the pair's two head numbers: every pair of heads runs the same operations. -/

@[expose] public section

noncomputable section

namespace Cert.SsdDxIdeal.Scan

open Cert.SsdDxIdeal Cert.SsdDxIdeal.Gen Idealize.ShloMosaic Idealize.ShloMosaic.TcCoe

variable {F : FTy → Type} [FloatOps F] [Named F]

/-- The rectangle of zeros of a shape. -/
abbrev zeros (s : Shape) : FVec F s .f32 := broadcast s (Scalar.ofBits .f32 0x00000000#32)

/-- The lanes of the first head of a pair. -/
def firstHead : IVec S1x128 1 := cmpi .slt (iota .tc S1x128 32 [1] iota_S1x128_d1_w32) (broadcast S1x128 (64#32))

/-- The same for all 256 rows. -/
def firstHeads : IVec S256x128 1 :=
  broadcastTo S256x128 (shapeCast S1x128 firstHead shapeCasts_S1x128_S1x128) broadcasts_S1x128_S256x128

/-- The lane numbered `h`. -/
def laneIs (h : BitVec 32) : IVec S1x128 1 :=
  cmpi .eq (iota .tc S1x128 32 [1] iota_S1x128_d1_w32) (broadcast S1x128 h)

/-- Lane `h` of every row, as a column. -/
def pick (h : BitVec 32) (v : FVec F S256x128 .f32) : FVec F S256x1 .f32 :=
  shapeCast S256x1 (multiReduction .add [1] S256 (select
    (broadcastTo S256x128 (shapeCast S1x128 (laneIs h) shapeCasts_S1x128_S1x128) broadcasts_S1x128_S256x128)
    v (zeros S256x128)) 0x00000000#32 reduces_S256x128_S256 (.inl rfl) rfl) shapeCasts_S256_S256x1

/-- A column repeated over the lanes. -/
def spread (v : FVec F S256x1 .f32) : FVec F S256x128 .f32 :=
  broadcastTo S256x128 (shapeCast S256x1 v shapeCasts_S256x1_S256x1) broadcasts_S256x1_S256x128

/-- Per row, the lane of each head of the pair, repeated over the head's lanes. -/
def both (h0 h1 : BitVec 32) (v : FVec F S256x128 .f32) : FVec F S256x128 .f32 :=
  select firstHeads (spread (pick h0 v)) (spread (pick h1 v))

/-- Lane `h` of a row. -/
def pickRow (h : BitVec 32) (v : FVec F S1x128 .f32) : FVec F S1x1 .f32 :=
  shapeCast S1x1 (multiReduction .add [1] S1 (select (laneIs h) v (zeros S1x128))
    0x00000000#32 reduces_S1x128_S1 (.inl rfl) rfl) shapeCasts_S1_S1x1

/-- The lane of each head of the pair, repeated over the head's lanes. -/
def bothRow (h0 h1 : BitVec 32) (v : FVec F S1x128 .f32) : FVec F S1x128 .f32 :=
  select firstHead
    (broadcastTo S1x128 (shapeCast S1x1 (pickRow h0 v) shapeCasts_S1x1_S1x1) broadcasts_S1x1_S1x128)
    (broadcastTo S1x128 (shapeCast S1x1 (pickRow h1 v) shapeCasts_S1x1_S1x1) broadcasts_S1x1_S1x128)

/-- The lane of each head of the pair, repeated over the head's rows. -/
def bothCol (h0 h1 : BitVec 32) (v : FVec F S1x128 .f32) : FVec F S128x1 .f32 :=
  select (cmpi .slt (iota .tc S128x1 32 [0] iota_S128x1_d0_w32) (broadcast S128x1 (64#32)))
    (broadcastTo S128x1 (shapeCast S1x1 (pickRow h0 v) shapeCasts_S1x1_S1x1) broadcasts_S1x1_S128x1)
    (broadcastTo S128x1 (shapeCast S1x1 (pickRow h1 v) shapeCasts_S1x1_S1x1) broadcasts_S1x1_S128x1)

/-- The row numbers of a 256 × 256 tile. -/
def rowNo : IVec S256x256 32 := iota .tc S256x256 32 [0] iota_S256x256_d0_w32

/-- The column numbers of a 256 × 256 tile. -/
def colNo : IVec S256x256 32 := iota .tc S256x256 32 [1] iota_S256x256_d1_w32

/-- The step sizes: the softplus of the projected row plus the bias. -/
def dts (sm : Vec F S256x128 .f32) (b : Vec F S1x128 .f32) : FVec F S256x128 .f32 :=
  addf (maximumf (addf sm (broadcastTo S256x128 b broadcasts_S1x128_S256x128)) (zeros S256x128))
    (log1p (exp (subf (zeros S256x128) (absf (addf sm (broadcastTo S256x128 b broadcasts_S1x128_S256x128))))))

/-- The log decay of each row. -/
def logDecay (sm : Vec F S256x128 .f32) (b al : Vec F S1x128 .f32) : FVec F S256x128 .f32 :=
  mulf (dts sm b) (broadcastTo S256x128 (subf (zeros S1x128) (exp al)) broadcasts_S1x128_S256x128)

/-- The log decays added up from the block's first row. -/
def cum (sm : Vec F S256x128 .f32) (b al : Vec F S1x128 .f32) : FVec F S256x128 .f32 :=
  matmul dot_S256x256_S256x128_S256x128_1_0_0_1_n_n (some .fp32)
    (sitofp .f32 (extui 32 (cmpi .sle colNo rowNo) natLt_1_32)) (logDecay sm b al)
    (constant S256x128 .f32 0x00000000#32)

/-- The same, transposed. -/
def cumT (sm : Vec F S256x128 .f32) (b al : Vec F S1x128 .f32) : FVec F S128x256 .f32 :=
  matmul dot_S256x128_S256x256_S128x256_0_0_1_1_n_n (some .fp32) (logDecay sm b al)
    (sitofp .f32 (extui 32 (cmpi .sle rowNo colNo) natLt_1_32)) (constant S128x256 .f32 0x00000000#32)

/-- The block's total log decay. -/
def tot (sm : Vec F S256x128 .f32) (b al : Vec F S1x128 .f32) : FVec F S1x128 .f32 :=
  extractStridedSlice S1x128 ![255, 0] (cum sm b al) slices_S256x128_o255_0_S1x128

/-- The decay from one row to a later one, for the head `h`; nothing passes backwards. -/
def decay (h : BitVec 32) (sm : Vec F S256x128 .f32) (b al : Vec F S1x128 .f32) : FVec F S256x256 .f32 :=
  exp (select (cmpi .sge rowNo colNo)
    (subf (broadcastTo S256x256 (pick h (cum sm b al)) broadcasts_S256x1_S256x256)
      (broadcastTo S256x256 (shapeCast S1x256 (multiReduction .add [0] S256 (select
        (broadcastTo S128x256 (shapeCast S128x1
          (cmpi .eq (iota .tc S128x1 32 [0] iota_S128x1_d0_w32) (broadcast S128x1 h)) shapeCasts_S128x1_S128x1)
          broadcasts_S128x1_S128x256) (cumT sm b al) (zeros S128x256))
        0x00000000#32 reduces_S128x256_S256 (.inl rfl) rfl) shapeCasts_S256_S1x256) broadcasts_S1x256_S256x256))
    (broadcast S256x256 (Named.named κ "mask" 0xF149F2CA#32)))

/-- The products of the block's output vectors with its input vectors. -/
def cb (bm cm : Vec F S256x128 .f32) : FVec F S256x256 .f32 :=
  matmul dot_S256x128_S256x128_S256x256_1_1_0_0_n_n none (truncf .bf16 cm bitsLt_bf16_f32)
    (truncf .bf16 bm bitsLt_bf16_f32) (constant S256x256 .f32 0x00000000#32)

/-- What the block's own rows send back through the head `h`. -/
def within (h : BitVec 32) (bm cm sm : Vec F S256x128 .f32) (b al : Vec F S1x128 .f32) (dy : Vec F S256x128 .f32) :
    FVec F S256x128 .f32 :=
  extf .f32 (truncf .bf16 (transpose S256x128 [1, 0]
    (matmul dot_S256x128_S256x256_S128x256_0_0_1_1_n_n none (shapeCast S256x128 dy shapeCasts_S256x128_S256x128)
      (truncf .bf16 (mulf (cb bm cm) (decay h sm b al)) bitsLt_bf16_f32) (constant S128x256 .f32 0x00000000#32))
    transposes_S128x256_p1_0_S256x128) bitsLt_bf16_f32) bitsLt_bf16_f32

/-- The gradient in the pair's inputs. -/
def dxTile (h0 h1 : BitVec 32) (bm cm sm : Vec F S256x128 .f32) (b al ds : Vec F S1x128 .f32)
    (dy : Vec F S256x128 .f32) (st : Vec F S1x128x128 .f32) : FVec F S256x128 .f32 :=
  addf (mulf (broadcastTo S256x128 (bothRow h0 h1 ds) broadcasts_S1x128_S256x128)
      (shapeCast S256x128 dy shapeCasts_S256x128_S256x128))
    (mulf (addf (addf (mulf (extf .f32 (truncf .bf16 (transpose S256x128 [1, 0]
        (matmul dot_S128x128_S256x128_S128x256_1_1_0_0_n_n none (shapeCast S128x128
          (shapeCast S128x128 st shapeCasts_S1x128x128_S128x128) shapeCasts_S128x128_S128x128)
          (truncf .bf16 bm bitsLt_bf16_f32) (constant S128x256 .f32 0x00000000#32))
        transposes_S128x256_p1_0_S256x128) bitsLt_bf16_f32) bitsLt_bf16_f32)
        (both h0 h1 (exp (subf (broadcastTo S256x128 (tot sm b al) broadcasts_S1x128_S256x128) (cum sm b al)))))
      (select firstHeads (zeros S256x128) (within h1 bm cm sm b al dy)))
      (select firstHeads (within h0 bm cm sm b al dy) (zeros S256x128)))
    (both h0 h1 (dts sm b)))

/-- The gradient in the pair's state at the block's first row. -/
def dstTile (h0 h1 : BitVec 32) (cm sm : Vec F S256x128 .f32) (b al : Vec F S1x128 .f32)
    (dy : Vec F S256x128 .f32) (st : Vec F S1x128x128 .f32) : FVec F S1x128x128 .f32 :=
  shapeCast S1x128x128 (addf
    (mulf (shapeCast S128x128 (shapeCast S128x128 st shapeCasts_S1x128x128_S128x128) shapeCasts_S128x128_S128x128)
      (broadcastTo S128x128 (bothCol h0 h1 (exp (tot sm b al))) broadcasts_S128x1_S128x128))
    (extf .f32 (truncf .bf16 (matmul dot_S256x128_S256x128_S128x128_0_0_1_1_n_n none
      (mulf (shapeCast S256x128 dy shapeCasts_S256x128_S256x128) (both h0 h1 (exp (cum sm b al))))
      (truncf .bf16 cm bitsLt_bf16_f32) (constant S128x128 .f32 0x00000000#32)) bitsLt_bf16_f32) bitsLt_bf16_f32))
    shapeCasts_S128x128_S1x128x128

end Cert.SsdDxIdeal.Scan

end
-- ==== Proof.ScanReal.lean ====
module

public import proofs.«01_k».proof.Proof.ScanTile
public import Idealize.ShloMosaic.Lib.WordCmp

/-! The tiles of one grid point over the real numbers: where the blocks read are finite, each tile is finite, and its
values are named. Rows are numbered along the whole sequence; the block at hand starts at row `R`. -/

@[expose] public section

set_option maxRecDepth 16384

noncomputable section

namespace Cert.SsdDxIdeal.Scan

open Cert.SsdDxIdeal Cert.SsdDxIdeal.Gen Idealize.ShloMosaic Idealize.ShloMosaic.TcCoe

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The softplus of a real. -/
def softplus (x : ℝ) : ℝ := max x 0 + Real.log (1 + Real.exp (-|x|))

/-- The step size of a row and head. -/
def step (p : ℕ → ℕ → ℝ) (β : ℕ → ℝ) (n h : ℕ) : ℝ := softplus (p n (8704 + h) + β h)

/-- The log decay of a row and head. -/
def logStep (p : ℕ → ℕ → ℝ) (β α : ℕ → ℝ) (n h : ℕ) : ℝ := step p β n h * -Real.exp (α h)

/-- The log decays of a head added up over the rows before `k`. -/
def cumTo (a : ℕ → ℕ → ℝ) (h k : ℕ) : ℝ := ∑ n ∈ Finset.range k, a n h

theorem cumTo_add (a : ℕ → ℕ → ℝ) (h R k : ℕ) : cumTo a h (R + k) - cumTo a h R = ∑ n ∈ Finset.range k, a (R + n) h := by
  unfold cumTo
  rw [Finset.sum_range_add]; ring

/-- Adding up the first `i + 1` of 256 values. -/
theorem sum_upto (f : ℕ → ℝ) (i : Fin 256) : (∑ x : Fin 256, if (x : ℕ) ≤ i then f x else 0) = ∑ n ∈ Finset.range (i + 1), f n := by
  rw [Fin.sum_univ_eq_sum_range (fun x => if x ≤ (i : ℕ) then f x else 0) 256, ← Finset.sum_filter]
  congr 1; ext x; simp only [Finset.mem_filter, Finset.mem_range]; omega

/-- The words 1 and 0 as reals. -/
theorem sitofp_one : FloatOps.sitofp (F := Ideal) .f32 1#32 = (1 : EReal) := by
  change (((1#32 : BitVec 32).toInt : ℝ) : EReal) = 1
  simp
theorem sitofp_zero : FloatOps.sitofp (F := Ideal) .f32 0#32 = (0 : EReal) := by
  change (((0#32 : BitVec 32).toInt : ℝ) : EReal) = 0
  simp

/-- A lane picked by its number. -/
theorem pick_apply (h : Fin 128) (v : FVec Ideal S256x128 .f32) (r : Fin 256) :
    pick (BitVec.ofNat 32 h) v (ix2 r 0) = v (ix2 r h) := by
  pointwise [pick, laneIs]
  rw [Finset.sum_eq_single h]
  · simp (disch := omega) only [hlo_ix, Scalar.select, if_true]
  · intro x _ hx
    have : ¬(x : ℕ) = h := fun e => hx (Fin.ext e)
    simp (disch := omega) only [hlo_ix, Scalar.select]; simp [this]
  · simp

theorem pickRow_apply (h : Fin 128) (v : FVec Ideal S1x128 .f32) :
    pickRow (BitVec.ofNat 32 h) v (ix2 0 0) = v (ix2 0 h) := by
  pointwise [pickRow, laneIs]
  rw [Finset.sum_eq_single h]
  · simp (disch := omega) only [hlo_ix, Scalar.select, if_true]
  · intro x _ hx
    have : ¬(x : ℕ) = h := fun e => hx (Fin.ext e)
    simp (disch := omega) only [hlo_ix, Scalar.select]; simp [this]
  · simp

/-- A choice by the number of a lane. -/
theorem first_select (l : Fin 128) (x y : EReal) :
    Scalar.select (IntOp.cmpi CmpIPredicate.slt (BitVec.ofNat 32 l) 64#32) x y = if (l : ℕ) < 64 then x else y := by
  simp (disch := omega) only [hlo_ix, Scalar.select]

/-- The head, among the 16, of lane `l` of the pair of heads `p`. -/
def head (p : Fin 8) (l : Fin 128) : Fin 128 := ⟨2 * p + l / 64, by omega⟩

/-- The two head numbers of a pair, as words. -/
abbrev w0 (p : Fin 8) : BitVec 32 := BitVec.ofNat 32 (2 * p)
abbrev w1 (p : Fin 8) : BitVec 32 := BitVec.ofNat 32 (2 * p + 1)

theorem both_apply (p : Fin 8) (v : FVec Ideal S256x128 .f32) (r : Fin 256) (l : Fin 128) :
    both (w0 p) (w1 p) v (ix2 r l) = v (ix2 r (head p l)) := by
  pointwise [both, spread, firstHeads, firstHead]
  rw [first_select, pick_apply ⟨2 * p, by omega⟩, pick_apply ⟨2 * p + 1, by omega⟩]
  split
  · congr 2; exact Fin.ext (by simp only [head]; omega)
  · congr 2; exact Fin.ext (by simp only [head]; omega)

theorem bothRow_apply (p : Fin 8) (v : FVec Ideal S1x128 .f32) (l : Fin 128) :
    bothRow (w0 p) (w1 p) v (ix2 0 l) = v (ix2 0 (head p l)) := by
  pointwise [bothRow, firstHead]
  rw [first_select, pickRow_apply ⟨2 * p, by omega⟩, pickRow_apply ⟨2 * p + 1, by omega⟩]
  split
  · congr 2; exact Fin.ext (by simp only [head]; omega)
  · congr 2; exact Fin.ext (by simp only [head]; omega)

theorem bothCol_apply (p : Fin 8) (v : FVec Ideal S1x128 .f32) (l : Fin 128) :
    bothCol (w0 p) (w1 p) v (ix2 l 0) = v (ix2 0 (head p l)) := by
  pointwise [bothCol]
  rw [first_select, pickRow_apply ⟨2 * p, by omega⟩, pickRow_apply ⟨2 * p + 1, by omega⟩]
  split
  · congr 2; exact Fin.ext (by simp only [head]; omega)
  · congr 2; exact Fin.ext (by simp only [head]; omega)

theorem softplus_coe (x : ℝ) : max (x : EReal) 0 + Ideal.log1p (Ideal.exp (0 - FloatOps.absf (F := Ideal) (φ := .f32) (x : EReal))) = (softplus x : EReal) := by
  have h : FloatOps.absf (F := Ideal) (φ := .f32) (x : EReal) = ((|x| : ℝ) : EReal) := by
    rw [Ideal.absf_def, abs, ← EReal.coe_neg]; exact (EReal.coe_strictMono.monotone.map_max).symm
  rw [h, zero_sub, ← EReal.coe_neg, Ideal.exp_coe, Ideal.log1p, ← EReal.coe_one, ← EReal.coe_add, Ideal.log_coe,
    if_neg (by have := Real.exp_pos (-|x|); linarith), softplus, EReal.coe_add, EReal.coe_strictMono.monotone.map_max, EReal.coe_zero]

section Block

variable {sm : Vec Ideal S256x128 .f32} {b al : Vec Ideal S1x128 .f32} {a dt : ℕ → ℕ → ℝ} {R : ℕ}

theorem dts_coe {s : ℕ → ℕ → ℝ} {β : ℕ → ℝ} (hs : ∀ r l, sm (ix2 r l) = ((s (R + r.val) l : ℝ) : EReal))
    (hb : ∀ l, b (ix2 0 l) = ((β l : ℝ) : EReal)) (r : Fin 256) (l : Fin 128) :
    dts sm b (ix2 r l) = ((softplus (s (R + r) l + β l) : ℝ) : EReal) := by
  pointwise [dts]
  rw [hs, hb, ← EReal.coe_add, softplus_coe]

theorem logDecay_coe {α : ℕ → ℝ} (hd : ∀ r l, dts sm b (ix2 r l) = ((dt (R + r.val) l : ℝ) : EReal))
    (hal : ∀ l, al (ix2 0 l) = ((α l : ℝ) : EReal)) (r : Fin 256) (l : Fin 128) :
    logDecay sm b al (ix2 r l) = ((dt (R + r) l * -Real.exp (α l) : ℝ) : EReal) := by
  pointwise [logDecay]
  rw [hd, hal, Ideal.exp_coe, zero_sub, ← EReal.coe_neg, ← EReal.coe_mul]

variable (ha : ∀ r l, logDecay sm b al (ix2 r l) = ((a (R + r.val) l.val : ℝ) : EReal))
include ha

theorem cum_coe (i : Fin 256) (l : Fin 128) :
    cum sm b al (ix2 i l) = ((cumTo a l (R + (i + 1)) - cumTo a l R : ℝ) : EReal) := by
  pointwise [cum, rowNo, colNo]
  rw [cumTo_add, ← sum_upto, coe_sum]
  refine Finset.sum_congr rfl fun x _ => ?_
  rw [ha]
  by_cases h : (x : ℕ) ≤ i
  · simp (disch := omega) only [hlo_ix]; simp [h, sitofp_one, sitofp_zero]
  · simp (disch := omega) only [hlo_ix]; simp [h, sitofp_one, sitofp_zero]

theorem cumT_coe (i : Fin 256) (l : Fin 128) :
    cumT sm b al (ix2 l i) = ((cumTo a l (R + (i + 1)) - cumTo a l R : ℝ) : EReal) := by
  pointwise [cumT, rowNo, colNo]
  rw [cumTo_add, ← sum_upto, coe_sum]
  refine Finset.sum_congr rfl fun x _ => ?_
  rw [ha]
  by_cases h : (x : ℕ) ≤ i
  · simp (disch := omega) only [hlo_ix]; simp [h, sitofp_one, sitofp_zero]
  · simp (disch := omega) only [hlo_ix]; simp [h, sitofp_one, sitofp_zero]

theorem tot_coe (l : Fin 128) : tot sm b al (ix2 0 l) = ((cumTo a l (R + 256) - cumTo a l R : ℝ) : EReal) := by
  pointwise [tot]
  exact cum_coe ha 255 l

theorem decay_coe (h : Fin 128) (i j : Fin 256) :
    decay (BitVec.ofNat 32 h) sm b al (ix2 i j)
      = ((if (j : ℕ) ≤ i then Real.exp (cumTo a h (R + (i + 1)) - cumTo a h (R + (j + 1))) else 0 : ℝ) : EReal) := by
  pointwise [decay, rowNo, colNo]
  rw [pick_apply, cum_coe ha, Finset.sum_eq_single h]
  · rw [cumT_coe ha, IdealRules.named_const.ideal_named_scalar _ _ _ _ rfl]
    by_cases hij : (j : ℕ) ≤ i
    · simp (disch := omega) only [hlo_ix, Scalar.select]
      rw [if_pos hij, if_pos hij, ← EReal.coe_sub, Ideal.exp_coe]; congr 2; ring
    · simp (disch := omega) only [hlo_ix, Scalar.select]
      rw [if_neg hij, if_neg hij]; rfl
  · intro x _ hx
    have : ¬(x : ℕ) = h := fun e => hx (Fin.ext e)
    simp (disch := omega) only [hlo_ix, Scalar.select]; simp [this]
  · simp

variable {bm cm dy : Vec Ideal S256x128 .f32} {st : Vec Ideal S1x128x128 .f32} {bb cc y : ℕ → ℕ → ℝ}

theorem within_coe (hbm : ∀ r l, bm (ix2 r l) = ((bb (R + r.val) l.val : ℝ) : EReal))
    (hcm : ∀ r l, cm (ix2 r l) = ((cc (R + r.val) l.val : ℝ) : EReal))
    (hdy : ∀ r l, dy (ix2 r l) = ((y (R + r.val) l.val : ℝ) : EReal)) (h l : Fin 128) (i : Fin 256) :
    within (BitVec.ofNat 32 h) bm cm sm b al dy (ix2 i l)
      = ((∑ x : Fin 256, y (R + x) l * ((∑ n : Fin 128, cc (R + x) n * bb (R + i) n)
          * (if (i : ℕ) ≤ x then Real.exp (cumTo a h (R + (x + 1)) - cumTo a h (R + (i + 1))) else 0)) : ℝ) : EReal) := by
  pointwise [within, cb]
  rw [coe_sum]
  refine Finset.sum_congr rfl fun x _ => ?_
  rw [decay_coe ha, hdy, EReal.coe_mul, EReal.coe_mul, coe_sum]
  congr 2
  refine Finset.sum_congr rfl fun n _ => ?_
  rw [hcm, hbm, EReal.coe_mul]

theorem dx_coe {ds : Vec Ideal S1x128 .f32} {dt : ℕ → ℕ → ℝ} {d : ℕ → ℝ} {S : ℕ → ℕ → ℝ}
    (hdt : ∀ r l, dts sm b (ix2 r l) = ((dt (R + r.val) l.val : ℝ) : EReal)) (hds : ∀ l, ds (ix2 0 l) = ((d l.val : ℝ) : EReal))
    (hbm : ∀ r l, bm (ix2 r l) = ((bb (R + r.val) l.val : ℝ) : EReal))
    (hcm : ∀ r l, cm (ix2 r l) = ((cc (R + r.val) l.val : ℝ) : EReal))
    (hdy : ∀ r l, dy (ix2 r l) = ((y (R + r.val) l.val : ℝ) : EReal))
    (hst : ∀ l n, st (ix3 0 l n) = ((S l.val n.val : ℝ) : EReal)) (p : Fin 8) (i : Fin 256) (l : Fin 128) :
    dxTile (w0 p) (w1 p) bm cm sm b al ds dy st (ix2 i l)
      = ((d (head p l) * y (R + i) l + ((∑ n : Fin 128, S l n * bb (R + i) n)
            * Real.exp (cumTo a (head p l) (R + 256) - cumTo a (head p l) (R + (i + 1)))
          + ∑ x : Fin 256, y (R + x) l * ((∑ n : Fin 128, cc (R + x) n * bb (R + i) n)
            * (if (i : ℕ) ≤ x then Real.exp (cumTo a (head p l) (R + (x + 1)) - cumTo a (head p l) (R + (i + 1))) else 0)))
          * dt (R + i) (head p l) : ℝ) : EReal) := by
  pointwise [dxTile, firstHeads, firstHead]
  rw [bothRow_apply, both_apply, both_apply, first_select, first_select, within_coe ha hbm hcm hdy ⟨2 * p, by omega⟩,
    within_coe ha hbm hcm hdy ⟨2 * p + 1, by omega⟩, hds, hdy, hdt]
  pointwise
  rw [tot_coe ha, cum_coe ha]
  have hS : (∑ n : Fin 128, st (ix3 0 l n) * bm (ix2 i n)) = ((∑ n : Fin 128, S l n * bb (R + i) n : ℝ) : EReal) := by
    rw [coe_sum]
    exact Finset.sum_congr rfl fun n _ => by rw [hst, hbm, EReal.coe_mul]
  have e : ∀ u v w : ℝ, Real.exp (u - w - (v - w)) = Real.exp (u - v) := fun u v w => by congr 1; ring
  rw [hS, ← EReal.coe_sub, Ideal.exp_coe, e]
  by_cases hl : (l : ℕ) < 64
  · rw [if_pos hl, if_pos hl, show head p l = ⟨2 * p, by omega⟩ from Fin.ext (by simp only [head]; omega), add_zero]
    simp only [EReal.coe_add, EReal.coe_mul]
  · rw [if_neg hl, if_neg hl, show head p l = ⟨2 * p + 1, by omega⟩ from Fin.ext (by simp only [head]; omega), add_zero]
    simp only [EReal.coe_add, EReal.coe_mul]

theorem dst_coe {S : ℕ → ℕ → ℝ} (hcm : ∀ r l, cm (ix2 r l) = ((cc (R + r.val) l.val : ℝ) : EReal))
    (hdy : ∀ r l, dy (ix2 r l) = ((y (R + r.val) l.val : ℝ) : EReal))
    (hst : ∀ l n, st (ix3 0 l n) = ((S l.val n.val : ℝ) : EReal)) (p : Fin 8) (l n : Fin 128) :
    dstTile (w0 p) (w1 p) cm sm b al dy st (ix3 0 l n)
      = ((S l n * Real.exp (cumTo a (head p l) (R + 256) - cumTo a (head p l) R)
          + ∑ x : Fin 256, y (R + x) l * Real.exp (cumTo a (head p l) (R + (x + 1)) - cumTo a (head p l) R) * cc (R + x) n : ℝ) : EReal) := by
  pointwise [dstTile]
  rw [bothCol_apply, hst]
  pointwise
  rw [tot_coe ha, Ideal.exp_coe, EReal.coe_add, EReal.coe_mul, coe_sum]
  refine congrArg₂ (· + ·) rfl (Finset.sum_congr rfl fun x _ => ?_)
  rw [both_apply, hdy, hcm]
  pointwise
  rw [cum_coe ha, Ideal.exp_coe, EReal.coe_mul, EReal.coe_mul]

end Block

/-! ## Along the sequence of 4096 rows -/

variable (a cc bb y : ℕ → ℕ → ℝ)

/-- What the rows from `R` on send back to the state before row `R`: for lane `l` of head `h`, at state coordinate `n`. -/
def fromRow (h : ℕ) (l n R : ℕ) : ℝ :=
  ∑ k ∈ Finset.Ico R 4096, Real.exp (cumTo a h (k + 1) - cumTo a h R) * (y k l * cc k n)

/-- The product of the output vector of row `k` with the input vector of row `j`. -/
def prodRows (k j : ℕ) : ℝ := ∑ n : Fin 128, cc k n * bb j n

/-- What the rows from `j` on send back to row `j`. -/
def toRow (h : ℕ) (l j : ℕ) : ℝ :=
  ∑ k ∈ Finset.Ico j 4096, Real.exp (cumTo a h (k + 1) - cumTo a h (j + 1)) * (prodRows cc bb k j * y k l)

/-- A sum over the 256 rows from `R` on. -/
theorem sum_block (f : ℕ → ℝ) (R : ℕ) : (∑ x : Fin 256, f (R + x)) = ∑ k ∈ Finset.Ico R (R + 256), f k := by
  rw [Finset.sum_Ico_eq_sum_range, Fin.sum_univ_eq_sum_range (fun x => f (R + x)) 256, Nat.add_sub_cancel_left]

/-- One block further back. -/
theorem fromRow_step (h l n R : ℕ) (hR : R + 256 ≤ 4096) :
    fromRow a cc y h l n (R + 256) * Real.exp (cumTo a h (R + 256) - cumTo a h R)
      + ∑ x : Fin 256, y (R + x) l * Real.exp (cumTo a h (R + (x + 1)) - cumTo a h R) * cc (R + x) n
    = fromRow a cc y h l n R := by
  have e := sum_block (fun k => y k l * Real.exp (cumTo a h (k + 1) - cumTo a h R) * cc k n) R
  simp only [add_assoc] at e
  rw [e]
  unfold fromRow
  rw [← Finset.sum_Ico_consecutive _ (show R ≤ R + 256 by omega) hR, add_comm, Finset.sum_mul]
  refine congrArg₂ (· + ·) (Finset.sum_congr rfl fun k _ => by ring) (Finset.sum_congr rfl fun k _ => ?_)
  rw [mul_right_comm, ← Real.exp_add]; congr 2; ring

/-- What reaches a row: from the later blocks through the state, and from its own block. -/
theorem toRow_block (h l R : ℕ) (i : Fin 256) (hR : R + 256 ≤ 4096) :
    (∑ n : Fin 128, fromRow a cc y h l n (R + 256) * bb (R + i) n) * Real.exp (cumTo a h (R + 256) - cumTo a h (R + (i + 1)))
      + ∑ x : Fin 256, y (R + x) l * ((∑ n : Fin 128, cc (R + x) n * bb (R + i) n)
          * (if (i : ℕ) ≤ x then Real.exp (cumTo a h (R + (x + 1)) - cumTo a h (R + (i + 1))) else 0))
    = toRow a cc bb y h l (R + i) := by
  have e := sum_block (fun k => y k l * (prodRows cc bb k (R + i)
    * (if R + (i : ℕ) ≤ k then Real.exp (cumTo a h (k + 1) - cumTo a h (R + (i + 1))) else 0))) R
  simp only [add_assoc, add_le_add_iff_left] at e
  simp only [prodRows] at e
  rw [e]
  unfold toRow
  rw [← Finset.sum_Ico_consecutive _ (show R + i ≤ R + 256 by omega) hR, ← Finset.sum_Ico_consecutive _ (show R ≤ R + i by omega) (show R + i ≤ R + 256 by omega),
    Finset.sum_eq_zero (s := Finset.Ico R (R + i)) (fun k hk => by
      rw [if_neg (by have := (Finset.mem_Ico.mp hk).2; omega), mul_zero, mul_zero]), zero_add, add_comm]
  refine congrArg₂ (· + ·) (Finset.sum_congr rfl fun k hk => ?_) ?_
  · rw [if_pos (Finset.mem_Ico.mp hk).1, prodRows, add_assoc]; ring
  · unfold fromRow
    simp only [Finset.sum_mul]
    rw [Finset.sum_comm]
    refine Finset.sum_congr rfl fun k _ => ?_
    rw [prodRows, Finset.sum_mul, Finset.mul_sum]
    refine Finset.sum_congr rfl fun n _ => ?_
    rw [show Real.exp (cumTo a h (k + 1) - cumTo a h (R + i + 1)) = Real.exp (cumTo a h (k + 1) - cumTo a h (R + 256))
      * Real.exp (cumTo a h (R + 256) - cumTo a h (R + (i + 1))) by rw [← Real.exp_add, add_assoc R]; congr 1; ring]
    ring

end Cert.SsdDxIdeal.Scan

end
-- ==== Proof.ScanKernel.lean ====
module

public import proofs.«01_k».proof.Proof.ScanReal
public import proofs.«01_k».proof.Proof.Gen.SsdDxIdeal.Value
public import Idealize.ShloMosaic.Lib.Pipeline.ReadBack

@[expose] public section

set_option maxRecDepth 16384

noncomputable section

namespace Cert.SsdDxIdeal.Scan

open Cert.SsdDxIdeal Cert.SsdDxIdeal.Gen Idealize.ShloMosaic Idealize.ShloMosaic.TcCoe

variable (m : (ℓ : Loc nD τ sig) → Buf (Elt Ideal) ℓ)

/-- 128 columns of a block of 1536. -/
def cols (x : Vec Ideal S256x1536 .f32) (o : ℕ) (ho : o + 128 ≤ 1536) : Vec Ideal S256x128 .f32 :=
  View.ld x (Rect.unit ![0, o] ![256, 128] (by intro a; fin_cases a; · exact le_refl 256
                                               · exact ho))

/-- A pair's columns of a block of 1024. -/
def lanes (x : Vec Ideal S256x1024 .f32) (p : Fin 8) : Vec Ideal S256x128 .f32 :=
  View.ld x (Rect.unit ![0, 128 * p] ![256, 128] (by intro a; fin_cases a; · exact le_refl 256
                                                     · change 128 * p.val + 128 ≤ 1024; omega))

/-- A pair's slice of the states. -/
def slice (x : Vec Ideal S8x128x128 .f32) (p : Fin 8) : Vec Ideal S1x128x128 .f32 :=
  View.ld x (Rect.unit ![p, 0, 0] ![1, 128, 128] (by intro a; fin_cases a; · change p.val + 1 ≤ 8; omega
                                                     · exact le_refl 128
                                                     · exact le_refl 128))

theorem eq_ix2 {a b : ℕ} {x : (⟨2, ![a, b]⟩ : Shape).Idx} {r : Fin a} {l : Fin b} (h0 : (x 0 : ℕ) = r) (h1 : (x 1 : ℕ) = l) : x = ix2 r l := by
  funext i; fin_cases i
  · exact Fin.ext h0
  · exact Fin.ext h1

theorem eq_ix3 {a b d : ℕ} {x : (⟨3, ![a, b, d]⟩ : Shape).Idx} {q : Fin a} {r : Fin b} {l : Fin d} (h0 : (x 0 : ℕ) = q)
    (h1 : (x 1 : ℕ) = r) (h2 : (x 2 : ℕ) = l) : x = ix3 q r l := by
  funext i; fin_cases i
  · exact Fin.ext h0
  · exact Fin.ext h1
  · exact Fin.ext h2

/-- Earlier stores do not matter where a later one wrote. -/
theorem canon_append_of_mem {Val : EltTy → Type} [∀ e, Nonempty (Val e)] {s : Shape} {e : EltTy} (L' : List (View.Piece Val s e)) (y : s.Idx) :
    ∀ (L : List (View.Piece Val s e)), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_of_mem L' y L ?_
      obtain ⟨q, hq, hy⟩ := h
      rcases List.mem_cons.mp hq with rfl | hq
      · exact absurd hy hm
      · exact ⟨q, hq, hy⟩

/-- A pair's columns of the tile of the first point. -/
theorem tile_A (c : Dev nD) (t : Fin cfg0.N) (h : t.val = 0) (r : Fin 256) (p : Fin 8) (l : Fin 128) :
    (outsAt0 m c t.val t.isLt).1 (ix2 r ⟨128 * p + l, by omega⟩)
      = dxTile (w0 p) (w1 p) (cols (iblk m c 0 t) (1024 + 128 * (p / 4)) (by omega)) (cols (iblk m c 0 t) (1280 + 128 * (p / 4)) (by omega))
        (iblk m c 1 t) (iblk m c 2 t) (iblk m c 3 t) (iblk m c 4 t) (lanes (iblk m c 6 t) p) (slice (zeros (F := Ideal) S8x128x128) p) (ix2 r l) := by
  rw [outsAt0_A m c t (by omega) (by omega) (by omega) (by omega) (by omega) (by omega) (by omega)]
  frame_open
  simp (disch := decide) only [↓ View.readCov_skip, ↓ View.readCov_cons_toLoadRect, ↓ View.readCov_fill]
  frame_out
  generalize hy : (ix2 r ⟨128 * p + l, by omega⟩ : S256x1536.Idx) = y
  have hy0 : (y 0 : ℕ) = r := by rw [← hy]; rfl
  have hy1 : (y 1 : ℕ) = 128 * p + l := by rw [← hy]; rfl
  clear hy
  obtain ⟨p, hp⟩ := p
  change (y 1 : ℕ) = 128 * p + l at hy1
  canon_tiles x h
  all_goals first | (exfalso; omega) | skip
  all_goals
    have e : x = ix2 r l := eq_ix2 (by omega) (by omega)
    interval_cases p <;> first | (exfalso; omega) | skip
    subst e
    clear h0 h1 hy0 hy1 x0_lt x1_lt
    open_payloads
    unfold dxTile within cb decay tot cumT cum logDecay dts bothRow both pick pickRow spread laneIs firstHeads firstHead rowNo colNo lanes slice cols zeros
    show (_ : S256x128.Idx → EReal) (ix2 r l) = _
    refine congrFun ?_ _
    congr

/-- A pair's columns of the tile of a later point. -/
theorem tile_B (c : Dev nD) (t : Fin cfg0.N) (h : ¬ t.val % 16 = 0) (r : Fin 256) (p : Fin 8) (l : Fin 128) :
    (outsAt0 m c t.val t.isLt).1 (ix2 r ⟨128 * p + l, by omega⟩)
      = dxTile (w0 p) (w1 p) (cols (iblk m c 0 t) (1024 + 128 * (p / 4)) (by omega)) (cols (iblk m c 0 t) (1280 + 128 * (p / 4)) (by omega))
        (iblk m c 1 t) (iblk m c 2 t) (iblk m c 3 t) (iblk m c 4 t) (lanes (iblk m c 6 t) p) (slice ((outsAt0 m c (t.val - 1) (by omega)).2.2.2.2.2) p) (ix2 r l) := by
  rw [outsAt0_B m c t h h (by omega) h (by omega) h (by omega)]
  frame_out
  simp only [read_unread_whole]
  generalize hy : (ix2 r ⟨128 * p + l, by omega⟩ : S256x1536.Idx) = y
  have hy0 : (y 0 : ℕ) = r := by rw [← hy]; rfl
  have hy1 : (y 1 : ℕ) = 128 * p + l := by rw [← hy]; rfl
  clear hy
  obtain ⟨p, hp⟩ := p
  change (y 1 : ℕ) = 128 * p + l at hy1
  canon_tiles x h
  all_goals first | (exfalso; omega) | skip
  all_goals
    have e : x = ix2 r l := eq_ix2 (by omega) (by omega)
    interval_cases p <;> first | (exfalso; omega) | skip
    subst e
    clear h0 h1 hy0 hy1 x0_lt x1_lt
    open_payloads
    unfold dxTile within cb decay tot cumT cum logDecay dts bothRow both pick pickRow spread laneIs firstHeads firstHead rowNo colNo lanes slice cols zeros
    show (_ : S256x128.Idx → EReal) (ix2 r l) = _
    refine congrFun ?_ _
    congr

/-- A pair's states after the first point. -/
theorem state_A (c : Dev nD) (t : Fin cfg0.N) (h : t.val = 0) (p : Fin 8) (l n : Fin 128) :
    (outsAt0 m c t.val t.isLt).2.2.2.2.2 (ix3 p l n)
      = dstTile (w0 p) (w1 p) (cols (iblk m c 0 t) (1280 + 128 * (p / 4)) (by omega))
        (iblk m c 1 t) (iblk m c 2 t) (iblk m c 3 t) (lanes (iblk m c 6 t) p) (slice (zeros (F := Ideal) S8x128x128) p) (ix3 0 l n) := by
  rw [outsAt0_A m c t (by omega) (by omega) (by omega) (by omega) (by omega) (by omega) (by omega)]
  frame_open
  simp (disch := decide) only [↓ View.readCov_skip, ↓ View.readCov_cons_toLoadRect, ↓ View.readCov_fill]
  frame_out
  generalize hy : (ix3 p l n : S8x128x128.Idx) = y
  have hy0 : (y 0 : ℕ) = p := by rw [← hy]; rfl
  have hy1 : (y 1 : ℕ) = l := by rw [← hy]; rfl
  have hy2 : (y 2 : ℕ) = n := by rw [← hy]; rfl
  clear hy
  obtain ⟨p, hp⟩ := p
  change (y 0 : ℕ) = p at hy0
  refine (canon_append_of_mem [_] y [_, _, _, _, _, _, _, _] ?_).trans ?_
  · exact View.cover_of_tiledL (s := S8x128x128) _ (fun a => ![1, 128, 128] a) (by sl_kernel_rfl) y
  canon_tiles x h
  all_goals
    have e : x = ix3 0 l n := eq_ix3 (by change (x 0 : ℕ) = 0; omega) (by omega) (by omega)
    interval_cases p <;> first | (exfalso; omega) | skip
    subst e
    clear h0 h1 h2 hy0 hy1 hy2 x0_lt x1_lt x2_lt
    open_payloads
    unfold dstTile tot cum logDecay dts bothCol both pick pickRow spread laneIs firstHeads firstHead rowNo colNo lanes slice cols zeros
    show (_ : S1x128x128.Idx → EReal) (ix3 0 l n) = _
    refine congrFun ?_ _
    congr

/-- A pair's states after a later point. -/
theorem state_B (c : Dev nD) (t : Fin cfg0.N) (h : ¬ t.val % 16 = 0) (p : Fin 8) (l n : Fin 128) :
    (outsAt0 m c t.val t.isLt).2.2.2.2.2 (ix3 p l n)
      = dstTile (w0 p) (w1 p) (cols (iblk m c 0 t) (1280 + 128 * (p / 4)) (by omega))
        (iblk m c 1 t) (iblk m c 2 t) (iblk m c 3 t) (lanes (iblk m c 6 t) p) (slice ((outsAt0 m c (t.val - 1) (by omega)).2.2.2.2.2) p) (ix3 0 l n) := by
  rw [outsAt0_B m c t h h (by omega) h (by omega) h (by omega)]
  frame_out
  simp only [read_unread_whole]
  generalize hy : (ix3 p l n : S8x128x128.Idx) = y
  have hy0 : (y 0 : ℕ) = p := by rw [← hy]; rfl
  have hy1 : (y 1 : ℕ) = l := by rw [← hy]; rfl
  have hy2 : (y 2 : ℕ) = n := by rw [← hy]; rfl
  clear hy
  obtain ⟨p, hp⟩ := p
  change (y 0 : ℕ) = p at hy0
  canon_tiles x h
  all_goals
    have e : x = ix3 0 l n := eq_ix3 (by change (x 0 : ℕ) = 0; omega) (by omega) (by omega)
    interval_cases p <;> first | (exfalso; omega) | skip
    subst e
    clear h0 h1 h2 hy0 hy1 hy2 x0_lt x1_lt x2_lt
    open_payloads
    unfold dstTile tot cum logDecay dts bothCol both pick pickRow spread laneIs firstHeads firstHead rowNo colNo lanes slice cols zeros
    show (_ : S1x128x128.Idx → EReal) (ix3 0 l n) = _
    refine congrFun ?_ _
    congr

end Cert.SsdDxIdeal.Scan

end
-- ==== Proof.ScanValue.lean ====
module

public import proofs.«01_k».proof.Proof.ScanKernel

/-! The kernel's gradient in the scanned inputs over the reals: the states carried from point to point are the sums over
the later rows, and each point's tile is the gradient of its own 256 rows. -/

@[expose] public section

set_option maxRecDepth 16384

noncomputable section

namespace Cert.SsdDxIdeal.Scan

open Cert.SsdDxIdeal Cert.SsdDxIdeal.Gen Idealize.ShloMosaic Idealize.ShloMosaic.TcCoe

theorem idx : ∀ t : Fin cfg0.N, win0_0.index t = ![15 - t.val, 0] ∧ win0_1.index t = ![15 - t.val, 68] ∧ win0_2.index t = ![0, 0]
    ∧ win0_3.index t = ![0, 0] ∧ win0_4.index t = ![0, 0] ∧ win0_6.index t = ![15 - t.val, 0] ∧ win0_7.index t = ![15 - t.val, 0] :=
  (by decide +kernel : ∀ t : Fin grid0.N, _)

variable (m : (ℓ : Loc nD τ sig) → Buf (Elt Ideal) ℓ) (c : Dev nD)

/-- The first row of a point's block. -/
abbrev row (t : Fin cfg0.N) : ℕ := (15 - t.val) * 256

variable {x p y : ℕ → ℕ → ℝ} {β α d : ℕ → ℝ}

/-- The arguments' elements are these reals. -/
structure Reals (x p y : ℕ → ℕ → ℝ) (β α d : ℕ → ℝ) : Prop where
  hX : ∀ n q, (m ((c : Thread nD τ).loc main_arg0) : FVec Ideal S4096x1536 .f32) (ix2 n q) = ((x n.val q.val : ℝ) : EReal)
  hP : ∀ n q, (m ((c : Thread nD τ).loc main_arg1) : FVec Ideal S4096x9216 .f32) (ix2 n q) = ((p n.val q.val : ℝ) : EReal)
  hB : ∀ l, (m ((c : Thread nD τ).loc main_arg2) : FVec Ideal S1x128 .f32) (ix2 0 l) = ((β l.val : ℝ) : EReal)
  hA : ∀ l, (m ((c : Thread nD τ).loc main_arg3) : FVec Ideal S1x128 .f32) (ix2 0 l) = ((α l.val : ℝ) : EReal)
  hD : ∀ l, (m ((c : Thread nD τ).loc main_arg4) : FVec Ideal S1x128 .f32) (ix2 0 l) = ((d l.val : ℝ) : EReal)
  hY : ∀ n q, (m ((c : Thread nD τ).loc main_arg6) : FVec Ideal S4096x1024 .f32) (ix2 n q) = ((y n.val q.val : ℝ) : EReal)

/-- The input vectors, the output vectors and the incoming gradient of a pair. -/
abbrev bvec (x : ℕ → ℕ → ℝ) (q : ℕ) : ℕ → ℕ → ℝ := fun k n => x k (1024 + 128 * (q / 4) + n)
abbrev cvec (x : ℕ → ℕ → ℝ) (q : ℕ) : ℕ → ℕ → ℝ := fun k n => x k (1280 + 128 * (q / 4) + n)
abbrev yvec (y : ℕ → ℕ → ℝ) (q : ℕ) : ℕ → ℕ → ℝ := fun k l => y k (128 * q + l)

/-- One pair's slice of the carried states. -/
theorem slice_apply (st : Vec Ideal S8x128x128 .f32) (q : Fin 8) (l n : Fin 128) : slice st q (ix3 0 l n) = st (ix3 q l n) := by
  unfold slice
  exact congrArg st (eq_ix3 (by change q.val + 1 * 0 = q.val; omega) (by change 0 + 1 * l.val = l.val; omega)
    (by change 0 + 1 * n.val = n.val; omega))

variable (H : Reals m c x p y β α d)
include H

theorem cols_coe (t : Fin cfg0.N) (o : ℕ) (ho : o + 128 ≤ 1536) (r : Fin 256) (l : Fin 128) :
    cols (iblk m c 0 t) o ho (ix2 r l) = ((x (row t + r) (o + l) : ℝ) : EReal) := by
  have e := H.hX ⟨row t + r, by change (15 - t.val) * 256 + r.val < 4096; omega⟩ ⟨o + l, by omega⟩
  refine Eq.trans ?_ e
  blk_point [cols, iblk, V, idx t]

theorem lanes_coe (t : Fin cfg0.N) (q : Fin 8) (r : Fin 256) (l : Fin 128) :
    lanes (iblk m c 6 t) q (ix2 r l) = ((y (row t + r) (128 * q + l) : ℝ) : EReal) := by
  have e := H.hY ⟨row t + r, by change (15 - t.val) * 256 + r.val < 4096; omega⟩ ⟨128 * q + l, by omega⟩
  refine Eq.trans ?_ e
  blk_point [lanes, iblk, V, idx t]

theorem small_coe (t : Fin cfg0.N) (r : Fin 256) (l : Fin 128) :
    (iblk m c 1 t : Vec Ideal S256x128 .f32) (ix2 r l) = ((p (row t + r) (8704 + l) : ℝ) : EReal) := by
  have e := H.hP ⟨row t + r, by change (15 - t.val) * 256 + r.val < 4096; omega⟩ ⟨8704 + l, by omega⟩
  refine Eq.trans ?_ e
  blk_point [iblk, V, idx t]

theorem dtb_coe (t : Fin cfg0.N) (l : Fin 128) : (iblk m c 2 t : Vec Ideal S1x128 .f32) (ix2 0 l) = ((β l : ℝ) : EReal) := by
  refine Eq.trans ?_ (H.hB l)
  blk_point [iblk, V, idx t]

theorem alog_coe (t : Fin cfg0.N) (l : Fin 128) : (iblk m c 3 t : Vec Ideal S1x128 .f32) (ix2 0 l) = ((α l : ℝ) : EReal) := by
  refine Eq.trans ?_ (H.hA l)
  blk_point [iblk, V, idx t]

theorem dsk_coe (t : Fin cfg0.N) (l : Fin 128) : (iblk m c 4 t : Vec Ideal S1x128 .f32) (ix2 0 l) = ((d l : ℝ) : EReal) := by
  refine Eq.trans ?_ (H.hD l)
  blk_point [iblk, V, idx t]

theorem step_coe (t : Fin cfg0.N) (r : Fin 256) (l : Fin 128) :
    dts (iblk m c 1 t) (iblk m c 2 t) (ix2 r l) = ((step p β (row t + r) l : ℝ) : EReal) :=
  dts_coe (s := fun n l => p n (8704 + l)) (small_coe m c H t) (dtb_coe m c H t) r l

theorem logStep_coe (t : Fin cfg0.N) (r : Fin 256) (l : Fin 128) :
    logDecay (iblk m c 1 t) (iblk m c 2 t) (iblk m c 3 t) (ix2 r l) = ((logStep p β α (row t + r) l : ℝ) : EReal) :=
  logDecay_coe (step_coe m c H t) (alog_coe m c H t) r l

/-- What a point adds to the states. -/
theorem state_step (t : Fin cfg0.N) (st : Vec Ideal S8x128x128 .f32) (q : Fin 8) (l n : Fin 128)
    (hst : ∀ l n : Fin 128, st (ix3 q l n) = ((fromRow (logStep p β α) (cvec x q) (yvec y q) (2 * q + l / 64) l n (row t + 256) : ℝ) : EReal)) :
    dstTile (w0 q) (w1 q) (cols (iblk m c 0 t) (1280 + 128 * (q / 4)) (by omega)) (iblk m c 1 t) (iblk m c 2 t) (iblk m c 3 t)
        (lanes (iblk m c 6 t) q) (slice st q) (ix3 0 l n)
      = ((fromRow (logStep p β α) (cvec x q) (yvec y q) (2 * q + l / 64) l n (row t) : ℝ) : EReal) := by
  have hs : ∀ l n : Fin 128, slice st q (ix3 0 l n)
      = ((fromRow (logStep p β α) (cvec x q) (yvec y q) (2 * q + l / 64) l n (row t + 256) : ℝ) : EReal) := by
    intro l n
    rw [slice_apply, hst]
  rw [dst_coe (R := row t) (cc := cvec x q) (y := yvec y q) (S := fun l n => fromRow (logStep p β α) (cvec x q) (yvec y q) (2 * q + l / 64) l n (row t + 256))
    (logStep_coe m c H t) (cols_coe m c H t _ _) (lanes_coe m c H t q) hs]
  exact congrArg _ (fromRow_step _ _ _ _ _ _ _ (by change (15 - t.val) * 256 + 256 ≤ 4096; omega))

/-- The states after a point: the sums over the rows from its block on. -/
theorem states : ∀ (n : ℕ) (hn : n < cfg0.N) (q : Fin 8) (l k : Fin 128), (outsAt0 m c n hn).2.2.2.2.2 (ix3 q l k)
    = ((fromRow (logStep p β α) (cvec x q) (yvec y q) (2 * q + l / 64) l k (row ⟨n, hn⟩) : ℝ) : EReal)
  | 0, hn, q, l, k => by
    rw [state_A m c ⟨0, hn⟩ rfl]
    refine state_step m c H ⟨0, hn⟩ _ q l k fun l k => ?_
    rw [fromRow, show row ⟨0, hn⟩ + 256 = 4096 from rfl, Finset.Ico_self, Finset.sum_empty]
    pointwise
    exact EReal.coe_zero.symm
  | n + 1, hn, q, l, k => by
    have hN : cfg0.N = 16 := N_0
    rw [state_B m c ⟨n + 1, hn⟩ (by change ¬ (n + 1) % 16 = 0; omega)]
    refine state_step m c H ⟨n + 1, hn⟩ _ q l k fun l k => ?_
    rw [show row ⟨n + 1, hn⟩ + 256 = row ⟨n, by omega⟩ by change (15 - (n + 1)) * 256 + 256 = (15 - n) * 256; omega]
    exact states n (by omega) q l k

/-- A pair's columns of a point's tile. -/
theorem tile_step (t : Fin cfg0.N) (st : Vec Ideal S8x128x128 .f32) (q : Fin 8) (r : Fin 256) (l : Fin 128)
    (hst : ∀ l n : Fin 128, st (ix3 q l n) = ((fromRow (logStep p β α) (cvec x q) (yvec y q) (2 * q + l / 64) l n (row t + 256) : ℝ) : EReal)) :
    dxTile (w0 q) (w1 q) (cols (iblk m c 0 t) (1024 + 128 * (q / 4)) (by omega)) (cols (iblk m c 0 t) (1280 + 128 * (q / 4)) (by omega))
        (iblk m c 1 t) (iblk m c 2 t) (iblk m c 3 t) (iblk m c 4 t) (lanes (iblk m c 6 t) q) (slice st q) (ix2 r l)
      = ((d (2 * q + l / 64) * y (row t + r) (128 * q + l)
          + toRow (logStep p β α) (cvec x q) (bvec x q) (yvec y q) (2 * q + l / 64) l (row t + r) * step p β (row t + r) (2 * q + l / 64) : ℝ) : EReal) := by
  have hs : ∀ l n : Fin 128, slice st q (ix3 0 l n)
      = ((fromRow (logStep p β α) (cvec x q) (yvec y q) (2 * q + l / 64) l n (row t + 256) : ℝ) : EReal) := by
    intro l n
    rw [slice_apply, hst]
  rw [dx_coe (R := row t) (bb := bvec x q) (cc := cvec x q) (y := yvec y q) (S := fun l n => fromRow (logStep p β α) (cvec x q) (yvec y q) (2 * q + l / 64) l n (row t + 256))
    (logStep_coe m c H t) (step_coe m c H t) (dsk_coe m c H t) (cols_coe m c H t _ _) (cols_coe m c H t _ _) (lanes_coe m c H t q) hs]
  have e := toRow_block (logStep p β α) (cvec x q) (bvec x q) (yvec y q) (2 * q + l / 64) l (row t) r (by change (15 - t.val) * 256 + 256 ≤ 4096; omega)
  rw [← e]
  rfl

theorem tile (t : Fin cfg0.N) (q : Fin 8) (r : Fin 256) (l : Fin 128) :
    (outsAt0 m c t.val t.isLt).1 (ix2 r ⟨128 * q + l, by omega⟩)
      = ((d (2 * q + l / 64) * y (row t + r) (128 * q + l)
          + toRow (logStep p β α) (cvec x q) (bvec x q) (yvec y q) (2 * q + l / 64) l (row t + r) * step p β (row t + r) (2 * q + l / 64) : ℝ) : EReal) := by
  have hN : cfg0.N = 16 := N_0
  have ht := t.isLt
  by_cases h : t.val = 0
  · rw [tile_A m c t h]
    refine tile_step m c H t _ q r l fun l k => ?_
    rw [fromRow, show row t + 256 = 4096 by change (15 - t.val) * 256 + 256 = 4096; omega, Finset.Ico_self, Finset.sum_empty]
    pointwise
    exact EReal.coe_zero.symm
  · rw [tile_B m c t (by omega)]
    refine tile_step m c H t _ q r l fun l k => ?_
    rw [states m c H (t.val - 1) (by omega) q l k]
    rw [show row ⟨t.val - 1, by omega⟩ = row t + 256 by change (15 - (t.val - 1)) * 256 = (15 - t.val) * 256 + 256; omega]

/-- The array after the run, at a column of the scanned inputs. -/
theorem final (n : Fin 4096) (q : Fin 1536) (hq : q.val < 1024) :
    ((dats m 0 c).arrAt 7 (cfgs 0).N : FVec Ideal S4096x1536 .f32) (ix2 n q)
      = ((d (q / 64) * y n q
          + toRow (logStep p β α) (fun k l => x k (1280 + (q / 64 / 8 * 128 + l))) (fun k l => x k (1024 + (q / 64 / 8 * 128 + l))) y
              (q / 64) q n * step p β n (q / 64) : ℝ) : EReal) := by
  let G : FVec Ideal S4096x1536 .f32 := fun i => if (i 1 : ℕ) < 1024 then (((d ((i 1 : ℕ) / 64) * y (i 0) (i 1)
    + toRow (logStep p β α) (fun k l => x k (1280 + ((i 1 : ℕ) / 64 / 8 * 128 + l))) (fun k l => x k (1024 + ((i 1 : ℕ) / 64 / 8 * 128 + l))) y
        ((i 1 : ℕ) / 64) (i 1) (i 0) * step p β (i 0) ((i 1 : ℕ) / 64) : ℝ)) : EReal)
    else ((dats m 0 c).arrAt 7 (cfgs 0).N : FVec Ideal S4096x1536 .f32) i
  have e : (dats m 0 c).arrAt 7 (cfgs 0).N = G := by
    refine (dats m 0 c).arrAt_eq_of_covers 7 _ (by decide +kernel) fun t hf z => ?_
    have b := congrFun (Value.blocks7 m c t hf) z
    blk_simp at b
    blk_simp
    have e0 : (((win0_7.blk t).view.emb z) 0 : ℕ) = row t + (z 0 : ℕ) := by blk_simp [idx t]
    have e1 : (((win0_7.blk t).view.emb z) 1 : ℕ) = (z 1 : ℕ) := by blk_simp [idx t]
    by_cases h : (((win0_7.blk t).view.emb z) 1 : ℕ) < 1024
    · refine Eq.trans ?_ (if_pos h).symm
      rw [e0, e1]
      rw [e1] at h
      have h1 : (z 1 : ℕ) < 1024 := h
      have T := tile m c H t ⟨(z 1 : ℕ) / 128, by omega⟩ (z 0) ⟨(z 1 : ℕ) % 128, by omega⟩
      rw [after0_7]
      have ez : z = ix2 (z 0) ⟨128 * ((z 1 : ℕ) / 128) + (z 1 : ℕ) % 128, by omega⟩ := eq_ix2 rfl (by dsimp only; omega)
      refine (congrArg (outsAt0 m c t.val t.isLt).1 ez).trans (T.trans ?_)
      dsimp only
      have q1 : 2 * ((z 1 : ℕ) / 128) + (z 1 : ℕ) % 128 / 64 = (z 1 : ℕ) / 64 := by omega
      have q2 : 128 * ((z 1 : ℕ) / 128) + (z 1 : ℕ) % 128 = (z 1 : ℕ) := by omega
      have q3 : 128 * ((z 1 : ℕ) / 128 / 4) = (z 1 : ℕ) / 64 / 8 * 128 := by omega
      simp only [q1, q2]
      unfold toRow prodRows cvec bvec yvec
      simp only [q2, q3, add_assoc]
    · exact b.symm.trans (if_neg h).symm
  rw [e]
  exact if_pos hq

end Cert.SsdDxIdeal.Scan

end
-- ==== Proof.ScanRef.lean ====
module

public import proofs.«01_k».proof.Proof.ScanReal
public import proofs.«01_k».proof.Proof.Gen.SsdDxRefIdeal

/-! The reference's gradient of the state-space scan, operation by operation, and its values over the reals. -/

@[expose] public section

set_option maxRecDepth 16384

noncomputable section

namespace Cert.SsdDxRefIdeal.Scan

open Cert.SsdDxRefIdeal Cert.SsdDxRefIdeal.Gen Idealize.ShloMosaic Idealize.ShloMosaic.TcCoe
open Cert.SsdDxIdeal.Scan (coe_sum softplus softplus_coe cumTo toRow fromRow prodRows step logStep)

/-- The scalar zero. -/
abbrev zero : FVec Ideal S_ .f32 := constant S_ .f32 0x00000000#32

/-- The first 16 lanes of a row of 128. -/
def lanes16 (v : FVec Ideal S1x128 .f32) : FVec Ideal S16 .f32 :=
  shapeCast _ (extractStridedSlice S1x16 ![0, 0] v slices_S1x128_S1x16_0_0) shapeCasts_S1x16_S16

/-- A value per head, repeated over the rows. -/
def overRows (v : FVec Ideal S16 .f32) : FVec Ideal S4096x16 .f32 :=
  broadcastInDim S4096x16 ![0, 1] bcast_S1x16_S4096x16_0_1 (broadcastInDim S1x16 ![1] bcast_S16_S1x16_1 v)

/-- The argument of the softplus. -/
def small (P : FVec Ideal S4096x9216 .f32) (B : FVec Ideal S1x128 .f32) : FVec Ideal S4096x16 .f32 :=
  addf (extractStridedSlice S4096x16 ![0, 8704] P slices_S4096x9216_S4096x16_0_8704) (overRows (lanes16 B))

/-- Zeros, one per row and head. -/
abbrev zeros16 : FVec Ideal S4096x16 .f32 := broadcastInDim S4096x16 ![] bcast_S_S4096x16 zero

/-- The step sizes. -/
def steps (P : FVec Ideal S4096x9216 .f32) (B : FVec Ideal S1x128 .f32) : FVec Ideal S4096x16 .f32 :=
  select (cmpf .une (subf (small P B) zeros16) (subf (small P B) zeros16)) (addf (small P B) zeros16)
    (addf (maximumf (small P B) zeros16) (Host.log1p (Host.exp (Host.negf (Host.absf (subf (small P B) zeros16))))))

/-- The log decays, by group and head of the group. -/
def logDecays (P : FVec Ideal S4096x9216 .f32) (B A : FVec Ideal S1x128 .f32) : FVec Ideal S4096x2x8 .f32 :=
  shapeCast _ (mulf (steps P B) (overRows (Host.negf (Host.exp (lanes16 A))))) shapeCasts_S4096x16_S4096x2x8

/-- Their running sums. -/
def running (P : FVec Ideal S4096x9216 .f32) (B A : FVec Ideal S1x128 .f32) : FVec Ideal S4096x2x8 .f32 :=
  Host.reduceWindowAdd ![4096, 1, 1] ![1, 1, 1] ![4095, 0, 0] ![0, 0, 0] (logDecays P B A)
    (broadcastInDim S_ ![] bcast_S_S_ zero) reduceWindows_S4096x2x8_S4096x2x8_w4096s1p4095_0_w1s1p0_0_w1s1p0_0 h_S_

/-- The decay from each row to each later one. -/
def decays (P : FVec Ideal S4096x9216 .f32) (B A : FVec Ideal S1x128 .f32) : FVec Ideal S4096x4096x2x8 .f32 :=
  Host.exp (select (broadcastInDim S4096x4096x2x8 ![0, 1, 2, 3] bcast_S4096x4096x1x1_S4096x4096x2x8_0_1_2_3
      (broadcastInDim S4096x4096x1x1 ![0, 1] bcast_S4096x4096_S4096x4096x1x1_0_1
        (cmpi .sle (iotaInDim S4096x4096 32 1) (iotaInDim S4096x4096 32 0))))
    (subf (broadcastInDim S4096x4096x2x8 ![0, 1, 2, 3] bcast_S4096x1x2x8_S4096x4096x2x8_0_1_2_3
        (broadcastInDim S4096x1x2x8 ![0, 2, 3] bcast_S4096x2x8_S4096x1x2x8_0_2_3 (running P B A)))
      (broadcastInDim S4096x4096x2x8 ![0, 1, 2, 3] bcast_S1x4096x2x8_S4096x4096x2x8_0_1_2_3
        (broadcastInDim S1x4096x2x8 ![1, 2, 3] bcast_S4096x2x8_S1x4096x2x8_1_2_3 (running P B A))))
    (broadcastInDim S4096x4096x2x8 ![] bcast_S_S4096x4096x2x8 (id (constant S_ .f32 0xFF800000#32))))

/-- The input vectors and the output vectors, by group. -/
def inputs (X : FVec Ideal S4096x1536 .f32) : FVec Ideal S4096x2x128 .f32 :=
  shapeCast _ (extractStridedSlice S4096x256 ![0, 1024] X slices_S4096x1536_S4096x256_0_1024) shapeCasts_S4096x256_S4096x2x128
def outputs (X : FVec Ideal S4096x1536 .f32) : FVec Ideal S4096x2x128 .f32 :=
  shapeCast _ (extractStridedSlice S4096x256 ![0, 1280] X slices_S4096x1536_S4096x256_0_1280) shapeCasts_S4096x256_S4096x2x128

/-- The step sizes repeated over a head's 64 lanes. -/
def stepLanes (P : FVec Ideal S4096x9216 .f32) (B : FVec Ideal S1x128 .f32) : FVec Ideal S4096x16x64 .f32 :=
  broadcastInDim S4096x16x64 ![0, 1, 2] bcast_S4096x16x1_S4096x16x64_0_1_2
    (broadcastInDim S4096x16x1 ![0, 1] bcast_S4096x16_S4096x16x1_0_1 (steps P B))

/-- The incoming gradient, by head. -/
def byHead (Y : FVec Ideal S4096x1024 .f32) : FVec Ideal S4096x16x64 .f32 := shapeCast _ Y shapeCasts_S4096x1024_S4096x16x64

/-- The same with the rows last. -/
def rowsLast (Y : FVec Ideal S4096x1024 .f32) : FVec Ideal S2x8x64x4096 .f32 :=
  transpose S2x8x64x4096 [1, 2, 3, 0] (shapeCast _ (byHead Y) shapeCasts_S4096x16x64_S4096x2x8x64) transposes_S4096x2x8x64_S2x8x64x4096_1_2_3_0

/-- The gradient in the scanned inputs. -/
def dInputs (X : FVec Ideal S4096x1536 .f32) (P : FVec Ideal S4096x9216 .f32) (B A D : FVec Ideal S1x128 .f32)
    (Y : FVec Ideal S4096x1024 .f32) : FVec Ideal S4096x1024 .f32 :=
  shapeCast _ (addf
    (mulf (broadcastInDim S4096x16x64 ![0, 1, 2] bcast_S1x16x1_S4096x16x64_0_1_2 (broadcastInDim S1x16x1 ![1, 2] bcast_S16x1_S1x16x1_1_2
      (broadcastInDim S16x1 ![0] bcast_S16_S16x1_0 (lanes16 D)))) (byHead Y))
    (mulf (shapeCast _ (transpose S4096x2x8x64 [3, 0, 1, 2]
        (Host.dotGeneral dot_S2x8x64x4096_S4096x4096x2x8_S2x8x64x4096_3_0_2_1_01_23 none (rowsLast Y)
          (mulf (broadcastInDim S4096x4096x2x8 ![0, 1, 2, 3] bcast_S4096x4096x2x1_S4096x4096x2x8_0_1_2_3
            (broadcastInDim S4096x4096x2x1 ![0, 1, 2] bcast_S4096x4096x2_S4096x4096x2x1_0_1_2
              (transpose S4096x4096x2 [2, 1, 0] (Host.dotGeneral dot_S4096x2x128_S4096x2x128_S2x4096x4096_2_2_0_0_1_1 none (inputs X) (outputs X))
                transposes_S2x4096x4096_S4096x4096x2_2_1_0))) (decays P B A)))
        transposes_S2x8x64x4096_S4096x2x8x64_3_0_1_2) shapeCasts_S4096x2x8x64_S4096x16x64) (stepLanes P B)))
    shapeCasts_S4096x16x64_S4096x1024

/-- The gradient in the products of output with input vectors, by group. -/
def dProducts (X : FVec Ideal S4096x1536 .f32) (P : FVec Ideal S4096x9216 .f32) (B A : FVec Ideal S1x128 .f32)
    (Y : FVec Ideal S4096x1024 .f32) : FVec Ideal S2x4096x4096 .f32 :=
  transpose S2x4096x4096 [2, 1, 0] (Host.reduceAdd (shapeCast _ (Host.reduceAdd (mulf
      (transpose S4096x4096x2x8 [2, 3, 0, 1] (Host.dotGeneral dot_S2x8x64x4096_S4096x2x8x64_S2x8x4096x4096_2_3_3_0_01_12 none (rowsLast Y)
        (shapeCast _ (mulf (shapeCast _ (extractStridedSlice S4096x1024 ![0, 0] X slices_S4096x1536_S4096x1024_0_0) shapeCasts_S4096x1024_S4096x16x64)
          (stepLanes P B)) shapeCasts_S4096x16x64_S4096x2x8x64)) transposes_S2x8x4096x4096_S4096x4096x2x8_2_3_0_1)
      (decays P B A)) zero reducesTo_S4096x4096x2x8_S4096x4096x2_d3 h_S_) shapeCasts_S4096x4096x2_S4096x4096x2x1)
    zero reducesTo_S4096x4096x2x1_S4096x4096x2_d3 h_S_) transposes_S4096x4096x2_S2x4096x4096_2_1_0

/-- The gradient in the input vectors and in the output vectors. -/
def dB (X : FVec Ideal S4096x1536 .f32) (P : FVec Ideal S4096x9216 .f32) (B A : FVec Ideal S1x128 .f32)
    (Y : FVec Ideal S4096x1024 .f32) : FVec Ideal S4096x256 .f32 :=
  shapeCast _ (transpose S4096x2x128 [1, 0, 2] (Host.dotGeneral dot_S2x4096x4096_S4096x2x128_S2x4096x128_2_0_1_2_0_1 none (dProducts X P B A Y) (outputs X))
    transposes_S2x4096x128_S4096x2x128_1_0_2) shapeCasts_S4096x2x128_S4096x256
def dC (X : FVec Ideal S4096x1536 .f32) (P : FVec Ideal S4096x9216 .f32) (B A : FVec Ideal S1x128 .f32)
    (Y : FVec Ideal S4096x1024 .f32) : FVec Ideal S4096x256 .f32 :=
  shapeCast _ (transpose S4096x2x128 [1, 0, 2] (Host.dotGeneral dot_S2x4096x4096_S4096x2x128_S2x4096x128_1_0_2_2_0_1 none (dProducts X P B A Y) (inputs X))
    transposes_S2x4096x128_S4096x2x128_1_0_2) shapeCasts_S4096x2x128_S4096x256

/-- The whole gradient: the three parts side by side, each padded with zeros and added. -/
def gradient (X : FVec Ideal S4096x1536 .f32) (P : FVec Ideal S4096x9216 .f32) (B A D : FVec Ideal S1x128 .f32)
    (Y : FVec Ideal S4096x1024 .f32) : FVec Ideal S4096x1536 .f32 :=
  addf (addf (pad S4096x1536 ![0, 1280] ![0, 0] ![0, 0] (dC X P B A Y) zero pads_S4096x256_S4096x1536_000_128000 h_S_)
      (pad S4096x1536 ![0, 1024] ![0, 256] ![0, 0] (dB X P B A Y) zero pads_S4096x256_S4096x1536_000_10242560 h_S_))
    (pad S4096x1536 ![0, 0] ![0, 512] ![0, 0] (dInputs X P B A D Y) zero pads_S4096x1024_S4096x1536_000_05120 h_S_)

variable {X : FVec Ideal S4096x1536 .f32} {P : FVec Ideal S4096x9216 .f32} {B A D : FVec Ideal S1x128 .f32}
    {Y : FVec Ideal S4096x1024 .f32}

theorem small_apply (n : Fin 4096) (h : Fin 16) :
    small P B (ix2 n h) = P (ix2 n ⟨8704 + h, by omega⟩) + B (ix2 0 ⟨h, by omega⟩) := by
  pointwise [small, overRows, lanes16]

/-- A windowed sum at an index, as a sum over the window. -/
theorem window_sum {s t : Shape} (window strides lo hi : Fin s.rank → ℕ) (h : s.ReduceWindows window strides lo hi t)
    (x : FVec Ideal s .f32) (j : t.Idx) :
    Host.reduceWindowAdd (u := S_) window strides lo hi x (fun _ => (0 : EReal)) h h_S_ j
      = ∑ w : (⟨s.rank, window⟩ : Shape).Idx,
        if hin : ∀ a, lo a ≤ (j (a.cast h.1.symm)).val * strides a + (w a).val
          ∧ (j (a.cast h.1.symm)).val * strides a + (w a).val - lo a < s.size a then x (fun a => ⟨_, (hin a).2⟩) else 0 := by
  rw [sum_idx_eq_foldl]
  change Host.reduceWindow (· + ·) window strides lo hi x (fun _ : S_.Idx => (0 : EReal)) h h_S_ j = _
  unfold Host.reduceWindow
  dsimp only
  congr 1
  funext r n
  congr 1
  exact dite_congr rfl (fun _ => rfl) fun _ => rfl

/-- The running sum at a row: the sum of the rows up to it. -/
theorem running_apply (i : Fin 4096) (g : Fin 2) (h : Fin 8) :
    running P B A (ix3 i g h) = ∑ w : Fin 4096, if hw : 4095 ≤ i.val + w.val then
      logDecays P B A (ix3 ⟨i + w - 4095, by omega⟩ g h) else 0 := by
  have z : (broadcastInDim S_ ![] bcast_S_S_ zero : FVec Ideal S_ .f32) = fun _ => (0 : EReal) := by
    funext i; pointwise
  have e := window_sum ![4096, 1, 1] ![1, 1, 1] ![4095, 0, 0] ![0, 0, 0]
    reduceWindows_S4096x2x8_S4096x2x8_w4096s1p4095_0_w1s1p0_0_w1s1p0_0 (logDecays P B A) (ix3 i g h)
  rw [running, z]
  refine e.trans ?_
  clear e
  refine (sum_idx3 (n0 := 4096) (n1 := 1) (n2 := 1) _).trans ?_
  simp only [Fin.sum_univ_one]
  · refine Finset.sum_congr rfl fun w _ => ?_
    by_cases hw : 4095 ≤ i.val + w.val
    · have hin : ∀ a, (![4095, 0, 0] : Fin 3 → ℕ) a ≤ (ix3 i g h : S4096x2x8.Idx) a * (![1, 1, 1] : Fin 3 → ℕ) a + (ix3 w (0 : Fin 1) (0 : Fin 1) a).val
        ∧ (ix3 i g h : S4096x2x8.Idx) a * (![1, 1, 1] : Fin 3 → ℕ) a + (ix3 w (0 : Fin 1) (0 : Fin 1) a).val - (![4095, 0, 0] : Fin 3 → ℕ) a < S4096x2x8.size a := by
        intro a
        fin_cases a
        · change 4095 ≤ i.val * 1 + w.val ∧ i.val * 1 + w.val - 4095 < 4096; omega
        · change 0 ≤ g.val * 1 + 0 ∧ g.val * 1 + 0 - 0 < 2; omega
        · change 0 ≤ h.val * 1 + 0 ∧ h.val * 1 + 0 - 0 < 8; omega
      rw [dif_pos hw]
      refine (dif_pos hin).trans ?_
      congr 1
      funext a
      fin_cases a
      · exact Fin.ext (by change i.val * 1 + w.val - 4095 = i.val + w.val - 4095; omega)
      · exact Fin.ext (by change g.val * 1 + 0 - 0 = g.val; omega)
      · exact Fin.ext (by change h.val * 1 + 0 - 0 = h.val; omega)
    · rw [dif_neg hw]
      refine dif_neg fun hin => ?_
      have := (hin 0).1
      change 4095 ≤ i.val * 1 + w.val at this
      omega

/-- A sum over the last `i + 1` of 4096 positions. -/
theorem sum_last (f : ℕ → ℝ) (i : Fin 4096) :
    (∑ w : Fin 4096, if 4095 ≤ i.val + w.val then f (i + w - 4095) else 0) = ∑ n ∈ Finset.range (i + 1), f n := by
  rw [Fin.sum_univ_eq_sum_range (fun w => if 4095 ≤ i.val + w then f (i + w - 4095) else 0) 4096,
    ← Finset.sum_filter]
  refine Finset.sum_bij' (fun w _ => i + w - 4095) (fun n _ => n + 4095 - i) ?_ ?_ ?_ ?_ ?_ <;>
    simp only [Finset.mem_filter, Finset.mem_range] <;> intros <;> first | omega | trivial

/-- A sum over the positions from `n` on. -/
theorem sum_from (f : ℕ → ℝ) (n : Fin 4096) : (∑ k : Fin 4096, if n.val ≤ k.val then f k else 0) = ∑ k ∈ Finset.Ico n.val 4096, f k := by
  rw [Fin.sum_univ_eq_sum_range (fun k => if n.val ≤ k then f k else 0) 4096, ← Finset.sum_filter]
  refine Finset.sum_congr ?_ fun _ _ => rfl
  ext k; simp only [Finset.mem_filter, Finset.mem_range, Finset.mem_Ico]; omega

variable {x p y : ℕ → ℕ → ℝ} {β α d : ℕ → ℝ}

section Values

variable (hX : ∀ n c, X (ix2 n c) = ((x n.val c.val : ℝ) : EReal)) (hP : ∀ n c, P (ix2 n c) = ((p n.val c.val : ℝ) : EReal))
  (hB : ∀ l, B (ix2 0 l) = ((β l.val : ℝ) : EReal)) (hA : ∀ l, A (ix2 0 l) = ((α l.val : ℝ) : EReal))
  (hD : ∀ l, D (ix2 0 l) = ((d l.val : ℝ) : EReal)) (hY : ∀ n c, Y (ix2 n c) = ((y n.val c.val : ℝ) : EReal))

include hP hB

theorem steps_coe (n : Fin 4096) (h : Fin 16) : steps P B (ix2 n h) = ((step p β n h : ℝ) : EReal) := by
  pointwise [steps]
  rw [if_neg (not_not.2 rfl), small_apply, hP, hB, ← EReal.coe_add, step, ← softplus_coe, zero_sub]

include hA

theorem logDecays_coe (n : Fin 4096) (g : Fin 2) (h : Fin 8) :
    logDecays P B A (ix3 n g h) = ((logStep p β α n (g * 8 + h) : ℝ) : EReal) := by
  pointwise [logDecays, overRows, lanes16]
  rw [steps_coe hP hB, hA, Ideal.exp_coe, ← EReal.coe_neg, ← EReal.coe_mul, logStep]

theorem running_coe (i : Fin 4096) (g : Fin 2) (h : Fin 8) :
    running P B A (ix3 i g h) = ((cumTo (logStep p β α) (g * 8 + h) (i + 1) : ℝ) : EReal) := by
  rw [running_apply, cumTo, ← sum_last, coe_sum]
  refine Finset.sum_congr rfl fun w _ => ?_
  split
  · rw [logDecays_coe hP hB hA]
  · rfl

theorem decays_coe (n k : Fin 4096) (g : Fin 2) (h : Fin 8) :
    decays P B A (ix4 n k g h) = ((if k.val ≤ n.val then
      Real.exp (cumTo (logStep p β α) (g * 8 + h) (n + 1) - cumTo (logStep p β α) (g * 8 + h) (k + 1)) else 0 : ℝ) : EReal) := by
  pointwise [decays]
  simp (disch := omega) only [hlo_ix, Scalar.select]
  rw [running_coe hP hB hA, running_coe hP hB hA]
  by_cases hk : k.val ≤ n.val
  · simp only [hk, if_true]
    rw [← EReal.coe_sub, Ideal.exp_coe]
  · simp only [hk, if_false]
    rw [show (id (constant S_ .f32 0xFF800000#32) : FVec Ideal S_ .f32) ix0 = ⊥ by simp [constant, FloatOps.ofBits, Ideal.ofBits, Ideal.ieee],
      Ideal.exp_bot, EReal.coe_zero]

include hX hD hY

theorem dInputs_coe (n : Fin 4096) (q : Fin 1024) :
    dInputs X P B A D Y (ix2 n q) = ((d (q / 64) * y n q
      + toRow (logStep p β α) (fun k l => x k (1280 + (q / 64 / 8 * 128 + l))) (fun k l => x k (1024 + (q / 64 / 8 * 128 + l))) y
          (q / 64) q n * step p β n (q / 64) : ℝ) : EReal) := by
  have e : ∀ k : Fin 4096, Y (ix2 k q) * ((∑ l : Fin 128, X (ix2 n ⟨1024 + (q / 64 / 8 * 128 + l), by omega⟩)
        * X (ix2 k ⟨1280 + (q / 64 / 8 * 128 + l), by omega⟩)) * decays P B A (ix4 k n ⟨q / 64 / 8, by omega⟩ ⟨q / 64 % 8, by omega⟩))
      = ((if n.val ≤ k.val then Real.exp (cumTo (logStep p β α) (q / 64) (k + 1) - cumTo (logStep p β α) (q / 64) (n + 1))
          * (prodRows (fun k l => x k (1280 + (q / 64 / 8 * 128 + l))) (fun k l => x k (1024 + (q / 64 / 8 * 128 + l))) k n * y k q)
          else 0 : ℝ) : EReal) := by
    intro k
    rw [decays_coe hP hB hA, hY, show ((q : ℕ) / 64 / 8) * 8 + q / 64 % 8 = q / 64 by omega]
    simp only [hX, ← EReal.coe_mul, ← coe_sum, EReal.coe_eq_coe_iff]
    rw [prodRows]
    split
    · rw [Finset.sum_congr rfl fun l _ => mul_comm (x n _) _]; ring
    · ring
  pointwise [dInputs, rowsLast, byHead, inputs, outputs, stepLanes, lanes16]
  rw [Finset.sum_congr rfl fun k _ => e k, steps_coe hP hB, hD, hY, ← coe_sum, ← EReal.coe_mul, ← EReal.coe_mul, ← EReal.coe_add,
    EReal.coe_eq_coe_iff]
  congr 2
  refine Eq.trans ?_ (sum_from _ n)
  rfl

theorem gradient_low (n : Fin 4096) (q : Fin 1536) (hq : q.val < 1024) :
    gradient X P B A D Y (ix2 n q) = ((d (q / 64) * y n q
      + toRow (logStep p β α) (fun k l => x k (1280 + (q / 64 / 8 * 128 + l))) (fun k l => x k (1024 + (q / 64 / 8 * 128 + l))) y
          (q / 64) q n * step p β n (q / 64) : ℝ) : EReal) := by
  pointwise [gradient]
  rw [dif_neg (by omega), dif_neg (by omega), dif_pos hq, add_zero, zero_add, dInputs_coe hX hP hB hA hD hY]

end Values

end Cert.SsdDxRefIdeal.Scan

end
-- ==== Proof.ScanClaim.lean ====
module

public import proofs.«01_k».proof.Defs
public import proofs.«01_k».proof.Proof.ScanValue
public import proofs.«01_k».proof.Proof.ScanRef
public import proofs.«01_k».proof.Proof.Gen.SsdDx.Frame
public import proofs.«01_k».proof.Proof.Gen.SsdDxRefIdeal.Run
public import proofs.«01_k».proof.Proof.Gen.Pre_finite
public import proofs.«01_k».proof.Proof.Gen.On_columns
public import Idealize.ShloMosaic.Lib.Claim

/-! The scan's gradient: where the arguments are finite, the kernel and the reference compute the same gradient of the
scanned inputs. -/

@[expose] public section

set_option maxRecDepth 16384

noncomputable section

namespace Cert.SsdDxIdeal.Scan

open Cert.SsdDxIdeal Cert.SsdDxIdeal.Gen Idealize.ShloMosaic Idealize.ShloMosaic.TcCoe Idealize.SL.Sem

/-- A magnitude below infinity is a real's. -/
theorem real_of_below (v : EReal)
    (h : BitVec.ofBool (decide (FloatOps.absf (F := Ideal) (φ := .f32) v < Ideal.ofBits .f32 2139095040#32)) = 1#1) :
    v = ((v.toReal : ℝ) : EReal) := by
  have ht : Ideal.ofBits .f32 2139095040#32 = ⊤ := by simp [Ideal.ofBits, Ideal.ieee]
  rw [ht] at h
  have hlt : FloatOps.absf (F := Ideal) (φ := .f32) v < ⊤ := by
    by_contra hn
    simp [hn] at h
  refine (EReal.coe_toReal ?_ ?_).symm
  · rintro rfl
    simp [Ideal.absf_def, abs] at hlt
  · rintro rfl
    simp [Ideal.absf_def, abs] at hlt

/-- The reals of a finite matrix, numbered by naturals. -/
def reals {a b : ℕ} (X : FVec Ideal ⟨2, ![a, b]⟩ .f32) (n c : ℕ) : ℝ :=
  if h : n < a ∧ c < b then (X (ix2 ⟨n, h.1⟩ ⟨c, h.2⟩)).toReal else 0

theorem eq_reals {a b : ℕ} {X : FVec Ideal ⟨2, ![a, b]⟩ .f32} (h : ∀ i, X i = ((X i).toReal : EReal)) (n : Fin a) (c : Fin b) :
    X (ix2 n c) = ((reals X n c : ℝ) : EReal) := by
  rw [h, reals, dif_pos ⟨n.isLt, c.isLt⟩]

/-- The precondition, read at the arguments: they are reals. -/
theorem reals_of_finite (m : (ℓ : Loc nD τ sig) → Buf (Elt Ideal) ℓ) (c : Dev nD)
    (h : Cert.Pre_SsdDxIdeal_finite (hPre_finite := Cert.Pre_finite.Gen.facts) m) :
    Reals m c (reals (m ((c : Thread nD τ).loc main_arg0) : FVec Ideal S4096x1536 .f32)) (reals (m ((c : Thread nD τ).loc main_arg1) : FVec Ideal S4096x9216 .f32))
      (reals (m ((c : Thread nD τ).loc main_arg6) : FVec Ideal S4096x1024 .f32)) (reals (m ((c : Thread nD τ).loc main_arg2) : FVec Ideal S1x128 .f32) 0)
      (reals (m ((c : Thread nD τ).loc main_arg3) : FVec Ideal S1x128 .f32) 0) (reals (m ((c : Thread nD τ).loc main_arg4) : FVec Ideal S1x128 .f32) 0) := by
  obtain ⟨h0, h1, h2, h3, h4, h6⟩ := h c
  have f0 := fun i => congrFun h0 i
  have f1 := fun i => congrFun h1 i
  have f2 := fun i => congrFun h2 i
  have f3 := fun i => congrFun h3 i
  have f4 := fun i => congrFun h4 i
  have f6 := fun i => congrFun h6 i
  pointwise [Cert.Pre_finite.fn] at f0
  pointwise [Cert.Pre_finite.fn] at f1
  pointwise [Cert.Pre_finite.fn] at f2
  pointwise [Cert.Pre_finite.fn] at f3
  pointwise [Cert.Pre_finite.fn] at f4
  pointwise [Cert.Pre_finite.fn] at f6
  exact ⟨eq_reals fun i => real_of_below _ (f0 i), eq_reals fun i => real_of_below _ (f1 i), eq_reals (fun i => real_of_below _ (f2 i)) 0,
    eq_reals (fun i => real_of_below _ (f3 i)) 0, eq_reals (fun i => real_of_below _ (f4 i)) 0, eq_reals fun i => real_of_below _ (f6 i)⟩

/-- The run of the reference ends at the gradient. -/
theorem result_eq (m : (ℓ : Loc Cert.SsdDxRefIdeal.nD Cert.SsdDxRefIdeal.τ Cert.SsdDxRefIdeal.sig) → Buf (Elt Ideal) ℓ) (c : Dev Cert.SsdDxRefIdeal.nD) :
    Cert.SsdDxRefIdeal.Value.res_main_v82 m c = Cert.SsdDxRefIdeal.Scan.gradient (m ((c.tc : Thread Cert.SsdDxRefIdeal.nD Cert.SsdDxRefIdeal.τ).loc Cert.SsdDxRefIdeal.main_arg0))
      (m ((c.tc : Thread Cert.SsdDxRefIdeal.nD Cert.SsdDxRefIdeal.τ).loc Cert.SsdDxRefIdeal.main_arg1)) (m ((c.tc : Thread Cert.SsdDxRefIdeal.nD Cert.SsdDxRefIdeal.τ).loc Cert.SsdDxRefIdeal.main_arg2))
      (m ((c.tc : Thread Cert.SsdDxRefIdeal.nD Cert.SsdDxRefIdeal.τ).loc Cert.SsdDxRefIdeal.main_arg3)) (m ((c.tc : Thread Cert.SsdDxRefIdeal.nD Cert.SsdDxRefIdeal.τ).loc Cert.SsdDxRefIdeal.main_arg4))
      (m ((c.tc : Thread Cert.SsdDxRefIdeal.nD Cert.SsdDxRefIdeal.τ).loc Cert.SsdDxRefIdeal.main_arg6)) := by
  rfl

theorem algebraic : Cert.algebraic_SsdDxIdeal_SsdDxRefIdeal_on_columns_pre_finite (hSsdDxIdeal := facts) (hSsdDxRefIdeal := Cert.SsdDxRefIdeal.Gen.facts)
    (hPre_finite := Cert.Pre_finite.Gen.facts) (hOn_columns := Cert.On_columns.Gen.facts) := by
  intro m g m' g' hpre hagree
  refine ⟨fun c => (dats m 0 c).arrAt 7 cfg0.N, ?_, ?_⟩
  · run_from Value.run_blocks m g
    exact fun _ _ => trivial
  · run_from Cert.SsdDxRefIdeal.Value.run m' g'
    intro i hi
    have H := reals_of_finite m c hpre
    have hlt : (i 1 : ℕ) < 1024 := by
      have b := (i 1).isLt
      have b' : (i 1 : ℕ) < 1536 := b
      pointwise [Cert.On_columns.fn] at hi
      simp (disch := omega) only [hlo_ix] at hi
      by_contra hn
      simp [hn] at hi
    have ei : i = ix2 (i 0) (i 1) := eq_ix2 rfl rfl
    rw [ei, result_eq]
    refine (Cert.SsdDxRefIdeal.Scan.gradient_low ?_ ?_ ?_ ?_ ?_ ?_ (i 0) (i 1) hlt).trans (final m c H (i 0) (i 1) hlt).symm
    · exact fun n q => (congrFun (hagree c).1 _).trans (H.hX n q)
    · exact fun n q => (congrFun (hagree c).2.1 _).trans (H.hP n q)
    · exact fun l => (congrFun (hagree c).2.2.1 _).trans (H.hB l)
    · exact fun l => (congrFun (hagree c).2.2.2.1 _).trans (H.hA l)
    · exact fun l => (congrFun (hagree c).2.2.2.2.1 _).trans (H.hD l)
    · exact fun n q => (congrFun (hagree c).2.2.2.2.2.2 _).trans (H.hY n q)

end Cert.SsdDxIdeal.Scan

end
-- ==== Proof.lean ====
/- The certificate.

Every claim of `Cert.Claim`, put together from the modules beside this one: the frames of the programs
(generated for the kernels, one run of the host operations for the references), the claims that idealizing keeps
the program (`True` where nothing is rewritten; for the scan, that the mask constant is named), and the
equalities of the kernels with their references over the extended reals (`Proof/Merge.lean`,
`Proof/InProj.lean`, `Proof/FfnIn.lean`, `Proof/FfnDown.lean`, `Proof/OutProj.lean`, `Proof/Branch.lean`,
`Proof/AdamMix.lean`, `Proof/AdamFfn.lean`, `Proof/Gates.lean`, `Proof/Norms.lean`, `Proof/NormGrad.lean`,
`Proof/Loss.lean`, `Proof/SsdPost.lean`, `Proof/GdnPost.lean`, `Proof/AdamSmall.lean`, `Proof/SmallSum.lean`,
`Proof/ScanClaim.lean`). -/
module

public import proofs.«01_k».proof.Defs
public import proofs.«01_k».proof.Proof.Gen.Merge.Frame
public import proofs.«01_k».proof.Proof.Gen.InDx.Frame
public import proofs.«01_k».proof.Proof.Gen.InDw.Frame
public import proofs.«01_k».proof.Proof.Gen.FfnInDx.Frame
public import proofs.«01_k».proof.Proof.Gen.FfnInDw.Frame
public import proofs.«01_k».proof.Proof.Gen.FfnDownDx.Frame
public import proofs.«01_k».proof.Proof.Gen.FfnDownDw.Frame
public import proofs.«01_k».proof.Proof.Gen.OutDx.Frame
public import proofs.«01_k».proof.Proof.Gen.OutDw.Frame
public import proofs.«01_k».proof.Proof.Gen.BranchDx.Frame
public import proofs.«01_k».proof.Proof.Gen.BranchDw.Frame
public import proofs.«01_k».proof.Proof.Gen.InFwd.Frame
public import proofs.«01_k».proof.Proof.Gen.BranchFwd.Frame
public import proofs.«01_k».proof.Proof.Gen.FfnInFwd.Frame
public import proofs.«01_k».proof.Proof.Gen.OutFwd.Frame
public import proofs.«01_k».proof.Proof.Gen.FfnDownFwd.Frame
public import proofs.«01_k».proof.Proof.Gen.AdamIn.Frame
public import proofs.«01_k».proof.Proof.Gen.AdamProj.Frame
public import proofs.«01_k».proof.Proof.Gen.AdamFfnIn.Frame
public import proofs.«01_k».proof.Proof.Gen.AdamFfnDown.Frame
public import proofs.«01_k».proof.Proof.Gen.AdamConvS.Frame
public import proofs.«01_k».proof.Proof.Gen.AdamConvG.Frame
public import proofs.«01_k».proof.Proof.Gen.SwigluBwd.Frame
public import proofs.«01_k».proof.Proof.Gen.Swiglu.Frame
public import proofs.«01_k».proof.Proof.Gen.MergeFwd.Frame
public import proofs.«01_k».proof.Proof.Gen.NormBwd.Frame
public import proofs.«01_k».proof.Proof.Gen.Norm.Frame
public import proofs.«01_k».proof.Proof.Gen.Loss.Frame
public import proofs.«01_k».proof.Proof.Gen.SsdPostBwd.Frame
public import proofs.«01_k».proof.Proof.Gen.GdnPostBwd.Frame
public import proofs.«01_k».proof.Proof.Gen.SsdPost.Frame
public import proofs.«01_k».proof.Proof.Gen.GdnPost.Frame
public import proofs.«01_k».proof.Proof.Gen.AdamSmall.Frame
public import proofs.«01_k».proof.Proof.Gen.SmallSum.Frame
public import proofs.«01_k».proof.Proof.Gen.SsdDx.Frame
public import proofs.«01_k».proof.Proof.Merge
public import proofs.«01_k».proof.Proof.InProj
public import proofs.«01_k».proof.Proof.FfnIn
public import proofs.«01_k».proof.Proof.FfnDown
public import proofs.«01_k».proof.Proof.OutProj
public import proofs.«01_k».proof.Proof.Branch
public import proofs.«01_k».proof.Proof.AdamMix
public import proofs.«01_k».proof.Proof.AdamFfn
public import proofs.«01_k».proof.Proof.Gates
public import proofs.«01_k».proof.Proof.Norms
public import proofs.«01_k».proof.Proof.NormGrad
public import proofs.«01_k».proof.Proof.Loss
public import proofs.«01_k».proof.Proof.SsdPost
public import proofs.«01_k».proof.Proof.GdnPost
public import proofs.«01_k».proof.Proof.AdamSmall
public import proofs.«01_k».proof.Proof.SmallSum
public import proofs.«01_k».proof.Proof.ScanClaim
public import Idealize.ShloMosaic.Lib.Claim

@[expose] public section

noncomputable section

namespace Cert.Proof

open Idealize.ShloMosaic Idealize.SL.Sem

/-- All the claims of the certificate: first the facts the programs state, then the frames (kernel, idealized
    kernel, reference, for one call after the other), then for every call the preservation and the equality with
    its reference. -/
theorem claim : Cert.Claim :=
  ⟨Cert.Merge.Gen.facts, Cert.MergeIdeal.Gen.facts, Cert.MergeRefIdeal.Gen.facts,
    Cert.InDx.Gen.facts, Cert.InDxIdeal.Gen.facts, Cert.InDxRefIdeal.Gen.facts,
    Cert.InDw.Gen.facts, Cert.InDwIdeal.Gen.facts, Cert.InDwRefIdeal.Gen.facts,
    Cert.FfnInDx.Gen.facts, Cert.FfnInDxIdeal.Gen.facts, Cert.FfnInDxRefIdeal.Gen.facts,
    Cert.FfnInDw.Gen.facts, Cert.FfnInDwIdeal.Gen.facts, Cert.FfnInDwRefIdeal.Gen.facts,
    Cert.FfnDownDx.Gen.facts, Cert.FfnDownDxIdeal.Gen.facts, Cert.FfnDownDxRefIdeal.Gen.facts,
    Cert.FfnDownDw.Gen.facts, Cert.FfnDownDwIdeal.Gen.facts, Cert.FfnDownDwRefIdeal.Gen.facts,
    Cert.OutDx.Gen.facts, Cert.OutDxIdeal.Gen.facts, Cert.OutDxRefIdeal.Gen.facts,
    Cert.OutDw.Gen.facts, Cert.OutDwIdeal.Gen.facts, Cert.OutDwRefIdeal.Gen.facts,
    Cert.BranchDx.Gen.facts, Cert.BranchDxIdeal.Gen.facts, Cert.BranchDxRefIdeal.Gen.facts,
    Cert.BranchDw.Gen.facts, Cert.BranchDwIdeal.Gen.facts, Cert.BranchDwRefIdeal.Gen.facts,
    Cert.InFwd.Gen.facts, Cert.InFwdIdeal.Gen.facts, Cert.InFwdRefIdeal.Gen.facts,
    Cert.BranchFwd.Gen.facts, Cert.BranchFwdIdeal.Gen.facts, Cert.BranchFwdRefIdeal.Gen.facts,
    Cert.FfnInFwd.Gen.facts, Cert.FfnInFwdIdeal.Gen.facts, Cert.FfnInFwdRefIdeal.Gen.facts,
    Cert.OutFwd.Gen.facts, Cert.OutFwdIdeal.Gen.facts, Cert.OutFwdRefIdeal.Gen.facts,
    Cert.FfnDownFwd.Gen.facts, Cert.FfnDownFwdIdeal.Gen.facts, Cert.FfnDownFwdRefIdeal.Gen.facts,
    Cert.AdamIn.Gen.facts, Cert.AdamInIdeal.Gen.facts, Cert.AdamInRefIdeal.Gen.facts,
    Cert.AdamProj.Gen.facts, Cert.AdamProjIdeal.Gen.facts, Cert.AdamProjRefIdeal.Gen.facts,
    Cert.AdamFfnIn.Gen.facts, Cert.AdamFfnInIdeal.Gen.facts, Cert.AdamFfnInRefIdeal.Gen.facts,
    Cert.AdamFfnDown.Gen.facts, Cert.AdamFfnDownIdeal.Gen.facts, Cert.AdamFfnDownRefIdeal.Gen.facts,
    Cert.AdamConvS.Gen.facts, Cert.AdamConvSIdeal.Gen.facts, Cert.AdamConvSRefIdeal.Gen.facts,
    Cert.AdamConvG.Gen.facts, Cert.AdamConvGIdeal.Gen.facts, Cert.AdamConvGRefIdeal.Gen.facts,
    Cert.SwigluBwd.Gen.facts, Cert.SwigluBwdIdeal.Gen.facts, Cert.SwigluBwdRefIdeal.Gen.facts,
    Cert.Swiglu.Gen.facts, Cert.SwigluIdeal.Gen.facts, Cert.SwigluRefIdeal.Gen.facts,
    Cert.MergeFwd.Gen.facts, Cert.MergeFwdIdeal.Gen.facts, Cert.MergeFwdRefIdeal.Gen.facts,
    Cert.NormBwd.Gen.facts, Cert.NormBwdIdeal.Gen.facts, Cert.NormBwdRefIdeal.Gen.facts,
    Cert.Norm.Gen.facts, Cert.NormIdeal.Gen.facts, Cert.NormRefIdeal.Gen.facts,
    Cert.Loss.Gen.facts, Cert.LossIdeal.Gen.facts, Cert.LossRefIdeal.Gen.facts,
    Cert.SsdPostBwd.Gen.facts, Cert.SsdPostBwdIdeal.Gen.facts, Cert.SsdPostBwdRefIdeal.Gen.facts,
    Cert.GdnPostBwd.Gen.facts, Cert.GdnPostBwdIdeal.Gen.facts, Cert.GdnPostBwdRefIdeal.Gen.facts,
    Cert.SsdPost.Gen.facts, Cert.SsdPostIdeal.Gen.facts, Cert.SsdPostRefIdeal.Gen.facts,
    Cert.GdnPost.Gen.facts, Cert.GdnPostIdeal.Gen.facts, Cert.GdnPostRefIdeal.Gen.facts,
    Cert.AdamSmall.Gen.facts, Cert.AdamSmallIdeal.Gen.facts, Cert.AdamSmallRefIdeal.Gen.facts,
    Cert.SmallSum.Gen.facts, Cert.SmallSumIdeal.Gen.facts, Cert.SmallSumRefIdeal.Gen.facts,
    Cert.SsdDx.Gen.facts, Cert.SsdDxIdeal.Gen.facts, Cert.SsdDxRefIdeal.Gen.facts,
    Cert.Pre_finite.Gen.facts, Cert.On_columns.Gen.facts,
    fun m g _ => Cert.Merge.Gen.frame m g, fun m g _ => Cert.MergeIdeal.Gen.frame m g,
      fun m g _ => (θ_run _ _ _).mono (fun r h => ⟨fun c => (h c).2.2.2.2, sem_eq_zero_of_no_sems (by decide) r.2⟩)
        (Cert.MergeRefIdeal.Value.run (F := Ideal) m g),
    fun m g _ => Cert.InDx.Gen.frame m g, fun m g _ => Cert.InDxIdeal.Gen.frame m g,
      fun m g _ => (θ_run _ _ _).mono (fun r h => ⟨fun c => (h c).2, sem_eq_zero_of_no_sems (by decide) r.2⟩)
        (Cert.InDxRefIdeal.Value.run (F := Ideal) m g),
    fun m g _ => Cert.InDw.Gen.frame m g, fun m g _ => Cert.InDwIdeal.Gen.frame m g,
      fun m g _ => (θ_run _ _ _).mono (fun r h => ⟨fun c => (h c).2, sem_eq_zero_of_no_sems (by decide) r.2⟩)
        (Cert.InDwRefIdeal.Value.run (F := Ideal) m g),
    fun m g _ => Cert.FfnInDx.Gen.frame m g, fun m g _ => Cert.FfnInDxIdeal.Gen.frame m g,
      fun m g _ => (θ_run _ _ _).mono (fun r h => ⟨fun c => (h c).2, sem_eq_zero_of_no_sems (by decide) r.2⟩)
        (Cert.FfnInDxRefIdeal.Value.run (F := Ideal) m g),
    fun m g _ => Cert.FfnInDw.Gen.frame m g, fun m g _ => Cert.FfnInDwIdeal.Gen.frame m g,
      fun m g _ => (θ_run _ _ _).mono (fun r h => ⟨fun c => (h c).2, sem_eq_zero_of_no_sems (by decide) r.2⟩)
        (Cert.FfnInDwRefIdeal.Value.run (F := Ideal) m g),
    fun m g _ => Cert.FfnDownDx.Gen.frame m g, fun m g _ => Cert.FfnDownDxIdeal.Gen.frame m g,
      fun m g _ => (θ_run _ _ _).mono (fun r h => ⟨fun c => (h c).2, sem_eq_zero_of_no_sems (by decide) r.2⟩)
        (Cert.FfnDownDxRefIdeal.Value.run (F := Ideal) m g),
    fun m g _ => Cert.FfnDownDw.Gen.frame m g, fun m g _ => Cert.FfnDownDwIdeal.Gen.frame m g,
      fun m g _ => (θ_run _ _ _).mono (fun r h => ⟨fun c => (h c).2, sem_eq_zero_of_no_sems (by decide) r.2⟩)
        (Cert.FfnDownDwRefIdeal.Value.run (F := Ideal) m g),
    fun m g _ => Cert.OutDx.Gen.frame m g, fun m g _ => Cert.OutDxIdeal.Gen.frame m g,
      fun m g _ => (θ_run _ _ _).mono (fun r h => ⟨fun c => (h c).2, sem_eq_zero_of_no_sems (by decide) r.2⟩)
        (Cert.OutDxRefIdeal.Value.run (F := Ideal) m g),
    fun m g _ => Cert.OutDw.Gen.frame m g, fun m g _ => Cert.OutDwIdeal.Gen.frame m g,
      fun m g _ => (θ_run _ _ _).mono (fun r h => ⟨fun c => (h c).2, sem_eq_zero_of_no_sems (by decide) r.2⟩)
        (Cert.OutDwRefIdeal.Value.run (F := Ideal) m g),
    fun m g _ => Cert.BranchDx.Gen.frame m g, fun m g _ => Cert.BranchDxIdeal.Gen.frame m g,
      fun m g _ => (θ_run _ _ _).mono (fun r h => ⟨fun c => (h c).2, sem_eq_zero_of_no_sems (by decide) r.2⟩)
        (Cert.BranchDxRefIdeal.Value.run (F := Ideal) m g),
    fun m g _ => Cert.BranchDw.Gen.frame m g, fun m g _ => Cert.BranchDwIdeal.Gen.frame m g,
      fun m g _ => (θ_run _ _ _).mono (fun r h => ⟨fun c => (h c).2, sem_eq_zero_of_no_sems (by decide) r.2⟩)
        (Cert.BranchDwRefIdeal.Value.run (F := Ideal) m g),
    fun m g _ => Cert.InFwd.Gen.frame m g, fun m g _ => Cert.InFwdIdeal.Gen.frame m g,
      fun m g _ => (θ_run _ _ _).mono (fun r h => ⟨fun c => (h c).2, sem_eq_zero_of_no_sems (by decide) r.2⟩)
        (Cert.InFwdRefIdeal.Value.run (F := Ideal) m g),
    fun m g _ => Cert.BranchFwd.Gen.frame m g, fun m g _ => Cert.BranchFwdIdeal.Gen.frame m g,
      fun m g _ => (θ_run _ _ _).mono (fun r h => ⟨fun c => (h c).2, sem_eq_zero_of_no_sems (by decide) r.2⟩)
        (Cert.BranchFwdRefIdeal.Value.run (F := Ideal) m g),
    fun m g _ => Cert.FfnInFwd.Gen.frame m g, fun m g _ => Cert.FfnInFwdIdeal.Gen.frame m g,
      fun m g _ => (θ_run _ _ _).mono (fun r h => ⟨fun c => (h c).2, sem_eq_zero_of_no_sems (by decide) r.2⟩)
        (Cert.FfnInFwdRefIdeal.Value.run (F := Ideal) m g),
    fun m g _ => Cert.OutFwd.Gen.frame m g, fun m g _ => Cert.OutFwdIdeal.Gen.frame m g,
      fun m g _ => (θ_run _ _ _).mono (fun r h => ⟨fun c => (h c).2, sem_eq_zero_of_no_sems (by decide) r.2⟩)
        (Cert.OutFwdRefIdeal.Value.run (F := Ideal) m g),
    fun m g _ => Cert.FfnDownFwd.Gen.frame m g, fun m g _ => Cert.FfnDownFwdIdeal.Gen.frame m g,
      fun m g _ => (θ_run _ _ _).mono (fun r h => ⟨fun c => (h c).2, sem_eq_zero_of_no_sems (by decide) r.2⟩)
        (Cert.FfnDownFwdRefIdeal.Value.run (F := Ideal) m g),
    fun m g _ => Cert.AdamIn.Gen.frame m g, fun m g _ => Cert.AdamInIdeal.Gen.frame m g,
      fun m g _ => (θ_run _ _ _).mono (fun r h => ⟨fun c => (h c).2.2.2, sem_eq_zero_of_no_sems (by decide) r.2⟩)
        (Cert.AdamInRefIdeal.Value.run (F := Ideal) m g),
    fun m g _ => Cert.AdamProj.Gen.frame m g, fun m g _ => Cert.AdamProjIdeal.Gen.frame m g,
      fun m g _ => (θ_run _ _ _).mono (fun r h => ⟨fun c => (h c).2.2.2, sem_eq_zero_of_no_sems (by decide) r.2⟩)
        (Cert.AdamProjRefIdeal.Value.run (F := Ideal) m g),
    fun m g _ => Cert.AdamFfnIn.Gen.frame m g, fun m g _ => Cert.AdamFfnInIdeal.Gen.frame m g,
      fun m g _ => (θ_run _ _ _).mono (fun r h => ⟨fun c => (h c).2.2.2, sem_eq_zero_of_no_sems (by decide) r.2⟩)
        (Cert.AdamFfnInRefIdeal.Value.run (F := Ideal) m g),
    fun m g _ => Cert.AdamFfnDown.Gen.frame m g, fun m g _ => Cert.AdamFfnDownIdeal.Gen.frame m g,
      fun m g _ => (θ_run _ _ _).mono (fun r h => ⟨fun c => (h c).2.2.2, sem_eq_zero_of_no_sems (by decide) r.2⟩)
        (Cert.AdamFfnDownRefIdeal.Value.run (F := Ideal) m g),
    fun m g _ => Cert.AdamConvS.Gen.frame m g, fun m g _ => Cert.AdamConvSIdeal.Gen.frame m g,
      fun m g _ => (θ_run _ _ _).mono (fun r h => ⟨fun c => (h c).2.2.2, sem_eq_zero_of_no_sems (by decide) r.2⟩)
        (Cert.AdamConvSRefIdeal.Value.run (F := Ideal) m g),
    fun m g _ => Cert.AdamConvG.Gen.frame m g, fun m g _ => Cert.AdamConvGIdeal.Gen.frame m g,
      fun m g _ => (θ_run _ _ _).mono (fun r h => ⟨fun c => (h c).2.2.2, sem_eq_zero_of_no_sems (by decide) r.2⟩)
        (Cert.AdamConvGRefIdeal.Value.run (F := Ideal) m g),
    fun m g _ => Cert.SwigluBwd.Gen.frame m g, fun m g _ => Cert.SwigluBwdIdeal.Gen.frame m g,
      fun m g _ => (θ_run _ _ _).mono (fun r h => ⟨fun c => (h c).2.2, sem_eq_zero_of_no_sems (by decide) r.2⟩)
        (Cert.SwigluBwdRefIdeal.Value.run (F := Ideal) m g),
    fun m g _ => Cert.Swiglu.Gen.frame m g, fun m g _ => Cert.SwigluIdeal.Gen.frame m g,
      fun m g _ => (θ_run _ _ _).mono (fun r h => ⟨fun c => (h c).2, sem_eq_zero_of_no_sems (by decide) r.2⟩)
        (Cert.SwigluRefIdeal.Value.run (F := Ideal) m g),
    fun m g _ => Cert.MergeFwd.Gen.frame m g, fun m g _ => Cert.MergeFwdIdeal.Gen.frame m g,
      fun m g _ => (θ_run _ _ _).mono (fun r h => ⟨fun c => (h c).2, sem_eq_zero_of_no_sems (by decide) r.2⟩)
        (Cert.MergeFwdRefIdeal.Value.run (F := Ideal) m g),
    fun m g _ => Cert.NormBwd.Gen.frame m g, fun m g _ => Cert.NormBwdIdeal.Gen.frame m g,
      fun m g _ => (θ_run _ _ _).mono (fun r h => ⟨fun c => (h c).2.2, sem_eq_zero_of_no_sems (by decide) r.2⟩)
        (Cert.NormBwdRefIdeal.Value.run (F := Ideal) m g),
    fun m g _ => Cert.Norm.Gen.frame m g, fun m g _ => Cert.NormIdeal.Gen.frame m g,
      fun m g _ => (θ_run _ _ _).mono (fun r h => ⟨fun c => (h c).2, sem_eq_zero_of_no_sems (by decide) r.2⟩)
        (Cert.NormRefIdeal.Value.run (F := Ideal) m g),
    fun m g _ => Cert.Loss.Gen.frame m g, fun m g _ => Cert.LossIdeal.Gen.frame m g,
      fun m g _ => (θ_run _ _ _).mono (fun r h => ⟨fun c => (h c).2.2.2, sem_eq_zero_of_no_sems (by decide) r.2⟩)
        (Cert.LossRefIdeal.Value.run (F := Ideal) m g),
    fun m g _ => Cert.SsdPostBwd.Gen.frame m g, fun m g _ => Cert.SsdPostBwdIdeal.Gen.frame m g,
      fun m g _ => (θ_run _ _ _).mono (fun r h => ⟨fun c => (h c).2.2.2, sem_eq_zero_of_no_sems (by decide) r.2⟩)
        (Cert.SsdPostBwdRefIdeal.Value.run (F := Ideal) m g),
    fun m g _ => Cert.GdnPostBwd.Gen.frame m g, fun m g _ => Cert.GdnPostBwdIdeal.Gen.frame m g,
      fun m g _ => (θ_run _ _ _).mono (fun r h => ⟨fun c => (h c).2.2.2, sem_eq_zero_of_no_sems (by decide) r.2⟩)
        (Cert.GdnPostBwdRefIdeal.Value.run (F := Ideal) m g),
    fun m g _ => Cert.SsdPost.Gen.frame m g, fun m g _ => Cert.SsdPostIdeal.Gen.frame m g,
      fun m g _ => (θ_run _ _ _).mono (fun r h => ⟨fun c => (h c).2, sem_eq_zero_of_no_sems (by decide) r.2⟩)
        (Cert.SsdPostRefIdeal.Value.run (F := Ideal) m g),
    fun m g _ => Cert.GdnPost.Gen.frame m g, fun m g _ => Cert.GdnPostIdeal.Gen.frame m g,
      fun m g _ => (θ_run _ _ _).mono (fun r h => ⟨fun c => (h c).2, sem_eq_zero_of_no_sems (by decide) r.2⟩)
        (Cert.GdnPostRefIdeal.Value.run (F := Ideal) m g),
    fun m g _ => Cert.AdamSmall.Gen.frame m g, fun m g _ => Cert.AdamSmallIdeal.Gen.frame m g,
      fun m g _ => (θ_run _ _ _).mono (fun r h => ⟨fun c => (h c).2.2.2, sem_eq_zero_of_no_sems (by decide) r.2⟩)
        (Cert.AdamSmallRefIdeal.Value.run (F := Ideal) m g),
    fun m g _ => Cert.SmallSum.Gen.frame m g, fun m g _ => Cert.SmallSumIdeal.Gen.frame m g,
      fun m g _ => (θ_run _ _ _).mono (fun r h => ⟨fun c => (h c).2, sem_eq_zero_of_no_sems (by decide) r.2⟩)
        (Cert.SmallSumRefIdeal.Value.run (F := Ideal) m g),
    fun m g _ => Cert.SsdDx.Gen.frame m g, fun m g _ => Cert.SsdDxIdeal.Gen.frame m g, fun m g _ => Cert.SsdDxIdeal.Gen.frame m g,
      fun m g _ => (θ_run _ _ _).mono (fun r h => ⟨fun c => (h c).2, sem_eq_zero_of_no_sems (by decide) r.2⟩)
        (Cert.SsdDxRefIdeal.Value.run (F := Ideal) m g),
      fun m g _ => (θ_run _ _ _).mono (fun r h => ⟨fun c => (h c).2, sem_eq_zero_of_no_sems (by decide) r.2⟩)
        (Cert.SsdDxRefIdeal.Value.run (F := Ideal) m g),
    trivial, Cert.MergeIdeal.Grad.algebraic,
    trivial, Cert.InDxIdeal.algebraic,
    trivial, Cert.InDwIdeal.algebraic,
    trivial, Cert.FfnInDxIdeal.algebraic,
    trivial, Cert.FfnInDwIdeal.algebraic,
    trivial, Cert.FfnDownDxIdeal.algebraic,
    trivial, Cert.FfnDownDwIdeal.algebraic,
    trivial, Cert.OutDxIdeal.algebraic,
    trivial, Cert.OutDwIdeal.algebraic,
    trivial, Cert.BranchDxIdeal.algebraic,
    trivial, Cert.BranchDwIdeal.algebraic,
    trivial, Cert.InFwdIdeal.algebraic,
    trivial, Cert.BranchFwdIdeal.algebraic,
    trivial, Cert.FfnInFwdIdeal.algebraic,
    trivial, Cert.OutFwdIdeal.algebraic,
    trivial, Cert.FfnDownFwdIdeal.algebraic,
    trivial, Cert.AdamInIdeal.algebraic,
    trivial, Cert.AdamProjIdeal.algebraic,
    trivial, Cert.AdamFfnInIdeal.algebraic,
    trivial, Cert.AdamFfnDownIdeal.algebraic,
    trivial, Cert.AdamConvSIdeal.algebraic,
    trivial, Cert.AdamConvGIdeal.algebraic,
    trivial, Cert.SwigluBwdIdeal.algebraic,
    trivial, Cert.SwigluIdeal.algebraic,
    trivial, Cert.MergeFwdIdeal.algebraic,
    trivial, Cert.NormBwdIdeal.algebraic,
    trivial, Cert.NormIdeal.algebraic,
    trivial, Cert.LossIdeal.algebraic,
    trivial, Cert.SsdPostBwdIdeal.algebraic,
    trivial, Cert.GdnPostBwdIdeal.algebraic,
    trivial, Cert.SsdPostIdeal.algebraic,
    trivial, Cert.GdnPostIdeal.algebraic,
    trivial, Cert.AdamSmallIdeal.algebraic,
    trivial, Cert.SmallSumIdeal.algebraic,
    IdealRules.named_const.statement _ _ _ _ _ rfl, Cert.SsdDxIdeal.Scan.algebraic⟩

end Cert.Proof

end
